-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S400000x32 : Shape := ⟨2, ![400000, 32]⟩
abbrev S400000x4 : Shape := ⟨2, ![400000, 4]⟩
abbrev S_ : Shape := ⟨0, ![]⟩

class Facts : Prop where
  bcast_S_S400000x4 : S_.BroadcastsInDim S400000x4 (![] : Fin 0 → Fin S400000x4.rank)
  reducesTo_S400000x4_S_d0_1 : S400000x4.ReducesTo [0, 1] S_
  h_S_ : 0 < S_.numel

variable [Facts]

def fn {F : FTy → Type} [FloatOps F] (main_arg0 : FVec F S400000x32 .f32) (main_arg1 : IVec S400000x4 32) (main_arg2 : IVec S_ 32) : IVec S_ 1 :=
  let main_c : IVec S_ 32 := constantI S_ 32 0#32
  let main_v0 : IVec S400000x4 32 := broadcastInDim S400000x4 ![] bcast_S_S400000x4 main_c
  let main_v1 : IVec S400000x4 1 := cmpi .sge main_arg1 main_v0
  let main_c_0 : IVec S_ 32 := constantI S_ 32 40#32
  let main_v2 : IVec S400000x4 32 := broadcastInDim S400000x4 ![] bcast_S_S400000x4 main_c_0
  let main_v3 : IVec S400000x4 1 := cmpi .slt main_arg1 main_v2
  let main_v4 : IVec S400000x4 1 := andi main_v1 main_v3
  let main_c_1 : IVec S_ 1 := constantI S_ 1 1#1
  let main_v5 : IVec S_ 1 := (fun x v => Host.reduce IntOp.andi x v reducesTo_S400000x4_S_d0_1 h_S_) main_v4 main_c_1
  main_v5
-- ==== Kernel.lean ====
abbrev S400000x32 : Shape := ⟨2, ![400000, 32]⟩
abbrev S400000x4 : Shape := ⟨2, ![400000, 4]⟩
abbrev S_ : Shape := ⟨0, ![]⟩
abbrev S400000x1 : Shape := ⟨2, ![400000, 1]⟩
abbrev S400000 : Shape := ⟨1, ![400000]⟩
abbrev S40064x32 : Shape := ⟨2, ![40064, 32]⟩
abbrev S128 : Shape := ⟨1, ![128]⟩
abbrev S128x32 : Shape := ⟨2, ![128, 32]⟩
abbrev S40000x32 : Shape := ⟨2, ![40000, 32]⟩
abbrev S40000 : Shape := ⟨1, ![40000]⟩
abbrev S1 : Shape := ⟨1, ![1]⟩
abbrev S1x32 : Shape := ⟨2, ![1, 32]⟩
abbrev S359936x32 : Shape := ⟨2, ![359936, 32]⟩

abbrev nBuf : Space → Nat
  | .hbm => 81
  | .vmem => 4
  | .smem => 3
  | _ => 0

abbrev bufTy : (tb : Table) → Fin (tcTables nBuf tb) → BufTy
  | .hbm, ⟨0, _⟩ => ⟨S400000x32, .f32⟩
  | .hbm, ⟨1, _⟩ => ⟨S400000x4, .i32⟩
  | .hbm, ⟨2, _⟩ => ⟨S_, .i32⟩
  | .hbm, ⟨3, _⟩ => ⟨S400000x1, .i32⟩
  | .hbm, ⟨4, _⟩ => ⟨S400000, .i32⟩
  | .hbm, ⟨5, _⟩ => ⟨S400000x1, .i32⟩
  | .hbm, ⟨6, _⟩ => ⟨S400000, .i32⟩
  | .hbm, ⟨7, _⟩ => ⟨S_, .i32⟩
  | .hbm, ⟨8, _⟩ => ⟨S_, .i32⟩
  | .hbm, ⟨9, _⟩ => ⟨S400000, .i32⟩
  | .hbm, ⟨10, _⟩ => ⟨S400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S400000, .i1⟩
  | .hbm, ⟨21, _⟩ => ⟨S_, .i32⟩
  | .hbm, ⟨22, _⟩ => ⟨S400000, .i32⟩
  | .hbm, ⟨23, _⟩ => ⟨S400000, .i32⟩
  | .hbm, ⟨24, _⟩ => ⟨S400000, .i32⟩
  | .hbm, ⟨25, _⟩ => ⟨S400000x1, .i32⟩
  | .hbm, ⟨26, _⟩ => ⟨S400000, .i32⟩
  | .hbm, ⟨27, _⟩ => ⟨S_, .i32⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S400000, .i32⟩
  | .hbm, ⟨36, _⟩ => ⟨S400000, .i32⟩
  | .hbm, ⟨37, _⟩ => ⟨S_, .i32⟩
  | .hbm, ⟨38, _⟩ => ⟨S400000, .i32⟩
  | .hbm, ⟨39, _⟩ => ⟨S400000, .i1⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000, .i32⟩
  | .hbm, ⟨47, _⟩ => ⟨S_, .i32⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S400000, .i32⟩
  | .hbm, ⟨56, _⟩ => ⟨S400000, .i32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S400000, .i1⟩
  | .hbm, ⟨61, _⟩ => ⟨S_, .i32⟩
  | .hbm, ⟨62, _⟩ => ⟨S400000, .i32⟩
  | .hbm, ⟨63, _⟩ => ⟨S400000, .i32⟩
  | .hbm, ⟨64, _⟩ => ⟨S400000, .i32⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S_, .i32⟩
  | .hbm, ⟨73, _⟩ => ⟨S400000, .i32⟩
  | .hbm, ⟨74, _⟩ => ⟨S400000, .i32⟩
  | .hbm, ⟨75, _⟩ => ⟨S400000, .i32⟩
  | .hbm, ⟨76, _⟩ => ⟨S400000, .i32⟩
  | .hbm, ⟨77, _⟩ => ⟨S40064x32, .f32⟩
  | .hbm, ⟨78, _⟩ => ⟨S_, .f32⟩
  | .hbm, ⟨79, _⟩ => ⟨S359936x32, .f32⟩
  | .hbm, ⟨80, _⟩ => ⟨S400000x32, .f32⟩
  | .local _ .vmem, ⟨0, _⟩ => ⟨S128x32, .f32⟩
  | .local _ .vmem, ⟨1, _⟩ => ⟨S128x32, .f32⟩
  | .local _ .vmem, ⟨2, _⟩ => ⟨S40064x32, .f32⟩
  | .local _ .vmem, ⟨3, _⟩ => ⟨S40000x32, .f32⟩
  | .local _ .smem, ⟨0, _⟩ => ⟨S128, .i32⟩
  | .local _ .smem, ⟨1, _⟩ => ⟨S128, .i32⟩
  | .local _ .smem, ⟨2, _⟩ => ⟨S40000, .i32⟩
  | _, _ => ⟨S400000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_c_1 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v10 : Ref sig .tc := ⟨.hbm, 64, rfl⟩
abbrev main_c_2 : Ref sig .tc := ⟨.hbm, 65, rfl⟩
abbrev main_v11 : Ref sig .tc := ⟨.hbm, 66, rfl⟩
abbrev main_v12 : Ref sig .tc := ⟨.hbm, 67, rfl⟩
abbrev main_c_3 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_c_4 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_cst : Ref sig .tc := ⟨.hbm, 78, rfl⟩
abbrev main_v21 : Ref sig .tc := ⟨.hbm, 79, rfl⟩
abbrev main_v22 : Ref sig .tc := ⟨.hbm, 80, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_scratch0 : Ref sig .tc := ⟨.vmem, 3, rfl⟩
abbrev cc0_stg0_0 : Ref sig .tc := ⟨.smem, 0, rfl⟩
abbrev cc0_stg0_1 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![3125], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c40000_i32 : BitVec 32 := 40000#32
  let v13 : BitVec 32 := Scalar.addi c0_i32_8 c40000_i32
  let c1_i32_9 : BitVec 32 := 1#32
  ⟨c0_i32_8, v13, c1_i32_9⟩
def k0_off1 (k0_t1 : Fin k0_t1_loop.trips) : Fin 1 → Nat :=
  let c0_i32_8 : BitVec 32 := 0#32
  let c1_i32_9 : BitVec 32 := 1#32
  let arg6 : BitVec 32 := Scf.iv c0_i32_8 c1_i32_9 k0_t1
  let v14 : Index := Scalar.indexCast arg6
  ![v14.toNat]
@[reducible] def k0_t2_loop : Scf.Loop 32 :=
  let c0_i32_1 : BitVec 32 := 0#32
  let c128_i32 : BitVec 32 := 128#32
  let v3 : BitVec 32 := Scalar.addi c0_i32_1 c128_i32
  let c1_i32 : BitVec 32 := 1#32
  ⟨c0_i32_1, v3, c1_i32⟩
def k0_off2 (k0_t2 : Fin k0_t2_loop.trips) : Fin 1 → Nat :=
  let c0_i32_1 : BitVec 32 := 0#32
  let c1_i32 : BitVec 32 := 1#32
  let arg6 : BitVec 32 := Scf.iv c0_i32_1 c1_i32 k0_t2
  let v7 : Index := Scalar.indexCast arg6
  ![v7.toNat]
def k0_off3 (k0_t2 : Fin k0_t2_loop.trips) : Fin 2 → Nat :=
  let c0_i32_1 : BitVec 32 := 0#32
  let c1_i32 : BitVec 32 := 1#32
  let arg6 : BitVec 32 := Scf.iv c0_i32_1 c1_i32 k0_t2
  let v9 : Index := Scalar.indexCast arg6
  let c0 : Index := 0#32
  ![v9.toNat, 0]
def k0_off4 (v8 : BitVec 32) : Fin 2 → Nat :=
  let v11 : Index := Scalar.indexCast v8
  let c0_4 : Index := 0#32
  ![v11.toNat, 0]

def k0_off5 (v8 : BitVec 32) : Fin 1 → Nat :=
  let v18 : Index := Scalar.indexCast v8
  ![v18.toNat]

def k0_chk1 (v8 : BitVec 32) : Prop :=
  (∀ a, (k0_off4 v8) a + S1x32.size a ≤ S40000x32.size a) ∧
  (∀ a, (k0_off5 v8) a + S1.size a ≤ S40000.size a)
theorem k0_off4_inb : ∀ (v8 : BitVec 32) (k0_hw1 : k0_chk1 v8), ∀ a, (k0_off4 v8) a + S1x32.size a ≤ S40000x32.size a := fun v8 k0_hw1 => k0_hw1.1
theorem k0_off5_inb : ∀ (v8 : BitVec 32) (k0_hw1 : k0_chk1 v8), ∀ a, (k0_off5 v8) a + S1.size a ≤ S40000.size a := fun v8 k0_hw1 => k0_hw1.2

def k0_cond2 (i : grid0.Coords) : BitVec 1 :=
  let arg0 : BitVec 32 := BitVec.ofNat 32 (i 0).val
  let c3124_i32 : BitVec 32 := 3124#32
  let v4 : BitVec 1 := Scalar.cmpi .eq arg0 c3124_i32
  let v5 : BitVec 32 := Scalar.extui v4
  let c0_i32_3 : BitVec 32 := 0#32
  let v6 : BitVec 1 := Scalar.cmpi .ne v5 c0_i32_3
  v6

@[reducible] def k0_t3_loop : Scf.Loop 32 :=
  let c0_i32_5 : BitVec 32 := 0#32
  let c40000_i32 : BitVec 32 := 40000#32
  let v7 : BitVec 32 := Scalar.addi c0_i32_5 c40000_i32
  let c1_i32_6 : BitVec 32 := 1#32
  ⟨c0_i32_5, v7, c1_i32_6⟩
def k0_off6 (k0_t3 : Fin k0_t3_loop.trips) : Fin 1 → Nat :=
  let c0_i32_5 : BitVec 32 := 0#32
  let c1_i32_6 : BitVec 32 := 1#32
  let arg6 : BitVec 32 := Scf.iv c0_i32_5 c1_i32_6 k0_t3
  let v9 : Index := Scalar.indexCast arg6
  ![v9.toNat]
def k0_off7 (k0_t3 : Fin k0_t3_loop.trips) : Fin 2 → Nat :=
  let c0_i32_5 : BitVec 32 := 0#32
  let c1_i32_6 : BitVec 32 := 1#32
  let arg6 : BitVec 32 := Scf.iv c0_i32_5 c1_i32_6 k0_t3
  let v15 : Index := Scalar.indexCast arg6
  let c0 : Index := 0#32
  ![v15.toNat, 0]
def k0_off8 (arg7 : BitVec 32) : Fin 2 → Nat :=
  let c1_i32_10 : BitVec 32 := 1#32
  let v17 : BitVec 32 := Scalar.addi arg7 c1_i32_10
  let v18 : Index := Scalar.indexCast v17
  let c0_11 : Index := 0#32
  ![v18.toNat, 0]
def k0_cond3 (v10 : BitVec 32) : BitVec 1 :=
  let c1_i32_8 : BitVec 32 := 1#32
  let v11 : BitVec 1 := Scalar.cmpi .eq v10 c1_i32_8
  let v12 : BitVec 32 := Scalar.extui v11
  let c0_i32_9 : BitVec 32 := 0#32
  let v13 : BitVec 1 := Scalar.cmpi .ne v12 c0_i32_9
  v13

def k0_chk2 (i : grid0.Coords) (arg7 : BitVec 32) (v10 : BitVec 32) : Prop :=
  (∀ (k0_h2 : k0_cond2 i = 1#1), ∀ (k0_h3 : k0_cond3 v10 = 1#1), ∀ a, (k0_off8 arg7) a + S1x32.size a ≤ S40064x32.size a)
theorem k0_off8_inb : ∀ (i : grid0.Coords) (arg7 : BitVec 32) (v10 : BitVec 32) (k0_hw2 : k0_chk2 i arg7 v10), ∀ (k0_h2 : k0_cond2 i = 1#1), ∀ (k0_h3 : k0_cond3 v10 = 1#1), ∀ a, (k0_off8 arg7) a + S1x32.size a ≤ S40064x32.size a := fun i arg7 v10 k0_hw2 k0_h2 k0_h3 => k0_hw2 k0_h2 k0_h3

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40064x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S400000x32 : Shape := ⟨2, ![400000, 32]⟩
abbrev S400000x4 : Shape := ⟨2, ![400000, 4]⟩
abbrev S_ : Shape := ⟨0, ![]⟩
abbrev S400000x1 : Shape := ⟨2, ![400000, 1]⟩
abbrev S400000 : Shape := ⟨1, ![400000]⟩
abbrev S1x400000 : Shape := ⟨2, ![1, 400000]⟩
abbrev S399999 : Shape := ⟨1, ![399999]⟩
abbrev S1 : Shape := ⟨1, ![1]⟩
abbrev S1x400000x1 : Shape := ⟨3, ![1, 400000, 1]⟩
abbrev S400000x1x1 : Shape := ⟨3, ![400000, 1, 1]⟩
abbrev S400000x400000x1 : Shape := ⟨3, ![400000, 400000, 1]⟩
abbrev S1x400000x32 : Shape := ⟨3, ![1, 400000, 32]⟩
abbrev S400000x400000x32 : Shape := ⟨3, ![400000, 400000, 32]⟩

abbrev nBuf : Space → Nat
  | .hbm => 741
  | .vmem => 0
  | .smem => 0
  | _ => 0

abbrev hbmTy0_0 (i : Nat) : BufTy := match i % 128 with
  | 0 => ⟨S400000x32, .f32⟩
  | 1 => ⟨S400000x4, .i32⟩
  | 2 => ⟨S_, .i32⟩
  | 3 => ⟨S400000x1, .i32⟩
  | 4 => ⟨S400000, .i32⟩
  | 5 => ⟨S400000x1, .i32⟩
  | 6 => ⟨S400000, .i32⟩
  | 7 => ⟨S_, .i32⟩
  | 8 => ⟨S_, .i32⟩
  | 9 => ⟨S400000, .i32⟩
  | 10 => ⟨S400000, .i32⟩
  | 11 => ⟨S400000, .i32⟩
  | 12 => ⟨S_, .i32⟩
  | 13 => ⟨S400000, .i32⟩
  | 14 => ⟨S400000, .i1⟩
  | 15 => ⟨S400000, .i32⟩
  | 16 => ⟨S400000, .i32⟩
  | 17 => ⟨S_, .i32⟩
  | 18 => ⟨S400000, .i32⟩
  | 19 => ⟨S400000, .i1⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000, .i32⟩
  | 27 => ⟨S_, .i32⟩
  | 28 => ⟨S_, .i32⟩
  | 29 => ⟨S400000, .i32⟩
  | 30 => ⟨S400000, .i32⟩
  | 31 => ⟨S400000, .i32⟩
  | 32 => ⟨S_, .i32⟩
  | 33 => ⟨S400000, .i32⟩
  | 34 => ⟨S400000, .i1⟩
  | 35 => ⟨S400000, .i32⟩
  | 36 => ⟨S400000, .i32⟩
  | 37 => ⟨S_, .i32⟩
  | 38 => ⟨S400000, .i32⟩
  | 39 => ⟨S400000, .i1⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000, .i32⟩
  | 47 => ⟨S_, .i32⟩
  | 48 => ⟨S_, .i32⟩
  | 49 => ⟨S400000, .i32⟩
  | 50 => ⟨S400000, .i32⟩
  | 51 => ⟨S400000, .i32⟩
  | 52 => ⟨S_, .i32⟩
  | 53 => ⟨S400000, .i32⟩
  | 54 => ⟨S400000, .i1⟩
  | 55 => ⟨S400000, .i32⟩
  | 56 => ⟨S400000, .i32⟩
  | 57 => ⟨S_, .i32⟩
  | 58 => ⟨S400000, .i32⟩
  | 59 => ⟨S400000, .i1⟩
  | 60 => ⟨S400000, .i1⟩
  | 61 => ⟨S_, .i32⟩
  | 62 => ⟨S400000, .i32⟩
  | 63 => ⟨S400000, .i32⟩
  | 64 => ⟨S400000, .i32⟩
  | 65 => ⟨S_, .i32⟩
  | 66 => ⟨S400000, .i32⟩
  | 67 => ⟨S400000, .i32⟩
  | 68 => ⟨S_, .i32⟩
  | 69 => ⟨S400000, .i32⟩
  | 70 => ⟨S400000, .i32⟩
  | 71 => ⟨S400000, .i32⟩
  | 72 => ⟨S_, .i32⟩
  | 73 => ⟨S400000, .i32⟩
  | 74 => ⟨S400000, .i32⟩
  | 75 => ⟨S400000, .i32⟩
  | 76 => ⟨S400000, .i32⟩
  | 77 => ⟨S_, .i32⟩
  | 78 => ⟨S400000, .i32⟩
  | 79 => ⟨S400000, .i1⟩
  | 80 => ⟨S_, .i32⟩
  | 81 => ⟨S_, .i32⟩
  | 82 => ⟨S400000, .i32⟩
  | 83 => ⟨S400000, .i32⟩
  | 84 => ⟨S400000x1, .i32⟩
  | 85 => ⟨S1x400000, .i32⟩
  | 86 => ⟨S1x400000, .i32⟩
  | 87 => ⟨S1x400000, .i32⟩
  | 88 => ⟨S400000, .i32⟩
  | 89 => ⟨S400000, .i32⟩
  | 90 => ⟨S400000, .i32⟩
  | 91 => ⟨S400000, .i32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000, .i32⟩
  | 101 => ⟨S_, .i1⟩
  | 102 => ⟨S400000, .i1⟩
  | 103 => ⟨S399999, .i32⟩
  | 104 => ⟨S399999, .i32⟩
  | 105 => ⟨S399999, .i1⟩
  | 106 => ⟨S_, .i1⟩
  | 107 => ⟨S399999, .i1⟩
  | 108 => ⟨S_, .i32⟩
  | 109 => ⟨S1, .i32⟩
  | 110 => ⟨S400000, .i1⟩
  | 111 => ⟨S400000, .i32⟩
  | 112 => ⟨S_, .i32⟩
  | 113 => ⟨S_, .i32⟩
  | 114 => ⟨S400000, .i32⟩
  | 115 => ⟨S_, .i32⟩
  | 116 => ⟨S400000, .i32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S_, .i32⟩
  | 126 => ⟨S400000, .i32⟩
  | 127 => ⟨S400000, .i32⟩
  | _ => ⟨S400000x32, .f32⟩

abbrev hbmTy0_1 (i : Nat) : BufTy := match i % 128 with
  | 0 => ⟨S_, .i32⟩
  | 1 => ⟨S_, .i32⟩
  | 2 => ⟨S400000, .i32⟩
  | 3 => ⟨S_, .i32⟩
  | 4 => ⟨S_, .i32⟩
  | 5 => ⟨S400000, .i32⟩
  | 6 => ⟨S400000, .i32⟩
  | 7 => ⟨S400000, .i32⟩
  | 8 => ⟨S_, .i32⟩
  | 9 => ⟨S400000, .i32⟩
  | 10 => ⟨S400000, .i1⟩
  | 11 => ⟨S400000, .i32⟩
  | 12 => ⟨S400000, .i32⟩
  | 13 => ⟨S_, .i32⟩
  | 14 => ⟨S400000, .i32⟩
  | 15 => ⟨S400000, .i1⟩
  | 16 => ⟨S400000, .i1⟩
  | 17 => ⟨S_, .i32⟩
  | 18 => ⟨S400000, .i32⟩
  | 19 => ⟨S400000, .i32⟩
  | 20 => ⟨S400000, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S400000, .i32⟩
  | 28 => ⟨S400000, .i32⟩
  | 29 => ⟨S_, .i32⟩
  | 30 => ⟨S400000, .i32⟩
  | 31 => ⟨S400000, .i1⟩
  | 32 => ⟨S_, .i32⟩
  | 33 => ⟨S400000, .i32⟩
  | 34 => ⟨S400000, .i1⟩
  | 35 => ⟨S_, .i32⟩
  | 36 => ⟨S_, .i1⟩
  | 37 => ⟨S400000, .i1⟩
  | 38 => ⟨S400000, .i1⟩
  | 39 => ⟨S400000, .i1⟩
  | 40 => ⟨S400000, .i32⟩
  | 41 => ⟨S400000, .i32⟩
  | 42 => ⟨S400000, .i32⟩
  | 43 => ⟨S400000, .i32⟩
  | 44 => ⟨S_, .i32⟩
  | 45 => ⟨S_, .i32⟩
  | 46 => ⟨S1, .i32⟩
  | 47 => ⟨S400000, .i32⟩
  | 48 => ⟨S400000, .i32⟩
  | 49 => ⟨S400000, .i1⟩
  | 50 => ⟨S_, .i32⟩
  | 51 => ⟨S_, .i32⟩
  | 52 => ⟨S400000, .i32⟩
  | 53 => ⟨S400000, .i32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000, .i32⟩
  | 63 => ⟨S400000, .i32⟩
  | 64 => ⟨S400000, .i32⟩
  | 65 => ⟨S_, .i32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S_, .i32⟩
  | 74 => ⟨S_, .i32⟩
  | 75 => ⟨S400000, .i32⟩
  | 76 => ⟨S_, .i32⟩
  | 77 => ⟨S400000, .i32⟩
  | 78 => ⟨S400000, .i32⟩
  | 79 => ⟨S_, .i32⟩
  | 80 => ⟨S400000, .i32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000, .i32⟩
  | 90 => ⟨S1x400000x1, .i32⟩
  | 91 => ⟨S400000x1x1, .i32⟩
  | 92 => ⟨S400000x400000x1, .i32⟩
  | 93 => ⟨S400000x400000x1, .i32⟩
  | 94 => ⟨S400000x400000x1, .i1⟩
  | 95 => ⟨S1x400000x32, .f32⟩
  | 96 => ⟨S_, .f32⟩
  | 97 => ⟨S_, .f32⟩
  | 98 => ⟨S400000x400000x32, .i1⟩
  | 99 => ⟨S400000x400000x32, .f32⟩
  | 100 => ⟨S400000x400000x32, .f32⟩
  | 101 => ⟨S400000x400000x32, .f32⟩
  | 102 => ⟨S_, .f32⟩
  | 103 => ⟨S400000x32, .f32⟩
  | 104 => ⟨S_, .i32⟩
  | 105 => ⟨S400000, .i32⟩
  | 106 => ⟨S400000, .i1⟩
  | 107 => ⟨S400000x1, .i1⟩
  | 108 => ⟨S_, .f32⟩
  | 109 => ⟨S_, .f32⟩
  | 110 => ⟨S400000x32, .i1⟩
  | 111 => ⟨S400000x32, .f32⟩
  | 112 => ⟨S400000x32, .f32⟩
  | 113 => ⟨S_, .i32⟩
  | 114 => ⟨S_, .i32⟩
  | 115 => ⟨S400000, .i32⟩
  | 116 => ⟨S400000, .i32⟩
  | 117 => ⟨S400000, .i32⟩
  | 118 => ⟨S_, .i32⟩
  | 119 => ⟨S400000, .i32⟩
  | 120 => ⟨S400000, .i1⟩
  | 121 => ⟨S400000, .i32⟩
  | 122 => ⟨S400000, .i32⟩
  | 123 => ⟨S_, .i32⟩
  | 124 => ⟨S400000, .i32⟩
  | 125 => ⟨S400000, .i1⟩
  | 126 => ⟨S400000, .i1⟩
  | 127 => ⟨S_, .i32⟩
  | _ => ⟨S400000x32, .f32⟩

abbrev hbmTy0_2 (i : Nat) : BufTy := match i % 128 with
  | 0 => ⟨S400000, .i32⟩
  | 1 => ⟨S400000, .i32⟩
  | 2 => ⟨S400000, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S400000, .i32⟩
  | 10 => ⟨S400000, .i32⟩
  | 11 => ⟨S_, .i32⟩
  | 12 => ⟨S400000, .i32⟩
  | 13 => ⟨S400000, .i1⟩
  | 14 => ⟨S_, .i32⟩
  | 15 => ⟨S400000, .i32⟩
  | 16 => ⟨S400000, .i1⟩
  | 17 => ⟨S_, .i32⟩
  | 18 => ⟨S_, .i1⟩
  | 19 => ⟨S400000, .i1⟩
  | 20 => ⟨S400000, .i1⟩
  | 21 => ⟨S400000, .i1⟩
  | 22 => ⟨S400000, .i32⟩
  | 23 => ⟨S400000, .i32⟩
  | 24 => ⟨S400000, .i32⟩
  | 25 => ⟨S_, .i32⟩
  | 26 => ⟨S_, .i32⟩
  | 27 => ⟨S400000, .i32⟩
  | 28 => ⟨S400000, .i32⟩
  | 29 => ⟨S400000, .i32⟩
  | 30 => ⟨S_, .i32⟩
  | 31 => ⟨S400000, .i32⟩
  | 32 => ⟨S400000, .i1⟩
  | 33 => ⟨S400000, .i32⟩
  | 34 => ⟨S400000, .i32⟩
  | 35 => ⟨S_, .i32⟩
  | 36 => ⟨S400000, .i32⟩
  | 37 => ⟨S400000, .i1⟩
  | 38 => ⟨S400000, .i1⟩
  | 39 => ⟨S_, .i32⟩
  | 40 => ⟨S400000, .i32⟩
  | 41 => ⟨S400000, .i32⟩
  | 42 => ⟨S400000, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S400000, .i32⟩
  | 50 => ⟨S400000, .i32⟩
  | 51 => ⟨S_, .i32⟩
  | 52 => ⟨S400000, .i32⟩
  | 53 => ⟨S400000, .i1⟩
  | 54 => ⟨S_, .i32⟩
  | 55 => ⟨S400000, .i32⟩
  | 56 => ⟨S400000, .i1⟩
  | 57 => ⟨S_, .i32⟩
  | 58 => ⟨S_, .i1⟩
  | 59 => ⟨S400000, .i1⟩
  | 60 => ⟨S400000, .i1⟩
  | 61 => ⟨S400000, .i1⟩
  | 62 => ⟨S400000, .i32⟩
  | 63 => ⟨S400000, .i32⟩
  | 64 => ⟨S400000, .i32⟩
  | 65 => ⟨S_, .i32⟩
  | 66 => ⟨S_, .i32⟩
  | 67 => ⟨S400000, .i32⟩
  | 68 => ⟨S400000, .i32⟩
  | 69 => ⟨S400000, .i32⟩
  | 70 => ⟨S_, .i32⟩
  | 71 => ⟨S400000, .i32⟩
  | 72 => ⟨S400000, .i1⟩
  | 73 => ⟨S400000, .i32⟩
  | 74 => ⟨S400000, .i32⟩
  | 75 => ⟨S_, .i32⟩
  | 76 => ⟨S400000, .i32⟩
  | 77 => ⟨S400000, .i1⟩
  | 78 => ⟨S400000, .i1⟩
  | 79 => ⟨S_, .i32⟩
  | 80 => ⟨S400000, .i32⟩
  | 81 => ⟨S400000, .i32⟩
  | 82 => ⟨S400000, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S400000, .i32⟩
  | 90 => ⟨S400000, .i32⟩
  | 91 => ⟨S_, .i32⟩
  | 92 => ⟨S400000, .i32⟩
  | 93 => ⟨S400000, .i1⟩
  | 94 => ⟨S_, .i32⟩
  | 95 => ⟨S400000, .i32⟩
  | 96 => ⟨S400000, .i1⟩
  | 97 => ⟨S_, .i32⟩
  | 98 => ⟨S_, .i1⟩
  | 99 => ⟨S400000, .i1⟩
  | 100 => ⟨S400000, .i1⟩
  | 101 => ⟨S400000, .i1⟩
  | 102 => ⟨S400000, .i32⟩
  | 103 => ⟨S400000, .i32⟩
  | 104 => ⟨S400000, .i32⟩
  | 105 => ⟨S400000x1, .i1⟩
  | 106 => ⟨S400000x1, .i32⟩
  | 107 => ⟨S400000x1, .i32⟩
  | 108 => ⟨S400000x1, .i32⟩
  | 109 => ⟨S400000x1, .i32⟩
  | 110 => ⟨S400000x4, .i32⟩
  | 111 => ⟨S_, .i32⟩
  | 112 => ⟨S_, .i32⟩
  | 113 => ⟨S400000x4, .i1⟩
  | 114 => ⟨S400000x4, .i32⟩
  | 115 => ⟨S400000x4, .i32⟩
  | 116 => ⟨S400000x1, .i32⟩
  | 117 => ⟨S400000, .i32⟩
  | 118 => ⟨S400000x1, .i32⟩
  | 119 => ⟨S400000, .i32⟩
  | 120 => ⟨S_, .i32⟩
  | 121 => ⟨S_, .i32⟩
  | 122 => ⟨S400000, .i32⟩
  | 123 => ⟨S400000, .i32⟩
  | 124 => ⟨S400000, .i32⟩
  | 125 => ⟨S_, .i32⟩
  | 126 => ⟨S400000, .i32⟩
  | 127 => ⟨S400000, .i1⟩
  | _ => ⟨S400000x32, .f32⟩

abbrev hbmTy0_3 (i : Nat) : BufTy := match i % 128 with
  | 0 => ⟨S400000, .i32⟩
  | 1 => ⟨S400000, .i32⟩
  | 2 => ⟨S_, .i32⟩
  | 3 => ⟨S400000, .i32⟩
  | 4 => ⟨S400000, .i1⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000, .i32⟩
  | 12 => ⟨S_, .i32⟩
  | 13 => ⟨S_, .i32⟩
  | 14 => ⟨S400000, .i32⟩
  | 15 => ⟨S400000, .i32⟩
  | 16 => ⟨S400000, .i32⟩
  | 17 => ⟨S_, .i32⟩
  | 18 => ⟨S400000, .i32⟩
  | 19 => ⟨S400000, .i1⟩
  | 20 => ⟨S400000, .i32⟩
  | 21 => ⟨S400000, .i32⟩
  | 22 => ⟨S_, .i32⟩
  | 23 => ⟨S400000, .i32⟩
  | 24 => ⟨S400000, .i1⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000, .i32⟩
  | 32 => ⟨S_, .i32⟩
  | 33 => ⟨S_, .i32⟩
  | 34 => ⟨S400000, .i32⟩
  | 35 => ⟨S400000, .i32⟩
  | 36 => ⟨S400000, .i32⟩
  | 37 => ⟨S_, .i32⟩
  | 38 => ⟨S400000, .i32⟩
  | 39 => ⟨S400000, .i1⟩
  | 40 => ⟨S400000, .i32⟩
  | 41 => ⟨S400000, .i32⟩
  | 42 => ⟨S_, .i32⟩
  | 43 => ⟨S400000, .i32⟩
  | 44 => ⟨S400000, .i1⟩
  | 45 => ⟨S400000, .i1⟩
  | 46 => ⟨S_, .i32⟩
  | 47 => ⟨S400000, .i32⟩
  | 48 => ⟨S400000, .i32⟩
  | 49 => ⟨S400000, .i32⟩
  | 50 => ⟨S_, .i32⟩
  | 51 => ⟨S400000, .i32⟩
  | 52 => ⟨S400000, .i32⟩
  | 53 => ⟨S_, .i32⟩
  | 54 => ⟨S400000, .i32⟩
  | 55 => ⟨S400000, .i32⟩
  | 56 => ⟨S400000, .i32⟩
  | 57 => ⟨S_, .i32⟩
  | 58 => ⟨S400000, .i32⟩
  | 59 => ⟨S400000, .i32⟩
  | 60 => ⟨S400000, .i32⟩
  | 61 => ⟨S400000, .i32⟩
  | 62 => ⟨S_, .i32⟩
  | 63 => ⟨S400000, .i32⟩
  | 64 => ⟨S400000, .i1⟩
  | 65 => ⟨S_, .i32⟩
  | 66 => ⟨S_, .i32⟩
  | 67 => ⟨S400000, .i32⟩
  | 68 => ⟨S400000, .i32⟩
  | 69 => ⟨S400000x1, .i32⟩
  | 70 => ⟨S1x400000, .i32⟩
  | 71 => ⟨S1x400000, .i32⟩
  | 72 => ⟨S1x400000, .i32⟩
  | 73 => ⟨S400000, .i32⟩
  | 74 => ⟨S400000, .i32⟩
  | 75 => ⟨S400000, .i32⟩
  | 76 => ⟨S400000, .i32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000, .i32⟩
  | 86 => ⟨S_, .i1⟩
  | 87 => ⟨S400000, .i1⟩
  | 88 => ⟨S399999, .i32⟩
  | 89 => ⟨S399999, .i32⟩
  | 90 => ⟨S399999, .i1⟩
  | 91 => ⟨S_, .i1⟩
  | 92 => ⟨S399999, .i1⟩
  | 93 => ⟨S_, .i32⟩
  | 94 => ⟨S1, .i32⟩
  | 95 => ⟨S400000, .i1⟩
  | 96 => ⟨S400000, .i32⟩
  | 97 => ⟨S_, .i32⟩
  | 98 => ⟨S_, .i32⟩
  | 99 => ⟨S400000, .i32⟩
  | 100 => ⟨S_, .i32⟩
  | 101 => ⟨S400000, .i32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S_, .i32⟩
  | 111 => ⟨S400000, .i32⟩
  | 112 => ⟨S400000, .i32⟩
  | 113 => ⟨S_, .i32⟩
  | 114 => ⟨S_, .i32⟩
  | 115 => ⟨S400000, .i32⟩
  | 116 => ⟨S_, .i32⟩
  | 117 => ⟨S_, .i32⟩
  | 118 => ⟨S400000, .i32⟩
  | 119 => ⟨S400000, .i32⟩
  | 120 => ⟨S400000, .i32⟩
  | 121 => ⟨S_, .i32⟩
  | 122 => ⟨S400000, .i32⟩
  | 123 => ⟨S400000, .i1⟩
  | 124 => ⟨S400000, .i32⟩
  | 125 => ⟨S400000, .i32⟩
  | 126 => ⟨S_, .i32⟩
  | 127 => ⟨S400000, .i32⟩
  | _ => ⟨S400000x32, .f32⟩

abbrev hbmTy0_4 (i : Nat) : BufTy := match i % 128 with
  | 0 => ⟨S400000, .i1⟩
  | 1 => ⟨S400000, .i1⟩
  | 2 => ⟨S_, .i32⟩
  | 3 => ⟨S400000, .i32⟩
  | 4 => ⟨S400000, .i32⟩
  | 5 => ⟨S400000, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S400000, .i32⟩
  | 13 => ⟨S400000, .i32⟩
  | 14 => ⟨S_, .i32⟩
  | 15 => ⟨S400000, .i32⟩
  | 16 => ⟨S400000, .i1⟩
  | 17 => ⟨S_, .i32⟩
  | 18 => ⟨S400000, .i32⟩
  | 19 => ⟨S400000, .i1⟩
  | 20 => ⟨S_, .i32⟩
  | 21 => ⟨S_, .i1⟩
  | 22 => ⟨S400000, .i1⟩
  | 23 => ⟨S400000, .i1⟩
  | 24 => ⟨S400000, .i1⟩
  | 25 => ⟨S400000, .i32⟩
  | 26 => ⟨S400000, .i32⟩
  | 27 => ⟨S400000, .i32⟩
  | 28 => ⟨S400000, .i32⟩
  | 29 => ⟨S_, .i32⟩
  | 30 => ⟨S_, .i32⟩
  | 31 => ⟨S1, .i32⟩
  | 32 => ⟨S400000, .i32⟩
  | 33 => ⟨S400000, .i32⟩
  | 34 => ⟨S400000, .i1⟩
  | 35 => ⟨S_, .i32⟩
  | 36 => ⟨S_, .i32⟩
  | 37 => ⟨S400000, .i32⟩
  | 38 => ⟨S400000, .i32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000, .i32⟩
  | 48 => ⟨S400000, .i32⟩
  | 49 => ⟨S400000, .i32⟩
  | 50 => ⟨S_, .i32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S_, .i32⟩
  | 59 => ⟨S_, .i32⟩
  | 60 => ⟨S400000, .i32⟩
  | 61 => ⟨S_, .i32⟩
  | 62 => ⟨S400000, .i32⟩
  | 63 => ⟨S400000, .i32⟩
  | 64 => ⟨S_, .i32⟩
  | 65 => ⟨S400000, .i32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000, .i32⟩
  | 75 => ⟨S1x400000x1, .i32⟩
  | 76 => ⟨S400000x1x1, .i32⟩
  | 77 => ⟨S400000x400000x1, .i32⟩
  | 78 => ⟨S400000x400000x1, .i32⟩
  | 79 => ⟨S400000x400000x1, .i1⟩
  | 80 => ⟨S1x400000x32, .f32⟩
  | 81 => ⟨S_, .f32⟩
  | 82 => ⟨S_, .f32⟩
  | 83 => ⟨S400000x400000x32, .i1⟩
  | 84 => ⟨S400000x400000x32, .f32⟩
  | 85 => ⟨S400000x400000x32, .f32⟩
  | 86 => ⟨S400000x400000x32, .f32⟩
  | 87 => ⟨S_, .f32⟩
  | 88 => ⟨S400000x32, .f32⟩
  | 89 => ⟨S_, .i32⟩
  | 90 => ⟨S400000, .i32⟩
  | 91 => ⟨S400000, .i1⟩
  | 92 => ⟨S400000x1, .i1⟩
  | 93 => ⟨S_, .f32⟩
  | 94 => ⟨S_, .f32⟩
  | 95 => ⟨S400000x32, .i1⟩
  | 96 => ⟨S400000x32, .f32⟩
  | 97 => ⟨S400000x32, .f32⟩
  | 98 => ⟨S_, .i32⟩
  | 99 => ⟨S_, .i32⟩
  | 100 => ⟨S400000, .i32⟩
  | 101 => ⟨S400000, .i32⟩
  | 102 => ⟨S400000, .i32⟩
  | 103 => ⟨S_, .i32⟩
  | 104 => ⟨S400000, .i32⟩
  | 105 => ⟨S400000, .i1⟩
  | 106 => ⟨S400000, .i32⟩
  | 107 => ⟨S400000, .i32⟩
  | 108 => ⟨S_, .i32⟩
  | 109 => ⟨S400000, .i32⟩
  | 110 => ⟨S400000, .i1⟩
  | 111 => ⟨S400000, .i1⟩
  | 112 => ⟨S_, .i32⟩
  | 113 => ⟨S400000, .i32⟩
  | 114 => ⟨S400000, .i32⟩
  | 115 => ⟨S400000, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S400000, .i32⟩
  | 123 => ⟨S400000, .i32⟩
  | 124 => ⟨S_, .i32⟩
  | 125 => ⟨S400000, .i32⟩
  | 126 => ⟨S400000, .i1⟩
  | 127 => ⟨S_, .i32⟩
  | _ => ⟨S400000x32, .f32⟩

abbrev hbmTy0_5 (i : Nat) : BufTy := match i % 128 with
  | 0 => ⟨S400000, .i32⟩
  | 1 => ⟨S400000, .i1⟩
  | 2 => ⟨S_, .i32⟩
  | 3 => ⟨S_, .i1⟩
  | 4 => ⟨S400000, .i1⟩
  | 5 => ⟨S400000, .i1⟩
  | 6 => ⟨S400000, .i1⟩
  | 7 => ⟨S400000, .i32⟩
  | 8 => ⟨S400000, .i32⟩
  | 9 => ⟨S400000, .i32⟩
  | 10 => ⟨S_, .i32⟩
  | 11 => ⟨S_, .i32⟩
  | 12 => ⟨S400000, .i32⟩
  | 13 => ⟨S400000, .i32⟩
  | 14 => ⟨S400000, .i32⟩
  | 15 => ⟨S_, .i32⟩
  | 16 => ⟨S400000, .i32⟩
  | 17 => ⟨S400000, .i1⟩
  | 18 => ⟨S400000, .i32⟩
  | 19 => ⟨S400000, .i32⟩
  | 20 => ⟨S_, .i32⟩
  | 21 => ⟨S400000, .i32⟩
  | 22 => ⟨S400000, .i1⟩
  | 23 => ⟨S400000, .i1⟩
  | 24 => ⟨S_, .i32⟩
  | 25 => ⟨S400000, .i32⟩
  | 26 => ⟨S400000, .i32⟩
  | 27 => ⟨S400000, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S400000, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i1⟩
  | 42 => ⟨S_, .i32⟩
  | 43 => ⟨S_, .i1⟩
  | 44 => ⟨S400000, .i1⟩
  | 45 => ⟨S400000, .i1⟩
  | 46 => ⟨S400000, .i1⟩
  | 47 => ⟨S400000, .i32⟩
  | 48 => ⟨S400000, .i32⟩
  | 49 => ⟨S400000, .i32⟩
  | 50 => ⟨S_, .i32⟩
  | 51 => ⟨S_, .i32⟩
  | 52 => ⟨S400000, .i32⟩
  | 53 => ⟨S400000, .i32⟩
  | 54 => ⟨S400000, .i32⟩
  | 55 => ⟨S_, .i32⟩
  | 56 => ⟨S400000, .i32⟩
  | 57 => ⟨S400000, .i1⟩
  | 58 => ⟨S400000, .i32⟩
  | 59 => ⟨S400000, .i32⟩
  | 60 => ⟨S_, .i32⟩
  | 61 => ⟨S400000, .i32⟩
  | 62 => ⟨S400000, .i1⟩
  | 63 => ⟨S400000, .i1⟩
  | 64 => ⟨S_, .i32⟩
  | 65 => ⟨S400000, .i32⟩
  | 66 => ⟨S400000, .i32⟩
  | 67 => ⟨S400000, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S400000, .i32⟩
  | 75 => ⟨S400000, .i32⟩
  | 76 => ⟨S_, .i32⟩
  | 77 => ⟨S400000, .i32⟩
  | 78 => ⟨S400000, .i1⟩
  | 79 => ⟨S_, .i32⟩
  | 80 => ⟨S400000, .i32⟩
  | 81 => ⟨S400000, .i1⟩
  | 82 => ⟨S_, .i32⟩
  | 83 => ⟨S_, .i1⟩
  | 84 => ⟨S400000, .i1⟩
  | 85 => ⟨S400000, .i1⟩
  | 86 => ⟨S400000, .i1⟩
  | 87 => ⟨S400000, .i32⟩
  | 88 => ⟨S400000, .i32⟩
  | 89 => ⟨S400000, .i32⟩
  | 90 => ⟨S400000x1, .i1⟩
  | 91 => ⟨S400000x1, .i32⟩
  | 92 => ⟨S400000x1, .i32⟩
  | 93 => ⟨S400000x1, .i32⟩
  | 94 => ⟨S400000x1, .i32⟩
  | 95 => ⟨S400000x4, .i32⟩
  | 96 => ⟨S_, .i32⟩
  | 97 => ⟨S_, .i32⟩
  | 98 => ⟨S400000x4, .i1⟩
  | 99 => ⟨S400000x4, .i32⟩
  | 100 => ⟨S400000x4, .i32⟩
  | _ => ⟨S400000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S400000x32, .f32⟩

abbrev bufTy : (tb : Table) → Fin (tcTables nBuf tb) → BufTy
  | .hbm, ⟨i, _⟩ => hbmTy i
  | _, _ => ⟨S400000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_c_1 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v10 : Ref sig .tc := ⟨.hbm, 64, rfl⟩
abbrev main_c_2 : Ref sig .tc := ⟨.hbm, 65, rfl⟩
abbrev main_v11 : Ref sig .tc := ⟨.hbm, 66, rfl⟩
abbrev main_v12 : Ref sig .tc := ⟨.hbm, 67, rfl⟩
abbrev main_c_3 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_c_4 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_c_5 : Ref sig .tc := ⟨.hbm, 77, rfl⟩
abbrev main_v20 : Ref sig .tc := ⟨.hbm, 78, rfl⟩
abbrev main_v21 : Ref sig .tc := ⟨.hbm, 79, rfl⟩
abbrev main_c_6 : Ref sig .tc := ⟨.hbm, 80, rfl⟩
abbrev main_call3_v0 : Ref sig .tc := ⟨.hbm, 81, rfl⟩
abbrev main_call3_v1 : Ref sig .tc := ⟨.hbm, 82, rfl⟩
abbrev main_v22 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_call0_v0 : Ref sig .tc := ⟨.hbm, 87, rfl⟩
abbrev main_call4_call0_v1 : Ref sig .tc := ⟨.hbm, 88, rfl⟩
abbrev main_call4_call0_v2 : Ref sig .tc := ⟨.hbm, 89, rfl⟩
abbrev main_call4_call0_v3_0 : Ref sig .tc := ⟨.hbm, 90, rfl⟩
abbrev main_v23_2 : Ref sig .tc := ⟨.hbm, 91, rfl⟩
abbrev main_call4_c : Ref sig .tc := ⟨.hbm, 92, rfl⟩
abbrev main_call4_v4 : Ref sig .tc := ⟨.hbm, 93, rfl⟩
abbrev main_call4_v5 : Ref sig .tc := ⟨.hbm, 94, rfl⟩
abbrev main_call4_c_0 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_v23_0 : Ref sig .tc := ⟨.hbm, 100, rfl⟩
abbrev main_call4_c_1 : Ref sig .tc := ⟨.hbm, 101, rfl⟩
abbrev main_call4_v11 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_c_2 : Ref sig .tc := ⟨.hbm, 106, rfl⟩
abbrev main_call4_v15 : Ref sig .tc := ⟨.hbm, 107, rfl⟩
abbrev main_call4_c_3 : Ref sig .tc := ⟨.hbm, 108, rfl⟩
abbrev main_call4_v16 : Ref sig .tc := ⟨.hbm, 109, rfl⟩
abbrev main_v23_1 : Ref sig .tc := ⟨.hbm, 110, rfl⟩
abbrev main_call5_v0 : Ref sig .tc := ⟨.hbm, 111, rfl⟩
abbrev main_call5_call0_c : Ref sig .tc := ⟨.hbm, 112, rfl⟩
abbrev main_call5_call0_v0 : Ref sig .tc := ⟨.hbm, 113, rfl⟩
abbrev main_v24 : Ref sig .tc := ⟨.hbm, 114, rfl⟩
abbrev main_c_7 : Ref sig .tc := ⟨.hbm, 115, rfl⟩
abbrev main_v25 : Ref sig .tc := ⟨.hbm, 116, rfl⟩
abbrev main_c_8 : Ref sig .tc := ⟨.hbm, 117, rfl⟩
abbrev main_v26 : Ref sig .tc := ⟨.hbm, 118, rfl⟩
abbrev main_v27 : Ref sig .tc := ⟨.hbm, 119, rfl⟩
abbrev main_c_9 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_c_10 : Ref sig .tc := ⟨.hbm, 125, rfl⟩
abbrev main_v32 : Ref sig .tc := ⟨.hbm, 126, rfl⟩
abbrev main_v33 : Ref sig .tc := ⟨.hbm, 127, rfl⟩
abbrev main_call6_call0_c : Ref sig .tc := ⟨.hbm, 128, rfl⟩
abbrev main_call6_call0_v0 : Ref sig .tc := ⟨.hbm, 129, rfl⟩
abbrev main_v34 : Ref sig .tc := ⟨.hbm, 130, rfl⟩
abbrev main_c_11 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_v5 : Ref sig .tc := ⟨.hbm, 137, rfl⟩
abbrev main_call7_v6 : Ref sig .tc := ⟨.hbm, 138, rfl⟩
abbrev main_call7_v7 : Ref sig .tc := ⟨.hbm, 139, rfl⟩
abbrev main_call7_v8 : Ref sig .tc := ⟨.hbm, 140, rfl⟩
abbrev main_call7_c : Ref sig .tc := ⟨.hbm, 141, rfl⟩
abbrev main_call7_v9 : Ref sig .tc := ⟨.hbm, 142, rfl⟩
abbrev main_call7_v10 : Ref sig .tc := ⟨.hbm, 143, rfl⟩
abbrev main_call7_v11 : Ref sig .tc := ⟨.hbm, 144, rfl⟩
abbrev main_call7_c_0 : Ref sig .tc := ⟨.hbm, 145, rfl⟩
abbrev main_call7_v12 : Ref sig .tc := ⟨.hbm, 146, rfl⟩
abbrev main_call7_v13 : Ref sig .tc := ⟨.hbm, 147, rfl⟩
abbrev main_v35 : Ref sig .tc := ⟨.hbm, 148, rfl⟩
abbrev main_c_12 : Ref sig .tc := ⟨.hbm, 149, rfl⟩
abbrev main_call8_v0 : Ref sig .tc := ⟨.hbm, 150, rfl⟩
abbrev main_call8_c : Ref sig .tc := ⟨.hbm, 151, rfl⟩
abbrev main_call8_v1 : Ref sig .tc := ⟨.hbm, 152, rfl⟩
abbrev main_call8_c_0 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_c_1 : Ref sig .tc := ⟨.hbm, 157, rfl⟩
abbrev main_call8_v5 : Ref sig .tc := ⟨.hbm, 158, rfl⟩
abbrev main_call8_v6 : Ref sig .tc := ⟨.hbm, 159, rfl⟩
abbrev main_call8_c_2 : Ref sig .tc := ⟨.hbm, 160, rfl⟩
abbrev main_call8_v7 : Ref sig .tc := ⟨.hbm, 161, rfl⟩
abbrev main_call8_v8 : Ref sig .tc := ⟨.hbm, 162, rfl⟩
abbrev main_call8_c_3 : Ref sig .tc := ⟨.hbm, 163, rfl⟩
abbrev main_call8_v9 : Ref sig .tc := ⟨.hbm, 164, rfl⟩
abbrev main_call8_v10 : Ref sig .tc := ⟨.hbm, 165, rfl⟩
abbrev main_call8_v11 : Ref sig .tc := ⟨.hbm, 166, rfl⟩
abbrev main_call8_v12 : Ref sig .tc := ⟨.hbm, 167, rfl⟩
abbrev main_call8_v13 : Ref sig .tc := ⟨.hbm, 168, rfl⟩
abbrev main_call8_v14 : Ref sig .tc := ⟨.hbm, 169, rfl⟩
abbrev main_v36 : Ref sig .tc := ⟨.hbm, 170, rfl⟩
abbrev main_v37 : Ref sig .tc := ⟨.hbm, 171, rfl⟩
abbrev main_c_13 : Ref sig .tc := ⟨.hbm, 172, rfl⟩
abbrev main_v38 : Ref sig .tc := ⟨.hbm, 173, rfl⟩
abbrev main_v39 : Ref sig .tc := ⟨.hbm, 174, rfl⟩
abbrev main_v40 : Ref sig .tc := ⟨.hbm, 175, rfl⟩
abbrev main_v41 : Ref sig .tc := ⟨.hbm, 176, rfl⟩
abbrev main_v42 : Ref sig .tc := ⟨.hbm, 177, rfl⟩
abbrev main_c_14 : Ref sig .tc := ⟨.hbm, 178, rfl⟩
abbrev main_call9_v0 : Ref sig .tc := ⟨.hbm, 179, rfl⟩
abbrev main_call9_v1 : Ref sig .tc := ⟨.hbm, 180, rfl⟩
abbrev main_v43 : Ref sig .tc := ⟨.hbm, 181, rfl⟩
abbrev main_c_15 : Ref sig .tc := ⟨.hbm, 182, rfl⟩
abbrev main_v44 : Ref sig .tc := ⟨.hbm, 183, rfl⟩
abbrev main_v45 : Ref sig .tc := ⟨.hbm, 184, rfl⟩
abbrev main_c_16 : Ref sig .tc := ⟨.hbm, 185, rfl⟩
abbrev main_v46 : Ref sig .tc := ⟨.hbm, 186, rfl⟩
abbrev main_v47 : Ref sig .tc := ⟨.hbm, 187, rfl⟩
abbrev main_v48 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩
abbrev main_c_17 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_c_18 : Ref sig .tc := ⟨.hbm, 197, rfl⟩
abbrev main_call10_v0 : Ref sig .tc := ⟨.hbm, 198, rfl⟩
abbrev main_v56 : Ref sig .tc := ⟨.hbm, 199, rfl⟩
abbrev main_call11_v0 : Ref sig .tc := ⟨.hbm, 200, rfl⟩
abbrev main_call11_call0_c : Ref sig .tc := ⟨.hbm, 201, rfl⟩
abbrev main_call11_call0_v0 : Ref sig .tc := ⟨.hbm, 202, rfl⟩
abbrev main_v57 : Ref sig .tc := ⟨.hbm, 203, rfl⟩
abbrev main_c_19 : Ref sig .tc := ⟨.hbm, 204, rfl⟩
abbrev main_v58 : Ref sig .tc := ⟨.hbm, 205, rfl⟩
abbrev main_v59 : Ref sig .tc := ⟨.hbm, 206, rfl⟩
abbrev main_c_20 : Ref sig .tc := ⟨.hbm, 207, rfl⟩
abbrev main_v60 : Ref sig .tc := ⟨.hbm, 208, rfl⟩
abbrev main_c_21 : Ref sig .tc := ⟨.hbm, 209, rfl⟩
abbrev main_v61 : Ref sig .tc := ⟨.hbm, 210, rfl⟩
abbrev main_v62 : Ref sig .tc := ⟨.hbm, 211, rfl⟩
abbrev main_c_22 : Ref sig .tc := ⟨.hbm, 212, rfl⟩
abbrev main_v63 : Ref sig .tc := ⟨.hbm, 213, rfl⟩
abbrev main_v64 : Ref sig .tc := ⟨.hbm, 214, rfl⟩
abbrev main_v65 : Ref sig .tc := ⟨.hbm, 215, rfl⟩
abbrev main_v66 : Ref sig .tc := ⟨.hbm, 216, rfl⟩
abbrev main_v67 : Ref sig .tc := ⟨.hbm, 217, rfl⟩
abbrev main_v68 : Ref sig .tc := ⟨.hbm, 218, rfl⟩
abbrev main_v69 : Ref sig .tc := ⟨.hbm, 219, rfl⟩
abbrev main_v70 : Ref sig .tc := ⟨.hbm, 220, rfl⟩
abbrev main_v71 : Ref sig .tc := ⟨.hbm, 221, rfl⟩
abbrev main_v72 : Ref sig .tc := ⟨.hbm, 222, rfl⟩
abbrev main_v73 : Ref sig .tc := ⟨.hbm, 223, rfl⟩
abbrev main_cst : Ref sig .tc := ⟨.hbm, 224, rfl⟩
abbrev main_call12_v0 : Ref sig .tc := ⟨.hbm, 225, rfl⟩
abbrev main_call12_v1 : Ref sig .tc := ⟨.hbm, 226, rfl⟩
abbrev main_call12_v2 : Ref sig .tc := ⟨.hbm, 227, rfl⟩
abbrev main_call12_v3 : Ref sig .tc := ⟨.hbm, 228, rfl⟩
abbrev main_v74 : Ref sig .tc := ⟨.hbm, 229, rfl⟩
abbrev main_cst_23 : Ref sig .tc := ⟨.hbm, 230, rfl⟩
abbrev main_v75 : Ref sig .tc := ⟨.hbm, 231, rfl⟩
abbrev main_c_24 : Ref sig .tc := ⟨.hbm, 232, rfl⟩
abbrev main_v76 : Ref sig .tc := ⟨.hbm, 233, rfl⟩
abbrev main_v77 : Ref sig .tc := ⟨.hbm, 234, rfl⟩
abbrev main_v78 : Ref sig .tc := ⟨.hbm, 235, rfl⟩
abbrev main_cst_25 : Ref sig .tc := ⟨.hbm, 236, rfl⟩
abbrev main_call13_v0 : Ref sig .tc := ⟨.hbm, 237, rfl⟩
abbrev main_call13_v1 : Ref sig .tc := ⟨.hbm, 238, rfl⟩
abbrev main_call13_v2 : Ref sig .tc := ⟨.hbm, 239, rfl⟩
abbrev main_v79 : Ref sig .tc := ⟨.hbm, 240, rfl⟩
abbrev main_c_26 : Ref sig .tc := ⟨.hbm, 241, rfl⟩
abbrev main_call14_v0 : Ref sig .tc := ⟨.hbm, 242, rfl⟩
abbrev main_call14_v1 : Ref sig .tc := ⟨.hbm, 243, rfl⟩
abbrev main_call14_v2 : Ref sig .tc := ⟨.hbm, 244, rfl⟩
abbrev main_call14_v3 : Ref sig .tc := ⟨.hbm, 245, rfl⟩
abbrev main_call14_v4 : Ref sig .tc := ⟨.hbm, 246, rfl⟩
abbrev main_call14_v5 : Ref sig .tc := ⟨.hbm, 247, rfl⟩
abbrev main_call14_v6 : Ref sig .tc := ⟨.hbm, 248, rfl⟩
abbrev main_call14_v7 : Ref sig .tc := ⟨.hbm, 249, rfl⟩
abbrev main_call14_v8 : Ref sig .tc := ⟨.hbm, 250, rfl⟩
abbrev main_call14_c : Ref sig .tc := ⟨.hbm, 251, rfl⟩
abbrev main_call14_v9 : Ref sig .tc := ⟨.hbm, 252, rfl⟩
abbrev main_call14_v10 : Ref sig .tc := ⟨.hbm, 253, rfl⟩
abbrev main_call14_v11 : Ref sig .tc := ⟨.hbm, 254, rfl⟩
abbrev main_call14_c_0 : Ref sig .tc := ⟨.hbm, 255, rfl⟩
abbrev main_call14_v12 : Ref sig .tc := ⟨.hbm, 256, rfl⟩
abbrev main_call14_v13 : Ref sig .tc := ⟨.hbm, 257, rfl⟩
abbrev main_v80 : Ref sig .tc := ⟨.hbm, 258, rfl⟩
abbrev main_c_27 : Ref sig .tc := ⟨.hbm, 259, rfl⟩
abbrev main_call15_v0 : Ref sig .tc := ⟨.hbm, 260, rfl⟩
abbrev main_call15_c : Ref sig .tc := ⟨.hbm, 261, rfl⟩
abbrev main_call15_v1 : Ref sig .tc := ⟨.hbm, 262, rfl⟩
abbrev main_call15_c_0 : Ref sig .tc := ⟨.hbm, 263, rfl⟩
abbrev main_call15_v2 : Ref sig .tc := ⟨.hbm, 264, rfl⟩
abbrev main_call15_v3 : Ref sig .tc := ⟨.hbm, 265, rfl⟩
abbrev main_call15_v4 : Ref sig .tc := ⟨.hbm, 266, rfl⟩
abbrev main_call15_c_1 : Ref sig .tc := ⟨.hbm, 267, rfl⟩
abbrev main_call15_v5 : Ref sig .tc := ⟨.hbm, 268, rfl⟩
abbrev main_call15_v6 : Ref sig .tc := ⟨.hbm, 269, rfl⟩
abbrev main_call15_c_2 : Ref sig .tc := ⟨.hbm, 270, rfl⟩
abbrev main_call15_v7 : Ref sig .tc := ⟨.hbm, 271, rfl⟩
abbrev main_call15_v8 : Ref sig .tc := ⟨.hbm, 272, rfl⟩
abbrev main_call15_c_3 : Ref sig .tc := ⟨.hbm, 273, rfl⟩
abbrev main_call15_v9 : Ref sig .tc := ⟨.hbm, 274, rfl⟩
abbrev main_call15_v10 : Ref sig .tc := ⟨.hbm, 275, rfl⟩
abbrev main_call15_v11 : Ref sig .tc := ⟨.hbm, 276, rfl⟩
abbrev main_call15_v12 : Ref sig .tc := ⟨.hbm, 277, rfl⟩
abbrev main_call15_v13 : Ref sig .tc := ⟨.hbm, 278, rfl⟩
abbrev main_call15_v14 : Ref sig .tc := ⟨.hbm, 279, rfl⟩
abbrev main_v81 : Ref sig .tc := ⟨.hbm, 280, rfl⟩
abbrev main_c_28 : Ref sig .tc := ⟨.hbm, 281, rfl⟩
abbrev main_call16_v0 : Ref sig .tc := ⟨.hbm, 282, rfl⟩
abbrev main_call16_v1 : Ref sig .tc := ⟨.hbm, 283, rfl⟩
abbrev main_call16_v2 : Ref sig .tc := ⟨.hbm, 284, rfl⟩
abbrev main_call16_v3 : Ref sig .tc := ⟨.hbm, 285, rfl⟩
abbrev main_call16_v4 : Ref sig .tc := ⟨.hbm, 286, rfl⟩
abbrev main_call16_v5 : Ref sig .tc := ⟨.hbm, 287, rfl⟩
abbrev main_call16_v6 : Ref sig .tc := ⟨.hbm, 288, rfl⟩
abbrev main_call16_v7 : Ref sig .tc := ⟨.hbm, 289, rfl⟩
abbrev main_call16_v8 : Ref sig .tc := ⟨.hbm, 290, rfl⟩
abbrev main_call16_c : Ref sig .tc := ⟨.hbm, 291, rfl⟩
abbrev main_call16_v9 : Ref sig .tc := ⟨.hbm, 292, rfl⟩
abbrev main_call16_v10 : Ref sig .tc := ⟨.hbm, 293, rfl⟩
abbrev main_call16_v11 : Ref sig .tc := ⟨.hbm, 294, rfl⟩
abbrev main_call16_c_0 : Ref sig .tc := ⟨.hbm, 295, rfl⟩
abbrev main_call16_v12 : Ref sig .tc := ⟨.hbm, 296, rfl⟩
abbrev main_call16_v13 : Ref sig .tc := ⟨.hbm, 297, rfl⟩
abbrev main_v82 : Ref sig .tc := ⟨.hbm, 298, rfl⟩
abbrev main_c_29 : Ref sig .tc := ⟨.hbm, 299, rfl⟩
abbrev main_call17_v0 : Ref sig .tc := ⟨.hbm, 300, rfl⟩
abbrev main_call17_c : Ref sig .tc := ⟨.hbm, 301, rfl⟩
abbrev main_call17_v1 : Ref sig .tc := ⟨.hbm, 302, rfl⟩
abbrev main_call17_c_0 : Ref sig .tc := ⟨.hbm, 303, rfl⟩
abbrev main_call17_v2 : Ref sig .tc := ⟨.hbm, 304, rfl⟩
abbrev main_call17_v3 : Ref sig .tc := ⟨.hbm, 305, rfl⟩
abbrev main_call17_v4 : Ref sig .tc := ⟨.hbm, 306, rfl⟩
abbrev main_call17_c_1 : Ref sig .tc := ⟨.hbm, 307, rfl⟩
abbrev main_call17_v5 : Ref sig .tc := ⟨.hbm, 308, rfl⟩
abbrev main_call17_v6 : Ref sig .tc := ⟨.hbm, 309, rfl⟩
abbrev main_call17_c_2 : Ref sig .tc := ⟨.hbm, 310, rfl⟩
abbrev main_call17_v7 : Ref sig .tc := ⟨.hbm, 311, rfl⟩
abbrev main_call17_v8 : Ref sig .tc := ⟨.hbm, 312, rfl⟩
abbrev main_call17_c_3 : Ref sig .tc := ⟨.hbm, 313, rfl⟩
abbrev main_call17_v9 : Ref sig .tc := ⟨.hbm, 314, rfl⟩
abbrev main_call17_v10 : Ref sig .tc := ⟨.hbm, 315, rfl⟩
abbrev main_call17_v11 : Ref sig .tc := ⟨.hbm, 316, rfl⟩
abbrev main_call17_v12 : Ref sig .tc := ⟨.hbm, 317, rfl⟩
abbrev main_call17_v13 : Ref sig .tc := ⟨.hbm, 318, rfl⟩
abbrev main_call17_v14 : Ref sig .tc := ⟨.hbm, 319, rfl⟩
abbrev main_v83 : Ref sig .tc := ⟨.hbm, 320, rfl⟩
abbrev main_c_30 : Ref sig .tc := ⟨.hbm, 321, rfl⟩
abbrev main_call18_v0 : Ref sig .tc := ⟨.hbm, 322, rfl⟩
abbrev main_call18_v1 : Ref sig .tc := ⟨.hbm, 323, rfl⟩
abbrev main_call18_v2 : Ref sig .tc := ⟨.hbm, 324, rfl⟩
abbrev main_call18_v3 : Ref sig .tc := ⟨.hbm, 325, rfl⟩
abbrev main_call18_v4 : Ref sig .tc := ⟨.hbm, 326, rfl⟩
abbrev main_call18_v5 : Ref sig .tc := ⟨.hbm, 327, rfl⟩
abbrev main_call18_v6 : Ref sig .tc := ⟨.hbm, 328, rfl⟩
abbrev main_call18_v7 : Ref sig .tc := ⟨.hbm, 329, rfl⟩
abbrev main_call18_v8 : Ref sig .tc := ⟨.hbm, 330, rfl⟩
abbrev main_call18_c : Ref sig .tc := ⟨.hbm, 331, rfl⟩
abbrev main_call18_v9 : Ref sig .tc := ⟨.hbm, 332, rfl⟩
abbrev main_call18_v10 : Ref sig .tc := ⟨.hbm, 333, rfl⟩
abbrev main_call18_v11 : Ref sig .tc := ⟨.hbm, 334, rfl⟩
abbrev main_call18_c_0 : Ref sig .tc := ⟨.hbm, 335, rfl⟩
abbrev main_call18_v12 : Ref sig .tc := ⟨.hbm, 336, rfl⟩
abbrev main_call18_v13 : Ref sig .tc := ⟨.hbm, 337, rfl⟩
abbrev main_v84 : Ref sig .tc := ⟨.hbm, 338, rfl⟩
abbrev main_c_31 : Ref sig .tc := ⟨.hbm, 339, rfl⟩
abbrev main_call19_v0 : Ref sig .tc := ⟨.hbm, 340, rfl⟩
abbrev main_call19_c : Ref sig .tc := ⟨.hbm, 341, rfl⟩
abbrev main_call19_v1 : Ref sig .tc := ⟨.hbm, 342, rfl⟩
abbrev main_call19_c_0 : Ref sig .tc := ⟨.hbm, 343, rfl⟩
abbrev main_call19_v2 : Ref sig .tc := ⟨.hbm, 344, rfl⟩
abbrev main_call19_v3 : Ref sig .tc := ⟨.hbm, 345, rfl⟩
abbrev main_call19_v4 : Ref sig .tc := ⟨.hbm, 346, rfl⟩
abbrev main_call19_c_1 : Ref sig .tc := ⟨.hbm, 347, rfl⟩
abbrev main_call19_v5 : Ref sig .tc := ⟨.hbm, 348, rfl⟩
abbrev main_call19_v6 : Ref sig .tc := ⟨.hbm, 349, rfl⟩
abbrev main_call19_c_2 : Ref sig .tc := ⟨.hbm, 350, rfl⟩
abbrev main_call19_v7 : Ref sig .tc := ⟨.hbm, 351, rfl⟩
abbrev main_call19_v8 : Ref sig .tc := ⟨.hbm, 352, rfl⟩
abbrev main_call19_c_3 : Ref sig .tc := ⟨.hbm, 353, rfl⟩
abbrev main_call19_v9 : Ref sig .tc := ⟨.hbm, 354, rfl⟩
abbrev main_call19_v10 : Ref sig .tc := ⟨.hbm, 355, rfl⟩
abbrev main_call19_v11 : Ref sig .tc := ⟨.hbm, 356, rfl⟩
abbrev main_call19_v12 : Ref sig .tc := ⟨.hbm, 357, rfl⟩
abbrev main_call19_v13 : Ref sig .tc := ⟨.hbm, 358, rfl⟩
abbrev main_call19_v14 : Ref sig .tc := ⟨.hbm, 359, rfl⟩
abbrev main_v85 : Ref sig .tc := ⟨.hbm, 360, rfl⟩
abbrev main_v86 : Ref sig .tc := ⟨.hbm, 361, rfl⟩
abbrev main_v87 : Ref sig .tc := ⟨.hbm, 362, rfl⟩
abbrev main_v88 : Ref sig .tc := ⟨.hbm, 363, rfl⟩
abbrev main_v89 : Ref sig .tc := ⟨.hbm, 364, rfl⟩
abbrev main_v90 : Ref sig .tc := ⟨.hbm, 365, rfl⟩
abbrev main_v91 : Ref sig .tc := ⟨.hbm, 366, rfl⟩
abbrev main_c_32 : Ref sig .tc := ⟨.hbm, 367, rfl⟩
abbrev main_call20_v0 : Ref sig .tc := ⟨.hbm, 368, rfl⟩
abbrev main_call20_v1 : Ref sig .tc := ⟨.hbm, 369, rfl⟩
abbrev main_call20_v2 : Ref sig .tc := ⟨.hbm, 370, rfl⟩
abbrev main_v92 : Ref sig .tc := ⟨.hbm, 371, rfl⟩
abbrev main_v93 : Ref sig .tc := ⟨.hbm, 372, rfl⟩
abbrev main_v94 : Ref sig .tc := ⟨.hbm, 373, rfl⟩
abbrev main_v95 : Ref sig .tc := ⟨.hbm, 374, rfl⟩
abbrev main_v96 : Ref sig .tc := ⟨.hbm, 375, rfl⟩
abbrev main_c_33 : Ref sig .tc := ⟨.hbm, 376, rfl⟩
abbrev main_call21_v0 : Ref sig .tc := ⟨.hbm, 377, rfl⟩
abbrev main_call21_v1 : Ref sig .tc := ⟨.hbm, 378, rfl⟩
abbrev main_call21_v2 : Ref sig .tc := ⟨.hbm, 379, rfl⟩
abbrev main_call21_v3 : Ref sig .tc := ⟨.hbm, 380, rfl⟩
abbrev main_call21_v4 : Ref sig .tc := ⟨.hbm, 381, rfl⟩
abbrev main_call21_v5 : Ref sig .tc := ⟨.hbm, 382, rfl⟩
abbrev main_call21_v6 : Ref sig .tc := ⟨.hbm, 383, rfl⟩
abbrev main_call21_v7 : Ref sig .tc := ⟨.hbm, 384, rfl⟩
abbrev main_call21_v8 : Ref sig .tc := ⟨.hbm, 385, rfl⟩
abbrev main_call21_c : Ref sig .tc := ⟨.hbm, 386, rfl⟩
abbrev main_call21_v9 : Ref sig .tc := ⟨.hbm, 387, rfl⟩
abbrev main_call21_v10 : Ref sig .tc := ⟨.hbm, 388, rfl⟩
abbrev main_call21_v11 : Ref sig .tc := ⟨.hbm, 389, rfl⟩
abbrev main_call21_c_0 : Ref sig .tc := ⟨.hbm, 390, rfl⟩
abbrev main_call21_v12 : Ref sig .tc := ⟨.hbm, 391, rfl⟩
abbrev main_call21_v13 : Ref sig .tc := ⟨.hbm, 392, rfl⟩
abbrev main_v97 : Ref sig .tc := ⟨.hbm, 393, rfl⟩
abbrev main_v98 : Ref sig .tc := ⟨.hbm, 394, rfl⟩
abbrev main_v99 : Ref sig .tc := ⟨.hbm, 395, rfl⟩
abbrev main_c_34 : Ref sig .tc := ⟨.hbm, 396, rfl⟩
abbrev main_call22_v0 : Ref sig .tc := ⟨.hbm, 397, rfl⟩
abbrev main_call22_v1 : Ref sig .tc := ⟨.hbm, 398, rfl⟩
abbrev main_call22_v2 : Ref sig .tc := ⟨.hbm, 399, rfl⟩
abbrev main_call22_v3 : Ref sig .tc := ⟨.hbm, 400, rfl⟩
abbrev main_call22_v4 : Ref sig .tc := ⟨.hbm, 401, rfl⟩
abbrev main_call22_v5 : Ref sig .tc := ⟨.hbm, 402, rfl⟩
abbrev main_call22_v6 : Ref sig .tc := ⟨.hbm, 403, rfl⟩
abbrev main_call22_v7 : Ref sig .tc := ⟨.hbm, 404, rfl⟩
abbrev main_call22_v8 : Ref sig .tc := ⟨.hbm, 405, rfl⟩
abbrev main_call22_c : Ref sig .tc := ⟨.hbm, 406, rfl⟩
abbrev main_call22_v9 : Ref sig .tc := ⟨.hbm, 407, rfl⟩
abbrev main_call22_v10 : Ref sig .tc := ⟨.hbm, 408, rfl⟩
abbrev main_call22_v11 : Ref sig .tc := ⟨.hbm, 409, rfl⟩
abbrev main_call22_c_0 : Ref sig .tc := ⟨.hbm, 410, rfl⟩
abbrev main_call22_v12 : Ref sig .tc := ⟨.hbm, 411, rfl⟩
abbrev main_call22_v13 : Ref sig .tc := ⟨.hbm, 412, rfl⟩
abbrev main_v100 : Ref sig .tc := ⟨.hbm, 413, rfl⟩
abbrev main_v101 : Ref sig .tc := ⟨.hbm, 414, rfl⟩
abbrev main_v102 : Ref sig .tc := ⟨.hbm, 415, rfl⟩
abbrev main_c_35 : Ref sig .tc := ⟨.hbm, 416, rfl⟩
abbrev main_call23_v0 : Ref sig .tc := ⟨.hbm, 417, rfl⟩
abbrev main_call23_v1 : Ref sig .tc := ⟨.hbm, 418, rfl⟩
abbrev main_call23_v2 : Ref sig .tc := ⟨.hbm, 419, rfl⟩
abbrev main_call23_v3 : Ref sig .tc := ⟨.hbm, 420, rfl⟩
abbrev main_call23_v4 : Ref sig .tc := ⟨.hbm, 421, rfl⟩
abbrev main_call23_v5 : Ref sig .tc := ⟨.hbm, 422, rfl⟩
abbrev main_call23_v6 : Ref sig .tc := ⟨.hbm, 423, rfl⟩
abbrev main_call23_v7 : Ref sig .tc := ⟨.hbm, 424, rfl⟩
abbrev main_call23_v8 : Ref sig .tc := ⟨.hbm, 425, rfl⟩
abbrev main_call23_c : Ref sig .tc := ⟨.hbm, 426, rfl⟩
abbrev main_call23_v9 : Ref sig .tc := ⟨.hbm, 427, rfl⟩
abbrev main_call23_v10 : Ref sig .tc := ⟨.hbm, 428, rfl⟩
abbrev main_call23_v11 : Ref sig .tc := ⟨.hbm, 429, rfl⟩
abbrev main_call23_c_0 : Ref sig .tc := ⟨.hbm, 430, rfl⟩
abbrev main_call23_v12 : Ref sig .tc := ⟨.hbm, 431, rfl⟩
abbrev main_call23_v13 : Ref sig .tc := ⟨.hbm, 432, rfl⟩
abbrev main_v103 : Ref sig .tc := ⟨.hbm, 433, rfl⟩
abbrev main_c_36 : Ref sig .tc := ⟨.hbm, 434, rfl⟩
abbrev main_v104 : Ref sig .tc := ⟨.hbm, 435, rfl⟩
abbrev main_v105 : Ref sig .tc := ⟨.hbm, 436, rfl⟩
abbrev main_c_37 : Ref sig .tc := ⟨.hbm, 437, rfl⟩
abbrev main_v106 : Ref sig .tc := ⟨.hbm, 438, rfl⟩
abbrev main_v107 : Ref sig .tc := ⟨.hbm, 439, rfl⟩
abbrev main_v108 : Ref sig .tc := ⟨.hbm, 440, rfl⟩
abbrev main_c_38 : Ref sig .tc := ⟨.hbm, 441, rfl⟩
abbrev main_v109 : Ref sig .tc := ⟨.hbm, 442, rfl⟩
abbrev main_v110 : Ref sig .tc := ⟨.hbm, 443, rfl⟩
abbrev main_v111 : Ref sig .tc := ⟨.hbm, 444, rfl⟩
abbrev main_v112 : Ref sig .tc := ⟨.hbm, 445, rfl⟩
abbrev main_c_39 : Ref sig .tc := ⟨.hbm, 446, rfl⟩
abbrev main_v113 : Ref sig .tc := ⟨.hbm, 447, rfl⟩
abbrev main_v114 : Ref sig .tc := ⟨.hbm, 448, rfl⟩
abbrev main_c_40 : Ref sig .tc := ⟨.hbm, 449, rfl⟩
abbrev main_call24_v0 : Ref sig .tc := ⟨.hbm, 450, rfl⟩
abbrev main_call24_v1 : Ref sig .tc := ⟨.hbm, 451, rfl⟩
abbrev main_v115 : Ref sig .tc := ⟨.hbm, 452, rfl⟩
abbrev main_call25_v0 : Ref sig .tc := ⟨.hbm, 453, rfl⟩
abbrev main_call25_v1 : Ref sig .tc := ⟨.hbm, 454, rfl⟩
abbrev main_call25_v2 : Ref sig .tc := ⟨.hbm, 455, rfl⟩
abbrev main_call25_call0_v0 : Ref sig .tc := ⟨.hbm, 456, rfl⟩
abbrev main_call25_call0_v1 : Ref sig .tc := ⟨.hbm, 457, rfl⟩
abbrev main_call25_call0_v2 : Ref sig .tc := ⟨.hbm, 458, rfl⟩
abbrev main_call25_call0_v3_0 : Ref sig .tc := ⟨.hbm, 459, rfl⟩
abbrev main_v116_2 : Ref sig .tc := ⟨.hbm, 460, rfl⟩
abbrev main_call25_c : Ref sig .tc := ⟨.hbm, 461, rfl⟩
abbrev main_call25_v4 : Ref sig .tc := ⟨.hbm, 462, rfl⟩
abbrev main_call25_v5 : Ref sig .tc := ⟨.hbm, 463, rfl⟩
abbrev main_call25_c_0 : Ref sig .tc := ⟨.hbm, 464, rfl⟩
abbrev main_call25_v6 : Ref sig .tc := ⟨.hbm, 465, rfl⟩
abbrev main_call25_v7 : Ref sig .tc := ⟨.hbm, 466, rfl⟩
abbrev main_call25_v8 : Ref sig .tc := ⟨.hbm, 467, rfl⟩
abbrev main_call25_v9 : Ref sig .tc := ⟨.hbm, 468, rfl⟩
abbrev main_v116_0 : Ref sig .tc := ⟨.hbm, 469, rfl⟩
abbrev main_call25_c_1 : Ref sig .tc := ⟨.hbm, 470, rfl⟩
abbrev main_call25_v11 : Ref sig .tc := ⟨.hbm, 471, rfl⟩
abbrev main_call25_v12 : Ref sig .tc := ⟨.hbm, 472, rfl⟩
abbrev main_call25_v13 : Ref sig .tc := ⟨.hbm, 473, rfl⟩
abbrev main_call25_v14 : Ref sig .tc := ⟨.hbm, 474, rfl⟩
abbrev main_call25_c_2 : Ref sig .tc := ⟨.hbm, 475, rfl⟩
abbrev main_call25_v15 : Ref sig .tc := ⟨.hbm, 476, rfl⟩
abbrev main_call25_c_3 : Ref sig .tc := ⟨.hbm, 477, rfl⟩
abbrev main_call25_v16 : Ref sig .tc := ⟨.hbm, 478, rfl⟩
abbrev main_v116_1 : Ref sig .tc := ⟨.hbm, 479, rfl⟩
abbrev main_call26_v0 : Ref sig .tc := ⟨.hbm, 480, rfl⟩
abbrev main_call26_call0_c : Ref sig .tc := ⟨.hbm, 481, rfl⟩
abbrev main_call26_call0_v0 : Ref sig .tc := ⟨.hbm, 482, rfl⟩
abbrev main_v117 : Ref sig .tc := ⟨.hbm, 483, rfl⟩
abbrev main_c_41 : Ref sig .tc := ⟨.hbm, 484, rfl⟩
abbrev main_v118 : Ref sig .tc := ⟨.hbm, 485, rfl⟩
abbrev main_c_42 : Ref sig .tc := ⟨.hbm, 486, rfl⟩
abbrev main_v119 : Ref sig .tc := ⟨.hbm, 487, rfl⟩
abbrev main_v120 : Ref sig .tc := ⟨.hbm, 488, rfl⟩
abbrev main_c_43 : Ref sig .tc := ⟨.hbm, 489, rfl⟩
abbrev main_v121 : Ref sig .tc := ⟨.hbm, 490, rfl⟩
abbrev main_v122 : Ref sig .tc := ⟨.hbm, 491, rfl⟩
abbrev main_v123 : Ref sig .tc := ⟨.hbm, 492, rfl⟩
abbrev main_v124 : Ref sig .tc := ⟨.hbm, 493, rfl⟩
abbrev main_c_44 : Ref sig .tc := ⟨.hbm, 494, rfl⟩
abbrev main_v125 : Ref sig .tc := ⟨.hbm, 495, rfl⟩
abbrev main_v126 : Ref sig .tc := ⟨.hbm, 496, rfl⟩
abbrev main_call27_call0_c : Ref sig .tc := ⟨.hbm, 497, rfl⟩
abbrev main_call27_call0_v0 : Ref sig .tc := ⟨.hbm, 498, rfl⟩
abbrev main_v127 : Ref sig .tc := ⟨.hbm, 499, rfl⟩
abbrev main_c_45 : Ref sig .tc := ⟨.hbm, 500, rfl⟩
abbrev main_call28_v0 : Ref sig .tc := ⟨.hbm, 501, rfl⟩
abbrev main_call28_v1 : Ref sig .tc := ⟨.hbm, 502, rfl⟩
abbrev main_call28_v2 : Ref sig .tc := ⟨.hbm, 503, rfl⟩
abbrev main_call28_v3 : Ref sig .tc := ⟨.hbm, 504, rfl⟩
abbrev main_call28_v4 : Ref sig .tc := ⟨.hbm, 505, rfl⟩
abbrev main_call28_v5 : Ref sig .tc := ⟨.hbm, 506, rfl⟩
abbrev main_call28_v6 : Ref sig .tc := ⟨.hbm, 507, rfl⟩
abbrev main_call28_v7 : Ref sig .tc := ⟨.hbm, 508, rfl⟩
abbrev main_call28_v8 : Ref sig .tc := ⟨.hbm, 509, rfl⟩
abbrev main_call28_c : Ref sig .tc := ⟨.hbm, 510, rfl⟩
abbrev main_call28_v9 : Ref sig .tc := ⟨.hbm, 511, rfl⟩
abbrev main_call28_v10 : Ref sig .tc := ⟨.hbm, 512, rfl⟩
abbrev main_call28_v11 : Ref sig .tc := ⟨.hbm, 513, rfl⟩
abbrev main_call28_c_0 : Ref sig .tc := ⟨.hbm, 514, rfl⟩
abbrev main_call28_v12 : Ref sig .tc := ⟨.hbm, 515, rfl⟩
abbrev main_call28_v13 : Ref sig .tc := ⟨.hbm, 516, rfl⟩
abbrev main_v128 : Ref sig .tc := ⟨.hbm, 517, rfl⟩
abbrev main_c_46 : Ref sig .tc := ⟨.hbm, 518, rfl⟩
abbrev main_call29_v0 : Ref sig .tc := ⟨.hbm, 519, rfl⟩
abbrev main_call29_c : Ref sig .tc := ⟨.hbm, 520, rfl⟩
abbrev main_call29_v1 : Ref sig .tc := ⟨.hbm, 521, rfl⟩
abbrev main_call29_c_0 : Ref sig .tc := ⟨.hbm, 522, rfl⟩
abbrev main_call29_v2 : Ref sig .tc := ⟨.hbm, 523, rfl⟩
abbrev main_call29_v3 : Ref sig .tc := ⟨.hbm, 524, rfl⟩
abbrev main_call29_v4 : Ref sig .tc := ⟨.hbm, 525, rfl⟩
abbrev main_call29_c_1 : Ref sig .tc := ⟨.hbm, 526, rfl⟩
abbrev main_call29_v5 : Ref sig .tc := ⟨.hbm, 527, rfl⟩
abbrev main_call29_v6 : Ref sig .tc := ⟨.hbm, 528, rfl⟩
abbrev main_call29_c_2 : Ref sig .tc := ⟨.hbm, 529, rfl⟩
abbrev main_call29_v7 : Ref sig .tc := ⟨.hbm, 530, rfl⟩
abbrev main_call29_v8 : Ref sig .tc := ⟨.hbm, 531, rfl⟩
abbrev main_call29_c_3 : Ref sig .tc := ⟨.hbm, 532, rfl⟩
abbrev main_call29_v9 : Ref sig .tc := ⟨.hbm, 533, rfl⟩
abbrev main_call29_v10 : Ref sig .tc := ⟨.hbm, 534, rfl⟩
abbrev main_call29_v11 : Ref sig .tc := ⟨.hbm, 535, rfl⟩
abbrev main_call29_v12 : Ref sig .tc := ⟨.hbm, 536, rfl⟩
abbrev main_call29_v13 : Ref sig .tc := ⟨.hbm, 537, rfl⟩
abbrev main_call29_v14 : Ref sig .tc := ⟨.hbm, 538, rfl⟩
abbrev main_v129 : Ref sig .tc := ⟨.hbm, 539, rfl⟩
abbrev main_v130 : Ref sig .tc := ⟨.hbm, 540, rfl⟩
abbrev main_c_47 : Ref sig .tc := ⟨.hbm, 541, rfl⟩
abbrev main_v131 : Ref sig .tc := ⟨.hbm, 542, rfl⟩
abbrev main_v132 : Ref sig .tc := ⟨.hbm, 543, rfl⟩
abbrev main_v133 : Ref sig .tc := ⟨.hbm, 544, rfl⟩
abbrev main_v134 : Ref sig .tc := ⟨.hbm, 545, rfl⟩
abbrev main_v135 : Ref sig .tc := ⟨.hbm, 546, rfl⟩
abbrev main_c_48 : Ref sig .tc := ⟨.hbm, 547, rfl⟩
abbrev main_call30_v0 : Ref sig .tc := ⟨.hbm, 548, rfl⟩
abbrev main_call30_v1 : Ref sig .tc := ⟨.hbm, 549, rfl⟩
abbrev main_v136 : Ref sig .tc := ⟨.hbm, 550, rfl⟩
abbrev main_c_49 : Ref sig .tc := ⟨.hbm, 551, rfl⟩
abbrev main_v137 : Ref sig .tc := ⟨.hbm, 552, rfl⟩
abbrev main_v138 : Ref sig .tc := ⟨.hbm, 553, rfl⟩
abbrev main_c_50 : Ref sig .tc := ⟨.hbm, 554, rfl⟩
abbrev main_v139 : Ref sig .tc := ⟨.hbm, 555, rfl⟩
abbrev main_v140 : Ref sig .tc := ⟨.hbm, 556, rfl⟩
abbrev main_v141 : Ref sig .tc := ⟨.hbm, 557, rfl⟩
abbrev main_v142 : Ref sig .tc := ⟨.hbm, 558, rfl⟩
abbrev main_v143 : Ref sig .tc := ⟨.hbm, 559, rfl⟩
abbrev main_v144 : Ref sig .tc := ⟨.hbm, 560, rfl⟩
abbrev main_v145 : Ref sig .tc := ⟨.hbm, 561, rfl⟩
abbrev main_c_51 : Ref sig .tc := ⟨.hbm, 562, rfl⟩
abbrev main_v146 : Ref sig .tc := ⟨.hbm, 563, rfl⟩
abbrev main_v147 : Ref sig .tc := ⟨.hbm, 564, rfl⟩
abbrev main_v148 : Ref sig .tc := ⟨.hbm, 565, rfl⟩
abbrev main_c_52 : Ref sig .tc := ⟨.hbm, 566, rfl⟩
abbrev main_call31_v0 : Ref sig .tc := ⟨.hbm, 567, rfl⟩
abbrev main_v149 : Ref sig .tc := ⟨.hbm, 568, rfl⟩
abbrev main_call32_v0 : Ref sig .tc := ⟨.hbm, 569, rfl⟩
abbrev main_call32_call0_c : Ref sig .tc := ⟨.hbm, 570, rfl⟩
abbrev main_call32_call0_v0 : Ref sig .tc := ⟨.hbm, 571, rfl⟩
abbrev main_v150 : Ref sig .tc := ⟨.hbm, 572, rfl⟩
abbrev main_c_53 : Ref sig .tc := ⟨.hbm, 573, rfl⟩
abbrev main_v151 : Ref sig .tc := ⟨.hbm, 574, rfl⟩
abbrev main_v152 : Ref sig .tc := ⟨.hbm, 575, rfl⟩
abbrev main_c_54 : Ref sig .tc := ⟨.hbm, 576, rfl⟩
abbrev main_v153 : Ref sig .tc := ⟨.hbm, 577, rfl⟩
abbrev main_c_55 : Ref sig .tc := ⟨.hbm, 578, rfl⟩
abbrev main_v154 : Ref sig .tc := ⟨.hbm, 579, rfl⟩
abbrev main_v155 : Ref sig .tc := ⟨.hbm, 580, rfl⟩
abbrev main_c_56 : Ref sig .tc := ⟨.hbm, 581, rfl⟩
abbrev main_v156 : Ref sig .tc := ⟨.hbm, 582, rfl⟩
abbrev main_v157 : Ref sig .tc := ⟨.hbm, 583, rfl⟩
abbrev main_v158 : Ref sig .tc := ⟨.hbm, 584, rfl⟩
abbrev main_v159 : Ref sig .tc := ⟨.hbm, 585, rfl⟩
abbrev main_v160 : Ref sig .tc := ⟨.hbm, 586, rfl⟩
abbrev main_v161 : Ref sig .tc := ⟨.hbm, 587, rfl⟩
abbrev main_v162 : Ref sig .tc := ⟨.hbm, 588, rfl⟩
abbrev main_v163 : Ref sig .tc := ⟨.hbm, 589, rfl⟩
abbrev main_v164 : Ref sig .tc := ⟨.hbm, 590, rfl⟩
abbrev main_v165 : Ref sig .tc := ⟨.hbm, 591, rfl⟩
abbrev main_v166 : Ref sig .tc := ⟨.hbm, 592, rfl⟩
abbrev main_cst_57 : Ref sig .tc := ⟨.hbm, 593, rfl⟩
abbrev main_call33_v0 : Ref sig .tc := ⟨.hbm, 594, rfl⟩
abbrev main_call33_v1 : Ref sig .tc := ⟨.hbm, 595, rfl⟩
abbrev main_call33_v2 : Ref sig .tc := ⟨.hbm, 596, rfl⟩
abbrev main_call33_v3 : Ref sig .tc := ⟨.hbm, 597, rfl⟩
abbrev main_v167 : Ref sig .tc := ⟨.hbm, 598, rfl⟩
abbrev main_cst_58 : Ref sig .tc := ⟨.hbm, 599, rfl⟩
abbrev main_v168 : Ref sig .tc := ⟨.hbm, 600, rfl⟩
abbrev main_c_59 : Ref sig .tc := ⟨.hbm, 601, rfl⟩
abbrev main_v169 : Ref sig .tc := ⟨.hbm, 602, rfl⟩
abbrev main_v170 : Ref sig .tc := ⟨.hbm, 603, rfl⟩
abbrev main_v171 : Ref sig .tc := ⟨.hbm, 604, rfl⟩
abbrev main_cst_60 : Ref sig .tc := ⟨.hbm, 605, rfl⟩
abbrev main_call34_v0 : Ref sig .tc := ⟨.hbm, 606, rfl⟩
abbrev main_call34_v1 : Ref sig .tc := ⟨.hbm, 607, rfl⟩
abbrev main_call34_v2 : Ref sig .tc := ⟨.hbm, 608, rfl⟩
abbrev main_v172 : Ref sig .tc := ⟨.hbm, 609, rfl⟩
abbrev main_c_61 : Ref sig .tc := ⟨.hbm, 610, rfl⟩
abbrev main_call35_v0 : Ref sig .tc := ⟨.hbm, 611, rfl⟩
abbrev main_call35_v1 : Ref sig .tc := ⟨.hbm, 612, rfl⟩
abbrev main_call35_v2 : Ref sig .tc := ⟨.hbm, 613, rfl⟩
abbrev main_call35_v3 : Ref sig .tc := ⟨.hbm, 614, rfl⟩
abbrev main_call35_v4 : Ref sig .tc := ⟨.hbm, 615, rfl⟩
abbrev main_call35_v5 : Ref sig .tc := ⟨.hbm, 616, rfl⟩
abbrev main_call35_v6 : Ref sig .tc := ⟨.hbm, 617, rfl⟩
abbrev main_call35_v7 : Ref sig .tc := ⟨.hbm, 618, rfl⟩
abbrev main_call35_v8 : Ref sig .tc := ⟨.hbm, 619, rfl⟩
abbrev main_call35_c : Ref sig .tc := ⟨.hbm, 620, rfl⟩
abbrev main_call35_v9 : Ref sig .tc := ⟨.hbm, 621, rfl⟩
abbrev main_call35_v10 : Ref sig .tc := ⟨.hbm, 622, rfl⟩
abbrev main_call35_v11 : Ref sig .tc := ⟨.hbm, 623, rfl⟩
abbrev main_call35_c_0 : Ref sig .tc := ⟨.hbm, 624, rfl⟩
abbrev main_call35_v12 : Ref sig .tc := ⟨.hbm, 625, rfl⟩
abbrev main_call35_v13 : Ref sig .tc := ⟨.hbm, 626, rfl⟩
abbrev main_v173 : Ref sig .tc := ⟨.hbm, 627, rfl⟩
abbrev main_c_62 : Ref sig .tc := ⟨.hbm, 628, rfl⟩
abbrev main_call36_v0 : Ref sig .tc := ⟨.hbm, 629, rfl⟩
abbrev main_call36_c : Ref sig .tc := ⟨.hbm, 630, rfl⟩
abbrev main_call36_v1 : Ref sig .tc := ⟨.hbm, 631, rfl⟩
abbrev main_call36_c_0 : Ref sig .tc := ⟨.hbm, 632, rfl⟩
abbrev main_call36_v2 : Ref sig .tc := ⟨.hbm, 633, rfl⟩
abbrev main_call36_v3 : Ref sig .tc := ⟨.hbm, 634, rfl⟩
abbrev main_call36_v4 : Ref sig .tc := ⟨.hbm, 635, rfl⟩
abbrev main_call36_c_1 : Ref sig .tc := ⟨.hbm, 636, rfl⟩
abbrev main_call36_v5 : Ref sig .tc := ⟨.hbm, 637, rfl⟩
abbrev main_call36_v6 : Ref sig .tc := ⟨.hbm, 638, rfl⟩
abbrev main_call36_c_2 : Ref sig .tc := ⟨.hbm, 639, rfl⟩
abbrev main_call36_v7 : Ref sig .tc := ⟨.hbm, 640, rfl⟩
abbrev main_call36_v8 : Ref sig .tc := ⟨.hbm, 641, rfl⟩
abbrev main_call36_c_3 : Ref sig .tc := ⟨.hbm, 642, rfl⟩
abbrev main_call36_v9 : Ref sig .tc := ⟨.hbm, 643, rfl⟩
abbrev main_call36_v10 : Ref sig .tc := ⟨.hbm, 644, rfl⟩
abbrev main_call36_v11 : Ref sig .tc := ⟨.hbm, 645, rfl⟩
abbrev main_call36_v12 : Ref sig .tc := ⟨.hbm, 646, rfl⟩
abbrev main_call36_v13 : Ref sig .tc := ⟨.hbm, 647, rfl⟩
abbrev main_call36_v14 : Ref sig .tc := ⟨.hbm, 648, rfl⟩
abbrev main_v174 : Ref sig .tc := ⟨.hbm, 649, rfl⟩
abbrev main_c_63 : Ref sig .tc := ⟨.hbm, 650, rfl⟩
abbrev main_call37_v0 : Ref sig .tc := ⟨.hbm, 651, rfl⟩
abbrev main_call37_v1 : Ref sig .tc := ⟨.hbm, 652, rfl⟩
abbrev main_call37_v2 : Ref sig .tc := ⟨.hbm, 653, rfl⟩
abbrev main_call37_v3 : Ref sig .tc := ⟨.hbm, 654, rfl⟩
abbrev main_call37_v4 : Ref sig .tc := ⟨.hbm, 655, rfl⟩
abbrev main_call37_v5 : Ref sig .tc := ⟨.hbm, 656, rfl⟩
abbrev main_call37_v6 : Ref sig .tc := ⟨.hbm, 657, rfl⟩
abbrev main_call37_v7 : Ref sig .tc := ⟨.hbm, 658, rfl⟩
abbrev main_call37_v8 : Ref sig .tc := ⟨.hbm, 659, rfl⟩
abbrev main_call37_c : Ref sig .tc := ⟨.hbm, 660, rfl⟩
abbrev main_call37_v9 : Ref sig .tc := ⟨.hbm, 661, rfl⟩
abbrev main_call37_v10 : Ref sig .tc := ⟨.hbm, 662, rfl⟩
abbrev main_call37_v11 : Ref sig .tc := ⟨.hbm, 663, rfl⟩
abbrev main_call37_c_0 : Ref sig .tc := ⟨.hbm, 664, rfl⟩
abbrev main_call37_v12 : Ref sig .tc := ⟨.hbm, 665, rfl⟩
abbrev main_call37_v13 : Ref sig .tc := ⟨.hbm, 666, rfl⟩
abbrev main_v175 : Ref sig .tc := ⟨.hbm, 667, rfl⟩
abbrev main_c_64 : Ref sig .tc := ⟨.hbm, 668, rfl⟩
abbrev main_call38_v0 : Ref sig .tc := ⟨.hbm, 669, rfl⟩
abbrev main_call38_c : Ref sig .tc := ⟨.hbm, 670, rfl⟩
abbrev main_call38_v1 : Ref sig .tc := ⟨.hbm, 671, rfl⟩
abbrev main_call38_c_0 : Ref sig .tc := ⟨.hbm, 672, rfl⟩
abbrev main_call38_v2 : Ref sig .tc := ⟨.hbm, 673, rfl⟩
abbrev main_call38_v3 : Ref sig .tc := ⟨.hbm, 674, rfl⟩
abbrev main_call38_v4 : Ref sig .tc := ⟨.hbm, 675, rfl⟩
abbrev main_call38_c_1 : Ref sig .tc := ⟨.hbm, 676, rfl⟩
abbrev main_call38_v5 : Ref sig .tc := ⟨.hbm, 677, rfl⟩
abbrev main_call38_v6 : Ref sig .tc := ⟨.hbm, 678, rfl⟩
abbrev main_call38_c_2 : Ref sig .tc := ⟨.hbm, 679, rfl⟩
abbrev main_call38_v7 : Ref sig .tc := ⟨.hbm, 680, rfl⟩
abbrev main_call38_v8 : Ref sig .tc := ⟨.hbm, 681, rfl⟩
abbrev main_call38_c_3 : Ref sig .tc := ⟨.hbm, 682, rfl⟩
abbrev main_call38_v9 : Ref sig .tc := ⟨.hbm, 683, rfl⟩
abbrev main_call38_v10 : Ref sig .tc := ⟨.hbm, 684, rfl⟩
abbrev main_call38_v11 : Ref sig .tc := ⟨.hbm, 685, rfl⟩
abbrev main_call38_v12 : Ref sig .tc := ⟨.hbm, 686, rfl⟩
abbrev main_call38_v13 : Ref sig .tc := ⟨.hbm, 687, rfl⟩
abbrev main_call38_v14 : Ref sig .tc := ⟨.hbm, 688, rfl⟩
abbrev main_v176 : Ref sig .tc := ⟨.hbm, 689, rfl⟩
abbrev main_c_65 : Ref sig .tc := ⟨.hbm, 690, rfl⟩
abbrev main_call39_v0 : Ref sig .tc := ⟨.hbm, 691, rfl⟩
abbrev main_call39_v1 : Ref sig .tc := ⟨.hbm, 692, rfl⟩
abbrev main_call39_v2 : Ref sig .tc := ⟨.hbm, 693, rfl⟩
abbrev main_call39_v3 : Ref sig .tc := ⟨.hbm, 694, rfl⟩
abbrev main_call39_v4 : Ref sig .tc := ⟨.hbm, 695, rfl⟩
abbrev main_call39_v5 : Ref sig .tc := ⟨.hbm, 696, rfl⟩
abbrev main_call39_v6 : Ref sig .tc := ⟨.hbm, 697, rfl⟩
abbrev main_call39_v7 : Ref sig .tc := ⟨.hbm, 698, rfl⟩
abbrev main_call39_v8 : Ref sig .tc := ⟨.hbm, 699, rfl⟩
abbrev main_call39_c : Ref sig .tc := ⟨.hbm, 700, rfl⟩
abbrev main_call39_v9 : Ref sig .tc := ⟨.hbm, 701, rfl⟩
abbrev main_call39_v10 : Ref sig .tc := ⟨.hbm, 702, rfl⟩
abbrev main_call39_v11 : Ref sig .tc := ⟨.hbm, 703, rfl⟩
abbrev main_call39_c_0 : Ref sig .tc := ⟨.hbm, 704, rfl⟩
abbrev main_call39_v12 : Ref sig .tc := ⟨.hbm, 705, rfl⟩
abbrev main_call39_v13 : Ref sig .tc := ⟨.hbm, 706, rfl⟩
abbrev main_v177 : Ref sig .tc := ⟨.hbm, 707, rfl⟩
abbrev main_c_66 : Ref sig .tc := ⟨.hbm, 708, rfl⟩
abbrev main_call40_v0 : Ref sig .tc := ⟨.hbm, 709, rfl⟩
abbrev main_call40_c : Ref sig .tc := ⟨.hbm, 710, rfl⟩
abbrev main_call40_v1 : Ref sig .tc := ⟨.hbm, 711, rfl⟩
abbrev main_call40_c_0 : Ref sig .tc := ⟨.hbm, 712, rfl⟩
abbrev main_call40_v2 : Ref sig .tc := ⟨.hbm, 713, rfl⟩
abbrev main_call40_v3 : Ref sig .tc := ⟨.hbm, 714, rfl⟩
abbrev main_call40_v4 : Ref sig .tc := ⟨.hbm, 715, rfl⟩
abbrev main_call40_c_1 : Ref sig .tc := ⟨.hbm, 716, rfl⟩
abbrev main_call40_v5 : Ref sig .tc := ⟨.hbm, 717, rfl⟩
abbrev main_call40_v6 : Ref sig .tc := ⟨.hbm, 718, rfl⟩
abbrev main_call40_c_2 : Ref sig .tc := ⟨.hbm, 719, rfl⟩
abbrev main_call40_v7 : Ref sig .tc := ⟨.hbm, 720, rfl⟩
abbrev main_call40_v8 : Ref sig .tc := ⟨.hbm, 721, rfl⟩
abbrev main_call40_c_3 : Ref sig .tc := ⟨.hbm, 722, rfl⟩
abbrev main_call40_v9 : Ref sig .tc := ⟨.hbm, 723, rfl⟩
abbrev main_call40_v10 : Ref sig .tc := ⟨.hbm, 724, rfl⟩
abbrev main_call40_v11 : Ref sig .tc := ⟨.hbm, 725, rfl⟩
abbrev main_call40_v12 : Ref sig .tc := ⟨.hbm, 726, rfl⟩
abbrev main_call40_v13 : Ref sig .tc := ⟨.hbm, 727, rfl⟩
abbrev main_call40_v14 : Ref sig .tc := ⟨.hbm, 728, rfl⟩
abbrev main_v178 : Ref sig .tc := ⟨.hbm, 729, rfl⟩
abbrev main_v179 : Ref sig .tc := ⟨.hbm, 730, rfl⟩
abbrev main_v180 : Ref sig .tc := ⟨.hbm, 731, rfl⟩
abbrev main_v181 : Ref sig .tc := ⟨.hbm, 732, rfl⟩
abbrev main_v182 : Ref sig .tc := ⟨.hbm, 733, rfl⟩
abbrev main_v183 : Ref sig .tc := ⟨.hbm, 734, rfl⟩
abbrev main_v184 : Ref sig .tc := ⟨.hbm, 735, rfl⟩
abbrev main_c_67 : Ref sig .tc := ⟨.hbm, 736, rfl⟩
abbrev main_call41_v0 : Ref sig .tc := ⟨.hbm, 737, rfl⟩
abbrev main_call41_v1 : Ref sig .tc := ⟨.hbm, 738, rfl⟩
abbrev main_call41_v2 : Ref sig .tc := ⟨.hbm, 739, rfl⟩
abbrev main_v185 : Ref sig .tc := ⟨.hbm, 740, rfl⟩

abbrev nD : Nat := 1
abbrev τ : Topo := Topo.v7x

variable {F : FTy → Type} [FloatOps F]
-- ==== Proof.State.lean ====
/- The state of the pooling pass, as plain functions of natural numbers: the largest feature seen so far in each dense
   cell, which cells have been seen, how many seen cells come before a cell, and the compacted rows written so far. -/
module

public import Mathlib.Data.Fin.Basic
public import Mathlib.Data.Nat.Basic

@[expose] public section

namespace Cert.Proof.Pool

variable {α : Type}

/-- The dense cells after the first `n` rows: cell `k`, lane `l` starts at `bot`, and row `n` is joined by `op` into its
    own cell `key n`. -/
def dense (op : α → α → α) (bot : α) (key : ℕ → ℕ) (feat : ℕ → Fin 32 → α) : ℕ → ℕ → Fin 32 → α
  | 0, _, _ => bot
  | n + 1, k, l => if k = key n then op (dense op bot key feat n k l) (feat n l) else dense op bot key feat n k l

/-- Which cells the first `n` rows have hit: 1 in a hit cell, 0 elsewhere. -/
def occ (key : ℕ → ℕ) : ℕ → ℕ → BitVec 32
  | 0, _ => 0#32
  | n + 1, k => if k = key n then 1#32 else occ key n k

theorem occ_cases (key : ℕ → ℕ) (n k : ℕ) : occ key n k = 0#32 ∨ occ key n k = 1#32 := by
  induction n with
  | zero => exact Or.inl rfl
  | succ n ih =>
    unfold occ
    split
    · exact Or.inr rfl
    · exact ih

/-- How many of the cells before `k` are marked 1. -/
def rank (o : ℕ → BitVec 32) : ℕ → ℕ
  | 0 => 0
  | k + 1 => if o k = 1#32 then rank o k + 1 else rank o k

theorem rank_le (o : ℕ → BitVec 32) (k : ℕ) : rank o k ≤ k := by
  induction k with
  | zero => exact Nat.le_refl _
  | succ k ih => unfold rank; split <;> omega

/-- The compacted rows after the cells before `k` have been gone through: the marked cell number `r` lands in row `r + 1`,
    every other row is as it was in `z`. -/
def compact (o : ℕ → BitVec 32) (d z : ℕ → Fin 32 → α) : ℕ → ℕ → Fin 32 → α
  | 0, r, l => z r l
  | k + 1, r, l => if o k = 1#32 then (if r = rank o k + 1 then d k l else compact o d z k r l) else compact o d z k r l

end Cert.Proof.Pool
-- ==== Proof.Words.lean ====
/- Words read as numbers: the host's rounded-down division and remainder of a non-negative word, and the bounds a printed range check states. -/
module

public import Idealize.ShloMosaic.PureOps
public import Idealize.ShloMosaic.Lib.StableHlo.Predicate
public import Idealize.ShloMosaic.Lib.WordArith
public import Idealize.ShloMosaic.Lib.WordCmp
public import Idealize.ShloMosaic.Lib.ReduceAll

@[expose] public section

namespace Cert.Proof.Words

open Idealize.ShloMosaic

/-- The sign of a word, as the host program computes it. -/
def sgn (x : BitVec 32) : BitVec 32 := if x = 0 then 0 else if x.msb then -1 else 1

/-- Division rounded down, as the host program spells it: the quotient rounded toward zero, less one when the signs
    differ and the remainder is not zero. -/
def fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The remainder with the divisor's sign, as the host program spells it. -/
def fmod (x d : BitVec 32) : BitVec 32 :=
  Scalar.select (IntOp.andi (IntOp.cmpi .ne (IntOp.cmpi .slt (IntOp.remsi .host x d) 0#32) (IntOp.cmpi .slt d 0#32))
      (IntOp.cmpi .ne (IntOp.remsi .host x d) 0#32))
    (IntOp.addi (IntOp.remsi .host x d) d) (IntOp.remsi .host x d)

theorem not_corner {x d : BitVec 32} (hx : x.toNat < 2 ^ 31) (hd : 0 < d.toNat) : ¬ IntOp.SDivCorner x d := by
  rintro (h | ⟨h, -⟩)
  · subst h; exact absurd hd (by decide)
  · subst h; exact absurd hx (by decide)

theorem msb_false {x : BitVec 32} (hx : x.toNat < 2 ^ 31) : x.msb = false := BitVec.msb_eq_false_iff_two_mul_lt.mpr (by omega)

/-- Dividing non-negative words rounds down. -/
theorem toNat_divsi {x d : BitVec 32} (hx : x.toNat < 2 ^ 31) (hd : 0 < d.toNat) (hd' : d.toNat < 2 ^ 31) :
    (IntOp.divsi .host x d).toNat = x.toNat / d.toNat := by
  simp only [IntOp.divsi, if_neg (not_corner hx hd), BitVec.sdiv_eq, msb_false hx, msb_false hd', BitVec.udiv_eq, BitVec.toNat_udiv]

/-- The remainder of non-negative words. -/
theorem toNat_remsi {x d : BitVec 32} (hx : x.toNat < 2 ^ 31) (hd : 0 < d.toNat) (hd' : d.toNat < 2 ^ 31) :
    (IntOp.remsi .host x d).toNat = x.toNat % d.toNat := by
  simp only [IntOp.remsi, if_neg (not_corner hx hd), BitVec.srem_eq, msb_false hx, msb_false hd', BitVec.umod_eq, BitVec.toNat_umod]

theorem select_zero {α : Type} {c : BitVec 1} (h : c ≠ 1#1) (x y : α) : Scalar.select c x y = y := if_neg h
theorem select_one {α : Type} {c : BitVec 1} (h : c = 1#1) (x y : α) : Scalar.select c x y = x := if_pos h

theorem cmpi_ne_iff {w : ℕ} {a b : BitVec w} : IntOp.cmpi .ne a b = 1#1 ↔ a ≠ b := by
  rw [WordCmp.cmpi_ne_eq, StableHlo.Predicate.ofBool_eq_one_iff]; simp

theorem andi_iff {a b : BitVec 1} : IntOp.andi a b = 1#1 ↔ a = 1#1 ∧ b = 1#1 := by
  revert a b; decide

/-- The host's rounded-down division of a non-negative word by a positive one. -/
theorem toNat_fdiv {x d : BitVec 32} (hx : x.toNat < 2 ^ 31) (hd : 0 < d.toNat) (hd' : d.toNat < 2 ^ 31) :
    (fdiv x d).toNat = x.toNat / d.toNat := by
  have hd0 : d ≠ 0 := by rintro rfl; exact absurd hd (by decide)
  have hc : IntOp.andi (IntOp.cmpi .ne (sgn x) (sgn d)) (IntOp.cmpi .ne (IntOp.remsi .host x d) 0#32) ≠ 1#1 := by
    rw [Ne, andi_iff, cmpi_ne_iff, cmpi_ne_iff]
    rintro ⟨h1, h2⟩
    unfold sgn at h1
    rw [if_neg hd0, msb_false hd', msb_false hx] at h1
    by_cases hx0 : x = 0
    · subst hx0
      exact h2 (BitVec.eq_of_toNat_eq (by rw [toNat_remsi hx hd hd']; simp))
    · rw [if_neg hx0] at h1; exact h1 rfl
  unfold fdiv
  rw [select_zero hc, toNat_divsi hx hd hd']

/-- The host's remainder of a non-negative word by a positive one. -/
theorem toNat_fmod {x d : BitVec 32} (hx : x.toNat < 2 ^ 31) (hd : 0 < d.toNat) (hd' : d.toNat < 2 ^ 31) :
    (fmod x d).toNat = x.toNat % d.toNat := by
  have hr : (IntOp.remsi .host x d).toNat < 2 ^ 31 := by
    rw [toNat_remsi hx hd hd']; exact lt_of_le_of_lt (Nat.mod_le _ _) hx
  have h0 : ∀ y : BitVec 32, y.toNat < 2 ^ 31 → IntOp.cmpi .slt y 0#32 ≠ 1#1 := fun y hy h => by
    rw [StableHlo.Predicate.slt_iff_toNat hy (by decide)] at h; exact absurd h (by simp)
  have hz : ∀ b : BitVec 1, b ≠ 1#1 → b = 0#1 := by decide
  have hc : IntOp.andi (IntOp.cmpi .ne (IntOp.cmpi .slt (IntOp.remsi .host x d) 0#32) (IntOp.cmpi .slt d 0#32))
      (IntOp.cmpi .ne (IntOp.remsi .host x d) 0#32) ≠ 1#1 := by
    rw [Ne, andi_iff, cmpi_ne_iff]
    rintro ⟨h1, -⟩
    exact h1 ((hz _ (h0 _ hr)).trans (hz _ (h0 _ hd')).symm)
  unfold fmod
  rw [select_zero hc, toNat_remsi hx hd hd']

/-- A sum of words that does not wrap. -/
theorem toNat_addi {x y : BitVec 32} (h : x.toNat + y.toNat < 2 ^ 32) : (IntOp.addi x y).toNat = x.toNat + y.toNat := by
  show (x + y).toNat = _
  rw [BitVec.toNat_add]; exact Nat.mod_eq_of_lt h

/-- A product of words that does not wrap. -/
theorem toNat_muli {x y : BitVec 32} (h : x.toNat * y.toNat < 2 ^ 32) : (IntOp.muli x y).toNat = x.toNat * y.toNat := by
  show (x * y).toNat = _
  rw [BitVec.toNat_mul]; exact Nat.mod_eq_of_lt h

/-- The kernel's key of a row of coordinate words: batch, then the three halved-twice coordinates. -/
def key4 (b z y x : BitVec 32) : BitVec 32 :=
  IntOp.addi (IntOp.addi (IntOp.muli b 1000#32)
    (IntOp.muli (IntOp.addi (IntOp.muli (fdiv z 4#32) 10#32) (fdiv y 4#32)) 10#32)) (fdiv x 4#32)

/-- The key as a number, for coordinates below 40. -/
theorem toNat_key4 {b z y x : BitVec 32} (hb : b.toNat < 40) (hz : z.toNat < 40) (hy : y.toNat < 40) (hx : x.toNat < 40) :
    (key4 b z y x).toNat = b.toNat * 1000 + (z.toNat / 4 * 10 + y.toNat / 4) * 10 + x.toNat / 4 := by
  have e4 : (4#32).toNat = 4 := rfl
  have e10 : (10#32).toNat = 10 := rfl
  have ek : (1000#32).toNat = 1000 := rfl
  have fz : (fdiv z 4#32).toNat = z.toNat / 4 := toNat_fdiv (by omega) (by decide) (by decide)
  have fy : (fdiv y 4#32).toNat = y.toNat / 4 := toNat_fdiv (by omega) (by decide) (by decide)
  have fx : (fdiv x 4#32).toNat = x.toNat / 4 := toNat_fdiv (by omega) (by decide) (by decide)
  have h1 : (IntOp.muli b 1000#32).toNat = b.toNat * 1000 := toNat_muli (by rw [ek]; omega)
  have h2 : (IntOp.muli (fdiv z 4#32) 10#32).toNat = z.toNat / 4 * 10 := by
    rw [toNat_muli (by rw [fz, e10]; omega), fz, e10]
  have h3 : (IntOp.addi (IntOp.muli (fdiv z 4#32) 10#32) (fdiv y 4#32)).toNat = z.toNat / 4 * 10 + y.toNat / 4 := by
    rw [toNat_addi (by rw [h2, fy]; omega), h2, fy]
  have h4 : (IntOp.muli (IntOp.addi (IntOp.muli (fdiv z 4#32) 10#32) (fdiv y 4#32)) 10#32).toNat
      = (z.toNat / 4 * 10 + y.toNat / 4) * 10 := by
    rw [toNat_muli (by rw [h3, e10]; omega), h3, e10]
  unfold key4
  have h5 := toNat_addi (x := IntOp.muli b 1000#32) (y := IntOp.muli (IntOp.addi (IntOp.muli (fdiv z 4#32) 10#32) (fdiv y 4#32)) 10#32)
    (by rw [h1, h4]; omega)
  rw [toNat_addi (by rw [h5, h1, h4, fx]; omega), h5, h1, h4, fx]

end Cert.Proof.Words
-- ==== Proof.Range.lean ====
/- What the range check states: every coordinate word is a number below 40. -/
module

public import proofs.«01_k».proof.Defs
public import proofs.«01_k».proof.Proof.Words

@[expose] public section

namespace Cert.Proof

open Idealize.ShloMosaic

variable {F : FTy → Type} [FloatOps F]

/-- When the range check is all ones, every coordinate is a number below 40. -/
theorem coor_lt [Cert.Pre_in_range.Facts] (f : FVec F Cert.Pre_in_range.S400000x32 .f32) (x : IVec Cert.Pre_in_range.S400000x4 32)
    (s : IVec Cert.Pre_in_range.S_ 32) (h : Cert.Pre_in_range.fn (F := F) f x s = fun _ => 1#1) (i : Cert.Pre_in_range.S400000x4.Idx) :
    (x i).toNat < 40 := by
  have e : Cert.Pre_in_range.fn (F := F) f x s (fun a => a.elim0) = 1#1 := by rw [h]
  have : Subsingleton Cert.Pre_in_range.S_.Idx := ⟨fun a b => funext fun k => k.elim0⟩
  have hi := Host.reduce_andi_all _ _ _ _ _ e i
  have hi : IntOp.andi (IntOp.cmpi .sge (x i) 0#32) (IntOp.cmpi .slt (x i) 40#32) = 1#1 := hi
  rw [Words.andi_iff] at hi
  obtain ⟨h1, h2⟩ := hi
  rw [WordCmp.cmpi_sge_zero, StableHlo.Predicate.ofBool_eq_one_iff, decide_eq_true_eq] at h1
  rw [StableHlo.Predicate.slt_iff_toNat h1 (by decide)] at h2
  exact h2

end Cert.Proof
-- ==== Proof.Layout.lean ====
/- Layout operations of the host programs read at an index: columns, reshapes of vectors. -/
module

public import Idealize.ShloMosaic.PureOps
public import Idealize.ShloMosaic.Lib.ValueIdxCore
public import Idealize.ShloMosaic.Lib.Pipeline.Value

@[expose] public section

namespace Cert.Proof.Layout

open Idealize.ShloMosaic Idealize.ShloMosaic.ValueIdx

variable {α : Type} {n k : ℕ}

/-- A one-column matrix read as a vector. -/
theorem cast_col (x : (⟨2, ![n, 1]⟩ : Shape).Idx → α) (h : (⟨2, ![n, 1]⟩ : Shape).ShapeCasts ⟨1, ![n]⟩) (i : Fin n) :
    shapeCast ⟨1, ![n]⟩ x h (ix1 i) = x (ix2 i 0) :=
  shapeCast_apply _ _ _ _ (by rw [Shape.rowMajor_val_two, Shape.rowMajor_val_one]; show i.val * 1 + 0 = i.val; omega)

/-- Column `j` of a matrix, cut out and read as a vector. -/
theorem slice_col (x : (⟨2, ![n, k]⟩ : Shape).Idx → α) (j : Fin k) (h : (⟨2, ![n, k]⟩ : Shape).Slices ![0, j.val] ⟨2, ![n, 1]⟩)
    (h' : (⟨2, ![n, 1]⟩ : Shape).ShapeCasts ⟨1, ![n]⟩) (i : (⟨1, ![n]⟩ : Shape).Idx) :
    shapeCast ⟨1, ![n]⟩ (extractStridedSlice ⟨2, ![n, 1]⟩ ![0, j.val] x h) h' i = x (ix2 (i 0) j) := by
  refine (congrArg _ (eq_ix1 i)).trans ((cast_col _ _ (i 0)).trans ?_)
  unfold extractStridedSlice
  refine congrArg x (funext fun a => ?_)
  match a with
  | ⟨0, _⟩ => exact Fin.ext (Nat.zero_add _)
  | ⟨1, _⟩ => exact Fin.ext (Nat.add_zero _)

end Cert.Proof.Layout
-- ==== Proof.KernelIdeal.Trips.lean ====
module

public import proofs.«01_k».proof.Proof.Gen.KernelIdeal.Skeleton
public import proofs.«01_k».proof.Proof.State
public import Idealize.ShloMosaic.Lib.Exec
public import Idealize.ShloMosaic.Lib.Tactic
public import Idealize.ShloMosaic.Lib.VecWindow
public import Idealize.ShloMosaic.Lib.Pipeline.Kit
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref of the core held whole at the values `x`. -/
abbrev own (c : Dev nD) {sp : Space} {s : Shape} {e : EltTy} (a : Memref sig .tc sp s e) (x : s.Idx → Elt F e) : sProp 𝕄 :=
  iprop(a.view.loc (c : Thread nD τ) ↦[a.view.set]{fullShare} a.view.rep x)

/-- The values of a one-axis buffer whose element at `n` is `f n`. -/
abbrev vec {α : Type} {N : ℕ} (f : ℕ → α) : (⟨1, ![N]⟩ : Shape).Idx → α := fun y => f (y 0).val

/-- The values of a 32-lane buffer whose element at row `n`, lane `l` is `f n l`. -/
abbrev mat {α : Type} {N : ℕ} (f : ℕ → Fin 32 → α) : (⟨2, ![N, 32]⟩ : Shape).Idx → α := fun y => f (y 0).val (y 1)

/-- A one-word load of such a one-axis buffer at offset `n` reads `f n`. -/
theorem word_at {sp : Space} {N n : ℕ} {e : EltTy} (a : Memref sig .tc sp ⟨1, ![N]⟩ e) (f : ℕ → Elt F e) {off : Fin 1 → ℕ}
    (h : off = ![n]) (inb : ∀ a, off a + S1.size a ≤ (⟨1, ![N]⟩ : Shape).size a) (j : S1.Idx) :
    a.view.readAt (Elt F) (Rect.unit (s := ⟨1, ![N]⟩) off S1.size inb).toLoadRect (a.view.rep (vec f)) j = f n := by
  subst h
  rw [View.readAt_rep]
  show f (n + 1 * (j 0).val) = f n
  have : (j 0).val < 1 := (j 0).isLt
  congr 1; omega

/-- A one-row load of such a 32-lane buffer at row `n` reads row `n`. -/
theorem row_at {sp : Space} {N n : ℕ} {e : EltTy} (a : Memref sig .tc sp ⟨2, ![N, 32]⟩ e) (f : ℕ → Fin 32 → Elt F e) {off : Fin 2 → ℕ}
    (h : off = ![n, 0]) (inb : ∀ a, off a + S1x32.size a ≤ (⟨2, ![N, 32]⟩ : Shape).size a) (j : S1x32.Idx) :
    a.view.readAt (Elt F) (Rect.unit (s := ⟨2, ![N, 32]⟩) off S1x32.size inb).toLoadRect (a.view.rep (mat f)) j = f n (j 1) := by
  subst h
  rw [View.readAt_rep]
  have h0 : (j 0).val < 1 := (j 0).isLt
  show f (n + 1 * (j 0).val) _ = f n (j 1)
  congr 1
  · omega
  · exact Fin.ext (by show 0 + 1 * (j 1).val = (j 1).val; omega)

/-- A one-word store at offset `n` changes element `n` alone. -/
theorem word_put {α : Type} {N n : ℕ} (f : ℕ → α) (w : α) :
    VecWindow.put (s := ⟨1, ![N]⟩) (vec f) ![n] S1.size (fun _ => w) = vec (fun k => if k = n then w else f k) := by
  funext y
  unfold VecWindow.put
  by_cases hy : (y 0).val = n
  · rw [dif_pos (by intro a; obtain rfl : a = 0 := Subsingleton.elim _ _; show n ≤ (y 0).val ∧ (y 0).val < n + 1; omega)]
    show w = if (y 0).val = n then w else _
    rw [if_pos hy]
  · rw [dif_neg (by
      intro h; have h0 : n ≤ (y 0).val ∧ (y 0).val < n + 1 := h 0
      omega)]
    show f (y 0).val = if (y 0).val = n then w else f (y 0).val
    rw [if_neg hy]

/-- A one-row store at row `n` changes row `n` alone. -/
theorem row_put {α : Type} {N n : ℕ} (f : ℕ → Fin 32 → α) (w : S1x32.Idx → α) (g : Fin 32 → α) (hw : ∀ j, w j = g (j 1)) :
    VecWindow.put (s := ⟨2, ![N, 32]⟩) (mat f) ![n, 0] S1x32.size w = mat (fun k l => if k = n then g l else f k l) := by
  funext y
  unfold VecWindow.put
  have h1 : (y 1).val < 32 := (y 1).isLt
  by_cases hy : (y 0).val = n
  · rw [dif_pos (by
      intro a
      match a with
      | ⟨0, _⟩ => show n ≤ (y 0).val ∧ (y 0).val < n + 1; omega
      | ⟨1, _⟩ => show 0 ≤ (y 1).val ∧ (y 1).val < 0 + 32; omega)]
    show w _ = if (y 0).val = n then g (y 1) else _
    rw [if_pos hy]
    refine (hw _).trans (congrArg g (Fin.ext ?_))
    show (y 1).val - 0 = (y 1).val
    omega
  · rw [dif_neg (by
      intro h; have h0 : n ≤ (y 0).val ∧ (y 0).val < n + 1 := h 0
      omega)]
    show f (y 0).val (y 1) = if (y 0).val = n then g (y 1) else f (y 0).val (y 1)
    rw [if_neg hy]

/-- The offsets a key word gives, in closed form. -/
theorem off4_eq (w : BitVec 32) : k0_off4 w = ![w.toNat, 0] := rfl
theorem off5_eq (w : BitVec 32) : k0_off5 w = ![w.toNat] := rfl

/-- A key below 40000 satisfies the check the body makes of it. -/
theorem chk1_of_lt (w : BitVec 32) (h : w.toNat < 40000) : k0_chk1 w := by
  refine ⟨fun a => ?_, fun a => ?_⟩
  · rw [off4_eq]
    match a with
    | ⟨0, _⟩ => show w.toNat + 1 ≤ 40000; omega
    | ⟨1, _⟩ => show 0 + 32 ≤ 32; omega
  · rw [off5_eq]
    match a with
    | ⟨0, _⟩ => show w.toNat + 1 ≤ 40000; omega

/-- One trip of the initialising loop: element `k` of the occupancy scratch becomes 0. -/
theorem trip1 (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole)
    (k0_h1 : k0_cond1 i = 1#1) (o : ℕ → Elt F .i32) (k : Fin k0_t1_loop.trips) :
    (own c arg5 (vec o) : sProp 𝕄)
    ⊢ wp frame (wpE (defs₀ (F := F)) 𝒱 (c : Thread nD τ) bd) E (k0_t1_body (F := F) i arg1 harg1 arg2 harg2 arg3 harg3 arg4 harg4 arg5 harg5 k0_h1 k PUnit.unit)
      (fun _ => own c arg5 (vec fun q => if q = k.val then 0#32 else o q)) := by
  have hk : k.val < 40000 := Nat.lt_of_lt_of_le k.isLt k0_t1_abs.2.1
  unfold k0_t1_body
  iintro H5
  sl_exec
  sl_step
  iapply (pointsTo_rep_of_read (c : Thread nD τ) arg5 _ fullShare _ ?h5) $$ H5
  case h5 =>
    rw [View.read_writes_rep_unit _ _ _ _ (k0_off1_eq k)]
    exact word_put _ _

/-- One trip of the accumulating loop: row `k` of the block is joined into the row of its key in the dense scratch, and
    that key is marked. -/
theorem trip2 (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole)
    (kw : ℕ → Elt F .i32) (f : ℕ → Fin 32 → F .f32) (d : ℕ → Fin 32 → F .f32) (o : ℕ → Elt F .i32) (k : Fin k0_t2_loop.trips)
    (hkw : BitVec.toNat (w := 32) (kw k.val) < 40000) :
    iprop(own c arg1 (vec kw) ∗ own c arg2 (mat f) ∗ own c arg4 (mat d) ∗ own c arg5 (vec o))
    ⊢ wp frame (wpE (defs₀ (F := F)) 𝒱 (c : Thread nD τ) bd) E (k0_t2_body (F := F) i arg1 harg1 arg2 harg2 arg3 harg3 arg4 harg4 arg5 harg5 k PUnit.unit)
      (fun _ => iprop(own c arg1 (vec kw) ∗ own c arg2 (mat f)
        ∗ own c arg4 (mat fun q l => if q = BitVec.toNat (w := 32) (kw k.val) then FloatOps.maximumf (d q l) (f k.val l) else d q l)
        ∗ own c arg5 (vec fun q => if q = BitVec.toNat (w := 32) (kw k.val) then 1#32 else o q))) := by
  have hk : k.val < 128 := Nat.lt_of_lt_of_le k.isLt k0_t2_abs.2.1
  have hword : arg1.view.readAt (Elt F) (Rect.unit (s := S128) (k0_off2 k) S1.size (k0_off2_inb k)).toLoadRect (arg1.view.rep (vec kw)) (Shape.Idx.first (numel1_S1.symm ▸ Nat.one_pos)) = kw k.val :=
    word_at arg1 kw (k0_off2_eq k) _ _
  have k0_hw1 : k0_chk1 (arg1.view.readAt (Elt F) (Rect.unit (s := S128) (k0_off2 k) S1.size (k0_off2_inb k)).toLoadRect (arg1.view.rep (vec kw)) (Shape.Idx.first (numel1_S1.symm ▸ Nat.one_pos))) := by
    rw [hword]; exact chk1_of_lt _ hkw
  have hoff4 : k0_off4 (arg1.view.readAt (Elt F) (Rect.unit (s := S128) (k0_off2 k) S1.size (k0_off2_inb k)).toLoadRect (arg1.view.rep (vec kw)) (Shape.Idx.first (numel1_S1.symm ▸ Nat.one_pos))) = ![BitVec.toNat (w := 32) (kw k.val), 0] := by rw [hword]; rfl
  have hoff5 : k0_off5 (arg1.view.readAt (Elt F) (Rect.unit (s := S128) (k0_off2 k) S1.size (k0_off2_inb k)).toLoadRect (arg1.view.rep (vec kw)) (Shape.Idx.first (numel1_S1.symm ▸ Nat.one_pos))) = ![BitVec.toNat (w := 32) (kw k.val)] := by rw [hword]; rfl
  unfold k0_t2_body
  iintro ⟨H1, H2, H4, H5⟩
  sl_exec
  sl_step
  isplitl [H1]; · iexact H1
  isplitl [H2]; · iexact H2
  isplitl [H4]
  · iapply (pointsTo_rep_of_read (c : Thread nD τ) arg4 _ fullShare _ ?h4) $$ H4
    case h4 =>
      refine (View.read_writes_rep_unit _ _ _ _ hoff4).trans ?_
      refine (row_put _ _ (fun l => FloatOps.maximumf (d (BitVec.toNat (w := 32) (kw k.val)) l) (f k.val l)) ?_).trans ?_
      · intro j
        unfold k0_pay3
        rw [shapeCast_self]
        exact congrArg₂ FloatOps.maximumf (row_at arg4 d hoff4 _ j) (row_at arg2 f (k0_off3_eq k) _ j)
      · congr 1; funext q l
        split
        · rename_i hq; rw [hq]
        · rfl
  · iapply (pointsTo_rep_of_read (c : Thread nD τ) arg5 _ fullShare _ ?h5) $$ H5
    case h5 =>
      exact (View.read_writes_rep_unit _ _ _ _ hoff5).trans (word_put _ _)

/-- The third loop's row offset, in closed form: one past the count carried so far. -/
theorem off8_eq (r : ℕ) (h : r < 40000) : k0_off8 (BitVec.ofNat 32 r) = ![r + 1, 0] := by
  unfold k0_off8
  have : (Scalar.indexCast (Scalar.addi (BitVec.ofNat 32 r) 1#32) : Index).toNat = r + 1 := by
    simp [Scalar.indexCast, Scalar.addi, IntOp.addi, BitVec.toNat_add, BitVec.toNat_ofNat]; omega
  simp only [this]

theorem cond3_iff (w : BitVec 32) : k0_cond3 w = 1#1 ↔ w = 1#32 := by
  show Scalar.cmpi .ne (Scalar.extui (Scalar.cmpi .eq w 1#32)) 0#32 = 1#1 ↔ _
  by_cases h : w = 1#32
  · subst h; decide
  · have h1 : (w == 1#32) = false := by simpa using h
    have h2 : Scalar.cmpi .eq w 1#32 = 0#1 := by
      show BitVec.ofBool (w == 1#32) = 0#1
      rw [h1]; rfl
    rw [h2]
    exact ⟨fun hx => absurd hx (by decide), fun hx => absurd hx h⟩

/-- One trip of the compacting loop: if cell `k` is marked, its dense row lands one past the count, and the count goes up
    by the mark. -/
theorem trip3 (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole)
    (k0_h2 : k0_cond2 i = 1#1) (z d : ℕ → Fin 32 → F .f32) (o : ℕ → Elt F .i32) (k : Fin k0_t3_loop.trips)
    (r : ℕ) (hr : r < 40000) (r' : ℕ) (hr' : BitVec.ofNat 32 r + o k.val = BitVec.ofNat 32 r') :
    iprop(own c arg3 (mat z) ∗ own c arg4 (mat d) ∗ own c arg5 (vec o))
    ⊢ wp frame (wpE (defs₀ (F := F)) 𝒱 (c : Thread nD τ) bd) E (k0_t3_body (F := F) i arg1 harg1 arg2 harg2 arg3 harg3 arg4 harg4 arg5 harg5 k0_h2 k (BitVec.ofNat 32 r))
      (fun acc => iprop(⌜acc = BitVec.ofNat 32 r'⌝
        ∗ own c arg3 (mat fun q l => if o k.val = 1#32 then (if q = r + 1 then d k.val l else z q l) else z q l)
        ∗ own c arg4 (mat d) ∗ own c arg5 (vec o))) := by
  have hk : k.val < 40000 := Nat.lt_of_lt_of_le k.isLt k0_t3_abs.2.1
  have hword : arg5.view.readAt (Elt F) (Rect.unit (s := S40000) (k0_off6 k) S1.size (k0_off6_inb i k k0_h2)).toLoadRect (arg5.view.rep (vec o)) (Shape.Idx.first (numel1_S1.symm ▸ Nat.one_pos)) = o k.val :=
    word_at arg5 o (k0_off6_eq k) _ _
  have k0_hw2 : k0_chk2 i (BitVec.ofNat 32 r) (arg5.view.readAt (Elt F) (Rect.unit (s := S40000) (k0_off6 k) S1.size (k0_off6_inb i k k0_h2)).toLoadRect (arg5.view.rep (vec o)) (Shape.Idx.first (numel1_S1.symm ▸ Nat.one_pos))) := by
    intro _ _ a
    rw [off8_eq r hr]
    match a with
    | ⟨0, _⟩ => show r + 1 + 1 ≤ 40064; omega
    | ⟨1, _⟩ => show 0 + 32 ≤ 32; omega
  unfold k0_t3_body
  iintro ⟨H3, H4, H5⟩
  by_cases ho : o k.val = 1#32
  · have k0_h3 : k0_cond3 (arg5.view.readAt (Elt F) (Rect.unit (s := S40000) (k0_off6 k) S1.size (k0_off6_inb i k k0_h2)).toLoadRect (arg5.view.rep (vec o)) (Shape.Idx.first (numel1_S1.symm ▸ Nat.one_pos))) = 1#1 := by
      rw [hword]; exact (cond3_iff _).mpr ho
    sl_exec
    sl_step
    isplitr [H3 H4 H5]
    · ipureintro
      exact (congrArg (fun w : BitVec 32 => BitVec.ofNat 32 r + w) hword).trans hr'
    isplitl [H3]
    · iapply (pointsTo_rep_of_read (c : Thread nD τ) arg3 _ fullShare _ ?h3) $$ H3
      case h3 =>
        refine (View.read_writes_rep_unit _ _ _ _ (off8_eq r hr)).trans ?_
        refine (row_put _ _ (fun l => d k.val l) (fun j => row_at arg4 d (k0_off7_eq k) _ j)).trans ?_
        congr 1; funext q l
        rw [if_pos ho]
    isplitl [H4]; · iexact H4
    iexact H5
  · have k0_h3 : ¬ k0_cond3 (arg5.view.readAt (Elt F) (Rect.unit (s := S40000) (k0_off6 k) S1.size (k0_off6_inb i k k0_h2)).toLoadRect (arg5.view.rep (vec o)) (Shape.Idx.first (numel1_S1.symm ▸ Nat.one_pos))) = 1#1 := by
      rw [hword]; exact fun h => ho ((cond3_iff _).mp h)
    sl_exec
    sl_step
    isplitr [H3 H4 H5]
    · ipureintro
      exact (congrArg (fun w : BitVec 32 => BitVec.ofNat 32 r + w) hword).trans hr'
    isplitl [H3]
    · simp only [if_neg ho]
      iexact H3
    isplitl [H4]; · iexact H4
    iexact H5

/-- The initialising loop before trip `k`: the elements before `k` are 0. -/
@[reducible] def loop1 (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole) (k0_h1 : k0_cond1 i = 1#1) (o : ℕ → Elt F .i32) :
    Idealize.ShloMosaic.LoopInv (M := 𝕄) Idealize.ShloMosaic.frame (wpE defs₀ 𝒱 (c : Thread nD τ) bd) E
      k0_t1_loop.lb k0_t1_loop.ub k0_t1_loop.st (k0_t1_ok i k0_h1) () (k0_t1_body (F := F) i arg1 harg1 arg2 harg2 arg3 harg3 arg4 harg4 arg5 harg5 k0_h1) where
  inv k _ := own c arg5 (vec fun q => if q < k then 0#32 else o q)
  step k acc := by
    refine BIBase.Entails.trans (trip1 𝒱 c bd E i arg1 harg1 arg2 harg2 arg3 harg3 arg4 harg4 arg5 harg5 k0_h1 _ k) (BIBase.Entails.of_eq ?_)
    refine congrArg _ (funext fun _ => congrArg (fun f : ℕ → Elt F .i32 => own c arg5 (vec f)) (funext fun q => ?_))
    by_cases h1 : q = k.val
    · rw [if_pos h1, if_pos (by omega)]
    · rw [if_neg h1]
      by_cases h2 : q < k.val
      · rw [if_pos h2, if_pos (by omega)]
      · rw [if_neg h2, if_neg (by omega)]

/-- The accumulating loop before trip `k` of a block starting at row `b`: the scratches hold the state after `b + k` rows. -/
@[reducible] def loop2 (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole)
    (kw : ℕ → Elt F .i32) (f : ℕ → Fin 32 → F .f32) (bot : F .f32) (key : ℕ → ℕ) (feat : ℕ → Fin 32 → F .f32) (b : ℕ)
    (hkw : ∀ k, k < 128 → BitVec.toNat (w := 32) (kw k) = key (b + k)) (hlt : ∀ k, k < 128 → key (b + k) < 40000)
    (hf : ∀ k, k < 128 → f k = feat (b + k)) :
    Idealize.ShloMosaic.LoopInv (M := 𝕄) Idealize.ShloMosaic.frame (wpE defs₀ 𝒱 (c : Thread nD τ) bd) E
      k0_t2_loop.lb k0_t2_loop.ub k0_t2_loop.st k0_t2_ok () (k0_t2_body (F := F) i arg1 harg1 arg2 harg2 arg3 harg3 arg4 harg4 arg5 harg5) where
  inv k _ := iprop(own c arg1 (vec kw) ∗ own c arg2 (mat f) ∗ own c arg4 (mat (Pool.dense FloatOps.maximumf bot key feat (b + k))) ∗ own c arg5 (vec (Pool.occ key (b + k))))
  step k acc := by
    have hk : k.val < 128 := Nat.lt_of_lt_of_le k.isLt k0_t2_abs.2.1
    refine BIBase.Entails.trans (trip2 𝒱 c bd E i arg1 harg1 arg2 harg2 arg3 harg3 arg4 harg4 arg5 harg5 kw f _ _ k (by rw [hkw _ hk]; exact hlt _ hk)) (BIBase.Entails.of_eq ?_)
    rw [hkw _ hk, hf _ hk]
    rfl

/-- The compacting loop before trip `k`: the count is that of the marked cells before `k`, the rows written are theirs. -/
@[reducible] def loop3 (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole) (k0_h2 : k0_cond2 i = 1#1)
    (z d : ℕ → Fin 32 → F .f32) (o : ℕ → Elt F .i32) (ho : ∀ k, o k = 0#32 ∨ o k = 1#32) :
    Idealize.ShloMosaic.LoopInv (M := 𝕄) Idealize.ShloMosaic.frame (wpE defs₀ 𝒱 (c : Thread nD τ) bd) E
      k0_t3_loop.lb k0_t3_loop.ub k0_t3_loop.st (k0_t3_ok i k0_h2) 0#32 (k0_t3_body (F := F) i arg1 harg1 arg2 harg2 arg3 harg3 arg4 harg4 arg5 harg5 k0_h2) where
  inv k acc := iprop(⌜acc = BitVec.ofNat 32 (Pool.rank o k)⌝ ∗ own c arg3 (mat (Pool.compact o d z k)) ∗ own c arg4 (mat d) ∗ own c arg5 (vec o))
  step k acc := by
    have hk : k.val < 40000 := Nat.lt_of_lt_of_le k.isLt k0_t3_abs.2.1
    iintro ⟨%hacc, H⟩
    subst hacc
    iapply (wp_wand_r Idealize.ShloMosaic.frame (wpE (defs₀ (F := F)) 𝒱 (c : Thread nD τ) bd) E)
    isplitl [H]
    · iapply (trip3 𝒱 c bd E i arg1 harg1 arg2 harg2 arg3 harg3 arg4 harg4 arg5 harg5 k0_h2 _ d o k _ (Nat.lt_of_le_of_lt (Pool.rank_le o k.val) hk) (Pool.rank o (k.val + 1)) ?_) $$ H
      show _ = BitVec.ofNat 32 (if o k.val = 1#32 then Pool.rank o k.val + 1 else Pool.rank o k.val)
      rcases ho k.val with h | h
      · rw [h, if_neg (show ¬ (0#32 : BitVec 32) = 1#32 by decide)]; exact BitVec.add_zero _
      · rw [h, if_pos rfl]; exact (BitVec.ofNat_add _ _).symm
    · iintro %acc' ⟨%h, H⟩
      isplitr [H]
      · ipureintro; exact h
      iexact H

end Cert.Proof.KernelIdeal
-- ==== Proof.KernelIdeal.Body.lean ====
/- One grid point of the pooling kernel in its three cases: the first point, which initialises the scratches and the
   output block; a middle point, which only accumulates; and the last point, which also writes the compacted rows. -/
module

public import proofs.«01_k».proof.Proof.KernelIdeal.Trips

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The value a dense cell starts from: minus infinity. -/
abbrev bot : F .f32 := Scalar.ofBits .f32 0xFF800000#32

/-- The value an output row starts from: zero. -/
abbrev zer : F .f32 := Scalar.ofBits .f32 0x00000000#32

/-- Any contents of a one-axis buffer are `vec` of some function. -/
theorem exists_vec {α : Type} {N : ℕ} (hN : 0 < N) (x : (⟨1, ![N]⟩ : Shape).Idx → α) : ∃ o : ℕ → α, x = vec o := by
  refine ⟨fun n => x (fun a => ⟨n % N, by obtain rfl : a = 0 := Subsingleton.elim _ _; exact Nat.mod_lt _ hN⟩), ?_⟩
  funext y
  refine congrArg x (funext fun a => ?_)
  obtain rfl : a = 0 := Subsingleton.elim _ _
  exact Fin.ext (Nat.mod_eq_of_lt (y 0).isLt).symm

/-- The trip counts of the three loops. -/
theorem trips1 : Scf.trips k0_t1_loop.lb k0_t1_loop.ub k0_t1_loop.st = 40000 := by decide +kernel
theorem trips2 : Scf.trips k0_t2_loop.lb k0_t2_loop.ub k0_t2_loop.st = 128 := by decide +kernel
theorem trips3 : Scf.trips k0_t3_loop.lb k0_t3_loop.ub k0_t3_loop.st = 40000 := by decide +kernel

/-- A middle grid point: the scratches go from the state after `b` rows to the state after `b + 128`. -/
theorem body_mid (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole)
    (h1 : ¬ k0_cond1 i = 1#1) (h2 : ¬ k0_cond2 i = 1#1)
    (kw : ℕ → Elt F .i32) (f : ℕ → Fin 32 → F .f32) (key : ℕ → ℕ) (feat : ℕ → Fin 32 → F .f32) (b : ℕ)
    (hkw : ∀ k, k < 128 → BitVec.toNat (w := 32) (kw k) = key (b + k)) (hlt : ∀ k, k < 128 → key (b + k) < 40000)
    (hf : ∀ k, k < 128 → f k = feat (b + k)) :
    iprop(own c arg1 (vec kw) ∗ own c arg2 (mat f) ∗ own c arg4 (mat (Pool.dense FloatOps.maximumf bot key feat b)) ∗ own c arg5 (vec (Pool.occ key b)))
    ⊢ wp frame (wpE (defs₀ (F := F)) 𝒱 (c : Thread nD τ) bd) E (cc0__pool_kernel_skel (F := F) i arg1 harg1 arg2 harg2 arg3 harg3 arg4 harg4 arg5 harg5)
      (fun _ => (iprop(own c arg1 (vec kw) ∗ own c arg2 (mat f) ∗ own c arg4 (mat (Pool.dense FloatOps.maximumf bot key feat (b + 128))) ∗ own c arg5 (vec (Pool.occ key (b + 128)))) : sProp 𝕄)) := by
  let L2 := loop2 𝒱 c bd E i arg1 harg1 arg2 harg2 arg3 harg3 arg4 harg4 arg5 harg5 kw f bot key feat b hkw hlt hf
  unfold cc0__pool_kernel_skel
  iintro ⟨H1, H2, H4, H5⟩
  sl_exec
  sl_step
  rw [trips2]
  isplitl [H1]; · iexact H1
  isplitl [H2]; · iexact H2
  isplitl [H4]; · iexact H4
  iexact H5

/-- The first grid point: whatever the scratches and the output block hold, it leaves the state after 128 rows and an
    output block of zeros. -/
theorem body_first (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole)
    (h1 : k0_cond1 i = 1#1) (h2 : ¬ k0_cond2 i = 1#1)
    (kw : ℕ → Elt F .i32) (f : ℕ → Fin 32 → F .f32) (key : ℕ → ℕ) (feat : ℕ → Fin 32 → F .f32) (b : ℕ)
    (hkw : ∀ k, k < 128 → BitVec.toNat (w := 32) (kw k) = key (b + k)) (hlt : ∀ k, k < 128 → key (b + k) < 40000)
    (hf : ∀ k, k < 128 → f k = feat (b + k)) (hb : b = 0)
    (x3 : S40064x32.Idx → F .f32) (x4 : S40000x32.Idx → F .f32) (o : ℕ → Elt F .i32) :
    iprop(own c arg1 (vec kw) ∗ own c arg2 (mat f) ∗ own c arg3 x3 ∗ own c arg4 x4 ∗ own c arg5 (vec o))
    ⊢ wp frame (wpE (defs₀ (F := F)) 𝒱 (c : Thread nD τ) bd) E (cc0__pool_kernel_skel (F := F) i arg1 harg1 arg2 harg2 arg3 harg3 arg4 harg4 arg5 harg5)
      (fun _ => (iprop(own c arg1 (vec kw) ∗ own c arg2 (mat f) ∗ own c arg3 (mat fun _ _ => zer) ∗ own c arg4 (mat (Pool.dense FloatOps.maximumf bot key feat (b + 128))) ∗ own c arg5 (vec (Pool.occ key (b + 128)))) : sProp 𝕄)) := by
  unfold cc0__pool_kernel_skel
  simp only [dif_pos h1, dif_neg h2]
  iintro ⟨H1, H2, H3, H4, H5⟩
  let L1 := loop1 𝒱 c bd E i arg1 harg1 arg2 harg2 arg3 harg3 arg4 harg4 arg5 harg5 h1 o
  sl_exec
  subst hb
  ihave H3 := (pointsTo_rep_of_read (c : Thread nD τ) arg3 _ fullShare (mat fun _ _ => zer) ?h3) $$ H3
  case h3 => exact View.read_writes_full _ _ _ _ _
  ihave H4 := (pointsTo_rep_of_read (c : Thread nD τ) arg4 _ fullShare (mat (Pool.dense FloatOps.maximumf bot key feat (0 + 0))) ?h4) $$ H4
  case h4 =>
    refine (View.read_writes_full _ _ _ _ _).trans ?_
    exact (shapeCast_self (s := S40000x32) _ _).trans rfl
  have h5 : (vec (fun q => if q < Scf.trips k0_t1_loop.lb k0_t1_loop.ub k0_t1_loop.st then 0#32 else o q) : S40000.Idx → Elt F .i32)
      = vec (Pool.occ key (0 + 0)) := by
    funext y
    have hy : (y 0).val < 40000 := (y 0).isLt
    show (if (y 0).val < Scf.trips k0_t1_loop.lb k0_t1_loop.ub k0_t1_loop.st then 0#32 else o (y 0).val) = 0#32
    rw [trips1, if_pos hy]
  rw [h5]
  let L2 := loop2 𝒱 c bd E i arg1 harg1 arg2 harg2 arg3 harg3 arg4 harg4 arg5 harg5 kw f bot key feat 0 hkw hlt hf
  sl_exec
  sl_step
  rw [trips2]
  isplitl [H1]; · iexact H1
  isplitl [H2]; · iexact H2
  isplitl [H3]; · iexact H3
  isplitl [H4]; · iexact H4
  iexact H5

/-- The last grid point: it accumulates as every point does, then writes the rows of the marked cells, in order, from row 1
    of the output block on. -/
theorem body_last (𝒱 : Variants) (c : Dev nD) (bd : Option 𝒱.V) (E : Set ℕ) (i : grid0.Coords) (arg1 : Memref sig .tc .smem S128 .i32) (harg1 : arg1.IsWhole) (arg2 : Memref sig .tc .vmem S128x32 .f32) (harg2 : arg2.IsWhole) (arg3 : Memref sig .tc .vmem S40064x32 .f32) (harg3 : arg3.IsWhole) (arg4 : Memref sig .tc .vmem S40000x32 .f32) (harg4 : arg4.IsWhole) (arg5 : Memref sig .tc .smem S40000 .i32) (harg5 : arg5.IsWhole)
    (h1 : ¬ k0_cond1 i = 1#1) (h2 : k0_cond2 i = 1#1)
    (kw : ℕ → Elt F .i32) (f : ℕ → Fin 32 → F .f32) (key : ℕ → ℕ) (feat : ℕ → Fin 32 → F .f32) (b : ℕ)
    (hkw : ∀ k, k < 128 → BitVec.toNat (w := 32) (kw k) = key (b + k)) (hlt : ∀ k, k < 128 → key (b + k) < 40000)
    (hf : ∀ k, k < 128 → f k = feat (b + k)) (z : ℕ → Fin 32 → F .f32) :
    iprop(own c arg1 (vec kw) ∗ own c arg2 (mat f) ∗ own c arg3 (mat z) ∗ own c arg4 (mat (Pool.dense FloatOps.maximumf bot key feat b)) ∗ own c arg5 (vec (Pool.occ key b)))
    ⊢ wp frame (wpE (defs₀ (F := F)) 𝒱 (c : Thread nD τ) bd) E (cc0__pool_kernel_skel (F := F) i arg1 harg1 arg2 harg2 arg3 harg3 arg4 harg4 arg5 harg5)
      (fun _ => (iprop(own c arg1 (vec kw) ∗ own c arg2 (mat f)
        ∗ own c arg3 (mat (Pool.compact (Pool.occ key (b + 128)) (Pool.dense FloatOps.maximumf bot key feat (b + 128)) z 40000))
        ∗ own c arg4 (mat (Pool.dense FloatOps.maximumf bot key feat (b + 128))) ∗ own c arg5 (vec (Pool.occ key (b + 128)))) : sProp 𝕄)) := by
  let L2 := loop2 𝒱 c bd E i arg1 harg1 arg2 harg2 arg3 harg3 arg4 harg4 arg5 harg5 kw f bot key feat b hkw hlt hf
  unfold cc0__pool_kernel_skel
  simp only [dif_neg h1, dif_pos h2]
  iintro ⟨H1, H2, H3, H4, H5⟩
  sl_exec
  rw [trips2]
  have h0 : (0#32 : BitVec 32) = BitVec.ofNat 32 (Pool.rank (Pool.occ key (b + 128)) 0) := rfl
  let L3 := loop3 𝒱 c bd E i arg1 harg1 arg2 harg2 arg3 harg3 arg4 harg4 arg5 harg5 h2 z (Pool.dense FloatOps.maximumf bot key feat (b + 128)) (Pool.occ key (b + 128)) (Pool.occ_cases key (b + 128))
  sl_exec
  sl_step
  rw [trips3]
  isplitl [H1]; · iexact H1
  isplitl [H2]; · iexact H2
  isplitl [H3]; · iexact H3
  isplitl [H4]; · iexact H4
  iexact H5

end Cert.Proof.KernelIdeal
-- ==== Proof.KernelIdeal.Run.lean ====
/- The pooling kernel's run over its whole grid: what each grid point finds and leaves, and what the program ends with. -/
module

public import proofs.«01_k».proof.Proof.KernelIdeal.Body
public import proofs.«01_k».proof.Proof.Gen.KernelIdeal.Frame
public import proofs.«01_k».proof.Defs

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- No call of the body has a variant. -/
abbrev 𝒱₀ : Variants := Variants.none

/-- The conditions and block indices of the grid's points, in closed form. -/
theorem grid_facts : ∀ t : Fin cfg0.N, (k0_cond1 (grid0.coords t) = 1#1 ↔ t.val = 0) ∧ (k0_cond2 (grid0.coords t) = 1#1 ↔ t.val = 3124)
    ∧ win0_0.index t (0 : Fin 1) = t.val ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem point_lt (t : Fin cfg0.N) : t.val < 3125 := t.isLt

variable (m : (ℓ : Loc nD τ sig) → Buf (Elt F) ℓ)

/-- The key words the region is entered with, as a function of the row number (0 past the last row). -/
def keyW (c : Dev nD) (n : ℕ) : BitVec 32 :=
  if h : n < 400000 then (V m c main_v19 : S400000.Idx → BitVec 32) (fun a => match a with | ⟨0, _⟩ => ⟨n, h⟩) else 0#32

/-- The keys as numbers. -/
def keyN (c : Dev nD) (n : ℕ) : ℕ := (keyW m c n).toNat

/-- The features the region is entered with, as a function of row and lane. -/
def feat (c : Dev nD) (n : ℕ) (l : Fin 32) : F .f32 :=
  if h : n < 400000 then (V m c main_arg0 : S400000x32.Idx → F .f32)
    (fun a => match a with | ⟨0, _⟩ => ⟨n, h⟩ | ⟨1, _⟩ => l) else bot

/-- The dense scratch after `n` rows. -/
abbrev denseAt (c : Dev nD) (n : ℕ) : ℕ → Fin 32 → F .f32 := Pool.dense FloatOps.maximumf bot (keyN m c) (feat m c) n

/-- The occupancy scratch after `n` rows. -/
abbrev occAt (c : Dev nD) (n : ℕ) : ℕ → BitVec 32 := Pool.occ (keyN m c) n

/-- The output block after the last point. -/
abbrev outFin (c : Dev nD) : ℕ → Fin 32 → F .f32 := Pool.compact (occAt m c 400000) (denseAt m c 400000) (fun _ _ => zer) 40000

theorem keys_blk (c : Dev nD) (t : Fin cfg0.N) : (iblk m c 0 t : S128.Idx → BitVec 32) = vec fun k => keyW m c (128 * t.val + k) := by
  funext z
  obtain ⟨-, -, e0, -⟩ := grid_facts t
  have hz : (z 0).val < 128 := (z 0).isLt
  have ht := point_lt t
  have hn : 128 * t.val + (z 0).val < 400000 := by omega
  show V m c main_v19 (((cfg0.win 0).blk t).view.emb z) = keyW m c (128 * t.val + (z 0).val)
  unfold keyW
  rw [dif_pos hn]
  refine congrArg (V m c main_v19 : S400000.Idx → BitVec 32) (funext fun a => Fin.ext ?_)
  match a with
  | ⟨0, _⟩ => show win0_0.index t (0 : Fin 1) * 128 + 1 * (z 0).val = 128 * t.val + (z 0).val; omega

theorem feat_blk (c : Dev nD) (t : Fin cfg0.N) : (iblk m c 1 t : S128x32.Idx → F .f32) = mat fun k l => feat m c (128 * t.val + k) l := by
  funext z
  obtain ⟨-, -, -, e0, e1, -⟩ := grid_facts t
  have hz : (z 0).val < 128 := (z 0).isLt
  have ht := point_lt t
  have hn : 128 * t.val + (z 0).val < 400000 := by omega
  show V m c main_arg0 (((cfg0.win 1).blk t).view.emb z) = feat m c (128 * t.val + (z 0).val) (z 1)
  unfold feat
  rw [dif_pos hn]
  refine congrArg (V m c main_arg0 : S400000x32.Idx → F .f32) (funext fun a => Fin.ext ?_)
  match a with
  | ⟨0, _⟩ => show win0_1.index t (0 : Fin 2) * 128 + 1 * (z 0).val = 128 * t.val + (z 0).val; omega
  | ⟨1, _⟩ => show win0_1.index t (1 : Fin 2) * 32 + 1 * (z 1).val = (z 1).val; omega

/-- What is known before point `n`: before the first, nothing of the scratches; later, the state after `128 n` rows. -/
def Phi (c : Dev nD) (n : ℕ) : sProp 𝕄 :=
  if n = 0 then Pipeline.ΦA spec0 c
  else iprop(own c (Memref.whole cc0_scratch0) (mat (denseAt m c (128 * n))) ∗ own c (Memref.whole cc0_scratch1) (vec (occAt m c (128 * n)))
    ∗ ∃ r, prngReg c r)

/-- What each point leaves in the windows' buffers: the inputs as fetched, the output block zeros until the last point. -/
def afterAt (c : Dev nD) : (w : Fin cfg0.W) → Fin cfg0.N → (cfg0.win w).block.Idx → Elt F (cfg0.win w).elt
  | ⟨0, _⟩, t => iblk m c 0 t
  | ⟨1, _⟩, t => iblk m c 1 t
  | ⟨2, _⟩, t => if t.val = 3124 then mat (outFin m c) else mat fun _ _ => zer

/-- The run's data: the arrays as the region finds them, what each point leaves, and the state between points. -/
def dats (_ : Fin 1) (c : Dev nD) : Dat τ (Elt F) Unit ℕ (UR sig nD τ) ℕ cfg0 c where
  A w := V m c (Pipeline.arrRef spec0 w)
  after := afterAt m c
  Φ t := Phi m c t.val
  q _ := fullShare
  owed _ := 0

theorem owns_own (c : Dev nD) {sp : Space} {s : Shape} {e : EltTy} (a : Memref sig .tc sp s e) (x : s.Idx → Elt F e) :
    (owns (c : Thread nD τ) a fullShare x : sProp 𝕄) ⊢ own c a x := by
  unfold owns
  iintro ⟨%f, %hf, H⟩
  iapply (pointsTo_rep_of_read (c : Thread nD τ) a f fullShare x hf) $$ H

theorem own_owns (c : Dev nD) {sp : Space} {s : Shape} {e : EltTy} (a : Memref sig .tc sp s e) (x : s.Idx → Elt F e) :
    own c a x ⊢ (owns (c : Thread nD τ) a fullShare x : sProp 𝕄) := by
  unfold owns
  iintro H
  iexists _
  isplitr [H]; swap; (· iexact H)
  ipureintro
  exact View.read_rep _ _

/-- Before the first point the scratches hold something. -/
theorem Phi_zero (c : Dev nD) : Phi m c 0 ⊢ iprop((∃ x4, own c (Memref.whole cc0_scratch0) x4) ∗ (∃ o : ℕ → Elt F .i32, own c (Memref.whole cc0_scratch1) (vec o)) ∗ ∃ r, prngReg c r) := by
  unfold Phi
  rw [if_pos rfl]
  unfold Pipeline.ΦA
  rw [scopedRest0_eq]
  iintro ⟨⟨⟨%f4, H4⟩, ⟨%f5, H5⟩⟩, Hr⟩
  isplitl [H4]
  · iexists _
    iapply (owns_own c (Memref.whole cc0_scratch0) f4)
    rw [owns_whole_eq]
    iexists f4
    isplitr; · ipureintro; rfl
    iexact H4
  isplitl [H5]
  · obtain ⟨o, ho⟩ := exists_vec (N := 40000) (by decide) (f5 : S40000.Idx → BitVec 32)
    iexists o
    iapply (owns_own c (Memref.whole cc0_scratch1) _)
    rw [owns_whole_eq]
    iexists f5
    isplitr; · ipureintro; exact ho
    iexact H5
  iexact Hr

theorem own_whole (c : Dev nD) (b : Ref sig .tc) (x : b.ty.Contents (Elt F)) :
    own c (Memref.whole b) x ⊢ (iprop(∃ f : Buf (Elt F) ((c : Thread nD τ).loc b), ((c : Thread nD τ).loc b) ↦{fullShare} f) : sProp 𝕄) := by
  refine (own_owns c (Memref.whole b) x).trans ?_
  rw [owns_whole_eq]
  iintro ⟨%f, -, H⟩
  iexists f; iexact H

/-- After any later point the state is one the region may be left with. -/
theorem Phi_out (c : Dev nD) (n : ℕ) (hn : n ≠ 0) : Phi m c n ⊢ Pipeline.ΦA spec0 c := by
  unfold Phi
  rw [if_neg hn]
  unfold Pipeline.ΦA
  rw [scopedRest0_eq]
  iintro ⟨H4, H5, Hr⟩
  isplitr [Hr]
  · isplitl [H4]
    · iapply (own_whole c cc0_scratch0 _) $$ H4
    · iapply (own_whole c cc0_scratch1 _) $$ H5
  iexact Hr

theorem flush2 (t : Fin cfg0.N) : (cfg0.win 2).flush t = true ↔ t.val = 3124 := by
  rw [flush0_2]; have := point_lt t; omega

theorem idle2 (t : Fin cfg0.N) : cfg0.idle 2 (cfg0.grid.coords t) = true ↔ t.val ≠ 0 ∧ t.val ≠ 3124 := by
  obtain ⟨h1, h2, -⟩ := grid_facts t
  show (!(k0_cond1 (grid0.coords t) == 1#1) && !(k0_cond2 (grid0.coords t) == 1#1)) = true ↔ _
  rw [Bool.and_eq_true, Bool.not_eq_true', Bool.not_eq_true', beq_eq_false_iff_ne, beq_eq_false_iff_ne]
  exact and_congr (not_congr h1) (not_congr h2)

theorem before0 (c : Dev nD) (t : Fin cfg0.N) (d) : (dats m 0 c).before 0 t d = iblk m c 0 t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d

/-- What a point that touches the output block leaves there, whatever it held. -/
theorem kept2 (c : Dev nD) (t : Fin cfg0.N) (d) : (dats m 0 c).kept 2 t d = afterAt m c 2 t := by
  unfold Dat.kept
  rw [Pipeline.fill_of_clip_none (cfg := cfg0) 2 _ (fun a => rfl) d ((dats m 0 c).after 2 t), Pipeline.Window.fill_cut]
  rfl

/-- After the first point the output block is found at zeros. -/
theorem before2 (c : Dev nD) (n : ℕ) : ∀ (t : Fin cfg0.N) (d), t.val = n + 1 → (dats m 0 c).before 2 t d = (mat fun _ _ => zer : S40064x32.Idx → F .f32) := by
  induction n with
  | zero =>
    intro t d ht
    have hn := point_lt t
    rw [(dats m 0 c).before_of_pos 2 t (by omega) ((cfg0.win 2).fetch_out rfl t), if_neg (by rw [flush2]; show ¬ t.val - 1 = 3124; omega)]
    have hi : cfg0.idle 2 (cfg0.grid.coords ⟨t.val - 1, Nat.lt_of_le_of_lt (Nat.sub_le _ _) t.isLt⟩) = false := by
      rw [Bool.eq_false_iff, ne_eq, idle2]; show ¬ (t.val - 1 ≠ 0 ∧ _); omega
    unfold Dat.left
    rw [hi]
    refine (kept2 m c _ d).trans ?_
    show (if t.val - 1 = 3124 then _ else _) = _
    rw [if_neg (by omega)]
  | succ n ih =>
    intro t d ht
    have hn := point_lt t
    rw [(dats m 0 c).before_of_pos 2 t (by omega) ((cfg0.win 2).fetch_out rfl t), if_neg (by rw [flush2]; show ¬ t.val - 1 = 3124; omega)]
    have hi : cfg0.idle 2 (cfg0.grid.coords ⟨t.val - 1, Nat.lt_of_le_of_lt (Nat.sub_le _ _) t.isLt⟩) = true := by
      rw [idle2]; show t.val - 1 ≠ 0 ∧ t.val - 1 ≠ 3124; omega
    unfold Dat.left
    rw [hi]
    exact ih _ d (by show t.val - 1 = n + 1; omega)

variable (hkey : ∀ c n, n < 400000 → keyN m c n < 40000)
include hkey

set_option maxHeartbeats 4000000 in
/-- Every grid point runs from the state before it to the state after it. -/
theorem body_obligation (c : Dev nD) : BodyObligation (dats m 0 c) (defs₀ (F := F)) 𝒱₀ () Set.univ := fun t => by
  have ht := point_lt t
  obtain ⟨h1, h2, -⟩ := grid_facts t
  rw [bigSep_W0, bigSep_W0]
  rw [show (dats m 0 c).Φ t.castSucc = Phi m c t.val from rfl, show (dats m 0 c).Φ t.succ = Phi m c (t.val + 1) from rfl]
  rw [show defs₀ .tc cfg0.body (cfg0.bodyArgs t (cfg0.slots t)) = bodyAt0 (F := F) t from rfl]
  unfold Dat.owesAt Pipeline.owesWithin
  rw [show (dats m 0 c).owed t.castSucc = 0 from rfl, show (dats m 0 c).owed t.succ = 0 from rfl]
  have hlt : ∀ k, k < 128 → keyN m c (128 * t.val + k) < 40000 := fun k hk => hkey c _ (by omega)
  simp only [before0, before1]
  rw [show (dats m 0 c).after 0 t = iblk m c 0 t from rfl, show (dats m 0 c).after 1 t = iblk m c 1 t from rfl]
  rw [show (dats m 0 c).after 2 t = afterAt m c 2 t from rfl]
  rw [show iblk m c 0 t = _ from keys_blk m c t, show iblk m c 1 t = _ from feat_blk m c t]
  unfold bodyAt0
  rw [cc0__pool_kernel_eq_skeleton]
  by_cases h0 : t.val = 0
  · have hi : idle0 2 (grid0.coords t) = false := by
      have := idle2 t
      rw [Bool.eq_false_iff, ne_eq]; intro h; exact (this.mp h).1 h0
    simp only [hi]
    have hA : afterAt m c 2 t = (mat fun _ _ => zer : S40064x32.Idx → F .f32) := by
      show (if t.val = 3124 then _ else _) = _
      rw [if_neg (by omega)]
    rw [hA]
    rw [show Phi m c t.val = Phi m c 0 by rw [h0]]
    iintro ⟨HΦ, ⟨%W, %hW, HO⟩, ⟨%d0, H0⟩, ⟨%d1, H1⟩, ⟨%d2, H2⟩⟩
    ihave H0 := (owns_own c _ _) $$ H0
    ihave H1 := (owns_own c _ _) $$ H1
    ihave H2 := (owns_own c _ _) $$ H2
    ihave HΦ := (Phi_zero m c) $$ HΦ
    icases HΦ with ⟨⟨%x4, HS4⟩, ⟨%o, HS5⟩, Hr⟩
    iapply (wp_wand_r Idealize.ShloMosaic.frame (wpE (defs₀ (F := F)) 𝒱₀ (c : Thread nD τ) none) Set.univ)
    isplitl [H0 H1 H2 HS4 HS5]
    · iapply (body_first 𝒱₀ c none Set.univ (grid0.coords t) _ _ _ _ _ _ _ _ _ _ (h1.mpr h0) (fun h => by have := h2.mp h; omega) (fun k => keyW m c (128 * t.val + k)) (fun k l => feat m c (128 * t.val + k) l) (keyN m c) (feat m c) (128 * t.val) (fun _ _ => rfl) hlt (fun _ _ => rfl) (by omega) _ x4 o)
      isplitl [H0]; · iexact H0
      isplitl [H1]; · iexact H1
      isplitl [H2]; · iexact H2
      isplitl [HS4]; · iexact HS4
      iexact HS5
    · iintro %_ ⟨H0, H1, H2, HS4, HS5⟩
      isplitl [HS4 HS5 Hr]
      · unfold Phi
        rw [if_neg (Nat.succ_ne_zero _), show 128 * (t.val + 1) = 128 * t.val + 128 from by omega]
        isplitl [HS4]; · iexact HS4
        isplitl [HS5]; · iexact HS5
        iexact Hr
      isplitl [HO]
      · iexists W; isplitr; · ipureintro; exact fun _ _ => Or.inl trivial
        iexact HO
      isplitl [H0]; · iapply (own_owns c _ _) $$ H0
      isplitl [H1]; · iapply (own_owns c _ _) $$ H1
      iapply (own_owns c _ _) $$ H2
  · have hΦ : Phi m c t.val = iprop(own c (Memref.whole cc0_scratch0) (mat (denseAt m c (128 * t.val))) ∗ own c (Memref.whole cc0_scratch1) (vec (occAt m c (128 * t.val))) ∗ ∃ r, prngReg c r) := by
      unfold Phi; rw [if_neg h0]
    rw [hΦ]
    by_cases h3 : t.val = 3124
    · have hi : idle0 2 (grid0.coords t) = false := by
        have := idle2 t
        rw [Bool.eq_false_iff, ne_eq]; intro h; exact (this.mp h).2 h3
      simp only [hi]
      have hA : afterAt m c 2 t = (mat (outFin m c) : S40064x32.Idx → F .f32) := by
        show (if t.val = 3124 then _ else _) = _
        rw [if_pos h3]
      rw [hA]
      simp only [fun d => before2 m c (t.val - 1) t d (by omega)]
      unfold outFin
      rw [show 400000 = 128 * t.val + 128 by omega]
      iintro ⟨HΦ, ⟨%W, %hW, HO⟩, ⟨%d0, H0⟩, ⟨%d1, H1⟩, ⟨%d2, H2⟩⟩
      ihave H0 := (owns_own c _ _) $$ H0
      ihave H1 := (owns_own c _ _) $$ H1
      ihave H2 := (owns_own c _ _) $$ H2
      icases HΦ with ⟨HS4, HS5, Hr⟩
      iapply (wp_wand_r Idealize.ShloMosaic.frame (wpE (defs₀ (F := F)) 𝒱₀ (c : Thread nD τ) none) Set.univ)
      isplitl [H0 H1 H2 HS4 HS5]
      · iapply (body_last 𝒱₀ c none Set.univ (grid0.coords t) _ _ _ _ _ _ _ _ _ _ (fun h => h0 (h1.mp h)) (h2.mpr h3) (fun k => keyW m c (128 * t.val + k)) (fun k l => feat m c (128 * t.val + k) l) (keyN m c) (feat m c) (128 * t.val) (fun _ _ => rfl) hlt (fun _ _ => rfl) _)
        isplitl [H0]; · iexact H0
        isplitl [H1]; · iexact H1
        isplitl [H2]; · iexact H2
        isplitl [HS4]; · iexact HS4
        iexact HS5
      · iintro %_ ⟨H0, H1, H2, HS4, HS5⟩
        isplitl [HS4 HS5 Hr]
        · unfold Phi
          rw [if_neg (Nat.succ_ne_zero _), show 128 * (t.val + 1) = 128 * t.val + 128 from by omega]
          isplitl [HS4]; · iexact HS4
          isplitl [HS5]; · iexact HS5
          iexact Hr
        isplitl [HO]
        · iexists W; isplitr; · ipureintro; exact fun _ _ => Or.inl trivial
          iexact HO
        isplitl [H0]; · iapply (own_owns c _ _) $$ H0
        isplitl [H1]; · iapply (own_owns c _ _) $$ H1
        iapply (own_owns c _ _) $$ H2
    · have hi : idle0 2 (grid0.coords t) = true := (idle2 t).mpr ⟨h0, h3⟩
      have hf : (win0 2).flush t = false := by
        have := flush2 t
        rw [Bool.eq_false_iff, ne_eq]; intro h; exact h3 (this.mp h)
      simp only [hi, hf]
      iintro ⟨⟨HS4, HS5, Hr⟩, ⟨%W, %hW, HO⟩, ⟨%d0, H0⟩, ⟨%d1, H1⟩, H2⟩
      ihave H0 := (owns_own c _ _) $$ H0
      ihave H1 := (owns_own c _ _) $$ H1
      iapply (wp_wand_r Idealize.ShloMosaic.frame (wpE (defs₀ (F := F)) 𝒱₀ (c : Thread nD τ) none) Set.univ)
      isplitl [H0 H1 HS4 HS5]
      · iapply (body_mid 𝒱₀ c none Set.univ (grid0.coords t) _ _ _ _ _ _ _ _ _ _ (fun h => h0 (h1.mp h)) (fun h => h3 (h2.mp h)) (fun k => keyW m c (128 * t.val + k)) (fun k l => feat m c (128 * t.val + k) l) (keyN m c) (feat m c) (128 * t.val) (fun _ _ => rfl) hlt (fun _ _ => rfl))
        isplitl [H0]; · iexact H0
        isplitl [H1]; · iexact H1
        isplitl [HS4]; · iexact HS4
        iexact HS5
      · iintro %_ ⟨H0, H1, HS4, HS5⟩
        isplitl [HS4 HS5 Hr]
        · unfold Phi
          rw [if_neg (Nat.succ_ne_zero _), show 128 * (t.val + 1) = 128 * t.val + 128 from by omega]
          isplitl [HS4]; · iexact HS4
          isplitl [HS5]; · iexact HS5
          iexact Hr
        isplitl [HO]
        · iexists W; isplitr; · ipureintro; exact fun _ _ => Or.inl trivial
          iexact HO
        isplitl [H0]; · iapply (own_owns c _ _) $$ H0
        isplitl [H1]; · iapply (own_owns c _ _) $$ H1
        iexact H2

/-- The whole program: every execution ends, with every semaphore at zero, the windowed arrays at what the points leave
    there and every other buffer at what the host operations leave. -/
theorem run (g : Dev nD → PrngReg) :
    θ_run defs (onTc (τ := τ) (main (F := F))) ⟨m, fun _ => 0, g⟩
      (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m g main
    (fun c => (body_obligation m hkey c).loose) (fun c w => (dats m 0 c).share_full (fun _ => rfl) w) (fun _ _ => rfl)
    (V0 m) [hostOps1] sfx_sub sfx_fresh sfx_keeps (hmain m 𝒱₀) (fun _ _ => rfl)
    (fun c => by
      show Pipeline.ΦA spec0 c ⊢ Phi m c 0
      unfold Phi; rw [if_pos rfl])
    (fun c => Phi_out m c 3125 (by decide))
    _ (fun _ h => h)

/-- The same, read at the arguments: they end as launched, and the result array is what the host operations make of the
    array the points leave. -/
theorem run_args (g : Dev nD → PrngReg) :
    θ_run defs (onTc (τ := τ) (main (F := F))) ⟨m, fun _ => 0, g⟩
      (fun r => (∀ c : Dev nD, r.2.mem ((c : Thread nD τ).loc main_v22) = Pipeline.afterTail₀ cfgs (dats m) 0 (V0 m) [hostOps1] c main_v22
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ ⟨h, hs⟩ => ⟨fun c => ⟨(h c).2 main_v22 (Pipeline.mem_restRefs_of main_v22 (by decide) (by decide)),
      ((h c).1 1).trans (((dats m 0 c).arrAt_in 1 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩, hs⟩) (run m hkey g)

end Cert.Proof.KernelIdeal
-- ==== Proof.KernelIdeal.Keys.lean ====
/- The keys the host computes before the region, and their bound. -/
module

public import proofs.«01_k».proof.Proof.KernelIdeal.Run
public import proofs.«01_k».proof.Proof.Range
public import proofs.«01_k».proof.Proof.Layout
public import proofs.«01_k».proof.Proof.Gen.Pre_in_range
public import proofs.«01_k».proof.Proof.Gen.KernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo Idealize.ShloMosaic.ValueIdx

variable {F : FTy → Type} [FloatOps F]
variable (m : (ℓ : Loc nD τ sig) → Buf (Elt F) ℓ)

/-- A coordinate word of the launch. -/
def coor (c : Dev nD) (i : Fin 400000) (j : Fin 4) : BitVec 32 :=
  (m ((c : Thread nD τ).loc main_arg1) : S400000x4.Idx → BitVec 32) (ix2 i j)

set_option maxHeartbeats 4000000 in
/-- The keys before the region, a function of the coordinates. -/
theorem keys_eq (c : Dev nD) : (V m c main_v19 : S400000.Idx → BitVec 32)
    = fun i => Words.key4 (coor m c (i 0) 0) (coor m c (i 0) 1) (coor m c (i 0) 2) (coor m c (i 0) 3) := by
  show StableHlo.after _ _ _ = _
  simp only [List.flatten_cons, List.flatten_nil, hostOps0, hostOps0_1, hostOps0_2, hostOps0_3, hostOps0_4, hostOps0_5, hostOps0_6,
    List.cons_append, List.nil_append, List.append_nil, TRef.binary, TRef.nullary, TRef.ternary, TRef.unary, TRef.toBuf, TRef.ofBuf, cast_eq]
  after_results_simp
  funext i
  have e0 := Layout.slice_col (m (c, Proc.tc.devRef main_arg1) : S400000x4.Idx → BitVec 32) 0 slices_S400000x4_S400000x1_0_0 shapeCasts_S400000x1_S400000 i
  have e1 := Layout.slice_col (m (c, Proc.tc.devRef main_arg1) : S400000x4.Idx → BitVec 32) 1 slices_S400000x4_S400000x1_0_1 shapeCasts_S400000x1_S400000 i
  have e2 := Layout.slice_col (m (c, Proc.tc.devRef main_arg1) : S400000x4.Idx → BitVec 32) 2 slices_S400000x4_S400000x1_0_2 shapeCasts_S400000x1_S400000 i
  have e3 := Layout.slice_col (m (c, Proc.tc.devRef main_arg1) : S400000x4.Idx → BitVec 32) 3 slices_S400000x4_S400000x1_0_3 shapeCasts_S400000x1_S400000 i
  refine Eq.trans (b := Words.key4 _ _ _ _) rfl ?_
  exact congr (congr (congr (congrArg Words.key4 e0) e1) e2) e3

/-- Every key is a cell number of the dense scratch. -/
theorem keyN_eq (hc : ∀ c i j, (coor m c i j).toNat < 40) (c : Dev nD) (i : Fin 400000) :
    keyN m c i.val = (coor m c i 0).toNat * 1000 + ((coor m c i 1).toNat / 4 * 10 + (coor m c i 2).toNat / 4) * 10
      + (coor m c i 3).toNat / 4 := by
  refine Eq.trans ?_ (Words.toNat_key4 (hc c i 0) (hc c i 1) (hc c i 2) (hc c i 3))
  unfold keyN keyW
  rw [dif_pos i.isLt, keys_eq m c]
  rfl

/-- In-range coordinates give keys below 40000. -/
theorem keyN_lt (hc : ∀ c i j, (coor m c i j).toNat < 40) (c : Dev nD) (n : ℕ) (hn : n < 400000) : keyN m c n < 40000 := by
  have e := keyN_eq m hc c ⟨n, hn⟩
  have h0 := hc c ⟨n, hn⟩ 0
  have h1 := hc c ⟨n, hn⟩ 1
  have h2 := hc c ⟨n, hn⟩ 2
  have h3 := hc c ⟨n, hn⟩ 3
  have e : keyN m c n = _ := e
  omega

end Cert.Proof.KernelIdeal

namespace Cert.Proof

open Cert.KernelIdeal Cert.KernelIdeal.Gen
open Idealize.ShloMosaic Idealize.ShloMosaic.TcCoe

/-- The range check of the arguments bounds every coordinate. -/
theorem KernelIdeal.coor_lt (m : (ℓ : Loc nD τ sig) → Buf (Elt Ideal) ℓ)
    (h : letI := Cert.Pre_in_range.Gen.facts; Cert.Pre_KernelIdeal m) (c : Dev nD) (i : Fin 400000) (j : Fin 4) :
    (KernelIdeal.coor m c i j).toNat < 40 :=
  letI := Cert.Pre_in_range.Gen.facts
  Cert.Proof.coor_lt _ _ _ (h c) _

/-- Under the range check the program runs, leaves its arguments as they were and every counter at zero. -/
theorem KernelIdeal.quiescent : letI := Cert.KernelIdeal.Gen.facts; letI := Cert.Pre_in_range.Gen.facts; Cert.quiescent_KernelIdeal := by
  intro m g hpre
  refine (θ_run (defs (F := Ideal)) _ _).mono (fun r h => ?_) (KernelIdeal.run_args m (KernelIdeal.keyN_lt m (KernelIdeal.coor_lt m hpre)) g)
  exact ⟨fun c => (h.1 c).2, h.2⟩

end Cert.Proof
-- ==== Proof.Ref.Ops1.lean ====
/- The reference program's host operations in stages: the first layer's keys, sort, unique values and pooling. -/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.ReferenceIdeal

open Cert.ReferenceIdeal Cert.ReferenceIdeal.Gen Idealize.ShloMosaic Idealize.ShloMosaic.TcCoe Idealize.SL.Sem Idealize.ShloMosaic.StableHlo

variable {F : FTy → Type} [FloatOps F]
/-- An operation that writes one listed buffer writes within the list. -/
theorem wsub {op : HloOp τ sig (Elt F)} {W : List (Ref sig .tc)} {y : Ref sig .tc} (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- Operations 1 to 22 of the program. -/
abbrev key1a : List (HloOp τ sig (Elt F)) :=
  [ unary main_arg1 main_v0 ((extractStridedSlice S400000x1 ![0, 0] · slices_S400000x4_S400000x1_0_0) : (⟨S400000x4, .i32⟩ : BufTy).Contents (Elt F) → (⟨S400000x1, .i32⟩ : BufTy).Contents (Elt F)),
    reshape main_v0 main_v1 (rfl : (.i32 : EltTy) = .i32) shapeCasts_S400000x1_S400000,
    unary main_arg1 main_v2 ((extractStridedSlice S400000x1 ![0, 1] · slices_S400000x4_S400000x1_0_1) : (⟨S400000x4, .i32⟩ : BufTy).Contents (Elt F) → (⟨S400000x1, .i32⟩ : BufTy).Contents (Elt F)),
    reshape main_v2 main_v3 (rfl : (.i32 : EltTy) = .i32) shapeCasts_S400000x1_S400000,
    nullary main_c (constantI S_ 32 2#32),
    TRef.unary (TRef.of (T := ⟨S_, .i32⟩) main_c) (TRef.of (T := ⟨S_, .i32⟩) main_call0_v0) id,
    TRef.unary (TRef.of (T := ⟨S_, .i32⟩) main_call0_v0) (TRef.of (T := ⟨S400000, .i32⟩) main_call0_v1) (broadcastInDim S400000 ![] bcast_S_S400000),
    TRef.binary (TRef.of (T := ⟨S400000, .i32⟩) main_v3) (TRef.of (T := ⟨S400000, .i32⟩) main_call0_v1) (TRef.of (T := ⟨S400000, .i32⟩) main_call0_v2) Host.divsi,
    TRef.unary (TRef.of (T := ⟨S400000, .i32⟩) main_v3) (TRef.of (T := ⟨S400000, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S400000, .i32⟩) main_call0_v5) (broadcastInDim S400000 ![] bcast_S_S400000),
    TRef.binary (TRef.of (T := ⟨S400000, .i32⟩) main_call0_v3) (TRef.of (T := ⟨S400000, .i32⟩) main_call0_v5) (TRef.of (T := ⟨S400000, .i1⟩) main_call0_v6) (cmpi .ne),
    TRef.unary (TRef.of (T := ⟨S_, .i32⟩) main_call0_v0) (TRef.of (T := ⟨S400000, .i32⟩) main_call0_v7) (broadcastInDim S400000 ![] bcast_S_S400000),
    TRef.binary (TRef.of (T := ⟨S400000, .i32⟩) main_v3) (TRef.of (T := ⟨S400000, .i32⟩) main_call0_v7) (TRef.of (T := ⟨S400000, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S400000, .i32⟩) main_call0_v9) (broadcastInDim S400000 ![] bcast_S_S400000),
    TRef.binary (TRef.of (T := ⟨S400000, .i32⟩) main_call0_v8) (TRef.of (T := ⟨S400000, .i32⟩) main_call0_v9) (TRef.of (T := ⟨S400000, .i1⟩) main_call0_v10) (cmpi .ne),
    TRef.binary (TRef.of (T := ⟨S400000, .i1⟩) main_call0_v6) (TRef.of (T := ⟨S400000, .i1⟩) main_call0_v10) (TRef.of (T := ⟨S400000, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S400000, .i32⟩) main_call0_v12) (broadcastInDim S400000 ![] bcast_S_S400000),
    TRef.binary (TRef.of (T := ⟨S400000, .i32⟩) main_call0_v2) (TRef.of (T := ⟨S400000, .i32⟩) main_call0_v12) (TRef.of (T := ⟨S400000, .i32⟩) main_call0_v13) subi,
    TRef.ternary (TRef.of (T := ⟨S400000, .i1⟩) main_call0_v11) (TRef.of (T := ⟨S400000, .i32⟩) main_call0_v13) (TRef.of (T := ⟨S400000, .i32⟩) main_call0_v2) (TRef.of (T := ⟨S400000, .i32⟩) main_v4) select ]
/-- What they write. -/
abbrev key1a_W : List (Ref sig .tc) := [main_v0, main_v1, main_v2, main_v3, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]
theorem key1a_sub : (key1a : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem key1a_fresh : (key1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem key1a_writes : (key1a : List (HloOp τ sig (Elt F))).Forall fun op => op.writes ⊆ (key1a_W.map (Proc.devRef (τ := τ) .tc)).toFinset :=
  ⟨wsub (unary_writes ..) (by decide), wsub (reshape_writes ..) (by decide), wsub (unary_writes ..) (by decide), wsub (reshape_writes ..) (by decide), wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem key1a_keep (V : Valuation τ sig (Elt F)) (r : Ref sig .tc) (h : r ∉ key1a_W) : after key1a V (Proc.devRef .tc r) = V (Proc.devRef .tc r) :=
  after_of_writes_sub key1a _ key1a_writes h

/-- Operations 23 to 42 of the program. -/
abbrev key1b : List (HloOp τ sig (Elt F)) :=
  [ unary main_arg1 main_v5 ((extractStridedSlice S400000x1 ![0, 2] · slices_S400000x4_S400000x1_0_2) : (⟨S400000x4, .i32⟩ : BufTy).Contents (Elt F) → (⟨S400000x1, .i32⟩ : BufTy).Contents (Elt F)),
    reshape main_v5 main_v6 (rfl : (.i32 : EltTy) = .i32) shapeCasts_S400000x1_S400000,
    nullary main_c_0 (constantI S_ 32 2#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S400000, .i32⟩) main_call1_v1) (broadcastInDim S400000 ![] bcast_S_S400000),
    TRef.binary (TRef.of (T := ⟨S400000, .i32⟩) main_v6) (TRef.of (T := ⟨S400000, .i32⟩) main_call1_v1) (TRef.of (T := ⟨S400000, .i32⟩) main_call1_v2) Host.divsi,
    TRef.unary (TRef.of (T := ⟨S400000, .i32⟩) main_v6) (TRef.of (T := ⟨S400000, .i32⟩) main_call1_v3) signi,
    TRef.unary (TRef.of (T := ⟨S_, .i32⟩) main_call1_v0) (TRef.of (T := ⟨S_, .i32⟩) main_call1_v4) signi,
    TRef.unary (TRef.of (T := ⟨S_, .i32⟩) main_call1_v4) (TRef.of (T := ⟨S400000, .i32⟩) main_call1_v5) (broadcastInDim S400000 ![] bcast_S_S400000),
    TRef.binary (TRef.of (T := ⟨S400000, .i32⟩) main_call1_v3) (TRef.of (T := ⟨S400000, .i32⟩) main_call1_v5) (TRef.of (T := ⟨S400000, .i1⟩) main_call1_v6) (cmpi .ne),
    TRef.unary (TRef.of (T := ⟨S_, .i32⟩) main_call1_v0) (TRef.of (T := ⟨S400000, .i32⟩) main_call1_v7) (broadcastInDim S400000 ![] bcast_S_S400000),
    TRef.binary (TRef.of (T := ⟨S400000, .i32⟩) main_v6) (TRef.of (T := ⟨S400000, .i32⟩) main_call1_v7) (TRef.of (T := ⟨S400000, .i32⟩) main_call1_v8) Host.remsi,
    TRef.nullary (TRef.of (T := ⟨S_, .i32⟩) main_call1_c) (constantI S_ 32 0#32),
    TRef.unary (TRef.of (T := ⟨S_, .i32⟩) main_call1_c) (TRef.of (T := ⟨S400000, .i32⟩) main_call1_v9) (broadcastInDim S400000 ![] bcast_S_S400000),
    TRef.binary (TRef.of (T := ⟨S400000, .i32⟩) main_call1_v8) (TRef.of (T := ⟨S400000, .i32⟩) main_call1_v9) (TRef.of (T := ⟨S400000, .i1⟩) main_call1_v10) (cmpi .ne),
    TRef.binary (TRef.of (T := ⟨S400000, .i1⟩) main_call1_v6) (TRef.of (T := ⟨S400000, .i1⟩) main_call1_v10) (TRef.of (T := ⟨S400000, .i1⟩) main_call1_v11) andi,
    TRef.nullary (TRef.of (T := ⟨S_, .i32⟩) main_call1_c_0) (constantI S_ 32 1#32),
    TRef.unary (TRef.of (T := ⟨S_, .i32⟩) main_call1_c_0) (TRef.of (T := ⟨S400000, .i32⟩) main_call1_v12) (broadcastInDim S400000 ![] bcast_S_S400000),
    TRef.binary (TRef.of (T := ⟨S400000, .i32⟩) main_call1_v2) (TRef.of (T := ⟨S400000, .i32⟩) main_call1_v12) (TRef.of (T := ⟨S400000, .i32⟩) main_call1_v13) subi,
    TRef.ternary (TRef.of (T := ⟨S400000, .i1⟩) main_call1_v11) (TRef.of (T := ⟨S400000, .i32⟩) main_call1_v13) (TRef.of (T := ⟨S400000, .i32⟩) main_call1_v2) (TRef.of (T := ⟨S400000, .i32⟩) main_v7) select ]
/-- What they write. -/
abbrev key1b_W : List (Ref sig .tc) := [main_v5, main_v6, main_c_0, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7]
theorem key1b_sub : (key1b : List (HloOp τ sig (Elt F))).Forall fun op => op.bufs ⊆ tcRefs τ sig :=
  ⟨unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem key1b_fresh : (key1b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem key1b_writes : (key1b : List (HloOp τ sig (Elt F))).Forall fun op => op.writes ⊆ (key1b_W.map (Proc.devRef (τ := τ) .tc)).toFinset :=
  ⟨wsub (unary_writes ..) (by decide), wsub (reshape_writes ..) (by decide), wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem key1b_keep (V : Valuation τ sig (Elt F)) (r : Ref sig .tc) (h : r ∉ key1b_W) : after key1b V (Proc.devRef .tc r) = V (Proc.devRef .tc r) :=
  after_of_writes_sub key1b _ key1b_writes h

/-- Operations 43 to 62 of the program. -/
abbrev key1c : List (HloOp τ sig (Elt F)) :=
  [ unary main_arg1 main_v8 ((extractStridedSlice S400000x1 ![0, 3] · slices_S400000x4_S400000x1_0_3) : (⟨S400000x4, .i32⟩ : BufTy).Contents (Elt F) → (⟨S400000x1, .i32⟩ : BufTy).Contents (Elt F)),
    reshape main_v8 main_v9 (rfl : (.i32 : EltTy) = .i32) shapeCasts_S400000x1_S400000,
    nullary main_c_1 (constantI S_ 32 2#32),
    TRef.unary (TRef.of (T := ⟨S_, .i32⟩) main_c_1) (TRef.of (T := ⟨S_, .i32⟩) main_call2_v0) id,
    TRef.unary (TRef.of (T := ⟨S_, .i32⟩) main_call2_v0) (TRef.of (T := ⟨S400000, .i32⟩) main_call2_v1) (broadcastInDim S400000 ![] bcast_S_S400000),
    TRef.binary (TRef.of (T := ⟨S400000, .i32⟩) main_v9) (TRef.of (T := ⟨S400000, .i32⟩) main_call2_v1) (TRef.of (T := ⟨S400000, .i32⟩) main_call2_v2) Host.divsi,
    TRef.unary (TRef.of (T := ⟨S400000, .i32⟩) main_v9) (TRef.of (T := ⟨S400000, .i32⟩) main_call2_v3) signi,
    TRef.unary (TRef.of (T := ⟨S_, .i32⟩) main_call2_v0) (TRef.of (T := ⟨S_, .i32⟩) main_call2_v4) signi,
    TRef.unary (TRef.of (T := ⟨S_, .i32⟩) main_call2_v4) (TRef.of (T := ⟨S400000, .i32⟩) main_call2_v5) (broadcastInDim S400000 ![] bcast_S_S400000),
    TRef.binary (TRef.of (T := ⟨S400000, .i32⟩) main_call2_v3) (TRef.of (T := ⟨S400000, .i32⟩) main_call2_v5) (TRef.of (T := ⟨S400000, .i1⟩) main_call2_v6) (cmpi .ne),
    TRef.unary (TRef.of (T := ⟨S_, .i32⟩) main_call2_v0) (TRef.of (T := ⟨S400000, .i32⟩) main_call2_v7) (broadcastInDim S400000 ![] bcast_S_S400000),
    TRef.binary (TRef.of (T := ⟨S400000, .i32⟩) main_v9) (TRef.of (T := ⟨S400000, .i32⟩) main_call2_v7) (TRef.of (T := ⟨S400000, .i32⟩) main_call2_v8) Host.remsi,
    TRef.nullary (TRef.of (T := ⟨S_, .i32⟩) main_call2_c) (constantI S_ 32 0#32),
    TRef.unary (TRef.of (T := ⟨S_, .i32⟩) main_call2_c) (TRef.of (T := ⟨S400000, .i32⟩) main_call2_v9) (broadcastInDim S400000 ![] bcast_S_S400000),
    TRef.binary (TRef.of (T := ⟨S400000, .i32⟩) main_call2_v8) (TRef.of (T := ⟨S400000, .i32⟩) main_call2_v9) (TRef.of (T := ⟨S400000, .i1⟩) main_call2_v10) (cmpi .ne),
    TRef.binary (TRef.of (T := ⟨S400000, .i1⟩) main_call2_v6) (TRef.of (T := ⟨S400000, .i1⟩) main_call2_v10) (TRef.of (T := ⟨S400000, .i1⟩) main_call2_v11) andi,
    TRef.nullary (TRef.of (T := ⟨S_, .i32⟩) main_call2_c_0) (constantI S_ 32 1#32),
    TRef.unary (TRef.of (T := ⟨S_, .i32⟩) main_call2_c_0) (TRef.of (T := ⟨S400000, .i32⟩) main_call2_v12) (broadcastInDim S400000 ![] bcast_S_S400000),
    TRef.binary (TRef.of (T := ⟨S400000, .i32⟩) main_call2_v2) (TRef.of (T := ⟨S400000, .i32⟩) main_call2_v12) (TRef.of (T := ⟨S400000, .i32⟩) main_call2_v13) subi,
    TRef.ternary (TRef.of (T := ⟨S400000, .i1⟩) main_call2_v11) (TRef.of (T := ⟨S400000, .i32⟩) main_call2_v13) (TRef.of (T := ⟨S400000, .i32⟩) main_call2_v2) (TRef.of (T := ⟨S400000, .i32⟩) main_v10) select ]
/-- What they write. -/
abbrev key1c_W : List (Ref sig .tc) := [main_v8, main_v9, main_c_1, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v10]
theorem key1c_sub : (key1c : List (HloOp τ sig (Elt F))).Forall fun op => op.bufs ⊆ tcRefs τ sig :=
  ⟨unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem key1c_fresh : (key1c : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem key1c_writes : (key1c : List (HloOp τ sig (Elt F))).Forall fun op => op.writes ⊆ (key1c_W.map (Proc.devRef (τ := τ) .tc)).toFinset :=
  ⟨wsub (unary_writes ..) (by decide), wsub (reshape_writes ..) (by decide), wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem key1c_keep (V : Valuation τ sig (Elt F)) (r : Ref sig .tc) (h : r ∉ key1c_W) : after key1c V (Proc.devRef .tc r) = V (Proc.devRef .tc r) :=
  after_of_writes_sub key1c _ key1c_writes h

/-- Operations 63 to 81 of the program. -/
abbrev key1d : List (HloOp τ sig (Elt F)) :=
  [ nullary main_c_2 (constantI S_ 32 8000#32),
    unary main_c_2 main_v11 (broadcastInDim S400000 ![] bcast_S_S400000 : (⟨S_, .i32⟩ : BufTy).Contents (Elt F) → (⟨S400000, .i32⟩ : BufTy).Contents (Elt F)),
    binary main_v1 main_v11 main_v12 (muli : (⟨S400000, .i32⟩ : BufTy).Contents (Elt F) → (⟨S400000, .i32⟩ : BufTy).Contents (Elt F) → (⟨S400000, .i32⟩ : BufTy).Contents (Elt F)),
    nullary main_c_3 (constantI S_ 32 20#32),
    unary main_c_3 main_v13 (broadcastInDim S400000 ![] bcast_S_S400000 : (⟨S_, .i32⟩ : BufTy).Contents (Elt F) → (⟨S400000, .i32⟩ : BufTy).Contents (Elt F)),
    binary main_v4 main_v13 main_v14 (muli : (⟨S400000, .i32⟩ : BufTy).Contents (Elt F) → (⟨S400000, .i32⟩ : BufTy).Contents (Elt F) → (⟨S400000, .i32⟩ : BufTy).Contents (Elt F)),
    binary main_v14 main_v7 main_v15 (addi : (⟨S400000, .i32⟩ : BufTy).Contents (Elt F) → (⟨S400000, .i32⟩ : BufTy).Contents (Elt F) → (⟨S400000, .i32⟩ : BufTy).Contents (Elt F)),
    nullary main_c_4 (constantI S_ 32 20#32),
    unary main_c_4 main_v16 (broadcastInDim S400000 ![] bcast_S_S400000 : (⟨S_, .i32⟩ : BufTy).Contents (Elt F) → (⟨S400000, .i32⟩ : BufTy).Contents (Elt F)),
    binary main_v15 main_v16 main_v17 (muli : (⟨S400000, .i32⟩ : BufTy).Contents (Elt F) → (⟨S400000, .i32⟩ : BufTy).Contents (Elt F) → (⟨S400000, .i32⟩ : BufTy).Contents (Elt F)),
    binary main_v12 main_v17 main_v18 (addi : (⟨S400000, .i32⟩ : BufTy).Contents (Elt F) → (⟨S400000, .i32⟩ : BufTy).Contents (Elt F) → (⟨S400000, .i32⟩ : BufTy).Contents (Elt F)),
    binary main_v18 main_v10 main_v19 (addi : (⟨S400000, .i32⟩ : BufTy).Contents (Elt F) → (⟨S400000, .i32⟩ : BufTy).Contents (Elt F) → (⟨S400000, .i32⟩ : BufTy).Contents (Elt F)),
    nullary main_c_5 (constantI S_ 32 0#32),
    unary main_c_5 main_v20 (broadcastInDim S400000 ![] bcast_S_S400000 : (⟨S_, .i32⟩ : BufTy).Contents (Elt F) → (⟨S400000, .i32⟩ : BufTy).Contents (Elt F)),
    binary main_v1 main_v20 main_v21 (cmpi .slt : (⟨S400000, .i32⟩ : BufTy).Contents (Elt F) → (⟨S400000, .i32⟩ : BufTy).Contents (Elt F) → (⟨S400000, .i1⟩ : BufTy).Contents (Elt F)),
    nullary main_c_6 (constantI S_ 32 4294967295#32),
    TRef.unary (TRef.of (T := ⟨S_, .i32⟩) main_c_6) (TRef.of (T := ⟨S_, .i32⟩) main_call3_v0) id,
    TRef.unary (TRef.of (T := ⟨S_, .i32⟩) main_call3_v0) (TRef.of (T := ⟨S400000, .i32⟩) main_call3_v1) (broadcastInDim S400000 ![] bcast_S_S400000),
    TRef.ternary (TRef.of (T := ⟨S400000, .i1⟩) main_v21) (TRef.of (T := ⟨S400000, .i32⟩) main_call3_v1) (TRef.of (T := ⟨S400000, .i32⟩) main_v19) (TRef.of (T := ⟨S400000, .i32⟩) main_v22) select ]
/-- What they write. -/
abbrev key1d_W : List (Ref sig .tc) := [main_c_2, main_v11, main_v12, main_c_3, main_v13, main_v14, main_v15, main_c_4, main_v16, main_v17, main_v18, main_v19, main_c_5, main_v20, main_v21, main_c_6, main_call3_v0, main_call3_v1, main_v22]
theorem key1d_sub : (key1d : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., unary_bufs_sub .., ternary_bufs_sub ..⟩
theorem key1d_fresh : (key1d : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem key1d_writes : (key1d : List (HloOp τ sig (Elt F))).Forall fun op => op.writes ⊆ (key1d_W.map (Proc.devRef (τ := τ) .tc)).toFinset :=
  ⟨wsub (nullary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (binary_writes ..) (by decide), wsub (binary_writes ..) (by decide), wsub (nullary_writes ..) (by decide), wsub (unary_writes ..) (by decide), wsub (binary_writes ..) (by decide), wsub (nullary_writes ..) (by decide), wsub (unary_writes ..) (by decide), wsub (unary_writes ..) (by decide), wsub (ternary_writes ..) (by decide)⟩
/-- A buffer these operations do not write keeps its contents. -/
theorem key1d_keep (V : Valuation τ sig (Elt F)) (r : Ref sig .tc) (h : r ∉ key1d_W) : after key1d V (Proc.devRef .tc r) = V (Proc.devRef .tc r) :=
  after_of_writes_sub key1d _ key1d_writes h

/-- Operations 82 to 98 of the program. -/
abbrev sort1 : List (HloOp τ sig (Elt F)) :=
  [ TRef.reshape (TRef.of (T := ⟨S400000, .i32⟩) main_v22) (TRef.of (T := ⟨S400000x1, .i32⟩) main_call4_v0) (rfl : (.i32 : EltTy) = .i32) shapeCasts_S400000_S400000x1,
    TRef.unary (TRef.of (T := ⟨S400000x1, .i32⟩) main_call4_v0) (TRef.of (T := ⟨S1x400000, .i32⟩) main_call4_v1) (transpose S1x400000 [1, 0] · transposes_S400000x1_S1x400000_1_0),
    TRef.unary (TRef.of (T := ⟨S1x400000, .i32⟩) main_call4_v1) (TRef.of (T := ⟨S1x400000, .i32⟩) main_call4_v2) (Host.reverse [0]),
    TRef.unary (TRef.of (T := ⟨S1x400000, .i32⟩) main_call4_v2) (TRef.of (T := ⟨S1x400000, .i32⟩) main_call4_call0_v0) (extractStridedSlice S1x400000 ![0, 0] · slices_S1x400000_S1x400000_0_0),
    TRef.reshape (TRef.of (T := ⟨S1x400000, .i32⟩) main_call4_call0_v0) (TRef.of (T := ⟨S400000, .i32⟩) main_call4_call0_v1) (rfl : (.i32 : EltTy) = .i32) shapeCasts_S1x400000_S400000,
    TRef.nullary (TRef.of (T := ⟨S400000, .i32⟩) main_call4_call0_v2) (iotaInDim S400000 32 0),
    TRef.binary (TRef.of (T := ⟨S400000, .i32⟩) main_call4_call0_v1) (TRef.of (T := ⟨S400000, .i32⟩) main_call4_call0_v2) (TRef.of (T := ⟨S400000, .i32⟩) main_call4_call0_v3_0) (fun x y => (Host.sort2 S400000 0 comparator_i32_i32_d0 x y).1),
    TRef.binary (TRef.of (T := ⟨S400000, .i32⟩) main_call4_call0_v1) (TRef.of (T := ⟨S400000, .i32⟩) main_call4_call0_v2) (TRef.of (T := ⟨S400000, .i32⟩) main_v23_2) (fun x y => (Host.sort2 S400000 0 comparator_i32_i32_d0 x y).2),
    TRef.nullary (TRef.of (T := ⟨S_, .i32⟩) main_call4_c) (constantI S_ 32 0#32),
    TRef.unary (TRef.of (T := ⟨S_, .i32⟩) main_call4_c) (TRef.of (T := ⟨S400000, .i32⟩) main_call4_v4) (broadcastInDim S400000 ![] bcast_S_S400000),
    TRef.binary (TRef.of (T := ⟨S400000, .i32⟩) main_v23_2) (TRef.of (T := ⟨S400000, .i32⟩) main_call4_v4) (TRef.of (T := ⟨S400000, .i1⟩) main_call4_v5) (cmpi .slt),
    TRef.nullary (TRef.of (T := ⟨S_, .i32⟩) main_call4_c_0) (constantI S_ 32 400000#32),
    TRef.unary (TRef.of (T := ⟨S_, .i32⟩) main_call4_c_0) (TRef.of (T := ⟨S400000, .i32⟩) main_call4_v6) (broadcastInDim S400000 ![] bcast_S_S400000),
    TRef.binary (TRef.of (T := ⟨S400000, .i32⟩) main_v23_2) (TRef.of (T := ⟨S400000, .i32⟩) main_call4_v6) (TRef.of (T := ⟨S400000, .i32⟩) main_call4_v7) addi,
    TRef.ternary (TRef.of (T := ⟨S400000, .i1⟩) main_call4_v5) (TRef.of (T := ⟨S400000, .i32⟩) main_call4_v7) (TRef.of (T := ⟨S400000, .i32⟩) main_v23_2) (TRef.of (T := ⟨S400000, .i32⟩) main_call4_v8) select,
    TRef.unary (TRef.of (T := ⟨S400000, .i32⟩) main_call4_v8) (TRef.of (T := ⟨S400000x1, .i32⟩) main_call4_v9) (broadcastInDim S400000x1 ![0] bcast_S400000_S400000x1_0),
    TRef.binary (TRef.of (T := ⟨S400000, .i32⟩) main_v22) (TRef.of (T := ⟨S400000x1, .i32⟩) main_call4_v9) (TRef.of (T := ⟨S400000, .i32⟩) main_v23_0) (fun x i => Host.gather gather_S400000_S400000x1_S400000_n_0_n_n_0_1_1 x i) ]
/-- What they write. -/
abbrev sort1_W : List (Ref sig .tc) := [main_call4_v0, main_call4_v1, main_call4_v2, main_call4_call0_v0, main_call4_call0_v1, main_call4_call0_v2, main_call4_call0_v3_0, main_v23_2, main_call4_c, main_call4_v4, main_call4_v5, main_call4_c_0, main_call4_v6, main_call4_v7, main_call4_v8, main_call4_v9, main_v23_0]
theorem sort1_sub : (sort1 : List (HloOp τ sig (Elt F))).Forall fun op => op.bufs ⊆ tcRefs τ sig :=
  ⟨reshape_bufs_sub .., unary_bufs_sub .., unary_bufs_sub .., unary_bufs_sub .., reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem sort1_fresh : (sort1 : List (HloOp τ sig (Elt F))).Forall fun op => op.fresh = ∅ :=
  ⟨rfl, rfl, rfl, rfl, rfl, rfl, rfl, rfl, rfl, rfl, rfl, rfl, rfl, rfl, rfl, rfl, rfl⟩
theorem sort1_writes : (sort1 : List (HloOp τ sig (Elt F))).Forall fun op => op.writes ⊆ (sort1_W.map (Proc.devRef (τ := τ) .tc)).toFinset :=
  ⟨wsub (reshape_writes ..) (by decide), wsub (unary_writes ..) (by decide), wsub (unary_writes ..) (by decide), wsub (unary_writes ..) (by decide), wsub (reshape_writes ..) (by decide), wsub (nullary_writes ..) (by decide), wsub (binary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (binary_writes ..) (by decide)⟩
/-- A buffer these operations do not write keeps its contents. -/
theorem sort1_keep (V : Valuation τ sig (Elt F)) (r : Ref sig .tc) (h : r ∉ sort1_W) : after sort1 V (Proc.devRef .tc r) = V (Proc.devRef .tc r) :=
  after_of_writes_sub sort1 _ sort1_writes h

/-- Operations 99 to 108 of the program. -/
abbrev mask1 : List (HloOp τ sig (Elt F)) :=
  [ TRef.nullary (TRef.of (T := ⟨S_, .i1⟩) main_call4_c_1) (constantI S_ 1 1#1),
    TRef.unary (TRef.of (T := ⟨S_, .i1⟩) main_call4_c_1) (TRef.of (T := ⟨S400000, .i1⟩) main_call4_v11) (broadcastInDim S400000 ![] bcast_S_S400000),
    TRef.unary (TRef.of (T := ⟨S400000, .i32⟩) main_v23_0) (TRef.of (T := ⟨S399999, .i32⟩) main_call4_v12) (extractStridedSlice S399999 ![1] · slices_S400000_S399999_1),
    TRef.unary (TRef.of (T := ⟨S400000, .i32⟩) main_v23_0) (TRef.of (T := ⟨S399999, .i32⟩) main_call4_v13) (extractStridedSlice S399999 ![0] · slices_S400000_S399999_0),
    TRef.binary (TRef.of (T := ⟨S399999, .i32⟩) main_call4_v12) (TRef.of (T := ⟨S399999, .i32⟩) main_call4_v13) (TRef.of (T := ⟨S399999, .i1⟩) main_call4_v14) (cmpi .ne),
    TRef.nullary (TRef.of (T := ⟨S_, .i1⟩) main_call4_c_2) (constantI S_ 1 0#1),
    TRef.binary (TRef.of (T := ⟨S399999, .i1⟩) main_call4_v14) (TRef.of (T := ⟨S_, .i1⟩) main_call4_c_2) (TRef.of (T := ⟨S399999, .i1⟩) main_call4_v15) (fun x v => Host.reduce IntOp.ori x v reducesTo_S399999_S399999_d h_S_),
    TRef.nullary (TRef.of (T := ⟨S_, .i32⟩) main_call4_c_3) (constantI S_ 32 1#32),
    TRef.unary (TRef.of (T := ⟨S_, .i32⟩) main_call4_c_3) (TRef.of (T := ⟨S1, .i32⟩) main_call4_v16) (broadcastInDim S1 ![] bcast_S_S1),
    TRef.ternary (TRef.of (T := ⟨S400000, .i1⟩) main_call4_v11) (TRef.of (T := ⟨S1, .i32⟩) main_call4_v16) (TRef.of (T := ⟨S399999, .i1⟩) main_call4_v15) (TRef.of (T := ⟨S400000, .i1⟩) main_v23_1) (fun x i u => Host.scatter scatter_S400000_S1_S399999_0_n_0_0 (fun _ b => b) x i u) ]
/-- What they write. -/
abbrev mask1_W : List (Ref sig .tc) := [main_call4_c_1, main_call4_v11, main_call4_v12, main_call4_v13, main_call4_v14, main_call4_c_2, main_call4_v15, main_call4_c_3, main_call4_v16, main_v23_1]
theorem mask1_sub : (mask1 : List (HloOp τ sig (Elt F))).Forall fun op => op.bufs ⊆ tcRefs τ sig :=
  ⟨nullary_bufs_sub .., unary_bufs_sub .., unary_bufs_sub .., unary_bufs_sub .., binary_bufs_sub .., nullary_bufs_sub .., binary_bufs_sub .., nullary_bufs_sub .., unary_bufs_sub .., ternary_bufs_sub ..⟩
theorem mask1_fresh : (mask1 : List (HloOp τ sig (Elt F))).Forall fun op => op.fresh = ∅ :=
  ⟨rfl, rfl, rfl, rfl, rfl, rfl, rfl, rfl, rfl, rfl⟩
theorem mask1_writes : (mask1 : List (HloOp τ sig (Elt F))).Forall fun op => op.writes ⊆ (mask1_W.map (Proc.devRef (τ := τ) .tc)).toFinset :=
  ⟨wsub (nullary_writes ..) (by decide), wsub (unary_writes ..) (by decide), wsub (unary_writes ..) (by decide), wsub (unary_writes ..) (by decide), wsub (binary_writes ..) (by decide), wsub (nullary_writes ..) (by decide), wsub (binary_writes ..) (by decide), wsub (nullary_writes ..) (by decide), wsub (unary_writes ..) (by decide), wsub (ternary_writes ..) (by decide)⟩
/-- A buffer these operations do not write keeps its contents. -/
theorem mask1_keep (V : Valuation τ sig (Elt F)) (r : Ref sig .tc) (h : r ∉ mask1_W) : after mask1 V (Proc.devRef .tc r) = V (Proc.devRef .tc r) :=
  after_of_writes_sub mask1 _ mask1_writes h

/-- Operations 109 to 112 of the program. -/
abbrev cnt1 : List (HloOp τ sig (Elt F)) :=
  [ TRef.unary (TRef.of (T := ⟨S400000, .i1⟩) main_v23_1) (TRef.of (T := ⟨S400000, .i32⟩) main_call5_v0) (extui 32 · natLt_1_32),
    TRef.nullary (TRef.of (T := ⟨S_, .i32⟩) main_call5_call0_c) (constantI S_ 32 0#32),
    TRef.unary (TRef.of (T := ⟨S_, .i32⟩) main_call5_call0_c) (TRef.of (T := ⟨S_, .i32⟩) main_call5_call0_v0) (broadcastInDim S_ ![] bcast_S_S_),
    TRef.binary (TRef.of (T := ⟨S400000, .i32⟩) main_call5_v0) (TRef.of (T := ⟨S_, .i32⟩) main_call5_call0_v0) (TRef.of (T := ⟨S400000, .i32⟩) main_v24) (fun x v => Host.reduceWindow IntOp.addi ![400000] ![1] ![399999] ![0] x v reduceWindows_S400000_S400000_w400000s1p399999_0 h_S_) ]
/-- What they write. -/
abbrev cnt1_W : List (Ref sig .tc) := [main_call5_v0, main_call5_call0_c, main_call5_call0_v0, main_v24]
theorem cnt1_sub : (cnt1 : List (HloOp τ sig (Elt F))).Forall fun op => op.bufs ⊆ tcRefs τ sig :=
  ⟨unary_bufs_sub .., nullary_bufs_sub .., unary_bufs_sub .., binary_bufs_sub ..⟩
theorem cnt1_fresh : (cnt1 : List (HloOp τ sig (Elt F))).Forall fun op => op.fresh = ∅ :=
  ⟨rfl, rfl, rfl, rfl⟩
theorem cnt1_writes : (cnt1 : List (HloOp τ sig (Elt F))).Forall fun op => op.writes ⊆ (cnt1_W.map (Proc.devRef (τ := τ) .tc)).toFinset :=
  ⟨wsub (unary_writes ..) (by decide), wsub (nullary_writes ..) (by decide), wsub (unary_writes ..) (by decide), wsub (binary_writes ..) (by decide)⟩
/-- A buffer these operations do not write keeps its contents. -/
theorem cnt1_keep (V : Valuation τ sig (Elt F)) (r : Ref sig .tc) (h : r ∉ cnt1_W) : after cnt1 V (Proc.devRef .tc r) = V (Proc.devRef .tc r) :=
  after_of_writes_sub cnt1 _ cnt1_writes h

/-- Operations 113 to 128 of the program. -/
abbrev bins1 : List (HloOp τ sig (Elt F)) :=
  [ nullary main_c_7 (constantI S_ 32 0#32),
    unary main_c_7 main_v25 (broadcastInDim S400000 ![] bcast_S_S400000 : (⟨S_, .i32⟩ : BufTy).Contents (Elt F) → (⟨S400000, .i32⟩ : BufTy).Contents (Elt F)),
    nullary main_c_8 (constantI S_ 32 0#32),
    unary main_c_8 main_v26 (broadcastInDim S400000 ![] bcast_S_S400000 : (⟨S_, .i32⟩ : BufTy).Contents (Elt F) → (⟨S400000, .i32⟩ : BufTy).Contents (Elt F)),
    binary main_v24 main_v26 main_v27 (cmpi .slt : (⟨S400000, .i32⟩ : BufTy).Contents (Elt F) → (⟨S400000, .i32⟩ : BufTy).Contents (Elt F) → (⟨S400000, .i1⟩ : BufTy).Contents (Elt F)),
    nullary main_c_9 (constantI S_ 32 400000#32),
    unary main_c_9 main_v28 (broadcastInDim S400000 ![] bcast_S_S400000 : (⟨S_, .i32⟩ : BufTy).Contents (Elt F) → (⟨S400000, .i32⟩ : BufTy).Contents (Elt F)),
    binary main_v24 main_v28 main_v29 (addi : (⟨S400000, .i32⟩ : BufTy).Contents (Elt F) → (⟨S400000, .i32⟩ : BufTy).Contents (Elt F) → (⟨S400000, .i32⟩ : BufTy).Contents (Elt F)),
    ternary main_v27 main_v29 main_v24 main_v30 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v30 main_v31 (broadcastInDim S400000x1 ![0] bcast_S400000_S400000x1_0 : (⟨S400000, .i32⟩ : BufTy).Contents (Elt F) → (⟨S400000x1, .i32⟩ : BufTy).Contents (Elt F)),
    nullary main_c_10 (constantI S_ 32 1#32),
    unary main_c_10 main_v32 (broadcastInDim S400000 ![] bcast_S_S400000 : (⟨S_, .i32⟩ : BufTy).Contents (Elt F) → (⟨S400000, .i32⟩ : BufTy).Contents (Elt F)),
    ternary main_v25 main_v31 main_v32 main_v33 ((fun x i u => Host.scatter scatter_S400000_S400000x1_S400000_n_0_0_1 IntOp.addi x i u) : (⟨S400000, .i32⟩ : BufTy).Contents (Elt F) → (⟨S400000x1, .i32⟩ : BufTy).Contents (Elt F) → (⟨S400000, .i32⟩ : BufTy).Contents (Elt F) → (⟨S400000, .i32⟩ : BufTy).Contents (Elt F)),
    TRef.nullary (TRef.of (T := ⟨S_, .i32⟩) main_call6_call0_c) (constantI S_ 32 0#32),
    TRef.unary (TRef.of (T := ⟨S_, .i32⟩) main_call6_call0_c) (TRef.of (T := ⟨S_, .i32⟩) main_call6_call0_v0) (broadcastInDim S_ ![] bcast_S_S_),
    TRef.binary (TRef.of (T := ⟨S400000, .i32⟩) main_v33) (TRef.of (T := ⟨S_, .i32⟩) main_call6_call0_v0) (TRef.of (T := ⟨S400000, .i32⟩) main_v34) (fun x v => Host.reduceWindow IntOp.addi ![400000] ![1] ![399999] ![0] x v reduceWindows_S400000_S400000_w400000s1p399999_0 h_S_) ]
/-- What they write. -/
abbrev bins1_W : List (Ref sig .tc) := [main_c_7, main_v25, main_c_8, main_v26, main_v27, main_c_9, main_v28, main_v29, main_v30, main_v31, main_c_10, main_v32, main_v33, main_call6_call0_c, main_call6_call0_v0, main_v34]
theorem bins1_sub : (bins1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩
theorem bins1_fresh : (bins1 : List (HloOp τ sig (Elt F))).Forall fun op => op.fresh = ∅ :=
  ⟨rfl, rfl, rfl, rfl, rfl, rfl, rfl, rfl, rfl, rfl, rfl, rfl, rfl, rfl, rfl, rfl⟩
theorem bins1_writes : (bins1 : List (HloOp τ sig (Elt F))).Forall fun op => op.writes ⊆ (bins1_W.map (Proc.devRef (τ := τ) .tc)).toFinset :=
  ⟨wsub (nullary_writes ..) (by decide), wsub (unary_writes ..) (by decide), wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (nullary_writes ..) (by decide), wsub (unary_writes ..) (by decide), wsub (ternary_writes ..) (by decide), wsub (nullary_writes ..) (by decide), wsub (unary_writes ..) (by decide), wsub (binary_writes ..) (by decide)⟩
/-- A buffer these operations do not write keeps its contents. -/
theorem bins1_keep (V : Valuation τ sig (Elt F)) (r : Ref sig .tc) (h : r ∉ bins1_W) : after bins1 V (Proc.devRef .tc r) = V (Proc.devRef .tc r) :=
  after_of_writes_sub bins1 _ bins1_writes h

/-- Operations 129 to 146 of the program. -/
abbrev fd1 : List (HloOp τ sig (Elt F)) :=
  [ nullary main_c_11 (constantI S_ 32 1#32),
    TRef.unary (TRef.of (T := ⟨S_, .i32⟩) main_c_11) (TRef.of (T := ⟨S_, .i32⟩) main_call7_v0) id,
    TRef.unary (TRef.of (T := ⟨S_, .i32⟩) main_call7_v0) (TRef.of (T := ⟨S400000, .i32⟩) main_call7_v1) (broadcastInDim S400000 ![] bcast_S_S400000),
    TRef.binary (TRef.of (T := ⟨S400000, .i32⟩) main_v34) (TRef.of (T := ⟨S400000, .i32⟩) main_call7_v1) (TRef.of (T := ⟨S400000, .i32⟩) main_call7_v2) Host.divsi,
    TRef.unary (TRef.of (T := ⟨S400000, .i32⟩) main_v34) (TRef.of (T := ⟨S400000, .i32⟩) main_call7_v3) signi,
    TRef.unary (TRef.of (T := ⟨S_, .i32⟩) main_call7_v0) (TRef.of (T := ⟨S_, .i32⟩) main_call7_v4) signi,
    TRef.unary (TRef.of (T := ⟨S_, .i32⟩) main_call7_v4) (TRef.of (T := ⟨S400000, .i32⟩) main_call7_v5) (broadcastInDim S400000 ![] bcast_S_S400000),
    TRef.binary (TRef.of (T := ⟨S400000, .i32⟩) main_call7_v3) (TRef.of (T := ⟨S400000, .i32⟩) main_call7_v5) (TRef.of (T := ⟨S400000, .i1⟩) main_call7_v6) (cmpi .ne),
    TRef.unary (TRef.of (T := ⟨S_, .i32⟩) main_call7_v0) (TRef.of (T := ⟨S400000, .i32⟩) main_call7_v7) (broadcastInDim S400000 ![] bcast_S_S400000),
    TRef.binary (TRef.of (T := ⟨S400000, .i32⟩) main_v34) (TRef.of (T := ⟨S400000, .i32⟩) main_call7_v7) (TRef.of (T := ⟨S400000, .i32⟩) main_call7_v8) Host.remsi,
    TRef.nullary (TRef.of (T := ⟨S_, .i32⟩) main_call7_c) (constantI S_ 32 0#32),
    TRef.unary (TRef.of (T := ⟨S_, .i32⟩) main_call7_c) (TRef.of (T := ⟨S400000, .i32⟩) main_call7_v9) (broadcastInDim S400000 ![] bcast_S_S400000),
    TRef.binary (TRef.of (T := ⟨S400000, .i32⟩) main_call7_v8) (TRef.of (T := ⟨S400000, .i32⟩) main_call7_v9) (TRef.of (T := ⟨S400000, .i1⟩) main_call7_v10) (cmpi .ne),
    TRef.binary (TRef.of (T := ⟨S400000, .i1⟩) main_call7_v6) (TRef.of (T := ⟨S400000, .i1⟩) main_call7_v10) (TRef.of (T := ⟨S400000, .i1⟩) main_call7_v11) andi,
    TRef.nullary (TRef.of (T := ⟨S_, .i32⟩) main_call7_c_0) (constantI S_ 32 1#32),
    TRef.unary (TRef.of (T := ⟨S_, .i32⟩) main_call7_c_0) (TRef.of (T := ⟨S400000, .i32⟩) main_call7_v12) (broadcastInDim S400000 ![] bcast_S_S400000),
    TRef.binary (TRef.of (T := ⟨S400000, .i32⟩) main_call7_v2) (TRef.of (T := ⟨S400000, .i32⟩) main_call7_v12) (TRef.of (T := ⟨S400000, .i32⟩) main_call7_v13) subi,
    TRef.ternary (TRef.of (T := ⟨S400000, .i1⟩) main_call7_v11) (TRef.of (T := ⟨S400000, .i32⟩) main_call7_v13) (TRef.of (T := ⟨S400000, .i32⟩) main_call7_v2) (TRef.of (T := ⟨S400000, .i32⟩) main_v35) select ]
/-- What they write. -/
abbrev fd1_W : List (Ref sig .tc) := [main_c_11, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v35]
theorem fd1_sub : (fd1 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem fd1_fresh : (fd1 : List (HloOp τ sig (Elt F))).Forall fun op => op.fresh = ∅ :=
  ⟨rfl, rfl, rfl, rfl, rfl, rfl, rfl, rfl, rfl, rfl, rfl, rfl, rfl, rfl, rfl, rfl, rfl, rfl⟩
theorem fd1_writes : (fd1 : List (HloOp τ sig (Elt F))).Forall fun op => op.writes ⊆ (fd1_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem fd1_keep (V : Valuation τ sig (Elt F)) (r : Ref sig .tc) (h : r ∉ fd1_W) : after fd1 V (Proc.devRef .tc r) = V (Proc.devRef .tc r) :=
  after_of_writes_sub fd1 _ fd1_writes h

/-- Operations 147 to 168 of the program. -/
abbrev fm1 : List (HloOp τ sig (Elt F)) :=
  [ nullary main_c_12 (constantI S_ 32 400000#32),
    TRef.unary (TRef.of (T := ⟨S_, .i32⟩) main_c_12) (TRef.of (T := ⟨S_, .i32⟩) main_call8_v0) id,
    TRef.nullary (TRef.of (T := ⟨S_, .i32⟩) main_call8_c) (constantI S_ 32 0#32),
    TRef.binary (TRef.of (T := ⟨S_, .i32⟩) main_call8_v0) (TRef.of (T := ⟨S_, .i32⟩) main_call8_c) (TRef.of (T := ⟨S_, .i1⟩) main_call8_v1) (cmpi .eq),
    TRef.nullary (TRef.of (T := ⟨S_, .i32⟩) main_call8_c_0) (constantI S_ 32 1#32),
    TRef.ternary (TRef.of (T := ⟨S_, .i1⟩) main_call8_v1) (TRef.of (T := ⟨S_, .i32⟩) main_call8_c_0) (TRef.of (T := ⟨S_, .i32⟩) main_call8_v0) (TRef.of (T := ⟨S_, .i32⟩) main_call8_v2) select,
    TRef.unary (TRef.of (T := ⟨S_, .i32⟩) main_call8_v2) (TRef.of (T := ⟨S400000, .i32⟩) main_call8_v3) (broadcastInDim S400000 ![] bcast_S_S400000),
    TRef.binary (TRef.of (T := ⟨S400000, .i32⟩) main_v35) (TRef.of (T := ⟨S400000, .i32⟩) main_call8_v3) (TRef.of (T := ⟨S400000, .i32⟩) main_call8_v4) Host.remsi,
    TRef.nullary (TRef.of (T := ⟨S_, .i32⟩) main_call8_c_1) (constantI S_ 32 0#32),
    TRef.unary (TRef.of (T := ⟨S_, .i32⟩) main_call8_c_1) (TRef.of (T := ⟨S400000, .i32⟩) main_call8_v5) (broadcastInDim S400000 ![] bcast_S_S400000),
    TRef.binary (TRef.of (T := ⟨S400000, .i32⟩) main_call8_v4) (TRef.of (T := ⟨S400000, .i32⟩) main_call8_v5) (TRef.of (T := ⟨S400000, .i1⟩) main_call8_v6) (cmpi .ne),
    TRef.nullary (TRef.of (T := ⟨S_, .i32⟩) main_call8_c_2) (constantI S_ 32 0#32),
    TRef.unary (TRef.of (T := ⟨S_, .i32⟩) main_call8_c_2) (TRef.of (T := ⟨S400000, .i32⟩) main_call8_v7) (broadcastInDim S400000 ![] bcast_S_S400000),
    TRef.binary (TRef.of (T := ⟨S400000, .i32⟩) main_call8_v4) (TRef.of (T := ⟨S400000, .i32⟩) main_call8_v7) (TRef.of (T := ⟨S400000, .i1⟩) main_call8_v8) (cmpi .slt),
    TRef.nullary (TRef.of (T := ⟨S_, .i32⟩) main_call8_c_3) (constantI S_ 32 0#32),
    TRef.binary (TRef.of (T := ⟨S_, .i32⟩) main_call8_v2) (TRef.of (T := ⟨S_, .i32⟩) main_call8_c_3) (TRef.of (T := ⟨S_, .i1⟩) main_call8_v9) (cmpi .slt),
    TRef.unary (TRef.of (T := ⟨S_, .i1⟩) main_call8_v9) (TRef.of (T := ⟨S400000, .i1⟩) main_call8_v10) (broadcastInDim S400000 ![] bcast_S_S400000),
    TRef.binary (TRef.of (T := ⟨S400000, .i1⟩) main_call8_v8) (TRef.of (T := ⟨S400000, .i1⟩) main_call8_v10) (TRef.of (T := ⟨S400000, .i1⟩) main_call8_v11) (cmpi .ne),
    TRef.binary (TRef.of (T := ⟨S400000, .i1⟩) main_call8_v11) (TRef.of (T := ⟨S400000, .i1⟩) main_call8_v6) (TRef.of (T := ⟨S400000, .i1⟩) main_call8_v12) andi,
    TRef.unary (TRef.of (T := ⟨S_, .i32⟩) main_call8_v2) (TRef.of (T := ⟨S400000, .i32⟩) main_call8_v13) (broadcastInDim S400000 ![] bcast_S_S400000),
    TRef.binary (TRef.of (T := ⟨S400000, .i32⟩) main_call8_v4) (TRef.of (T := ⟨S400000, .i32⟩) main_call8_v13) (TRef.of (T := ⟨S400000, .i32⟩) main_call8_v14) addi,
    TRef.ternary (TRef.of (T := ⟨S400000, .i1⟩) main_call8_v12) (TRef.of (T := ⟨S400000, .i32⟩) main_call8_v14) (TRef.of (T := ⟨S400000, .i32⟩) main_call8_v4) (TRef.of (T := ⟨S400000, .i32⟩) main_v36) select ]
/-- What they write. -/
abbrev fm1_W : List (Ref sig .tc) := [main_c_12, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v36]
theorem fm1_sub : (fm1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem fm1_fresh : (fm1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem fm1_writes : (fm1 : List (HloOp τ sig (Elt F))).Forall fun op => op.writes ⊆ (fm1_W.map (Proc.devRef (τ := τ) .tc)).toFinset :=
  ⟨wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem fm1_keep (V : Valuation τ sig (Elt F)) (r : Ref sig .tc) (h : r ∉ fm1_W) : after fm1 V (Proc.devRef .tc r) = V (Proc.devRef .tc r) :=
  after_of_writes_sub fm1 _ fm1_writes h

/-- Operations 169 to 179 of the program. -/
abbrev pos1 : List (HloOp τ sig (Elt F)) :=
  [ unary main_v23_1 main_v37 ((extui 32 · natLt_1_32) : (⟨S400000, .i1⟩ : BufTy).Contents (Elt F) → (⟨S400000, .i32⟩ : BufTy).Contents (Elt F)),
    nullary main_c_13 (constantI S_ 32 0#32),
    binary main_v37 main_c_13 main_v38 ((fun x v => Host.reduce IntOp.addi x v reducesTo_S400000_S_d0 h_S_) : (⟨S400000, .i32⟩ : BufTy).Contents (Elt F) → (⟨S_, .i32⟩ : BufTy).Contents (Elt F) → (⟨S_, .i32⟩ : BufTy).Contents (Elt F)),
    unary main_v38 main_v39 (broadcastInDim S1 ![] bcast_S_S1 : (⟨S_, .i32⟩ : BufTy).Contents (Elt F) → (⟨S1, .i32⟩ : BufTy).Contents (Elt F)),
    nullary main_v40 (iotaInDim S400000 32 0),
    unary main_v39 main_v41 (broadcastInDim S400000 ![0] bcast_S1_S400000_0 : (⟨S1, .i32⟩ : BufTy).Contents (Elt F) → (⟨S400000, .i32⟩ : BufTy).Contents (Elt F)),
    binary main_v40 main_v41 main_v42 (cmpi .sge : (⟨S400000, .i32⟩ : BufTy).Contents (Elt F) → (⟨S400000, .i32⟩ : BufTy).Contents (Elt F) → (⟨S400000, .i1⟩ : BufTy).Contents (Elt F)),
    nullary main_c_14 (constantI S_ 32 0#32),
    TRef.unary (TRef.of (T := ⟨S_, .i32⟩) main_c_14) (TRef.of (T := ⟨S_, .i32⟩) main_call9_v0) id,
    TRef.unary (TRef.of (T := ⟨S_, .i32⟩) main_call9_v0) (TRef.of (T := ⟨S400000, .i32⟩) main_call9_v1) (broadcastInDim S400000 ![] bcast_S_S400000),
    TRef.ternary (TRef.of (T := ⟨S400000, .i1⟩) main_v42) (TRef.of (T := ⟨S400000, .i32⟩) main_call9_v1) (TRef.of (T := ⟨S400000, .i32⟩) main_v36) (TRef.of (T := ⟨S400000, .i32⟩) main_v43) select ]
/-- What they write. -/
abbrev pos1_W : List (Ref sig .tc) := [main_v37, main_c_13, main_v38, main_v39, main_v40, main_v41, main_v42, main_c_14, main_call9_v0, main_call9_v1, main_v43]
theorem pos1_sub : (pos1 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub .., unary_bufs_sub .., unary_bufs_sub .., ternary_bufs_sub ..⟩
theorem pos1_fresh : (pos1 : List (HloOp τ sig (Elt F))).Forall fun op => op.fresh = ∅ :=
  ⟨rfl, rfl, rfl, rfl, rfl, rfl, rfl, rfl, rfl, rfl, rfl⟩
theorem pos1_writes : (pos1 : List (HloOp τ sig (Elt F))).Forall fun op => op.writes ⊆ (pos1_W.map (Proc.devRef (τ := τ) .tc)).toFinset :=
  ⟨wsub (unary_writes ..) (by decide), wsub (nullary_writes ..) (by decide), wsub (binary_writes ..) (by decide), wsub (unary_writes ..) (by decide), wsub (nullary_writes ..) (by decide), wsub (unary_writes ..) (by decide), wsub (binary_writes ..) (by decide), wsub (nullary_writes ..) (by decide), wsub (unary_writes ..) (by decide), wsub (unary_writes ..) (by decide), wsub (ternary_writes ..) (by decide)⟩
/-- A buffer these operations do not write keeps its contents. -/
theorem pos1_keep (V : Valuation τ sig (Elt F)) (r : Ref sig .tc) (h : r ∉ pos1_W) : after pos1 V (Proc.devRef .tc r) = V (Proc.devRef .tc r) :=
  after_of_writes_sub pos1 _ pos1_writes h

/-- Operations 180 to 197 of the program. -/
abbrev uniq1 : List (HloOp τ sig (Elt F)) :=
  [ nullary main_c_15 (constantI S_ 32 0#32),
    unary main_c_15 main_v44 (broadcastInDim S400000 ![] bcast_S_S400000 : (⟨S_, .i32⟩ : BufTy).Contents (Elt F) → (⟨S400000, .i32⟩ : BufTy).Contents (Elt F)),
    binary main_v43 main_v44 main_v45 (cmpi .slt : (⟨S400000, .i32⟩ : BufTy).Contents (Elt F) → (⟨S400000, .i32⟩ : BufTy).Contents (Elt F) → (⟨S400000, .i1⟩ : BufTy).Contents (Elt F)),
    nullary main_c_16 (constantI S_ 32 400000#32),
    unary main_c_16 main_v46 (broadcastInDim S400000 ![] bcast_S_S400000 : (⟨S_, .i32⟩ : BufTy).Contents (Elt F) → (⟨S400000, .i32⟩ : BufTy).Contents (Elt F)),
    binary main_v43 main_v46 main_v47 (addi : (⟨S400000, .i32⟩ : BufTy).Contents (Elt F) → (⟨S400000, .i32⟩ : BufTy).Contents (Elt F) → (⟨S400000, .i32⟩ : BufTy).Contents (Elt F)),
    ternary main_v45 main_v47 main_v43 main_v48 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v48 main_v49 (broadcastInDim S400000x1 ![0] bcast_S400000_S400000x1_0 : (⟨S400000, .i32⟩ : BufTy).Contents (Elt F) → (⟨S400000x1, .i32⟩ : BufTy).Contents (Elt F)),
    binary main_v23_0 main_v49 main_v50 ((fun x i => Host.gather gather_S400000_S400000x1_S400000_n_0_n_n_0_1_1 x i) : (⟨S400000, .i32⟩ : BufTy).Contents (Elt F) → (⟨S400000x1, .i32⟩ : BufTy).Contents (Elt F) → (⟨S400000, .i32⟩ : BufTy).Contents (Elt F)),
    nullary main_v51 (iotaInDim S400000 32 0),
    unary main_v23_1 main_v52 ((extui 32 · natLt_1_32) : (⟨S400000, .i1⟩ : BufTy).Contents (Elt F) → (⟨S400000, .i32⟩ : BufTy).Contents (Elt F)),
    nullary main_c_17 (constantI S_ 32 0#32),
    binary main_v52 main_c_17 main_v53 ((fun x v => Host.reduce IntOp.addi x v reducesTo_S400000_S_d0 h_S_) : (⟨S400000, .i32⟩ : BufTy).Contents (Elt F) → (⟨S_, .i32⟩ : BufTy).Contents (Elt F) → (⟨S_, .i32⟩ : BufTy).Contents (Elt F)),
    unary main_v53 main_v54 (broadcastInDim S400000 ![] bcast_S_S400000 : (⟨S_, .i32⟩ : BufTy).Contents (Elt F) → (⟨S400000, .i32⟩ : BufTy).Contents (Elt F)),
    binary main_v51 main_v54 main_v55 (cmpi .slt : (⟨S400000, .i32⟩ : BufTy).Contents (Elt F) → (⟨S400000, .i32⟩ : BufTy).Contents (Elt F) → (⟨S400000, .i1⟩ : BufTy).Contents (Elt F)),
    nullary main_c_18 (constantI S_ 32 4294967295#32),
    TRef.unary (TRef.of (T := ⟨S_, .i32⟩) main_c_18) (TRef.of (T := ⟨S400000, .i32⟩) main_call10_v0) (broadcastInDim S400000 ![] bcast_S_S400000),
    TRef.ternary (TRef.of (T := ⟨S400000, .i1⟩) main_v55) (TRef.of (T := ⟨S400000, .i32⟩) main_v50) (TRef.of (T := ⟨S400000, .i32⟩) main_call10_v0) (TRef.of (T := ⟨S400000, .i32⟩) main_v56) select ]
/-- What they write. -/
abbrev uniq1_W : List (Ref sig .tc) := [main_c_15, main_v44, main_v45, main_c_16, main_v46, main_v47, main_v48, main_v49, main_v50, main_v51, main_v52, main_c_17, main_v53, main_v54, main_v55, main_c_18, main_call10_v0, main_v56]
theorem uniq1_sub : (uniq1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., binary_bufs_sub .., unary_bufs_sub .., binary_bufs_sub .., nullary_bufs_sub .., unary_bufs_sub .., ternary_bufs_sub ..⟩
theorem uniq1_fresh : (uniq1 : List (HloOp τ sig (Elt F))).Forall fun op => op.fresh = ∅ :=
  ⟨rfl, rfl, rfl, rfl, rfl, rfl, rfl, rfl, rfl, rfl, rfl, rfl, rfl, rfl, rfl, rfl, rfl, rfl⟩
theorem uniq1_writes : (uniq1 : List (HloOp τ sig (Elt F))).Forall fun op => op.writes ⊆ (uniq1_W.map (Proc.devRef (τ := τ) .tc)).toFinset :=
  ⟨wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (binary_writes ..) (by decide), wsub (nullary_writes ..) (by decide), wsub (unary_writes ..) (by decide), wsub (nullary_writes ..) (by decide), wsub (binary_writes ..) (by decide), wsub (unary_writes ..) (by decide), wsub (binary_writes ..) (by decide), wsub (nullary_writes ..) (by decide), wsub (unary_writes ..) (by decide), wsub (ternary_writes ..) (by decide)⟩
/-- A buffer these operations do not write keeps its contents. -/
theorem uniq1_keep (V : Valuation τ sig (Elt F)) (r : Ref sig .tc) (h : r ∉ uniq1_W) : after uniq1 V (Proc.devRef .tc r) = V (Proc.devRef .tc r) :=
  after_of_writes_sub uniq1 _ uniq1_writes h

/-- Operations 198 to 215 of the program. -/
abbrev inv1 : List (HloOp τ sig (Elt F)) :=
  [ TRef.unary (TRef.of (T := ⟨S400000, .i1⟩) main_v23_1) (TRef.of (T := ⟨S400000, .i32⟩) main_call11_v0) (extui 32 · natLt_1_32),
    TRef.nullary (TRef.of (T := ⟨S_, .i32⟩) main_call11_call0_c) (constantI S_ 32 0#32),
    TRef.unary (TRef.of (T := ⟨S_, .i32⟩) main_call11_call0_c) (TRef.of (T := ⟨S_, .i32⟩) main_call11_call0_v0) (broadcastInDim S_ ![] bcast_S_S_),
    TRef.binary (TRef.of (T := ⟨S400000, .i32⟩) main_call11_v0) (TRef.of (T := ⟨S_, .i32⟩) main_call11_call0_v0) (TRef.of (T := ⟨S400000, .i32⟩) main_v57) (fun x v => Host.reduceWindow IntOp.addi ![400000] ![1] ![399999] ![0] x v reduceWindows_S400000_S400000_w400000s1p399999_0 h_S_),
    nullary main_c_19 (constantI S_ 32 1#32),
    unary main_c_19 main_v58 (broadcastInDim S400000 ![] bcast_S_S400000 : (⟨S_, .i32⟩ : BufTy).Contents (Elt F) → (⟨S400000, .i32⟩ : BufTy).Contents (Elt F)),
    binary main_v57 main_v58 main_v59 (subi : (⟨S400000, .i32⟩ : BufTy).Contents (Elt F) → (⟨S400000, .i32⟩ : BufTy).Contents (Elt F) → (⟨S400000, .i32⟩ : BufTy).Contents (Elt F)),
    nullary main_c_20 (constantI S_ 32 0#32),
    unary main_c_20 main_v60 (broadcastInDim S400000 ![] bcast_S_S400000 : (⟨S_, .i32⟩ : BufTy).Contents (Elt F) → (⟨S400000, .i32⟩ : BufTy).Contents (Elt F)),
    nullary main_c_21 (constantI S_ 32 0#32),
    unary main_c_21 main_v61 (broadcastInDim S400000 ![] bcast_S_S400000 : (⟨S_, .i32⟩ : BufTy).Contents (Elt F) → (⟨S400000, .i32⟩ : BufTy).Contents (Elt F)),
    binary main_v23_2 main_v61 main_v62 (cmpi .slt : (⟨S400000, .i32⟩ : BufTy).Contents (Elt F) → (⟨S400000, .i32⟩ : BufTy).Contents (Elt F) → (⟨S400000, .i1⟩ : BufTy).Contents (Elt F)),
    nullary main_c_22 (constantI S_ 32 400000#32),
    unary main_c_22 main_v63 (broadcastInDim S400000 ![] bcast_S_S400000 : (⟨S_, .i32⟩ : BufTy).Contents (Elt F) → (⟨S400000, .i32⟩ : BufTy).Contents (Elt F)),
    binary main_v23_2 main_v63 main_v64 (addi : (⟨S400000, .i32⟩ : BufTy).Contents (Elt F) → (⟨S400000, .i32⟩ : BufTy).Contents (Elt F) → (⟨S400000, .i32⟩ : BufTy).Contents (Elt F)),
    ternary main_v62 main_v64 main_v23_2 main_v65 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v65 main_v66 (broadcastInDim S400000x1 ![0] bcast_S400000_S400000x1_0 : (⟨S400000, .i32⟩ : BufTy).Contents (Elt F) → (⟨S400000x1, .i32⟩ : BufTy).Contents (Elt F)),
    ternary main_v60 main_v66 main_v59 main_v67 ((fun x i u => Host.scatter scatter_S400000_S400000x1_S400000_n_0_0_1 (fun _ b => b) x i u) : (⟨S400000, .i32⟩ : BufTy).Contents (Elt F) → (⟨S400000x1, .i32⟩ : BufTy).Contents (Elt F) → (⟨S400000, .i32⟩ : BufTy).Contents (Elt F) → (⟨S400000, .i32⟩ : BufTy).Contents (Elt F)) ]
/-- What they write. -/
abbrev inv1_W : List (Ref sig .tc) := [main_call11_v0, main_call11_call0_c, main_call11_call0_v0, main_v57, main_c_19, main_v58, main_v59, main_c_20, main_v60, main_c_21, main_v61, main_v62, main_c_22, main_v63, main_v64, main_v65, main_v66, main_v67]
theorem inv1_sub : (inv1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem inv1_fresh : (inv1 : List (HloOp τ sig (Elt F))).Forall fun op => op.fresh = ∅ :=
  ⟨rfl, rfl, rfl, rfl, rfl, rfl, rfl, rfl, rfl, rfl, rfl, rfl, rfl, rfl, rfl, rfl, rfl, rfl⟩
theorem inv1_writes : (inv1 : List (HloOp τ sig (Elt F))).Forall fun op => op.writes ⊆ (inv1_W.map (Proc.devRef (τ := τ) .tc)).toFinset :=
  ⟨wsub (unary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (ternary_writes ..) (by decide)⟩
/-- A buffer these operations do not write keeps its contents. -/
theorem inv1_keep (V : Valuation τ sig (Elt F)) (r : Ref sig .tc) (h : r ∉ inv1_W) : after inv1 V (Proc.devRef .tc r) = V (Proc.devRef .tc r) :=
  after_of_writes_sub inv1 _ inv1_writes h

/-- Operations 216 to 229 of the program. -/
abbrev pool1 : List (HloOp τ sig (Elt F)) :=
  [ unary main_v67 main_v68 (broadcastInDim S1x400000x1 ![1] bcast_S400000_S1x400000x1_1 : (⟨S400000, .i32⟩ : BufTy).Contents (Elt F) → (⟨S1x400000x1, .i32⟩ : BufTy).Contents (Elt F)),
    nullary main_v69 (iotaInDim S400000x1x1 32 0),
    unary main_v68 main_v70 (broadcastInDim S400000x400000x1 ![0, 1, 2] bcast_S1x400000x1_S400000x400000x1_0_1_2 : (⟨S1x400000x1, .i32⟩ : BufTy).Contents (Elt F) → (⟨S400000x400000x1, .i32⟩ : BufTy).Contents (Elt F)),
    unary main_v69 main_v71 (broadcastInDim S400000x400000x1 ![0, 1, 2] bcast_S400000x1x1_S400000x400000x1_0_1_2 : (⟨S400000x1x1, .i32⟩ : BufTy).Contents (Elt F) → (⟨S400000x400000x1, .i32⟩ : BufTy).Contents (Elt F)),
    binary main_v70 main_v71 main_v72 (cmpi .eq : (⟨S400000x400000x1, .i32⟩ : BufTy).Contents (Elt F) → (⟨S400000x400000x1, .i32⟩ : BufTy).Contents (Elt F) → (⟨S400000x400000x1, .i1⟩ : BufTy).Contents (Elt F)),
    unary main_arg0 main_v73 (broadcastInDim S1x400000x32 ![1, 2] bcast_S400000x32_S1x400000x32_1_2 : (⟨S400000x32, .f32⟩ : BufTy).Contents (Elt F) → (⟨S1x400000x32, .f32⟩ : BufTy).Contents (Elt F)),
    nullary main_cst (constant S_ .f32 0xFF800000#32),
    TRef.unary (TRef.of (T := ⟨S_, .f32⟩) main_cst) (TRef.of (T := ⟨S_, .f32⟩) main_call12_v0) id,
    TRef.unary (TRef.of (T := ⟨S400000x400000x1, .i1⟩) main_v72) (TRef.of (T := ⟨S400000x400000x32, .i1⟩) main_call12_v1) (broadcastInDim S400000x400000x32 ![0, 1, 2] bcast_S400000x400000x1_S400000x400000x32_0_1_2),
    TRef.unary (TRef.of (T := ⟨S1x400000x32, .f32⟩) main_v73) (TRef.of (T := ⟨S400000x400000x32, .f32⟩) main_call12_v2) (broadcastInDim S400000x400000x32 ![0, 1, 2] bcast_S1x400000x32_S400000x400000x32_0_1_2),
    TRef.unary (TRef.of (T := ⟨S_, .f32⟩) main_call12_v0) (TRef.of (T := ⟨S400000x400000x32, .f32⟩) main_call12_v3) (broadcastInDim S400000x400000x32 ![] bcast_S_S400000x400000x32),
    TRef.ternary (TRef.of (T := ⟨S400000x400000x32, .i1⟩) main_call12_v1) (TRef.of (T := ⟨S400000x400000x32, .f32⟩) main_call12_v2) (TRef.of (T := ⟨S400000x400000x32, .f32⟩) main_call12_v3) (TRef.of (T := ⟨S400000x400000x32, .f32⟩) main_v74) select,
    nullary main_cst_23 (constant S_ .f32 0xFF800000#32),
    binary main_v74 main_cst_23 main_v75 ((fun x v => Host.reduce FloatOps.maximumf x v reducesTo_S400000x400000x32_S400000x32_d1 h_S_) : (⟨S400000x400000x32, .f32⟩ : BufTy).Contents (Elt F) → (⟨S_, .f32⟩ : BufTy).Contents (Elt F) → (⟨S400000x32, .f32⟩ : BufTy).Contents (Elt F)) ]
/-- What they write. -/
abbrev pool1_W : List (Ref sig .tc) := [main_v68, main_v69, main_v70, main_v71, main_v72, main_v73, main_cst, main_call12_v0, main_call12_v1, main_call12_v2, main_call12_v3, main_v74, main_cst_23, main_v75]
theorem pool1_sub : (pool1 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., unary_bufs_sub .., unary_bufs_sub .., ternary_bufs_sub .., nullary_bufs_sub .., binary_bufs_sub ..⟩
theorem pool1_fresh : (pool1 : List (HloOp τ sig (Elt F))).Forall fun op => op.fresh = ∅ :=
  ⟨rfl, rfl, rfl, rfl, rfl, rfl, rfl, rfl, rfl, rfl, rfl, rfl, rfl, rfl⟩
theorem pool1_writes : (pool1 : List (HloOp τ sig (Elt F))).Forall fun op => op.writes ⊆ (pool1_W.map (Proc.devRef (τ := τ) .tc)).toFinset :=
  ⟨wsub (unary_writes ..) (by decide), wsub (nullary_writes ..) (by decide), wsub (unary_writes ..) (by decide), wsub (unary_writes ..) (by decide), wsub (binary_writes ..) (by decide), wsub (unary_writes ..) (by decide), wsub (nullary_writes ..) (by decide), wsub (unary_writes ..) (by decide), wsub (unary_writes ..) (by decide), wsub (unary_writes ..) (by decide), wsub (unary_writes ..) (by decide), wsub (ternary_writes ..) (by decide), wsub (nullary_writes ..) (by decide), wsub (binary_writes ..) (by decide)⟩
/-- A buffer these operations do not write keeps its contents. -/
theorem pool1_keep (V : Valuation τ sig (Elt F)) (r : Ref sig .tc) (h : r ∉ pool1_W) : after pool1 V (Proc.devRef .tc r) = V (Proc.devRef .tc r) :=
  after_of_writes_sub pool1 _ pool1_writes h

/-- Operations 230 to 238 of the program. -/
abbrev res1 : List (HloOp τ sig (Elt F)) :=
  [ nullary main_c_24 (constantI S_ 32 0#32),
    unary main_c_24 main_v76 (broadcastInDim S400000 ![] bcast_S_S400000 : (⟨S_, .i32⟩ : BufTy).Contents (Elt F) → (⟨S400000, .i32⟩ : BufTy).Contents (Elt F)),
    binary main_v56 main_v76 main_v77 (cmpi .sge : (⟨S400000, .i32⟩ : BufTy).Contents (Elt F) → (⟨S400000, .i32⟩ : BufTy).Contents (Elt F) → (⟨S400000, .i1⟩ : BufTy).Contents (Elt F)),
    unary main_v77 main_v78 (broadcastInDim S400000x1 ![0] bcast_S400000_S400000x1_0 : (⟨S400000, .i1⟩ : BufTy).Contents (Elt F) → (⟨S400000x1, .i1⟩ : BufTy).Contents (Elt F)),
    nullary main_cst_25 (constant S_ .f32 0x00000000#32),
    TRef.unary (TRef.of (T := ⟨S_, .f32⟩) main_cst_25) (TRef.of (T := ⟨S_, .f32⟩) main_call13_v0) id,
    TRef.unary (TRef.of (T := ⟨S400000x1, .i1⟩) main_v78) (TRef.of (T := ⟨S400000x32, .i1⟩) main_call13_v1) (broadcastInDim S400000x32 ![0, 1] bcast_S400000x1_S400000x32_0_1),
    TRef.unary (TRef.of (T := ⟨S_, .f32⟩) main_call13_v0) (TRef.of (T := ⟨S400000x32, .f32⟩) main_call13_v2) (broadcastInDim S400000x32 ![] bcast_S_S400000x32),
    TRef.ternary (TRef.of (T := ⟨S400000x32, .i1⟩) main_call13_v1) (TRef.of (T := ⟨S400000x32, .f32⟩) main_v75) (TRef.of (T := ⟨S400000x32, .f32⟩) main_call13_v2) (TRef.of (T := ⟨S400000x32, .f32⟩) main_v79) select ]
/-- What they write. -/
abbrev res1_W : List (Ref sig .tc) := [main_c_24, main_v76, main_v77, main_v78, main_cst_25, main_call13_v0, main_call13_v1, main_call13_v2, main_v79]
theorem res1_sub : (res1 : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., unary_bufs_sub .., ternary_bufs_sub ..⟩
theorem res1_fresh : (res1 : List (HloOp τ sig (Elt F))).Forall fun op => op.fresh = ∅ :=
  ⟨rfl, rfl, rfl, rfl, rfl, rfl, rfl, rfl, rfl⟩
theorem res1_writes : (res1 : List (HloOp τ sig (Elt F))).Forall fun op => op.writes ⊆ (res1_W.map (Proc.devRef (τ := τ) .tc)).toFinset :=
  ⟨wsub (nullary_writes ..) (by decide), wsub (unary_writes ..) (by decide), wsub (binary_writes ..) (by decide), wsub (unary_writes ..) (by decide), wsub (nullary_writes ..) (by decide), wsub (unary_writes ..) (by decide), wsub (unary_writes ..) (by decide), wsub (unary_writes ..) (by decide), wsub (ternary_writes ..) (by decide)⟩
/-- A buffer these operations do not write keeps its contents. -/
theorem res1_keep (V : Valuation τ sig (Elt F)) (r : Ref sig .tc) (h : r ∉ res1_W) : after res1 V (Proc.devRef .tc r) = V (Proc.devRef .tc r) :=
  after_of_writes_sub res1 _ res1_writes h

end Cert.Proof.ReferenceIdeal

end
-- ==== Proof.Ref.Ops2.lean ====
/- The reference program's host operations in stages: the coordinates between the layers and the second layer. -/
module

public import proofs.«01_k».proof.Proof.Ref.Ops1
public import Idealize.ShloMosaic.Lib.StableHlo.Run
public import Idealize.ShloMosaic.Lib.Pipeline.Frame

@[expose] public section

set_option maxRecDepth 16384

noncomputable section

namespace Cert.Proof.ReferenceIdeal

open Cert.ReferenceIdeal Cert.ReferenceIdeal.Gen Idealize.ShloMosaic Idealize.ShloMosaic.TcCoe Idealize.SL.Sem Idealize.ShloMosaic.StableHlo

variable {F : FTy → Type} [FloatOps F]
/-- Four columns side by side. -/
def stack4 : (⟨S400000x1, .i32⟩ : BufTy).Contents (Elt F) → (⟨S400000x1, .i32⟩ : BufTy).Contents (Elt F) → (⟨S400000x1, .i32⟩ : BufTy).Contents (Elt F) → (⟨S400000x1, .i32⟩ : BufTy).Contents (Elt F) → (⟨S400000x4, .i32⟩ : BufTy).Contents (Elt F) :=
  (fun u0 u1 u2 u3 => (concatenate S400000x4 1 [⟨S400000x1, (u0 : (⟨S400000x1, .i32⟩ : BufTy).Contents (Elt F))⟩, ⟨S400000x1, (u1 : (⟨S400000x1, .i32⟩ : BufTy).Contents (Elt F))⟩, ⟨S400000x1, (u2 : (⟨S400000x1, .i32⟩ : BufTy).Contents (Elt F))⟩, ⟨S400000x1, (u3 : (⟨S400000x1, .i32⟩ : BufTy).Contents (Elt F))⟩] concatenates_S400000x1_S400000x1_S400000x1_S400000x1_S400000x4_d1 : (⟨S400000x4, .i32⟩ : BufTy).Contents (Elt F)))

/-- Operations 239 to 256 of the program. -/
abbrev dec1 : List (HloOp τ sig (Elt F)) :=
  [ nullary main_c_26 (constantI S_ 32 8000#32),
    TRef.unary (TRef.of (T := ⟨S_, .i32⟩) main_c_26) (TRef.of (T := ⟨S_, .i32⟩) main_call14_v0) id,
    TRef.unary (TRef.of (T := ⟨S_, .i32⟩) main_call14_v0) (TRef.of (T := ⟨S400000, .i32⟩) main_call14_v1) (broadcastInDim S400000 ![] bcast_S_S400000),
    TRef.binary (TRef.of (T := ⟨S400000, .i32⟩) main_v56) (TRef.of (T := ⟨S400000, .i32⟩) main_call14_v1) (TRef.of (T := ⟨S400000, .i32⟩) main_call14_v2) Host.divsi,
    TRef.unary (TRef.of (T := ⟨S400000, .i32⟩) main_v56) (TRef.of (T := ⟨S400000, .i32⟩) main_call14_v3) signi,
    TRef.unary (TRef.of (T := ⟨S_, .i32⟩) main_call14_v0) (TRef.of (T := ⟨S_, .i32⟩) main_call14_v4) signi,
    TRef.unary (TRef.of (T := ⟨S_, .i32⟩) main_call14_v4) (TRef.of (T := ⟨S400000, .i32⟩) main_call14_v5) (broadcastInDim S400000 ![] bcast_S_S400000),
    TRef.binary (TRef.of (T := ⟨S400000, .i32⟩) main_call14_v3) (TRef.of (T := ⟨S400000, .i32⟩) main_call14_v5) (TRef.of (T := ⟨S400000, .i1⟩) main_call14_v6) (cmpi .ne),
    TRef.unary (TRef.of (T := ⟨S_, .i32⟩) main_call14_v0) (TRef.of (T := ⟨S400000, .i32⟩) main_call14_v7) (broadcastInDim S400000 ![] bcast_S_S400000),
    TRef.binary (TRef.of (T := ⟨S400000, .i32⟩) main_v56) (TRef.of (T := ⟨S400000, .i32⟩) main_call14_v7) (TRef.of (T := ⟨S400000, .i32⟩) main_call14_v8) Host.remsi,
    TRef.nullary (TRef.of (T := ⟨S_, .i32⟩) main_call14_c) (constantI S_ 32 0#32),
    TRef.unary (TRef.of (T := ⟨S_, .i32⟩) main_call14_c) (TRef.of (T := ⟨S400000, .i32⟩) main_call14_v9) (broadcastInDim S400000 ![] bcast_S_S400000),
    TRef.binary (TRef.of (T := ⟨S400000, .i32⟩) main_call14_v8) (TRef.of (T := ⟨S400000, .i32⟩) main_call14_v9) (TRef.of (T := ⟨S400000, .i1⟩) main_call14_v10) (cmpi .ne),
    TRef.binary (TRef.of (T := ⟨S400000, .i1⟩) main_call14_v6) (TRef.of (T := ⟨S400000, .i1⟩) main_call14_v10) (TRef.of (T := ⟨S400000, .i1⟩) main_call14_v11) andi,
    TRef.nullary (TRef.of (T := ⟨S_, .i32⟩) main_call14_c_0) (constantI S_ 32 1#32),
    TRef.unary (TRef.of (T := ⟨S_, .i32⟩) main_call14_c_0) (TRef.of (T := ⟨S400000, .i32⟩) main_call14_v12) (broadcastInDim S400000 ![] bcast_S_S400000),
    TRef.binary (TRef.of (T := ⟨S400000, .i32⟩) main_call14_v2) (TRef.of (T := ⟨S400000, .i32⟩) main_call14_v12) (TRef.of (T := ⟨S400000, .i32⟩) main_call14_v13) subi,
    TRef.ternary (TRef.of (T := ⟨S400000, .i1⟩) main_call14_v11) (TRef.of (T := ⟨S400000, .i32⟩) main_call14_v13) (TRef.of (T := ⟨S400000, .i32⟩) main_call14_v2) (TRef.of (T := ⟨S400000, .i32⟩) main_v80) select ]
/-- What they write. -/
abbrev dec1_W : List (Ref sig .tc) := [main_c_26, main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v80]
theorem dec1_sub : (dec1 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem dec1_fresh : (dec1 : List (HloOp τ sig (Elt F))).Forall fun op => op.fresh = ∅ :=
  ⟨rfl, rfl, rfl, rfl, rfl, rfl, rfl, rfl, rfl, rfl, rfl, rfl, rfl, rfl, rfl, rfl, rfl, rfl⟩
theorem dec1_writes : (dec1 : List (HloOp τ sig (Elt F))).Forall fun op => op.writes ⊆ (dec1_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem dec1_keep (V : Valuation τ sig (Elt F)) (r : Ref sig .tc) (h : r ∉ dec1_W) : after dec1 V (Proc.devRef .tc r) = V (Proc.devRef .tc r) :=
  after_of_writes_sub dec1 _ dec1_writes h

/-- Operations 257 to 278 of the program. -/
abbrev dec2 : List (HloOp τ sig (Elt F)) :=
  [ nullary main_c_27 (constantI S_ 32 8000#32),
    TRef.unary (TRef.of (T := ⟨S_, .i32⟩) main_c_27) (TRef.of (T := ⟨S_, .i32⟩) main_call15_v0) id,
    TRef.nullary (TRef.of (T := ⟨S_, .i32⟩) main_call15_c) (constantI S_ 32 0#32),
    TRef.binary (TRef.of (T := ⟨S_, .i32⟩) main_call15_v0) (TRef.of (T := ⟨S_, .i32⟩) main_call15_c) (TRef.of (T := ⟨S_, .i1⟩) main_call15_v1) (cmpi .eq),
    TRef.nullary (TRef.of (T := ⟨S_, .i32⟩) main_call15_c_0) (constantI S_ 32 1#32),
    TRef.ternary (TRef.of (T := ⟨S_, .i1⟩) main_call15_v1) (TRef.of (T := ⟨S_, .i32⟩) main_call15_c_0) (TRef.of (T := ⟨S_, .i32⟩) main_call15_v0) (TRef.of (T := ⟨S_, .i32⟩) main_call15_v2) select,
    TRef.unary (TRef.of (T := ⟨S_, .i32⟩) main_call15_v2) (TRef.of (T := ⟨S400000, .i32⟩) main_call15_v3) (broadcastInDim S400000 ![] bcast_S_S400000),
    TRef.binary (TRef.of (T := ⟨S400000, .i32⟩) main_v56) (TRef.of (T := ⟨S400000, .i32⟩) main_call15_v3) (TRef.of (T := ⟨S400000, .i32⟩) main_call15_v4) Host.remsi,
    TRef.nullary (TRef.of (T := ⟨S_, .i32⟩) main_call15_c_1) (constantI S_ 32 0#32),
    TRef.unary (TRef.of (T := ⟨S_, .i32⟩) main_call15_c_1) (TRef.of (T := ⟨S400000, .i32⟩) main_call15_v5) (broadcastInDim S400000 ![] bcast_S_S400000),
    TRef.binary (TRef.of (T := ⟨S400000, .i32⟩) main_call15_v4) (TRef.of (T := ⟨S400000, .i32⟩) main_call15_v5) (TRef.of (T := ⟨S400000, .i1⟩) main_call15_v6) (cmpi .ne),
    TRef.nullary (TRef.of (T := ⟨S_, .i32⟩) main_call15_c_2) (constantI S_ 32 0#32),
    TRef.unary (TRef.of (T := ⟨S_, .i32⟩) main_call15_c_2) (TRef.of (T := ⟨S400000, .i32⟩) main_call15_v7) (broadcastInDim S400000 ![] bcast_S_S400000),
    TRef.binary (TRef.of (T := ⟨S400000, .i32⟩) main_call15_v4) (TRef.of (T := ⟨S400000, .i32⟩) main_call15_v7) (TRef.of (T := ⟨S400000, .i1⟩) main_call15_v8) (cmpi .slt),
    TRef.nullary (TRef.of (T := ⟨S_, .i32⟩) main_call15_c_3) (constantI S_ 32 0#32),
    TRef.binary (TRef.of (T := ⟨S_, .i32⟩) main_call15_v2) (TRef.of (T := ⟨S_, .i32⟩) main_call15_c_3) (TRef.of (T := ⟨S_, .i1⟩) main_call15_v9) (cmpi .slt),
    TRef.unary (TRef.of (T := ⟨S_, .i1⟩) main_call15_v9) (TRef.of (T := ⟨S400000, .i1⟩) main_call15_v10) (broadcastInDim S400000 ![] bcast_S_S400000),
    TRef.binary (TRef.of (T := ⟨S400000, .i1⟩) main_call15_v8) (TRef.of (T := ⟨S400000, .i1⟩) main_call15_v10) (TRef.of (T := ⟨S400000, .i1⟩) main_call15_v11) (cmpi .ne),
    TRef.binary (TRef.of (T := ⟨S400000, .i1⟩) main_call15_v11) (TRef.of (T := ⟨S400000, .i1⟩) main_call15_v6) (TRef.of (T := ⟨S400000, .i1⟩) main_call15_v12) andi,
    TRef.unary (TRef.of (T := ⟨S_, .i32⟩) main_call15_v2) (TRef.of (T := ⟨S400000, .i32⟩) main_call15_v13) (broadcastInDim S400000 ![] bcast_S_S400000),
    TRef.binary (TRef.of (T := ⟨S400000, .i32⟩) main_call15_v4) (TRef.of (T := ⟨S400000, .i32⟩) main_call15_v13) (TRef.of (T := ⟨S400000, .i32⟩) main_call15_v14) addi,
    TRef.ternary (TRef.of (T := ⟨S400000, .i1⟩) main_call15_v12) (TRef.of (T := ⟨S400000, .i32⟩) main_call15_v14) (TRef.of (T := ⟨S400000, .i32⟩) main_call15_v4) (TRef.of (T := ⟨S400000, .i32⟩) main_v81) select ]
/-- What they write. -/
abbrev dec2_W : List (Ref sig .tc) := [main_c_27, main_call15_v0, main_call15_c, main_call15_v1, main_call15_c_0, main_call15_v2, main_call15_v3, main_call15_v4, main_call15_c_1, main_call15_v5, main_call15_v6, main_call15_c_2, main_call15_v7, main_call15_v8, main_call15_c_3, main_call15_v9, main_call15_v10, main_call15_v11, main_call15_v12, main_call15_v13, main_call15_v14, main_v81]
theorem dec2_sub : (dec2 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem dec2_fresh : (dec2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem dec2_writes : (dec2 : List (HloOp τ sig (Elt F))).Forall fun op => op.writes ⊆ (dec2_W.map (Proc.devRef (τ := τ) .tc)).toFinset :=
  ⟨wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem dec2_keep (V : Valuation τ sig (Elt F)) (r : Ref sig .tc) (h : r ∉ dec2_W) : after dec2 V (Proc.devRef .tc r) = V (Proc.devRef .tc r) :=
  after_of_writes_sub dec2 _ dec2_writes h

/-- Operations 279 to 296 of the program. -/
abbrev dec3 : List (HloOp τ sig (Elt F)) :=
  [ nullary main_c_28 (constantI S_ 32 400#32),
    TRef.unary (TRef.of (T := ⟨S_, .i32⟩) main_c_28) (TRef.of (T := ⟨S_, .i32⟩) main_call16_v0) id,
    TRef.unary (TRef.of (T := ⟨S_, .i32⟩) main_call16_v0) (TRef.of (T := ⟨S400000, .i32⟩) main_call16_v1) (broadcastInDim S400000 ![] bcast_S_S400000),
    TRef.binary (TRef.of (T := ⟨S400000, .i32⟩) main_v81) (TRef.of (T := ⟨S400000, .i32⟩) main_call16_v1) (TRef.of (T := ⟨S400000, .i32⟩) main_call16_v2) Host.divsi,
    TRef.unary (TRef.of (T := ⟨S400000, .i32⟩) main_v81) (TRef.of (T := ⟨S400000, .i32⟩) main_call16_v3) signi,
    TRef.unary (TRef.of (T := ⟨S_, .i32⟩) main_call16_v0) (TRef.of (T := ⟨S_, .i32⟩) main_call16_v4) signi,
    TRef.unary (TRef.of (T := ⟨S_, .i32⟩) main_call16_v4) (TRef.of (T := ⟨S400000, .i32⟩) main_call16_v5) (broadcastInDim S400000 ![] bcast_S_S400000),
    TRef.binary (TRef.of (T := ⟨S400000, .i32⟩) main_call16_v3) (TRef.of (T := ⟨S400000, .i32⟩) main_call16_v5) (TRef.of (T := ⟨S400000, .i1⟩) main_call16_v6) (cmpi .ne),
    TRef.unary (TRef.of (T := ⟨S_, .i32⟩) main_call16_v0) (TRef.of (T := ⟨S400000, .i32⟩) main_call16_v7) (broadcastInDim S400000 ![] bcast_S_S400000),
    TRef.binary (TRef.of (T := ⟨S400000, .i32⟩) main_v81) (TRef.of (T := ⟨S400000, .i32⟩) main_call16_v7) (TRef.of (T := ⟨S400000, .i32⟩) main_call16_v8) Host.remsi,
    TRef.nullary (TRef.of (T := ⟨S_, .i32⟩) main_call16_c) (constantI S_ 32 0#32),
    TRef.unary (TRef.of (T := ⟨S_, .i32⟩) main_call16_c) (TRef.of (T := ⟨S400000, .i32⟩) main_call16_v9) (broadcastInDim S400000 ![] bcast_S_S400000),
    TRef.binary (TRef.of (T := ⟨S400000, .i32⟩) main_call16_v8) (TRef.of (T := ⟨S400000, .i32⟩) main_call16_v9) (TRef.of (T := ⟨S400000, .i1⟩) main_call16_v10) (cmpi .ne),
    TRef.binary (TRef.of (T := ⟨S400000, .i1⟩) main_call16_v6) (TRef.of (T := ⟨S400000, .i1⟩) main_call16_v10) (TRef.of (T := ⟨S400000, .i1⟩) main_call16_v11) andi,
    TRef.nullary (TRef.of (T := ⟨S_, .i32⟩) main_call16_c_0) (constantI S_ 32 1#32),
    TRef.unary (TRef.of (T := ⟨S_, .i32⟩) main_call16_c_0) (TRef.of (T := ⟨S400000, .i32⟩) main_call16_v12) (broadcastInDim S400000 ![] bcast_S_S400000),
    TRef.binary (TRef.of (T := ⟨S400000, .i32⟩) main_call16_v2) (TRef.of (T := ⟨S400000, .i32⟩) main_call16_v12) (TRef.of (T := ⟨S400000, .i32⟩) main_call16_v13) subi,
    TRef.ternary (TRef.of (T := ⟨S400000, .i1⟩) main_call16_v11) (TRef.of (T := ⟨S400000, .i32⟩) main_call16_v13) (TRef.of (T := ⟨S400000, .i32⟩) main_call16_v2) (TRef.of (T := ⟨S400000, .i32⟩) main_v82) select ]
/-- What they write. -/
abbrev dec3_W : List (Ref sig .tc) := [main_c_28, main_call16_v0, main_call16_v1, main_call16_v2, main_call16_v3, main_call16_v4, main_call16_v5, main_call16_v6, main_call16_v7, main_call16_v8, main_call16_c, main_call16_v9, main_call16_v10, main_call16_v11, main_call16_c_0, main_call16_v12, main_call16_v13, main_v82]
theorem dec3_sub : (dec3 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem dec3_fresh : (dec3 : List (HloOp τ sig (Elt F))).Forall fun op => op.fresh = ∅ :=
  ⟨rfl, rfl, rfl, rfl, rfl, rfl, rfl, rfl, rfl, rfl, rfl, rfl, rfl, rfl, rfl, rfl, rfl, rfl⟩
theorem dec3_writes : (dec3 : List (HloOp τ sig (Elt F))).Forall fun op => op.writes ⊆ (dec3_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem dec3_keep (V : Valuation τ sig (Elt F)) (r : Ref sig .tc) (h : r ∉ dec3_W) : after dec3 V (Proc.devRef .tc r) = V (Proc.devRef .tc r) :=
  after_of_writes_sub dec3 _ dec3_writes h

/-- Operations 297 to 318 of the program. -/
abbrev dec4 : List (HloOp τ sig (Elt F)) :=
  [ nullary main_c_29 (constantI S_ 32 400#32),
    TRef.unary (TRef.of (T := ⟨S_, .i32⟩) main_c_29) (TRef.of (T := ⟨S_, .i32⟩) main_call17_v0) id,
    TRef.nullary (TRef.of (T := ⟨S_, .i32⟩) main_call17_c) (constantI S_ 32 0#32),
    TRef.binary (TRef.of (T := ⟨S_, .i32⟩) main_call17_v0) (TRef.of (T := ⟨S_, .i32⟩) main_call17_c) (TRef.of (T := ⟨S_, .i1⟩) main_call17_v1) (cmpi .eq),
    TRef.nullary (TRef.of (T := ⟨S_, .i32⟩) main_call17_c_0) (constantI S_ 32 1#32),
    TRef.ternary (TRef.of (T := ⟨S_, .i1⟩) main_call17_v1) (TRef.of (T := ⟨S_, .i32⟩) main_call17_c_0) (TRef.of (T := ⟨S_, .i32⟩) main_call17_v0) (TRef.of (T := ⟨S_, .i32⟩) main_call17_v2) select,
    TRef.unary (TRef.of (T := ⟨S_, .i32⟩) main_call17_v2) (TRef.of (T := ⟨S400000, .i32⟩) main_call17_v3) (broadcastInDim S400000 ![] bcast_S_S400000),
    TRef.binary (TRef.of (T := ⟨S400000, .i32⟩) main_v81) (TRef.of (T := ⟨S400000, .i32⟩) main_call17_v3) (TRef.of (T := ⟨S400000, .i32⟩) main_call17_v4) Host.remsi,
    TRef.nullary (TRef.of (T := ⟨S_, .i32⟩) main_call17_c_1) (constantI S_ 32 0#32),
    TRef.unary (TRef.of (T := ⟨S_, .i32⟩) main_call17_c_1) (TRef.of (T := ⟨S400000, .i32⟩) main_call17_v5) (broadcastInDim S400000 ![] bcast_S_S400000),
    TRef.binary (TRef.of (T := ⟨S400000, .i32⟩) main_call17_v4) (TRef.of (T := ⟨S400000, .i32⟩) main_call17_v5) (TRef.of (T := ⟨S400000, .i1⟩) main_call17_v6) (cmpi .ne),
    TRef.nullary (TRef.of (T := ⟨S_, .i32⟩) main_call17_c_2) (constantI S_ 32 0#32),
    TRef.unary (TRef.of (T := ⟨S_, .i32⟩) main_call17_c_2) (TRef.of (T := ⟨S400000, .i32⟩) main_call17_v7) (broadcastInDim S400000 ![] bcast_S_S400000),
    TRef.binary (TRef.of (T := ⟨S400000, .i32⟩) main_call17_v4) (TRef.of (T := ⟨S400000, .i32⟩) main_call17_v7) (TRef.of (T := ⟨S400000, .i1⟩) main_call17_v8) (cmpi .slt),
    TRef.nullary (TRef.of (T := ⟨S_, .i32⟩) main_call17_c_3) (constantI S_ 32 0#32),
    TRef.binary (TRef.of (T := ⟨S_, .i32⟩) main_call17_v2) (TRef.of (T := ⟨S_, .i32⟩) main_call17_c_3) (TRef.of (T := ⟨S_, .i1⟩) main_call17_v9) (cmpi .slt),
    TRef.unary (TRef.of (T := ⟨S_, .i1⟩) main_call17_v9) (TRef.of (T := ⟨S400000, .i1⟩) main_call17_v10) (broadcastInDim S400000 ![] bcast_S_S400000),
    TRef.binary (TRef.of (T := ⟨S400000, .i1⟩) main_call17_v8) (TRef.of (T := ⟨S400000, .i1⟩) main_call17_v10) (TRef.of (T := ⟨S400000, .i1⟩) main_call17_v11) (cmpi .ne),
    TRef.binary (TRef.of (T := ⟨S400000, .i1⟩) main_call17_v11) (TRef.of (T := ⟨S400000, .i1⟩) main_call17_v6) (TRef.of (T := ⟨S400000, .i1⟩) main_call17_v12) andi,
    TRef.unary (TRef.of (T := ⟨S_, .i32⟩) main_call17_v2) (TRef.of (T := ⟨S400000, .i32⟩) main_call17_v13) (broadcastInDim S400000 ![] bcast_S_S400000),
    TRef.binary (TRef.of (T := ⟨S400000, .i32⟩) main_call17_v4) (TRef.of (T := ⟨S400000, .i32⟩) main_call17_v13) (TRef.of (T := ⟨S400000, .i32⟩) main_call17_v14) addi,
    TRef.ternary (TRef.of (T := ⟨S400000, .i1⟩) main_call17_v12) (TRef.of (T := ⟨S400000, .i32⟩) main_call17_v14) (TRef.of (T := ⟨S400000, .i32⟩) main_call17_v4) (TRef.of (T := ⟨S400000, .i32⟩) main_v83) select ]
/-- What they write. -/
abbrev dec4_W : List (Ref sig .tc) := [main_c_29, main_call17_v0, main_call17_c, main_call17_v1, main_call17_c_0, main_call17_v2, main_call17_v3, main_call17_v4, main_call17_c_1, main_call17_v5, main_call17_v6, main_call17_c_2, main_call17_v7, main_call17_v8, main_call17_c_3, main_call17_v9, main_call17_v10, main_call17_v11, main_call17_v12, main_call17_v13, main_call17_v14, main_v83]
theorem dec4_sub : (dec4 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem dec4_fresh : (dec4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem dec4_writes : (dec4 : List (HloOp τ sig (Elt F))).Forall fun op => op.writes ⊆ (dec4_W.map (Proc.devRef (τ := τ) .tc)).toFinset :=
  ⟨wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem dec4_keep (V : Valuation τ sig (Elt F)) (r : Ref sig .tc) (h : r ∉ dec4_W) : after dec4 V (Proc.devRef .tc r) = V (Proc.devRef .tc r) :=
  after_of_writes_sub dec4 _ dec4_writes h

/-- Operations 319 to 336 of the program. -/
abbrev dec5 : List (HloOp τ sig (Elt F)) :=
  [ nullary main_c_30 (constantI S_ 32 20#32),
    TRef.unary (TRef.of (T := ⟨S_, .i32⟩) main_c_30) (TRef.of (T := ⟨S_, .i32⟩) main_call18_v0) id,
    TRef.unary (TRef.of (T := ⟨S_, .i32⟩) main_call18_v0) (TRef.of (T := ⟨S400000, .i32⟩) main_call18_v1) (broadcastInDim S400000 ![] bcast_S_S400000),
    TRef.binary (TRef.of (T := ⟨S400000, .i32⟩) main_v83) (TRef.of (T := ⟨S400000, .i32⟩) main_call18_v1) (TRef.of (T := ⟨S400000, .i32⟩) main_call18_v2) Host.divsi,
    TRef.unary (TRef.of (T := ⟨S400000, .i32⟩) main_v83) (TRef.of (T := ⟨S400000, .i32⟩) main_call18_v3) signi,
    TRef.unary (TRef.of (T := ⟨S_, .i32⟩) main_call18_v0) (TRef.of (T := ⟨S_, .i32⟩) main_call18_v4) signi,
    TRef.unary (TRef.of (T := ⟨S_, .i32⟩) main_call18_v4) (TRef.of (T := ⟨S400000, .i32⟩) main_call18_v5) (broadcastInDim S400000 ![] bcast_S_S400000),
    TRef.binary (TRef.of (T := ⟨S400000, .i32⟩) main_call18_v3) (TRef.of (T := ⟨S400000, .i32⟩) main_call18_v5) (TRef.of (T := ⟨S400000, .i1⟩) main_call18_v6) (cmpi .ne),
    TRef.unary (TRef.of (T := ⟨S_, .i32⟩) main_call18_v0) (TRef.of (T := ⟨S400000, .i32⟩) main_call18_v7) (broadcastInDim S400000 ![] bcast_S_S400000),
    TRef.binary (TRef.of (T := ⟨S400000, .i32⟩) main_v83) (TRef.of (T := ⟨S400000, .i32⟩) main_call18_v7) (TRef.of (T := ⟨S400000, .i32⟩) main_call18_v8) Host.remsi,
    TRef.nullary (TRef.of (T := ⟨S_, .i32⟩) main_call18_c) (constantI S_ 32 0#32),
    TRef.unary (TRef.of (T := ⟨S_, .i32⟩) main_call18_c) (TRef.of (T := ⟨S400000, .i32⟩) main_call18_v9) (broadcastInDim S400000 ![] bcast_S_S400000),
    TRef.binary (TRef.of (T := ⟨S400000, .i32⟩) main_call18_v8) (TRef.of (T := ⟨S400000, .i32⟩) main_call18_v9) (TRef.of (T := ⟨S400000, .i1⟩) main_call18_v10) (cmpi .ne),
    TRef.binary (TRef.of (T := ⟨S400000, .i1⟩) main_call18_v6) (TRef.of (T := ⟨S400000, .i1⟩) main_call18_v10) (TRef.of (T := ⟨S400000, .i1⟩) main_call18_v11) andi,
    TRef.nullary (TRef.of (T := ⟨S_, .i32⟩) main_call18_c_0) (constantI S_ 32 1#32),
    TRef.unary (TRef.of (T := ⟨S_, .i32⟩) main_call18_c_0) (TRef.of (T := ⟨S400000, .i32⟩) main_call18_v12) (broadcastInDim S400000 ![] bcast_S_S400000),
    TRef.binary (TRef.of (T := ⟨S400000, .i32⟩) main_call18_v2) (TRef.of (T := ⟨S400000, .i32⟩) main_call18_v12) (TRef.of (T := ⟨S400000, .i32⟩) main_call18_v13) subi,
    TRef.ternary (TRef.of (T := ⟨S400000, .i1⟩) main_call18_v11) (TRef.of (T := ⟨S400000, .i32⟩) main_call18_v13) (TRef.of (T := ⟨S400000, .i32⟩) main_call18_v2) (TRef.of (T := ⟨S400000, .i32⟩) main_v84) select ]
/-- What they write. -/
abbrev dec5_W : List (Ref sig .tc) := [main_c_30, main_call18_v0, main_call18_v1, main_call18_v2, main_call18_v3, main_call18_v4, main_call18_v5, main_call18_v6, main_call18_v7, main_call18_v8, main_call18_c, main_call18_v9, main_call18_v10, main_call18_v11, main_call18_c_0, main_call18_v12, main_call18_v13, main_v84]
theorem dec5_sub : (dec5 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem dec5_fresh : (dec5 : List (HloOp τ sig (Elt F))).Forall fun op => op.fresh = ∅ :=
  ⟨rfl, rfl, rfl, rfl, rfl, rfl, rfl, rfl, rfl, rfl, rfl, rfl, rfl, rfl, rfl, rfl, rfl, rfl⟩
theorem dec5_writes : (dec5 : List (HloOp τ sig (Elt F))).Forall fun op => op.writes ⊆ (dec5_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem dec5_keep (V : Valuation τ sig (Elt F)) (r : Ref sig .tc) (h : r ∉ dec5_W) : after dec5 V (Proc.devRef .tc r) = V (Proc.devRef .tc r) :=
  after_of_writes_sub dec5 _ dec5_writes h

/-- Operations 337 to 358 of the program. -/
abbrev dec6 : List (HloOp τ sig (Elt F)) :=
  [ nullary main_c_31 (constantI S_ 32 20#32),
    TRef.unary (TRef.of (T := ⟨S_, .i32⟩) main_c_31) (TRef.of (T := ⟨S_, .i32⟩) main_call19_v0) id,
    TRef.nullary (TRef.of (T := ⟨S_, .i32⟩) main_call19_c) (constantI S_ 32 0#32),
    TRef.binary (TRef.of (T := ⟨S_, .i32⟩) main_call19_v0) (TRef.of (T := ⟨S_, .i32⟩) main_call19_c) (TRef.of (T := ⟨S_, .i1⟩) main_call19_v1) (cmpi .eq),
    TRef.nullary (TRef.of (T := ⟨S_, .i32⟩) main_call19_c_0) (constantI S_ 32 1#32),
    TRef.ternary (TRef.of (T := ⟨S_, .i1⟩) main_call19_v1) (TRef.of (T := ⟨S_, .i32⟩) main_call19_c_0) (TRef.of (T := ⟨S_, .i32⟩) main_call19_v0) (TRef.of (T := ⟨S_, .i32⟩) main_call19_v2) select,
    TRef.unary (TRef.of (T := ⟨S_, .i32⟩) main_call19_v2) (TRef.of (T := ⟨S400000, .i32⟩) main_call19_v3) (broadcastInDim S400000 ![] bcast_S_S400000),
    TRef.binary (TRef.of (T := ⟨S400000, .i32⟩) main_v81) (TRef.of (T := ⟨S400000, .i32⟩) main_call19_v3) (TRef.of (T := ⟨S400000, .i32⟩) main_call19_v4) Host.remsi,
    TRef.nullary (TRef.of (T := ⟨S_, .i32⟩) main_call19_c_1) (constantI S_ 32 0#32),
    TRef.unary (TRef.of (T := ⟨S_, .i32⟩) main_call19_c_1) (TRef.of (T := ⟨S400000, .i32⟩) main_call19_v5) (broadcastInDim S400000 ![] bcast_S_S400000),
    TRef.binary (TRef.of (T := ⟨S400000, .i32⟩) main_call19_v4) (TRef.of (T := ⟨S400000, .i32⟩) main_call19_v5) (TRef.of (T := ⟨S400000, .i1⟩) main_call19_v6) (cmpi .ne),
    TRef.nullary (TRef.of (T := ⟨S_, .i32⟩) main_call19_c_2) (constantI S_ 32 0#32),
    TRef.unary (TRef.of (T := ⟨S_, .i32⟩) main_call19_c_2) (TRef.of (T := ⟨S400000, .i32⟩) main_call19_v7) (broadcastInDim S400000 ![] bcast_S_S400000),
    TRef.binary (TRef.of (T := ⟨S400000, .i32⟩) main_call19_v4) (TRef.of (T := ⟨S400000, .i32⟩) main_call19_v7) (TRef.of (T := ⟨S400000, .i1⟩) main_call19_v8) (cmpi .slt),
    TRef.nullary (TRef.of (T := ⟨S_, .i32⟩) main_call19_c_3) (constantI S_ 32 0#32),
    TRef.binary (TRef.of (T := ⟨S_, .i32⟩) main_call19_v2) (TRef.of (T := ⟨S_, .i32⟩) main_call19_c_3) (TRef.of (T := ⟨S_, .i1⟩) main_call19_v9) (cmpi .slt),
    TRef.unary (TRef.of (T := ⟨S_, .i1⟩) main_call19_v9) (TRef.of (T := ⟨S400000, .i1⟩) main_call19_v10) (broadcastInDim S400000 ![] bcast_S_S400000),
    TRef.binary (TRef.of (T := ⟨S400000, .i1⟩) main_call19_v8) (TRef.of (T := ⟨S400000, .i1⟩) main_call19_v10) (TRef.of (T := ⟨S400000, .i1⟩) main_call19_v11) (cmpi .ne),
    TRef.binary (TRef.of (T := ⟨S400000, .i1⟩) main_call19_v11) (TRef.of (T := ⟨S400000, .i1⟩) main_call19_v6) (TRef.of (T := ⟨S400000, .i1⟩) main_call19_v12) andi,
    TRef.unary (TRef.of (T := ⟨S_, .i32⟩) main_call19_v2) (TRef.of (T := ⟨S400000, .i32⟩) main_call19_v13) (broadcastInDim S400000 ![] bcast_S_S400000),
    TRef.binary (TRef.of (T := ⟨S400000, .i32⟩) main_call19_v4) (TRef.of (T := ⟨S400000, .i32⟩) main_call19_v13) (TRef.of (T := ⟨S400000, .i32⟩) main_call19_v14) addi,
    TRef.ternary (TRef.of (T := ⟨S400000, .i1⟩) main_call19_v12) (TRef.of (T := ⟨S400000, .i32⟩) main_call19_v14) (TRef.of (T := ⟨S400000, .i32⟩) main_call19_v4) (TRef.of (T := ⟨S400000, .i32⟩) main_v85) select ]
/-- What they write. -/
abbrev dec6_W : List (Ref sig .tc) := [main_c_31, main_call19_v0, main_call19_c, main_call19_v1, main_call19_c_0, main_call19_v2, main_call19_v3, main_call19_v4, main_call19_c_1, main_call19_v5, main_call19_v6, main_call19_c_2, main_call19_v7, main_call19_v8, main_call19_c_3, main_call19_v9, main_call19_v10, main_call19_v11, main_call19_v12, main_call19_v13, main_call19_v14, main_v85]
theorem dec6_sub : (dec6 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem dec6_fresh : (dec6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem dec6_writes : (dec6 : List (HloOp τ sig (Elt F))).Forall fun op => op.writes ⊆ (dec6_W.map (Proc.devRef (τ := τ) .tc)).toFinset :=
  ⟨wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem dec6_keep (V : Valuation τ sig (Elt F)) (r : Ref sig .tc) (h : r ∉ dec6_W) : after dec6 V (Proc.devRef .tc r) = V (Proc.devRef .tc r) :=
  after_of_writes_sub dec6 _ dec6_writes h

/-- Operations 359 to 369 of the program. -/
abbrev coor2 : List (HloOp τ sig (Elt F)) :=
  [ unary main_v77 main_v86 (broadcastInDim S400000x1 ![0] bcast_S400000_S400000x1_0 : (⟨S400000, .i1⟩ : BufTy).Contents (Elt F) → (⟨S400000x1, .i1⟩ : BufTy).Contents (Elt F)),
    unary main_v80 main_v87 (broadcastInDim S400000x1 ![0] bcast_S400000_S400000x1_0 : (⟨S400000, .i32⟩ : BufTy).Contents (Elt F) → (⟨S400000x1, .i32⟩ : BufTy).Contents (Elt F)),
    unary main_v82 main_v88 (broadcastInDim S400000x1 ![0] bcast_S400000_S400000x1_0 : (⟨S400000, .i32⟩ : BufTy).Contents (Elt F) → (⟨S400000x1, .i32⟩ : BufTy).Contents (Elt F)),
    unary main_v84 main_v89 (broadcastInDim S400000x1 ![0] bcast_S400000_S400000x1_0 : (⟨S400000, .i32⟩ : BufTy).Contents (Elt F) → (⟨S400000x1, .i32⟩ : BufTy).Contents (Elt F)),
    unary main_v85 main_v90 (broadcastInDim S400000x1 ![0] bcast_S400000_S400000x1_0 : (⟨S400000, .i32⟩ : BufTy).Contents (Elt F) → (⟨S400000x1, .i32⟩ : BufTy).Contents (Elt F)),
    nary ![main_v87, main_v88, main_v89, main_v90] main_v91 (fun u => stack4 (F := F) (u 0) (u 1) (u 2) (u 3)),
    nullary main_c_32 (constantI S_ 32 4294967295#32),
    TRef.unary (TRef.of (T := ⟨S_, .i32⟩) main_c_32) (TRef.of (T := ⟨S_, .i32⟩) main_call20_v0) id,
    TRef.unary (TRef.of (T := ⟨S400000x1, .i1⟩) main_v86) (TRef.of (T := ⟨S400000x4, .i1⟩) main_call20_v1) (broadcastInDim S400000x4 ![0, 1] bcast_S400000x1_S400000x4_0_1),
    TRef.unary (TRef.of (T := ⟨S_, .i32⟩) main_call20_v0) (TRef.of (T := ⟨S400000x4, .i32⟩) main_call20_v2) (broadcastInDim S400000x4 ![] bcast_S_S400000x4),
    TRef.ternary (TRef.of (T := ⟨S400000x4, .i1⟩) main_call20_v1) (TRef.of (T := ⟨S400000x4, .i32⟩) main_v91) (TRef.of (T := ⟨S400000x4, .i32⟩) main_call20_v2) (TRef.of (T := ⟨S400000x4, .i32⟩) main_v92) select ]
/-- What they write. -/
abbrev coor2_W : List (Ref sig .tc) := [main_v86, main_v87, main_v88, main_v89, main_v90, main_v91, main_c_32, main_call20_v0, main_call20_v1, main_call20_v2, main_v92]
theorem coor2_sub : (coor2 : List (HloOp τ sig (Elt F))).Forall fun op => op.bufs ⊆ tcRefs τ sig :=
  ⟨unary_bufs_sub .., unary_bufs_sub .., unary_bufs_sub .., unary_bufs_sub .., unary_bufs_sub .., nary_bufs_sub .., nullary_bufs_sub .., unary_bufs_sub .., unary_bufs_sub .., unary_bufs_sub .., ternary_bufs_sub ..⟩
theorem coor2_fresh : (coor2 : List (HloOp τ sig (Elt F))).Forall fun op => op.fresh = ∅ :=
  ⟨rfl, rfl, rfl, rfl, rfl, rfl, rfl, rfl, rfl, rfl, rfl⟩
theorem coor2_writes : (coor2 : List (HloOp τ sig (Elt F))).Forall fun op => op.writes ⊆ (coor2_W.map (Proc.devRef (τ := τ) .tc)).toFinset :=
  ⟨wsub (unary_writes ..) (by decide), wsub (unary_writes ..) (by decide), wsub (unary_writes ..) (by decide), wsub (unary_writes ..) (by decide), wsub (unary_writes ..) (by decide), wsub (nary_writes ..) (by decide), wsub (nullary_writes ..) (by decide), wsub (unary_writes ..) (by decide), wsub (unary_writes ..) (by decide), wsub (unary_writes ..) (by decide), wsub (ternary_writes ..) (by decide)⟩
/-- A buffer these operations do not write keeps its contents. -/
theorem coor2_keep (V : Valuation τ sig (Elt F)) (r : Ref sig .tc) (h : r ∉ coor2_W) : after coor2 V (Proc.devRef .tc r) = V (Proc.devRef .tc r) :=
  after_of_writes_sub coor2 _ coor2_writes h

/-- Operations 370 to 391 of the program. -/
abbrev key2a : List (HloOp τ sig (Elt F)) :=
  [ unary main_v92 main_v93 ((extractStridedSlice S400000x1 ![0, 0] · slices_S400000x4_S400000x1_0_0) : (⟨S400000x4, .i32⟩ : BufTy).Contents (Elt F) → (⟨S400000x1, .i32⟩ : BufTy).Contents (Elt F)),
    reshape main_v93 main_v94 (rfl : (.i32 : EltTy) = .i32) shapeCasts_S400000x1_S400000,
    unary main_v92 main_v95 ((extractStridedSlice S400000x1 ![0, 1] · slices_S400000x4_S400000x1_0_1) : (⟨S400000x4, .i32⟩ : BufTy).Contents (Elt F) → (⟨S400000x1, .i32⟩ : BufTy).Contents (Elt F)),
    reshape main_v95 main_v96 (rfl : (.i32 : EltTy) = .i32) shapeCasts_S400000x1_S400000,
    nullary main_c_33 (constantI S_ 32 2#32),
    TRef.unary (TRef.of (T := ⟨S_, .i32⟩) main_c_33) (TRef.of (T := ⟨S_, .i32⟩) main_call21_v0) id,
    TRef.unary (TRef.of (T := ⟨S_, .i32⟩) main_call21_v0) (TRef.of (T := ⟨S400000, .i32⟩) main_call21_v1) (broadcastInDim S400000 ![] bcast_S_S400000),
    TRef.binary (TRef.of (T := ⟨S400000, .i32⟩) main_v96) (TRef.of (T := ⟨S400000, .i32⟩) main_call21_v1) (TRef.of (T := ⟨S400000, .i32⟩) main_call21_v2) Host.divsi,
    TRef.unary (TRef.of (T := ⟨S400000, .i32⟩) main_v96) (TRef.of (T := ⟨S400000, .i32⟩) main_call21_v3) signi,
    TRef.unary (TRef.of (T := ⟨S_, .i32⟩) main_call21_v0) (TRef.of (T := ⟨S_, .i32⟩) main_call21_v4) signi,
    TRef.unary (TRef.of (T := ⟨S_, .i32⟩) main_call21_v4) (TRef.of (T := ⟨S400000, .i32⟩) main_call21_v5) (broadcastInDim S400000 ![] bcast_S_S400000),
    TRef.binary (TRef.of (T := ⟨S400000, .i32⟩) main_call21_v3) (TRef.of (T := ⟨S400000, .i32⟩) main_call21_v5) (TRef.of (T := ⟨S400000, .i1⟩) main_call21_v6) (cmpi .ne),
    TRef.unary (TRef.of (T := ⟨S_, .i32⟩) main_call21_v0) (TRef.of (T := ⟨S400000, .i32⟩) main_call21_v7) (broadcastInDim S400000 ![] bcast_S_S400000),
    TRef.binary (TRef.of (T := ⟨S400000, .i32⟩) main_v96) (TRef.of (T := ⟨S400000, .i32⟩) main_call21_v7) (TRef.of (T := ⟨S400000, .i32⟩) main_call21_v8) Host.remsi,
    TRef.nullary (TRef.of (T := ⟨S_, .i32⟩) main_call21_c) (constantI S_ 32 0#32),
    TRef.unary (TRef.of (T := ⟨S_, .i32⟩) main_call21_c) (TRef.of (T := ⟨S400000, .i32⟩) main_call21_v9) (broadcastInDim S400000 ![] bcast_S_S400000),
    TRef.binary (TRef.of (T := ⟨S400000, .i32⟩) main_call21_v8) (TRef.of (T := ⟨S400000, .i32⟩) main_call21_v9) (TRef.of (T := ⟨S400000, .i1⟩) main_call21_v10) (cmpi .ne),
    TRef.binary (TRef.of (T := ⟨S400000, .i1⟩) main_call21_v6) (TRef.of (T := ⟨S400000, .i1⟩) main_call21_v10) (TRef.of (T := ⟨S400000, .i1⟩) main_call21_v11) andi,
    TRef.nullary (TRef.of (T := ⟨S_, .i32⟩) main_call21_c_0) (constantI S_ 32 1#32),
    TRef.unary (TRef.of (T := ⟨S_, .i32⟩) main_call21_c_0) (TRef.of (T := ⟨S400000, .i32⟩) main_call21_v12) (broadcastInDim S400000 ![] bcast_S_S400000),
    TRef.binary (TRef.of (T := ⟨S400000, .i32⟩) main_call21_v2) (TRef.of (T := ⟨S400000, .i32⟩) main_call21_v12) (TRef.of (T := ⟨S400000, .i32⟩) main_call21_v13) subi,
    TRef.ternary (TRef.of (T := ⟨S400000, .i1⟩) main_call21_v11) (TRef.of (T := ⟨S400000, .i32⟩) main_call21_v13) (TRef.of (T := ⟨S400000, .i32⟩) main_call21_v2) (TRef.of (T := ⟨S400000, .i32⟩) main_v97) select ]
/-- What they write. -/
abbrev key2a_W : List (Ref sig .tc) := [main_v93, main_v94, main_v95, main_v96, main_c_33, main_call21_v0, main_call21_v1, main_call21_v2, main_call21_v3, main_call21_v4, main_call21_v5, main_call21_v6, main_call21_v7, main_call21_v8, main_call21_c, main_call21_v9, main_call21_v10, main_call21_v11, main_call21_c_0, main_call21_v12, main_call21_v13, main_v97]
theorem key2a_sub : (key2a : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem key2a_fresh : (key2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem key2a_writes : (key2a : List (HloOp τ sig (Elt F))).Forall fun op => op.writes ⊆ (key2a_W.map (Proc.devRef (τ := τ) .tc)).toFinset :=
  ⟨wsub (unary_writes ..) (by decide), wsub (reshape_writes ..) (by decide), wsub (unary_writes ..) (by decide), wsub (reshape_writes ..) (by decide), wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem key2a_keep (V : Valuation τ sig (Elt F)) (r : Ref sig .tc) (h : r ∉ key2a_W) : after key2a V (Proc.devRef .tc r) = V (Proc.devRef .tc r) :=
  after_of_writes_sub key2a _ key2a_writes h

/-- Operations 392 to 411 of the program. -/
abbrev key2b : List (HloOp τ sig (Elt F)) :=
  [ unary main_v92 main_v98 ((extractStridedSlice S400000x1 ![0, 2] · slices_S400000x4_S400000x1_0_2) : (⟨S400000x4, .i32⟩ : BufTy).Contents (Elt F) → (⟨S400000x1, .i32⟩ : BufTy).Contents (Elt F)),
    reshape main_v98 main_v99 (rfl : (.i32 : EltTy) = .i32) shapeCasts_S400000x1_S400000,
    nullary main_c_34 (constantI S_ 32 2#32),
    TRef.unary (TRef.of (T := ⟨S_, .i32⟩) main_c_34) (TRef.of (T := ⟨S_, .i32⟩) main_call22_v0) id,
    TRef.unary (TRef.of (T := ⟨S_, .i32⟩) main_call22_v0) (TRef.of (T := ⟨S400000, .i32⟩) main_call22_v1) (broadcastInDim S400000 ![] bcast_S_S400000),
    TRef.binary (TRef.of (T := ⟨S400000, .i32⟩) main_v99) (TRef.of (T := ⟨S400000, .i32⟩) main_call22_v1) (TRef.of (T := ⟨S400000, .i32⟩) main_call22_v2) Host.divsi,
    TRef.unary (TRef.of (T := ⟨S400000, .i32⟩) main_v99) (TRef.of (T := ⟨S400000, .i32⟩) main_call22_v3) signi,
    TRef.unary (TRef.of (T := ⟨S_, .i32⟩) main_call22_v0) (TRef.of (T := ⟨S_, .i32⟩) main_call22_v4) signi,
    TRef.unary (TRef.of (T := ⟨S_, .i32⟩) main_call22_v4) (TRef.of (T := ⟨S400000, .i32⟩) main_call22_v5) (broadcastInDim S400000 ![] bcast_S_S400000),
    TRef.binary (TRef.of (T := ⟨S400000, .i32⟩) main_call22_v3) (TRef.of (T := ⟨S400000, .i32⟩) main_call22_v5) (TRef.of (T := ⟨S400000, .i1⟩) main_call22_v6) (cmpi .ne),
    TRef.unary (TRef.of (T := ⟨S_, .i32⟩) main_call22_v0) (TRef.of (T := ⟨S400000, .i32⟩) main_call22_v7) (broadcastInDim S400000 ![] bcast_S_S400000),
    TRef.binary (TRef.of (T := ⟨S400000, .i32⟩) main_v99) (TRef.of (T := ⟨S400000, .i32⟩) main_call22_v7) (TRef.of (T := ⟨S400000, .i32⟩) main_call22_v8) Host.remsi,
    TRef.nullary (TRef.of (T := ⟨S_, .i32⟩) main_call22_c) (constantI S_ 32 0#32),
    TRef.unary (TRef.of (T := ⟨S_, .i32⟩) main_call22_c) (TRef.of (T := ⟨S400000, .i32⟩) main_call22_v9) (broadcastInDim S400000 ![] bcast_S_S400000),
    TRef.binary (TRef.of (T := ⟨S400000, .i32⟩) main_call22_v8) (TRef.of (T := ⟨S400000, .i32⟩) main_call22_v9) (TRef.of (T := ⟨S400000, .i1⟩) main_call22_v10) (cmpi .ne),
    TRef.binary (TRef.of (T := ⟨S400000, .i1⟩) main_call22_v6) (TRef.of (T := ⟨S400000, .i1⟩) main_call22_v10) (TRef.of (T := ⟨S400000, .i1⟩) main_call22_v11) andi,
    TRef.nullary (TRef.of (T := ⟨S_, .i32⟩) main_call22_c_0) (constantI S_ 32 1#32),
    TRef.unary (TRef.of (T := ⟨S_, .i32⟩) main_call22_c_0) (TRef.of (T := ⟨S400000, .i32⟩) main_call22_v12) (broadcastInDim S400000 ![] bcast_S_S400000),
    TRef.binary (TRef.of (T := ⟨S400000, .i32⟩) main_call22_v2) (TRef.of (T := ⟨S400000, .i32⟩) main_call22_v12) (TRef.of (T := ⟨S400000, .i32⟩) main_call22_v13) subi,
    TRef.ternary (TRef.of (T := ⟨S400000, .i1⟩) main_call22_v11) (TRef.of (T := ⟨S400000, .i32⟩) main_call22_v13) (TRef.of (T := ⟨S400000, .i32⟩) main_call22_v2) (TRef.of (T := ⟨S400000, .i32⟩) main_v100) select ]
/-- What they write. -/
abbrev key2b_W : List (Ref sig .tc) := [main_v98, main_v99, main_c_34, main_call22_v0, main_call22_v1, main_call22_v2, main_call22_v3, main_call22_v4, main_call22_v5, main_call22_v6, main_call22_v7, main_call22_v8, main_call22_c, main_call22_v9, main_call22_v10, main_call22_v11, main_call22_c_0, main_call22_v12, main_call22_v13, main_v100]
theorem key2b_sub : (key2b : List (HloOp τ sig (Elt F))).Forall fun op => op.bufs ⊆ tcRefs τ sig :=
  ⟨unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem key2b_fresh : (key2b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem key2b_writes : (key2b : List (HloOp τ sig (Elt F))).Forall fun op => op.writes ⊆ (key2b_W.map (Proc.devRef (τ := τ) .tc)).toFinset :=
  ⟨wsub (unary_writes ..) (by decide), wsub (reshape_writes ..) (by decide), wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem key2b_keep (V : Valuation τ sig (Elt F)) (r : Ref sig .tc) (h : r ∉ key2b_W) : after key2b V (Proc.devRef .tc r) = V (Proc.devRef .tc r) :=
  after_of_writes_sub key2b _ key2b_writes h

/-- Operations 412 to 431 of the program. -/
abbrev key2c : List (HloOp τ sig (Elt F)) :=
  [ unary main_v92 main_v101 ((extractStridedSlice S400000x1 ![0, 3] · slices_S400000x4_S400000x1_0_3) : (⟨S400000x4, .i32⟩ : BufTy).Contents (Elt F) → (⟨S400000x1, .i32⟩ : BufTy).Contents (Elt F)),
    reshape main_v101 main_v102 (rfl : (.i32 : EltTy) = .i32) shapeCasts_S400000x1_S400000,
    nullary main_c_35 (constantI S_ 32 2#32),
    TRef.unary (TRef.of (T := ⟨S_, .i32⟩) main_c_35) (TRef.of (T := ⟨S_, .i32⟩) main_call23_v0) id,
    TRef.unary (TRef.of (T := ⟨S_, .i32⟩) main_call23_v0) (TRef.of (T := ⟨S400000, .i32⟩) main_call23_v1) (broadcastInDim S400000 ![] bcast_S_S400000),
    TRef.binary (TRef.of (T := ⟨S400000, .i32⟩) main_v102) (TRef.of (T := ⟨S400000, .i32⟩) main_call23_v1) (TRef.of (T := ⟨S400000, .i32⟩) main_call23_v2) Host.divsi,
    TRef.unary (TRef.of (T := ⟨S400000, .i32⟩) main_v102) (TRef.of (T := ⟨S400000, .i32⟩) main_call23_v3) signi,
    TRef.unary (TRef.of (T := ⟨S_, .i32⟩) main_call23_v0) (TRef.of (T := ⟨S_, .i32⟩) main_call23_v4) signi,
    TRef.unary (TRef.of (T := ⟨S_, .i32⟩) main_call23_v4) (TRef.of (T := ⟨S400000, .i32⟩) main_call23_v5) (broadcastInDim S400000 ![] bcast_S_S400000),
    TRef.binary (TRef.of (T := ⟨S400000, .i32⟩) main_call23_v3) (TRef.of (T := ⟨S400000, .i32⟩) main_call23_v5) (TRef.of (T := ⟨S400000, .i1⟩) main_call23_v6) (cmpi .ne),
    TRef.unary (TRef.of (T := ⟨S_, .i32⟩) main_call23_v0) (TRef.of (T := ⟨S400000, .i32⟩) main_call23_v7) (broadcastInDim S400000 ![] bcast_S_S400000),
    TRef.binary (TRef.of (T := ⟨S400000, .i32⟩) main_v102) (TRef.of (T := ⟨S400000, .i32⟩) main_call23_v7) (TRef.of (T := ⟨S400000, .i32⟩) main_call23_v8) Host.remsi,
    TRef.nullary (TRef.of (T := ⟨S_, .i32⟩) main_call23_c) (constantI S_ 32 0#32),
    TRef.unary (TRef.of (T := ⟨S_, .i32⟩) main_call23_c) (TRef.of (T := ⟨S400000, .i32⟩) main_call23_v9) (broadcastInDim S400000 ![] bcast_S_S400000),
    TRef.binary (TRef.of (T := ⟨S400000, .i32⟩) main_call23_v8) (TRef.of (T := ⟨S400000, .i32⟩) main_call23_v9) (TRef.of (T := ⟨S400000, .i1⟩) main_call23_v10) (cmpi .ne),
    TRef.binary (TRef.of (T := ⟨S400000, .i1⟩) main_call23_v6) (TRef.of (T := ⟨S400000, .i1⟩) main_call23_v10) (TRef.of (T := ⟨S400000, .i1⟩) main_call23_v11) andi,
    TRef.nullary (TRef.of (T := ⟨S_, .i32⟩) main_call23_c_0) (constantI S_ 32 1#32),
    TRef.unary (TRef.of (T := ⟨S_, .i32⟩) main_call23_c_0) (TRef.of (T := ⟨S400000, .i32⟩) main_call23_v12) (broadcastInDim S400000 ![] bcast_S_S400000),
    TRef.binary (TRef.of (T := ⟨S400000, .i32⟩) main_call23_v2) (TRef.of (T := ⟨S400000, .i32⟩) main_call23_v12) (TRef.of (T := ⟨S400000, .i32⟩) main_call23_v13) subi,
    TRef.ternary (TRef.of (T := ⟨S400000, .i1⟩) main_call23_v11) (TRef.of (T := ⟨S400000, .i32⟩) main_call23_v13) (TRef.of (T := ⟨S400000, .i32⟩) main_call23_v2) (TRef.of (T := ⟨S400000, .i32⟩) main_v103) select ]
/-- What they write. -/
abbrev key2c_W : List (Ref sig .tc) := [main_v101, main_v102, main_c_35, main_call23_v0, main_call23_v1, main_call23_v2, main_call23_v3, main_call23_v4, main_call23_v5, main_call23_v6, main_call23_v7, main_call23_v8, main_call23_c, main_call23_v9, main_call23_v10, main_call23_v11, main_call23_c_0, main_call23_v12, main_call23_v13, main_v103]
theorem key2c_sub : (key2c : List (HloOp τ sig (Elt F))).Forall fun op => op.bufs ⊆ tcRefs τ sig :=
  ⟨unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem key2c_fresh : (key2c : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem key2c_writes : (key2c : List (HloOp τ sig (Elt F))).Forall fun op => op.writes ⊆ (key2c_W.map (Proc.devRef (τ := τ) .tc)).toFinset :=
  ⟨wsub (unary_writes ..) (by decide), wsub (reshape_writes ..) (by decide), wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem key2c_keep (V : Valuation τ sig (Elt F)) (r : Ref sig .tc) (h : r ∉ key2c_W) : after key2c V (Proc.devRef .tc r) = V (Proc.devRef .tc r) :=
  after_of_writes_sub key2c _ key2c_writes h

/-- Operations 432 to 450 of the program. -/
abbrev key2d : List (HloOp τ sig (Elt F)) :=
  [ nullary main_c_36 (constantI S_ 32 1000#32),
    unary main_c_36 main_v104 (broadcastInDim S400000 ![] bcast_S_S400000 : (⟨S_, .i32⟩ : BufTy).Contents (Elt F) → (⟨S400000, .i32⟩ : BufTy).Contents (Elt F)),
    binary main_v94 main_v104 main_v105 (muli : (⟨S400000, .i32⟩ : BufTy).Contents (Elt F) → (⟨S400000, .i32⟩ : BufTy).Contents (Elt F) → (⟨S400000, .i32⟩ : BufTy).Contents (Elt F)),
    nullary main_c_37 (constantI S_ 32 10#32),
    unary main_c_37 main_v106 (broadcastInDim S400000 ![] bcast_S_S400000 : (⟨S_, .i32⟩ : BufTy).Contents (Elt F) → (⟨S400000, .i32⟩ : BufTy).Contents (Elt F)),
    binary main_v97 main_v106 main_v107 (muli : (⟨S400000, .i32⟩ : BufTy).Contents (Elt F) → (⟨S400000, .i32⟩ : BufTy).Contents (Elt F) → (⟨S400000, .i32⟩ : BufTy).Contents (Elt F)),
    binary main_v107 main_v100 main_v108 (addi : (⟨S400000, .i32⟩ : BufTy).Contents (Elt F) → (⟨S400000, .i32⟩ : BufTy).Contents (Elt F) → (⟨S400000, .i32⟩ : BufTy).Contents (Elt F)),
    nullary main_c_38 (constantI S_ 32 10#32),
    unary main_c_38 main_v109 (broadcastInDim S400000 ![] bcast_S_S400000 : (⟨S_, .i32⟩ : BufTy).Contents (Elt F) → (⟨S400000, .i32⟩ : BufTy).Contents (Elt F)),
    binary main_v108 main_v109 main_v110 (muli : (⟨S400000, .i32⟩ : BufTy).Contents (Elt F) → (⟨S400000, .i32⟩ : BufTy).Contents (Elt F) → (⟨S400000, .i32⟩ : BufTy).Contents (Elt F)),
    binary main_v105 main_v110 main_v111 (addi : (⟨S400000, .i32⟩ : BufTy).Contents (Elt F) → (⟨S400000, .i32⟩ : BufTy).Contents (Elt F) → (⟨S400000, .i32⟩ : BufTy).Contents (Elt F)),
    binary main_v111 main_v103 main_v112 (addi : (⟨S400000, .i32⟩ : BufTy).Contents (Elt F) → (⟨S400000, .i32⟩ : BufTy).Contents (Elt F) → (⟨S400000, .i32⟩ : BufTy).Contents (Elt F)),
    nullary main_c_39 (constantI S_ 32 0#32),
    unary main_c_39 main_v113 (broadcastInDim S400000 ![] bcast_S_S400000 : (⟨S_, .i32⟩ : BufTy).Contents (Elt F) → (⟨S400000, .i32⟩ : BufTy).Contents (Elt F)),
    binary main_v94 main_v113 main_v114 (cmpi .slt : (⟨S400000, .i32⟩ : BufTy).Contents (Elt F) → (⟨S400000, .i32⟩ : BufTy).Contents (Elt F) → (⟨S400000, .i1⟩ : BufTy).Contents (Elt F)),
    nullary main_c_40 (constantI S_ 32 4294967295#32),
    TRef.unary (TRef.of (T := ⟨S_, .i32⟩) main_c_40) (TRef.of (T := ⟨S_, .i32⟩) main_call24_v0) id,
    TRef.unary (TRef.of (T := ⟨S_, .i32⟩) main_call24_v0) (TRef.of (T := ⟨S400000, .i32⟩) main_call24_v1) (broadcastInDim S400000 ![] bcast_S_S400000),
    TRef.ternary (TRef.of (T := ⟨S400000, .i1⟩) main_v114) (TRef.of (T := ⟨S400000, .i32⟩) main_call24_v1) (TRef.of (T := ⟨S400000, .i32⟩) main_v112) (TRef.of (T := ⟨S400000, .i32⟩) main_v115) select ]
/-- What they write. -/
abbrev key2d_W : List (Ref sig .tc) := [main_c_36, main_v104, main_v105, main_c_37, main_v106, main_v107, main_v108, main_c_38, main_v109, main_v110, main_v111, main_v112, main_c_39, main_v113, main_v114, main_c_40, main_call24_v0, main_call24_v1, main_v115]
theorem key2d_sub : (key2d : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., unary_bufs_sub .., ternary_bufs_sub ..⟩
theorem key2d_fresh : (key2d : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem key2d_writes : (key2d : List (HloOp τ sig (Elt F))).Forall fun op => op.writes ⊆ (key2d_W.map (Proc.devRef (τ := τ) .tc)).toFinset :=
  ⟨wsub (nullary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (binary_writes ..) (by decide), wsub (binary_writes ..) (by decide), wsub (nullary_writes ..) (by decide), wsub (unary_writes ..) (by decide), wsub (binary_writes ..) (by decide), wsub (nullary_writes ..) (by decide), wsub (unary_writes ..) (by decide), wsub (unary_writes ..) (by decide), wsub (ternary_writes ..) (by decide)⟩
/-- A buffer these operations do not write keeps its contents. -/
theorem key2d_keep (V : Valuation τ sig (Elt F)) (r : Ref sig .tc) (h : r ∉ key2d_W) : after key2d V (Proc.devRef .tc r) = V (Proc.devRef .tc r) :=
  after_of_writes_sub key2d _ key2d_writes h

/-- Operations 451 to 467 of the program. -/
abbrev sort2 : List (HloOp τ sig (Elt F)) :=
  [ TRef.reshape (TRef.of (T := ⟨S400000, .i32⟩) main_v115) (TRef.of (T := ⟨S400000x1, .i32⟩) main_call25_v0) (rfl : (.i32 : EltTy) = .i32) shapeCasts_S400000_S400000x1,
    TRef.unary (TRef.of (T := ⟨S400000x1, .i32⟩) main_call25_v0) (TRef.of (T := ⟨S1x400000, .i32⟩) main_call25_v1) (transpose S1x400000 [1, 0] · transposes_S400000x1_S1x400000_1_0),
    TRef.unary (TRef.of (T := ⟨S1x400000, .i32⟩) main_call25_v1) (TRef.of (T := ⟨S1x400000, .i32⟩) main_call25_v2) (Host.reverse [0]),
    TRef.unary (TRef.of (T := ⟨S1x400000, .i32⟩) main_call25_v2) (TRef.of (T := ⟨S1x400000, .i32⟩) main_call25_call0_v0) (extractStridedSlice S1x400000 ![0, 0] · slices_S1x400000_S1x400000_0_0),
    TRef.reshape (TRef.of (T := ⟨S1x400000, .i32⟩) main_call25_call0_v0) (TRef.of (T := ⟨S400000, .i32⟩) main_call25_call0_v1) (rfl : (.i32 : EltTy) = .i32) shapeCasts_S1x400000_S400000,
    TRef.nullary (TRef.of (T := ⟨S400000, .i32⟩) main_call25_call0_v2) (iotaInDim S400000 32 0),
    TRef.binary (TRef.of (T := ⟨S400000, .i32⟩) main_call25_call0_v1) (TRef.of (T := ⟨S400000, .i32⟩) main_call25_call0_v2) (TRef.of (T := ⟨S400000, .i32⟩) main_call25_call0_v3_0) (fun x y => (Host.sort2 S400000 0 comparator_i32_i32_d0 x y).1),
    TRef.binary (TRef.of (T := ⟨S400000, .i32⟩) main_call25_call0_v1) (TRef.of (T := ⟨S400000, .i32⟩) main_call25_call0_v2) (TRef.of (T := ⟨S400000, .i32⟩) main_v116_2) (fun x y => (Host.sort2 S400000 0 comparator_i32_i32_d0 x y).2),
    TRef.nullary (TRef.of (T := ⟨S_, .i32⟩) main_call25_c) (constantI S_ 32 0#32),
    TRef.unary (TRef.of (T := ⟨S_, .i32⟩) main_call25_c) (TRef.of (T := ⟨S400000, .i32⟩) main_call25_v4) (broadcastInDim S400000 ![] bcast_S_S400000),
    TRef.binary (TRef.of (T := ⟨S400000, .i32⟩) main_v116_2) (TRef.of (T := ⟨S400000, .i32⟩) main_call25_v4) (TRef.of (T := ⟨S400000, .i1⟩) main_call25_v5) (cmpi .slt),
    TRef.nullary (TRef.of (T := ⟨S_, .i32⟩) main_call25_c_0) (constantI S_ 32 400000#32),
    TRef.unary (TRef.of (T := ⟨S_, .i32⟩) main_call25_c_0) (TRef.of (T := ⟨S400000, .i32⟩) main_call25_v6) (broadcastInDim S400000 ![] bcast_S_S400000),
    TRef.binary (TRef.of (T := ⟨S400000, .i32⟩) main_v116_2) (TRef.of (T := ⟨S400000, .i32⟩) main_call25_v6) (TRef.of (T := ⟨S400000, .i32⟩) main_call25_v7) addi,
    TRef.ternary (TRef.of (T := ⟨S400000, .i1⟩) main_call25_v5) (TRef.of (T := ⟨S400000, .i32⟩) main_call25_v7) (TRef.of (T := ⟨S400000, .i32⟩) main_v116_2) (TRef.of (T := ⟨S400000, .i32⟩) main_call25_v8) select,
    TRef.unary (TRef.of (T := ⟨S400000, .i32⟩) main_call25_v8) (TRef.of (T := ⟨S400000x1, .i32⟩) main_call25_v9) (broadcastInDim S400000x1 ![0] bcast_S400000_S400000x1_0),
    TRef.binary (TRef.of (T := ⟨S400000, .i32⟩) main_v115) (TRef.of (T := ⟨S400000x1, .i32⟩) main_call25_v9) (TRef.of (T := ⟨S400000, .i32⟩) main_v116_0) (fun x i => Host.gather gather_S400000_S400000x1_S400000_n_0_n_n_0_1_1 x i) ]
/-- What they write. -/
abbrev sort2_W : List (Ref sig .tc) := [main_call25_v0, main_call25_v1, main_call25_v2, main_call25_call0_v0, main_call25_call0_v1, main_call25_call0_v2, main_call25_call0_v3_0, main_v116_2, main_call25_c, main_call25_v4, main_call25_v5, main_call25_c_0, main_call25_v6, main_call25_v7, main_call25_v8, main_call25_v9, main_v116_0]
theorem sort2_sub : (sort2 : List (HloOp τ sig (Elt F))).Forall fun op => op.bufs ⊆ tcRefs τ sig :=
  ⟨reshape_bufs_sub .., unary_bufs_sub .., unary_bufs_sub .., unary_bufs_sub .., reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem sort2_fresh : (sort2 : List (HloOp τ sig (Elt F))).Forall fun op => op.fresh = ∅ :=
  ⟨rfl, rfl, rfl, rfl, rfl, rfl, rfl, rfl, rfl, rfl, rfl, rfl, rfl, rfl, rfl, rfl, rfl⟩
theorem sort2_writes : (sort2 : List (HloOp τ sig (Elt F))).Forall fun op => op.writes ⊆ (sort2_W.map (Proc.devRef (τ := τ) .tc)).toFinset :=
  ⟨wsub (reshape_writes ..) (by decide), wsub (unary_writes ..) (by decide), wsub (unary_writes ..) (by decide), wsub (unary_writes ..) (by decide), wsub (reshape_writes ..) (by decide), wsub (nullary_writes ..) (by decide), wsub (binary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (binary_writes ..) (by decide)⟩
/-- A buffer these operations do not write keeps its contents. -/
theorem sort2_keep (V : Valuation τ sig (Elt F)) (r : Ref sig .tc) (h : r ∉ sort2_W) : after sort2 V (Proc.devRef .tc r) = V (Proc.devRef .tc r) :=
  after_of_writes_sub sort2 _ sort2_writes h

/-- Operations 468 to 477 of the program. -/
abbrev mask2 : List (HloOp τ sig (Elt F)) :=
  [ TRef.nullary (TRef.of (T := ⟨S_, .i1⟩) main_call25_c_1) (constantI S_ 1 1#1),
    TRef.unary (TRef.of (T := ⟨S_, .i1⟩) main_call25_c_1) (TRef.of (T := ⟨S400000, .i1⟩) main_call25_v11) (broadcastInDim S400000 ![] bcast_S_S400000),
    TRef.unary (TRef.of (T := ⟨S400000, .i32⟩) main_v116_0) (TRef.of (T := ⟨S399999, .i32⟩) main_call25_v12) (extractStridedSlice S399999 ![1] · slices_S400000_S399999_1),
    TRef.unary (TRef.of (T := ⟨S400000, .i32⟩) main_v116_0) (TRef.of (T := ⟨S399999, .i32⟩) main_call25_v13) (extractStridedSlice S399999 ![0] · slices_S400000_S399999_0),
    TRef.binary (TRef.of (T := ⟨S399999, .i32⟩) main_call25_v12) (TRef.of (T := ⟨S399999, .i32⟩) main_call25_v13) (TRef.of (T := ⟨S399999, .i1⟩) main_call25_v14) (cmpi .ne),
    TRef.nullary (TRef.of (T := ⟨S_, .i1⟩) main_call25_c_2) (constantI S_ 1 0#1),
    TRef.binary (TRef.of (T := ⟨S399999, .i1⟩) main_call25_v14) (TRef.of (T := ⟨S_, .i1⟩) main_call25_c_2) (TRef.of (T := ⟨S399999, .i1⟩) main_call25_v15) (fun x v => Host.reduce IntOp.ori x v reducesTo_S399999_S399999_d h_S_),
    TRef.nullary (TRef.of (T := ⟨S_, .i32⟩) main_call25_c_3) (constantI S_ 32 1#32),
    TRef.unary (TRef.of (T := ⟨S_, .i32⟩) main_call25_c_3) (TRef.of (T := ⟨S1, .i32⟩) main_call25_v16) (broadcastInDim S1 ![] bcast_S_S1),
    TRef.ternary (TRef.of (T := ⟨S400000, .i1⟩) main_call25_v11) (TRef.of (T := ⟨S1, .i32⟩) main_call25_v16) (TRef.of (T := ⟨S399999, .i1⟩) main_call25_v15) (TRef.of (T := ⟨S400000, .i1⟩) main_v116_1) (fun x i u => Host.scatter scatter_S400000_S1_S399999_0_n_0_0 (fun _ b => b) x i u) ]
/-- What they write. -/
abbrev mask2_W : List (Ref sig .tc) := [main_call25_c_1, main_call25_v11, main_call25_v12, main_call25_v13, main_call25_v14, main_call25_c_2, main_call25_v15, main_call25_c_3, main_call25_v16, main_v116_1]
theorem mask2_sub : (mask2 : List (HloOp τ sig (Elt F))).Forall fun op => op.bufs ⊆ tcRefs τ sig :=
  ⟨nullary_bufs_sub .., unary_bufs_sub .., unary_bufs_sub .., unary_bufs_sub .., binary_bufs_sub .., nullary_bufs_sub .., binary_bufs_sub .., nullary_bufs_sub .., unary_bufs_sub .., ternary_bufs_sub ..⟩
theorem mask2_fresh : (mask2 : List (HloOp τ sig (Elt F))).Forall fun op => op.fresh = ∅ :=
  ⟨rfl, rfl, rfl, rfl, rfl, rfl, rfl, rfl, rfl, rfl⟩
theorem mask2_writes : (mask2 : List (HloOp τ sig (Elt F))).Forall fun op => op.writes ⊆ (mask2_W.map (Proc.devRef (τ := τ) .tc)).toFinset :=
  ⟨wsub (nullary_writes ..) (by decide), wsub (unary_writes ..) (by decide), wsub (unary_writes ..) (by decide), wsub (unary_writes ..) (by decide), wsub (binary_writes ..) (by decide), wsub (nullary_writes ..) (by decide), wsub (binary_writes ..) (by decide), wsub (nullary_writes ..) (by decide), wsub (unary_writes ..) (by decide), wsub (ternary_writes ..) (by decide)⟩
/-- A buffer these operations do not write keeps its contents. -/
theorem mask2_keep (V : Valuation τ sig (Elt F)) (r : Ref sig .tc) (h : r ∉ mask2_W) : after mask2 V (Proc.devRef .tc r) = V (Proc.devRef .tc r) :=
  after_of_writes_sub mask2 _ mask2_writes h

/-- Operations 478 to 481 of the program. -/
abbrev cnt2 : List (HloOp τ sig (Elt F)) :=
  [ TRef.unary (TRef.of (T := ⟨S400000, .i1⟩) main_v116_1) (TRef.of (T := ⟨S400000, .i32⟩) main_call26_v0) (extui 32 · natLt_1_32),
    TRef.nullary (TRef.of (T := ⟨S_, .i32⟩) main_call26_call0_c) (constantI S_ 32 0#32),
    TRef.unary (TRef.of (T := ⟨S_, .i32⟩) main_call26_call0_c) (TRef.of (T := ⟨S_, .i32⟩) main_call26_call0_v0) (broadcastInDim S_ ![] bcast_S_S_),
    TRef.binary (TRef.of (T := ⟨S400000, .i32⟩) main_call26_v0) (TRef.of (T := ⟨S_, .i32⟩) main_call26_call0_v0) (TRef.of (T := ⟨S400000, .i32⟩) main_v117) (fun x v => Host.reduceWindow IntOp.addi ![400000] ![1] ![399999] ![0] x v reduceWindows_S400000_S400000_w400000s1p399999_0 h_S_) ]
/-- What they write. -/
abbrev cnt2_W : List (Ref sig .tc) := [main_call26_v0, main_call26_call0_c, main_call26_call0_v0, main_v117]
theorem cnt2_sub : (cnt2 : List (HloOp τ sig (Elt F))).Forall fun op => op.bufs ⊆ tcRefs τ sig :=
  ⟨unary_bufs_sub .., nullary_bufs_sub .., unary_bufs_sub .., binary_bufs_sub ..⟩
theorem cnt2_fresh : (cnt2 : List (HloOp τ sig (Elt F))).Forall fun op => op.fresh = ∅ :=
  ⟨rfl, rfl, rfl, rfl⟩
theorem cnt2_writes : (cnt2 : List (HloOp τ sig (Elt F))).Forall fun op => op.writes ⊆ (cnt2_W.map (Proc.devRef (τ := τ) .tc)).toFinset :=
  ⟨wsub (unary_writes ..) (by decide), wsub (nullary_writes ..) (by decide), wsub (unary_writes ..) (by decide), wsub (binary_writes ..) (by decide)⟩
/-- A buffer these operations do not write keeps its contents. -/
theorem cnt2_keep (V : Valuation τ sig (Elt F)) (r : Ref sig .tc) (h : r ∉ cnt2_W) : after cnt2 V (Proc.devRef .tc r) = V (Proc.devRef .tc r) :=
  after_of_writes_sub cnt2 _ cnt2_writes h

/-- Operations 482 to 497 of the program. -/
abbrev bins2 : List (HloOp τ sig (Elt F)) :=
  [ nullary main_c_41 (constantI S_ 32 0#32),
    unary main_c_41 main_v118 (broadcastInDim S400000 ![] bcast_S_S400000 : (⟨S_, .i32⟩ : BufTy).Contents (Elt F) → (⟨S400000, .i32⟩ : BufTy).Contents (Elt F)),
    nullary main_c_42 (constantI S_ 32 0#32),
    unary main_c_42 main_v119 (broadcastInDim S400000 ![] bcast_S_S400000 : (⟨S_, .i32⟩ : BufTy).Contents (Elt F) → (⟨S400000, .i32⟩ : BufTy).Contents (Elt F)),
    binary main_v117 main_v119 main_v120 (cmpi .slt : (⟨S400000, .i32⟩ : BufTy).Contents (Elt F) → (⟨S400000, .i32⟩ : BufTy).Contents (Elt F) → (⟨S400000, .i1⟩ : BufTy).Contents (Elt F)),
    nullary main_c_43 (constantI S_ 32 400000#32),
    unary main_c_43 main_v121 (broadcastInDim S400000 ![] bcast_S_S400000 : (⟨S_, .i32⟩ : BufTy).Contents (Elt F) → (⟨S400000, .i32⟩ : BufTy).Contents (Elt F)),
    binary main_v117 main_v121 main_v122 (addi : (⟨S400000, .i32⟩ : BufTy).Contents (Elt F) → (⟨S400000, .i32⟩ : BufTy).Contents (Elt F) → (⟨S400000, .i32⟩ : BufTy).Contents (Elt F)),
    ternary main_v120 main_v122 main_v117 main_v123 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v123 main_v124 (broadcastInDim S400000x1 ![0] bcast_S400000_S400000x1_0 : (⟨S400000, .i32⟩ : BufTy).Contents (Elt F) → (⟨S400000x1, .i32⟩ : BufTy).Contents (Elt F)),
    nullary main_c_44 (constantI S_ 32 1#32),
    unary main_c_44 main_v125 (broadcastInDim S400000 ![] bcast_S_S400000 : (⟨S_, .i32⟩ : BufTy).Contents (Elt F) → (⟨S400000, .i32⟩ : BufTy).Contents (Elt F)),
    ternary main_v118 main_v124 main_v125 main_v126 ((fun x i u => Host.scatter scatter_S400000_S400000x1_S400000_n_0_0_1 IntOp.addi x i u) : (⟨S400000, .i32⟩ : BufTy).Contents (Elt F) → (⟨S400000x1, .i32⟩ : BufTy).Contents (Elt F) → (⟨S400000, .i32⟩ : BufTy).Contents (Elt F) → (⟨S400000, .i32⟩ : BufTy).Contents (Elt F)),
    TRef.nullary (TRef.of (T := ⟨S_, .i32⟩) main_call27_call0_c) (constantI S_ 32 0#32),
    TRef.unary (TRef.of (T := ⟨S_, .i32⟩) main_call27_call0_c) (TRef.of (T := ⟨S_, .i32⟩) main_call27_call0_v0) (broadcastInDim S_ ![] bcast_S_S_),
    TRef.binary (TRef.of (T := ⟨S400000, .i32⟩) main_v126) (TRef.of (T := ⟨S_, .i32⟩) main_call27_call0_v0) (TRef.of (T := ⟨S400000, .i32⟩) main_v127) (fun x v => Host.reduceWindow IntOp.addi ![400000] ![1] ![399999] ![0] x v reduceWindows_S400000_S400000_w400000s1p399999_0 h_S_) ]
/-- What they write. -/
abbrev bins2_W : List (Ref sig .tc) := [main_c_41, main_v118, main_c_42, main_v119, main_v120, main_c_43, main_v121, main_v122, main_v123, main_v124, main_c_44, main_v125, main_v126, main_call27_call0_c, main_call27_call0_v0, main_v127]
theorem bins2_sub : (bins2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩
theorem bins2_fresh : (bins2 : List (HloOp τ sig (Elt F))).Forall fun op => op.fresh = ∅ :=
  ⟨rfl, rfl, rfl, rfl, rfl, rfl, rfl, rfl, rfl, rfl, rfl, rfl, rfl, rfl, rfl, rfl⟩
theorem bins2_writes : (bins2 : List (HloOp τ sig (Elt F))).Forall fun op => op.writes ⊆ (bins2_W.map (Proc.devRef (τ := τ) .tc)).toFinset :=
  ⟨wsub (nullary_writes ..) (by decide), wsub (unary_writes ..) (by decide), wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (nullary_writes ..) (by decide), wsub (unary_writes ..) (by decide), wsub (ternary_writes ..) (by decide), wsub (nullary_writes ..) (by decide), wsub (unary_writes ..) (by decide), wsub (binary_writes ..) (by decide)⟩
/-- A buffer these operations do not write keeps its contents. -/
theorem bins2_keep (V : Valuation τ sig (Elt F)) (r : Ref sig .tc) (h : r ∉ bins2_W) : after bins2 V (Proc.devRef .tc r) = V (Proc.devRef .tc r) :=
  after_of_writes_sub bins2 _ bins2_writes h

/-- Operations 498 to 515 of the program. -/
abbrev fd2 : List (HloOp τ sig (Elt F)) :=
  [ nullary main_c_45 (constantI S_ 32 1#32),
    TRef.unary (TRef.of (T := ⟨S_, .i32⟩) main_c_45) (TRef.of (T := ⟨S_, .i32⟩) main_call28_v0) id,
    TRef.unary (TRef.of (T := ⟨S_, .i32⟩) main_call28_v0) (TRef.of (T := ⟨S400000, .i32⟩) main_call28_v1) (broadcastInDim S400000 ![] bcast_S_S400000),
    TRef.binary (TRef.of (T := ⟨S400000, .i32⟩) main_v127) (TRef.of (T := ⟨S400000, .i32⟩) main_call28_v1) (TRef.of (T := ⟨S400000, .i32⟩) main_call28_v2) Host.divsi,
    TRef.unary (TRef.of (T := ⟨S400000, .i32⟩) main_v127) (TRef.of (T := ⟨S400000, .i32⟩) main_call28_v3) signi,
    TRef.unary (TRef.of (T := ⟨S_, .i32⟩) main_call28_v0) (TRef.of (T := ⟨S_, .i32⟩) main_call28_v4) signi,
    TRef.unary (TRef.of (T := ⟨S_, .i32⟩) main_call28_v4) (TRef.of (T := ⟨S400000, .i32⟩) main_call28_v5) (broadcastInDim S400000 ![] bcast_S_S400000),
    TRef.binary (TRef.of (T := ⟨S400000, .i32⟩) main_call28_v3) (TRef.of (T := ⟨S400000, .i32⟩) main_call28_v5) (TRef.of (T := ⟨S400000, .i1⟩) main_call28_v6) (cmpi .ne),
    TRef.unary (TRef.of (T := ⟨S_, .i32⟩) main_call28_v0) (TRef.of (T := ⟨S400000, .i32⟩) main_call28_v7) (broadcastInDim S400000 ![] bcast_S_S400000),
    TRef.binary (TRef.of (T := ⟨S400000, .i32⟩) main_v127) (TRef.of (T := ⟨S400000, .i32⟩) main_call28_v7) (TRef.of (T := ⟨S400000, .i32⟩) main_call28_v8) Host.remsi,
    TRef.nullary (TRef.of (T := ⟨S_, .i32⟩) main_call28_c) (constantI S_ 32 0#32),
    TRef.unary (TRef.of (T := ⟨S_, .i32⟩) main_call28_c) (TRef.of (T := ⟨S400000, .i32⟩) main_call28_v9) (broadcastInDim S400000 ![] bcast_S_S400000),
    TRef.binary (TRef.of (T := ⟨S400000, .i32⟩) main_call28_v8) (TRef.of (T := ⟨S400000, .i32⟩) main_call28_v9) (TRef.of (T := ⟨S400000, .i1⟩) main_call28_v10) (cmpi .ne),
    TRef.binary (TRef.of (T := ⟨S400000, .i1⟩) main_call28_v6) (TRef.of (T := ⟨S400000, .i1⟩) main_call28_v10) (TRef.of (T := ⟨S400000, .i1⟩) main_call28_v11) andi,
    TRef.nullary (TRef.of (T := ⟨S_, .i32⟩) main_call28_c_0) (constantI S_ 32 1#32),
    TRef.unary (TRef.of (T := ⟨S_, .i32⟩) main_call28_c_0) (TRef.of (T := ⟨S400000, .i32⟩) main_call28_v12) (broadcastInDim S400000 ![] bcast_S_S400000),
    TRef.binary (TRef.of (T := ⟨S400000, .i32⟩) main_call28_v2) (TRef.of (T := ⟨S400000, .i32⟩) main_call28_v12) (TRef.of (T := ⟨S400000, .i32⟩) main_call28_v13) subi,
    TRef.ternary (TRef.of (T := ⟨S400000, .i1⟩) main_call28_v11) (TRef.of (T := ⟨S400000, .i32⟩) main_call28_v13) (TRef.of (T := ⟨S400000, .i32⟩) main_call28_v2) (TRef.of (T := ⟨S400000, .i32⟩) main_v128) select ]
/-- What they write. -/
abbrev fd2_W : List (Ref sig .tc) := [main_c_45, main_call28_v0, main_call28_v1, main_call28_v2, main_call28_v3, main_call28_v4, main_call28_v5, main_call28_v6, main_call28_v7, main_call28_v8, main_call28_c, main_call28_v9, main_call28_v10, main_call28_v11, main_call28_c_0, main_call28_v12, main_call28_v13, main_v128]
theorem fd2_sub : (fd2 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem fd2_fresh : (fd2 : List (HloOp τ sig (Elt F))).Forall fun op => op.fresh = ∅ :=
  ⟨rfl, rfl, rfl, rfl, rfl, rfl, rfl, rfl, rfl, rfl, rfl, rfl, rfl, rfl, rfl, rfl, rfl, rfl⟩
theorem fd2_writes : (fd2 : List (HloOp τ sig (Elt F))).Forall fun op => op.writes ⊆ (fd2_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide)⟩
/-- A buffer these operations do not write keeps its contents. -/
theorem fd2_keep (V : Valuation τ sig (Elt F)) (r : Ref sig .tc) (h : r ∉ fd2_W) : after fd2 V (Proc.devRef .tc r) = V (Proc.devRef .tc r) :=
  after_of_writes_sub fd2 _ fd2_writes h

/-- Operations 516 to 537 of the program. -/
abbrev fm2 : List (HloOp τ sig (Elt F)) :=
  [ nullary main_c_46 (constantI S_ 32 400000#32),
    TRef.unary (TRef.of (T := ⟨S_, .i32⟩) main_c_46) (TRef.of (T := ⟨S_, .i32⟩) main_call29_v0) id,
    TRef.nullary (TRef.of (T := ⟨S_, .i32⟩) main_call29_c) (constantI S_ 32 0#32),
    TRef.binary (TRef.of (T := ⟨S_, .i32⟩) main_call29_v0) (TRef.of (T := ⟨S_, .i32⟩) main_call29_c) (TRef.of (T := ⟨S_, .i1⟩) main_call29_v1) (cmpi .eq),
    TRef.nullary (TRef.of (T := ⟨S_, .i32⟩) main_call29_c_0) (constantI S_ 32 1#32),
    TRef.ternary (TRef.of (T := ⟨S_, .i1⟩) main_call29_v1) (TRef.of (T := ⟨S_, .i32⟩) main_call29_c_0) (TRef.of (T := ⟨S_, .i32⟩) main_call29_v0) (TRef.of (T := ⟨S_, .i32⟩) main_call29_v2) select,
    TRef.unary (TRef.of (T := ⟨S_, .i32⟩) main_call29_v2) (TRef.of (T := ⟨S400000, .i32⟩) main_call29_v3) (broadcastInDim S400000 ![] bcast_S_S400000),
    TRef.binary (TRef.of (T := ⟨S400000, .i32⟩) main_v128) (TRef.of (T := ⟨S400000, .i32⟩) main_call29_v3) (TRef.of (T := ⟨S400000, .i32⟩) main_call29_v4) Host.remsi,
    TRef.nullary (TRef.of (T := ⟨S_, .i32⟩) main_call29_c_1) (constantI S_ 32 0#32),
    TRef.unary (TRef.of (T := ⟨S_, .i32⟩) main_call29_c_1) (TRef.of (T := ⟨S400000, .i32⟩) main_call29_v5) (broadcastInDim S400000 ![] bcast_S_S400000),
    TRef.binary (TRef.of (T := ⟨S400000, .i32⟩) main_call29_v4) (TRef.of (T := ⟨S400000, .i32⟩) main_call29_v5) (TRef.of (T := ⟨S400000, .i1⟩) main_call29_v6) (cmpi .ne),
    TRef.nullary (TRef.of (T := ⟨S_, .i32⟩) main_call29_c_2) (constantI S_ 32 0#32),
    TRef.unary (TRef.of (T := ⟨S_, .i32⟩) main_call29_c_2) (TRef.of (T := ⟨S400000, .i32⟩) main_call29_v7) (broadcastInDim S400000 ![] bcast_S_S400000),
    TRef.binary (TRef.of (T := ⟨S400000, .i32⟩) main_call29_v4) (TRef.of (T := ⟨S400000, .i32⟩) main_call29_v7) (TRef.of (T := ⟨S400000, .i1⟩) main_call29_v8) (cmpi .slt),
    TRef.nullary (TRef.of (T := ⟨S_, .i32⟩) main_call29_c_3) (constantI S_ 32 0#32),
    TRef.binary (TRef.of (T := ⟨S_, .i32⟩) main_call29_v2) (TRef.of (T := ⟨S_, .i32⟩) main_call29_c_3) (TRef.of (T := ⟨S_, .i1⟩) main_call29_v9) (cmpi .slt),
    TRef.unary (TRef.of (T := ⟨S_, .i1⟩) main_call29_v9) (TRef.of (T := ⟨S400000, .i1⟩) main_call29_v10) (broadcastInDim S400000 ![] bcast_S_S400000),
    TRef.binary (TRef.of (T := ⟨S400000, .i1⟩) main_call29_v8) (TRef.of (T := ⟨S400000, .i1⟩) main_call29_v10) (TRef.of (T := ⟨S400000, .i1⟩) main_call29_v11) (cmpi .ne),
    TRef.binary (TRef.of (T := ⟨S400000, .i1⟩) main_call29_v11) (TRef.of (T := ⟨S400000, .i1⟩) main_call29_v6) (TRef.of (T := ⟨S400000, .i1⟩) main_call29_v12) andi,
    TRef.unary (TRef.of (T := ⟨S_, .i32⟩) main_call29_v2) (TRef.of (T := ⟨S400000, .i32⟩) main_call29_v13) (broadcastInDim S400000 ![] bcast_S_S400000),
    TRef.binary (TRef.of (T := ⟨S400000, .i32⟩) main_call29_v4) (TRef.of (T := ⟨S400000, .i32⟩) main_call29_v13) (TRef.of (T := ⟨S400000, .i32⟩) main_call29_v14) addi,
    TRef.ternary (TRef.of (T := ⟨S400000, .i1⟩) main_call29_v12) (TRef.of (T := ⟨S400000, .i32⟩) main_call29_v14) (TRef.of (T := ⟨S400000, .i32⟩) main_call29_v4) (TRef.of (T := ⟨S400000, .i32⟩) main_v129) select ]
/-- What they write. -/
abbrev fm2_W : List (Ref sig .tc) := [main_c_46, main_call29_v0, main_call29_c, main_call29_v1, main_call29_c_0, main_call29_v2, main_call29_v3, main_call29_v4, main_call29_c_1, main_call29_v5, main_call29_v6, main_call29_c_2, main_call29_v7, main_call29_v8, main_call29_c_3, main_call29_v9, main_call29_v10, main_call29_v11, main_call29_v12, main_call29_v13, main_call29_v14, main_v129]
theorem fm2_sub : (fm2 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem fm2_fresh : (fm2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem fm2_writes : (fm2 : List (HloOp τ sig (Elt F))).Forall fun op => op.writes ⊆ (fm2_W.map (Proc.devRef (τ := τ) .tc)).toFinset :=
  ⟨wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem fm2_keep (V : Valuation τ sig (Elt F)) (r : Ref sig .tc) (h : r ∉ fm2_W) : after fm2 V (Proc.devRef .tc r) = V (Proc.devRef .tc r) :=
  after_of_writes_sub fm2 _ fm2_writes h

/-- Operations 538 to 538 of the program. -/
abbrev pos2_0 : List (HloOp τ sig (Elt F)) :=
  [ unary main_v116_1 main_v130 ((extui 32 · natLt_1_32) : (⟨S400000, .i1⟩ : BufTy).Contents (Elt F) → (⟨S400000, .i32⟩ : BufTy).Contents (Elt F)) ]
/-- What they write. -/
abbrev pos2_0_W : List (Ref sig .tc) := [main_v130]
theorem pos2_0_sub : (pos2_0 : List (HloOp τ sig (Elt F))).Forall fun op => op.bufs ⊆ tcRefs τ sig :=
  unary_bufs_sub ..
theorem pos2_0_fresh : (pos2_0 : List (HloOp τ sig (Elt F))).Forall fun op => op.fresh = ∅ :=
  rfl
theorem pos2_0_writes : (pos2_0 : List (HloOp τ sig (Elt F))).Forall fun op => op.writes ⊆ (pos2_0_W.map (Proc.devRef (τ := τ) .tc)).toFinset :=
  wsub (unary_writes ..) (by decide)
/-- A buffer these operations do not write keeps its contents. -/
theorem pos2_0_keep (V : Valuation τ sig (Elt F)) (r : Ref sig .tc) (h : r ∉ pos2_0_W) : after pos2_0 V (Proc.devRef .tc r) = V (Proc.devRef .tc r) :=
  after_of_writes_sub pos2_0 _ pos2_0_writes h

/-- Operations 539 to 548 of the program. -/
abbrev pos2_1 : List (HloOp τ sig (Elt F)) :=
  [ nullary main_c_47 (constantI S_ 32 0#32),
    binary main_v130 main_c_47 main_v131 ((fun x v => Host.reduce IntOp.addi x v reducesTo_S400000_S_d0 h_S_) : (⟨S400000, .i32⟩ : BufTy).Contents (Elt F) → (⟨S_, .i32⟩ : BufTy).Contents (Elt F) → (⟨S_, .i32⟩ : BufTy).Contents (Elt F)),
    unary main_v131 main_v132 (broadcastInDim S1 ![] bcast_S_S1 : (⟨S_, .i32⟩ : BufTy).Contents (Elt F) → (⟨S1, .i32⟩ : BufTy).Contents (Elt F)),
    nullary main_v133 (iotaInDim S400000 32 0),
    unary main_v132 main_v134 (broadcastInDim S400000 ![0] bcast_S1_S400000_0 : (⟨S1, .i32⟩ : BufTy).Contents (Elt F) → (⟨S400000, .i32⟩ : BufTy).Contents (Elt F)),
    binary main_v133 main_v134 main_v135 (cmpi .sge : (⟨S400000, .i32⟩ : BufTy).Contents (Elt F) → (⟨S400000, .i32⟩ : BufTy).Contents (Elt F) → (⟨S400000, .i1⟩ : BufTy).Contents (Elt F)),
    nullary main_c_48 (constantI S_ 32 0#32),
    TRef.unary (TRef.of (T := ⟨S_, .i32⟩) main_c_48) (TRef.of (T := ⟨S_, .i32⟩) main_call30_v0) id,
    TRef.unary (TRef.of (T := ⟨S_, .i32⟩) main_call30_v0) (TRef.of (T := ⟨S400000, .i32⟩) main_call30_v1) (broadcastInDim S400000 ![] bcast_S_S400000),
    TRef.ternary (TRef.of (T := ⟨S400000, .i1⟩) main_v135) (TRef.of (T := ⟨S400000, .i32⟩) main_call30_v1) (TRef.of (T := ⟨S400000, .i32⟩) main_v129) (TRef.of (T := ⟨S400000, .i32⟩) main_v136) select ]
/-- What they write. -/
abbrev pos2_1_W : List (Ref sig .tc) := [main_c_47, main_v131, main_v132, main_v133, main_v134, main_v135, main_c_48, main_call30_v0, main_call30_v1, main_v136]
theorem pos2_1_sub : (pos2_1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., unary_bufs_sub .., unary_bufs_sub .., ternary_bufs_sub ..⟩
theorem pos2_1_fresh : (pos2_1 : List (HloOp τ sig (Elt F))).Forall fun op => op.fresh = ∅ :=
  ⟨rfl, rfl, rfl, rfl, rfl, rfl, rfl, rfl, rfl, rfl⟩
theorem pos2_1_writes : (pos2_1 : List (HloOp τ sig (Elt F))).Forall fun op => op.writes ⊆ (pos2_1_W.map (Proc.devRef (τ := τ) .tc)).toFinset :=
  ⟨wsub (nullary_writes ..) (by decide), wsub (binary_writes ..) (by decide), wsub (unary_writes ..) (by decide), wsub (nullary_writes ..) (by decide), wsub (unary_writes ..) (by decide), wsub (binary_writes ..) (by decide), wsub (nullary_writes ..) (by decide), wsub (unary_writes ..) (by decide), wsub (unary_writes ..) (by decide), wsub (ternary_writes ..) (by decide)⟩
/-- A buffer these operations do not write keeps its contents. -/
theorem pos2_1_keep (V : Valuation τ sig (Elt F)) (r : Ref sig .tc) (h : r ∉ pos2_1_W) : after pos2_1 V (Proc.devRef .tc r) = V (Proc.devRef .tc r) :=
  after_of_writes_sub pos2_1 _ pos2_1_writes h

/-- Operations 549 to 566 of the program. -/
abbrev uniq2 : List (HloOp τ sig (Elt F)) :=
  [ nullary main_c_49 (constantI S_ 32 0#32),
    unary main_c_49 main_v137 (broadcastInDim S400000 ![] bcast_S_S400000 : (⟨S_, .i32⟩ : BufTy).Contents (Elt F) → (⟨S400000, .i32⟩ : BufTy).Contents (Elt F)),
    binary main_v136 main_v137 main_v138 (cmpi .slt : (⟨S400000, .i32⟩ : BufTy).Contents (Elt F) → (⟨S400000, .i32⟩ : BufTy).Contents (Elt F) → (⟨S400000, .i1⟩ : BufTy).Contents (Elt F)),
    nullary main_c_50 (constantI S_ 32 400000#32),
    unary main_c_50 main_v139 (broadcastInDim S400000 ![] bcast_S_S400000 : (⟨S_, .i32⟩ : BufTy).Contents (Elt F) → (⟨S400000, .i32⟩ : BufTy).Contents (Elt F)),
    binary main_v136 main_v139 main_v140 (addi : (⟨S400000, .i32⟩ : BufTy).Contents (Elt F) → (⟨S400000, .i32⟩ : BufTy).Contents (Elt F) → (⟨S400000, .i32⟩ : BufTy).Contents (Elt F)),
    ternary main_v138 main_v140 main_v136 main_v141 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v141 main_v142 (broadcastInDim S400000x1 ![0] bcast_S400000_S400000x1_0 : (⟨S400000, .i32⟩ : BufTy).Contents (Elt F) → (⟨S400000x1, .i32⟩ : BufTy).Contents (Elt F)),
    binary main_v116_0 main_v142 main_v143 ((fun x i => Host.gather gather_S400000_S400000x1_S400000_n_0_n_n_0_1_1 x i) : (⟨S400000, .i32⟩ : BufTy).Contents (Elt F) → (⟨S400000x1, .i32⟩ : BufTy).Contents (Elt F) → (⟨S400000, .i32⟩ : BufTy).Contents (Elt F)),
    nullary main_v144 (iotaInDim S400000 32 0),
    unary main_v116_1 main_v145 ((extui 32 · natLt_1_32) : (⟨S400000, .i1⟩ : BufTy).Contents (Elt F) → (⟨S400000, .i32⟩ : BufTy).Contents (Elt F)),
    nullary main_c_51 (constantI S_ 32 0#32),
    binary main_v145 main_c_51 main_v146 ((fun x v => Host.reduce IntOp.addi x v reducesTo_S400000_S_d0 h_S_) : (⟨S400000, .i32⟩ : BufTy).Contents (Elt F) → (⟨S_, .i32⟩ : BufTy).Contents (Elt F) → (⟨S_, .i32⟩ : BufTy).Contents (Elt F)),
    unary main_v146 main_v147 (broadcastInDim S400000 ![] bcast_S_S400000 : (⟨S_, .i32⟩ : BufTy).Contents (Elt F) → (⟨S400000, .i32⟩ : BufTy).Contents (Elt F)),
    binary main_v144 main_v147 main_v148 (cmpi .slt : (⟨S400000, .i32⟩ : BufTy).Contents (Elt F) → (⟨S400000, .i32⟩ : BufTy).Contents (Elt F) → (⟨S400000, .i1⟩ : BufTy).Contents (Elt F)),
    nullary main_c_52 (constantI S_ 32 4294967295#32),
    TRef.unary (TRef.of (T := ⟨S_, .i32⟩) main_c_52) (TRef.of (T := ⟨S400000, .i32⟩) main_call31_v0) (broadcastInDim S400000 ![] bcast_S_S400000),
    TRef.ternary (TRef.of (T := ⟨S400000, .i1⟩) main_v148) (TRef.of (T := ⟨S400000, .i32⟩) main_v143) (TRef.of (T := ⟨S400000, .i32⟩) main_call31_v0) (TRef.of (T := ⟨S400000, .i32⟩) main_v149) select ]
/-- What they write. -/
abbrev uniq2_W : List (Ref sig .tc) := [main_c_49, main_v137, main_v138, main_c_50, main_v139, main_v140, main_v141, main_v142, main_v143, main_v144, main_v145, main_c_51, main_v146, main_v147, main_v148, main_c_52, main_call31_v0, main_v149]
theorem uniq2_sub : (uniq2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., binary_bufs_sub .., unary_bufs_sub .., binary_bufs_sub .., nullary_bufs_sub .., unary_bufs_sub .., ternary_bufs_sub ..⟩
theorem uniq2_fresh : (uniq2 : List (HloOp τ sig (Elt F))).Forall fun op => op.fresh = ∅ :=
  ⟨rfl, rfl, rfl, rfl, rfl, rfl, rfl, rfl, rfl, rfl, rfl, rfl, rfl, rfl, rfl, rfl, rfl, rfl⟩
theorem uniq2_writes : (uniq2 : List (HloOp τ sig (Elt F))).Forall fun op => op.writes ⊆ (uniq2_W.map (Proc.devRef (τ := τ) .tc)).toFinset :=
  ⟨wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (binary_writes ..) (by decide), wsub (nullary_writes ..) (by decide), wsub (unary_writes ..) (by decide), wsub (nullary_writes ..) (by decide), wsub (binary_writes ..) (by decide), wsub (unary_writes ..) (by decide), wsub (binary_writes ..) (by decide), wsub (nullary_writes ..) (by decide), wsub (unary_writes ..) (by decide), wsub (ternary_writes ..) (by decide)⟩
/-- A buffer these operations do not write keeps its contents. -/
theorem uniq2_keep (V : Valuation τ sig (Elt F)) (r : Ref sig .tc) (h : r ∉ uniq2_W) : after uniq2 V (Proc.devRef .tc r) = V (Proc.devRef .tc r) :=
  after_of_writes_sub uniq2 _ uniq2_writes h

/-- Operations 567 to 584 of the program. -/
abbrev inv2 : List (HloOp τ sig (Elt F)) :=
  [ TRef.unary (TRef.of (T := ⟨S400000, .i1⟩) main_v116_1) (TRef.of (T := ⟨S400000, .i32⟩) main_call32_v0) (extui 32 · natLt_1_32),
    TRef.nullary (TRef.of (T := ⟨S_, .i32⟩) main_call32_call0_c) (constantI S_ 32 0#32),
    TRef.unary (TRef.of (T := ⟨S_, .i32⟩) main_call32_call0_c) (TRef.of (T := ⟨S_, .i32⟩) main_call32_call0_v0) (broadcastInDim S_ ![] bcast_S_S_),
    TRef.binary (TRef.of (T := ⟨S400000, .i32⟩) main_call32_v0) (TRef.of (T := ⟨S_, .i32⟩) main_call32_call0_v0) (TRef.of (T := ⟨S400000, .i32⟩) main_v150) (fun x v => Host.reduceWindow IntOp.addi ![400000] ![1] ![399999] ![0] x v reduceWindows_S400000_S400000_w400000s1p399999_0 h_S_),
    nullary main_c_53 (constantI S_ 32 1#32),
    unary main_c_53 main_v151 (broadcastInDim S400000 ![] bcast_S_S400000 : (⟨S_, .i32⟩ : BufTy).Contents (Elt F) → (⟨S400000, .i32⟩ : BufTy).Contents (Elt F)),
    binary main_v150 main_v151 main_v152 (subi : (⟨S400000, .i32⟩ : BufTy).Contents (Elt F) → (⟨S400000, .i32⟩ : BufTy).Contents (Elt F) → (⟨S400000, .i32⟩ : BufTy).Contents (Elt F)),
    nullary main_c_54 (constantI S_ 32 0#32),
    unary main_c_54 main_v153 (broadcastInDim S400000 ![] bcast_S_S400000 : (⟨S_, .i32⟩ : BufTy).Contents (Elt F) → (⟨S400000, .i32⟩ : BufTy).Contents (Elt F)),
    nullary main_c_55 (constantI S_ 32 0#32),
    unary main_c_55 main_v154 (broadcastInDim S400000 ![] bcast_S_S400000 : (⟨S_, .i32⟩ : BufTy).Contents (Elt F) → (⟨S400000, .i32⟩ : BufTy).Contents (Elt F)),
    binary main_v116_2 main_v154 main_v155 (cmpi .slt : (⟨S400000, .i32⟩ : BufTy).Contents (Elt F) → (⟨S400000, .i32⟩ : BufTy).Contents (Elt F) → (⟨S400000, .i1⟩ : BufTy).Contents (Elt F)),
    nullary main_c_56 (constantI S_ 32 400000#32),
    unary main_c_56 main_v156 (broadcastInDim S400000 ![] bcast_S_S400000 : (⟨S_, .i32⟩ : BufTy).Contents (Elt F) → (⟨S400000, .i32⟩ : BufTy).Contents (Elt F)),
    binary main_v116_2 main_v156 main_v157 (addi : (⟨S400000, .i32⟩ : BufTy).Contents (Elt F) → (⟨S400000, .i32⟩ : BufTy).Contents (Elt F) → (⟨S400000, .i32⟩ : BufTy).Contents (Elt F)),
    ternary main_v155 main_v157 main_v116_2 main_v158 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v158 main_v159 (broadcastInDim S400000x1 ![0] bcast_S400000_S400000x1_0 : (⟨S400000, .i32⟩ : BufTy).Contents (Elt F) → (⟨S400000x1, .i32⟩ : BufTy).Contents (Elt F)),
    ternary main_v153 main_v159 main_v152 main_v160 ((fun x i u => Host.scatter scatter_S400000_S400000x1_S400000_n_0_0_1 (fun _ b => b) x i u) : (⟨S400000, .i32⟩ : BufTy).Contents (Elt F) → (⟨S400000x1, .i32⟩ : BufTy).Contents (Elt F) → (⟨S400000, .i32⟩ : BufTy).Contents (Elt F) → (⟨S400000, .i32⟩ : BufTy).Contents (Elt F)) ]
/-- What they write. -/
abbrev inv2_W : List (Ref sig .tc) := [main_call32_v0, main_call32_call0_c, main_call32_call0_v0, main_v150, main_c_53, main_v151, main_v152, main_c_54, main_v153, main_c_55, main_v154, main_v155, main_c_56, main_v156, main_v157, main_v158, main_v159, main_v160]
theorem inv2_sub : (inv2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem inv2_fresh : (inv2 : List (HloOp τ sig (Elt F))).Forall fun op => op.fresh = ∅ :=
  ⟨rfl, rfl, rfl, rfl, rfl, rfl, rfl, rfl, rfl, rfl, rfl, rfl, rfl, rfl, rfl, rfl, rfl, rfl⟩
theorem inv2_writes : (inv2 : List (HloOp τ sig (Elt F))).Forall fun op => op.writes ⊆ (inv2_W.map (Proc.devRef (τ := τ) .tc)).toFinset :=
  ⟨wsub (unary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (nullary_writes ..) (by decide), wsub (unary_writes ..) (by decide), wsub (binary_writes ..) (by decide), wsub (nullary_writes ..) (by decide), wsub (unary_writes ..) (by decide), wsub (binary_writes ..) (by decide), wsub (ternary_writes ..) (by decide), wsub (unary_writes ..) (by decide), wsub (ternary_writes ..) (by decide)⟩
/-- A buffer these operations do not write keeps its contents. -/
theorem inv2_keep (V : Valuation τ sig (Elt F)) (r : Ref sig .tc) (h : r ∉ inv2_W) : after inv2 V (Proc.devRef .tc r) = V (Proc.devRef .tc r) :=
  after_of_writes_sub inv2 _ inv2_writes h

/-- Operations 585 to 598 of the program. -/
abbrev pool2 : List (HloOp τ sig (Elt F)) :=
  [ unary main_v160 main_v161 (broadcastInDim S1x400000x1 ![1] bcast_S400000_S1x400000x1_1 : (⟨S400000, .i32⟩ : BufTy).Contents (Elt F) → (⟨S1x400000x1, .i32⟩ : BufTy).Contents (Elt F)),
    nullary main_v162 (iotaInDim S400000x1x1 32 0),
    unary main_v161 main_v163 (broadcastInDim S400000x400000x1 ![0, 1, 2] bcast_S1x400000x1_S400000x400000x1_0_1_2 : (⟨S1x400000x1, .i32⟩ : BufTy).Contents (Elt F) → (⟨S400000x400000x1, .i32⟩ : BufTy).Contents (Elt F)),
    unary main_v162 main_v164 (broadcastInDim S400000x400000x1 ![0, 1, 2] bcast_S400000x1x1_S400000x400000x1_0_1_2 : (⟨S400000x1x1, .i32⟩ : BufTy).Contents (Elt F) → (⟨S400000x400000x1, .i32⟩ : BufTy).Contents (Elt F)),
    binary main_v163 main_v164 main_v165 (cmpi .eq : (⟨S400000x400000x1, .i32⟩ : BufTy).Contents (Elt F) → (⟨S400000x400000x1, .i32⟩ : BufTy).Contents (Elt F) → (⟨S400000x400000x1, .i1⟩ : BufTy).Contents (Elt F)),
    unary main_v79 main_v166 (broadcastInDim S1x400000x32 ![1, 2] bcast_S400000x32_S1x400000x32_1_2 : (⟨S400000x32, .f32⟩ : BufTy).Contents (Elt F) → (⟨S1x400000x32, .f32⟩ : BufTy).Contents (Elt F)),
    nullary main_cst_57 (constant S_ .f32 0xFF800000#32),
    TRef.unary (TRef.of (T := ⟨S_, .f32⟩) main_cst_57) (TRef.of (T := ⟨S_, .f32⟩) main_call33_v0) id,
    TRef.unary (TRef.of (T := ⟨S400000x400000x1, .i1⟩) main_v165) (TRef.of (T := ⟨S400000x400000x32, .i1⟩) main_call33_v1) (broadcastInDim S400000x400000x32 ![0, 1, 2] bcast_S400000x400000x1_S400000x400000x32_0_1_2),
    TRef.unary (TRef.of (T := ⟨S1x400000x32, .f32⟩) main_v166) (TRef.of (T := ⟨S400000x400000x32, .f32⟩) main_call33_v2) (broadcastInDim S400000x400000x32 ![0, 1, 2] bcast_S1x400000x32_S400000x400000x32_0_1_2),
    TRef.unary (TRef.of (T := ⟨S_, .f32⟩) main_call33_v0) (TRef.of (T := ⟨S400000x400000x32, .f32⟩) main_call33_v3) (broadcastInDim S400000x400000x32 ![] bcast_S_S400000x400000x32),
    TRef.ternary (TRef.of (T := ⟨S400000x400000x32, .i1⟩) main_call33_v1) (TRef.of (T := ⟨S400000x400000x32, .f32⟩) main_call33_v2) (TRef.of (T := ⟨S400000x400000x32, .f32⟩) main_call33_v3) (TRef.of (T := ⟨S400000x400000x32, .f32⟩) main_v167) select,
    nullary main_cst_58 (constant S_ .f32 0xFF800000#32),
    binary main_v167 main_cst_58 main_v168 ((fun x v => Host.reduce FloatOps.maximumf x v reducesTo_S400000x400000x32_S400000x32_d1 h_S_) : (⟨S400000x400000x32, .f32⟩ : BufTy).Contents (Elt F) → (⟨S_, .f32⟩ : BufTy).Contents (Elt F) → (⟨S400000x32, .f32⟩ : BufTy).Contents (Elt F)) ]
/-- What they write. -/
abbrev pool2_W : List (Ref sig .tc) := [main_v161, main_v162, main_v163, main_v164, main_v165, main_v166, main_cst_57, main_call33_v0, main_call33_v1, main_call33_v2, main_call33_v3, main_v167, main_cst_58, main_v168]
theorem pool2_sub : (pool2 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., unary_bufs_sub .., unary_bufs_sub .., ternary_bufs_sub .., nullary_bufs_sub .., binary_bufs_sub ..⟩
theorem pool2_fresh : (pool2 : List (HloOp τ sig (Elt F))).Forall fun op => op.fresh = ∅ :=
  ⟨rfl, rfl, rfl, rfl, rfl, rfl, rfl, rfl, rfl, rfl, rfl, rfl, rfl, rfl⟩
theorem pool2_writes : (pool2 : List (HloOp τ sig (Elt F))).Forall fun op => op.writes ⊆ (pool2_W.map (Proc.devRef (τ := τ) .tc)).toFinset :=
  ⟨wsub (unary_writes ..) (by decide), wsub (nullary_writes ..) (by decide), wsub (unary_writes ..) (by decide), wsub (unary_writes ..) (by decide), wsub (binary_writes ..) (by decide), wsub (unary_writes ..) (by decide), wsub (nullary_writes ..) (by decide), wsub (unary_writes ..) (by decide), wsub (unary_writes ..) (by decide), wsub (unary_writes ..) (by decide), wsub (unary_writes ..) (by decide), wsub (ternary_writes ..) (by decide), wsub (nullary_writes ..) (by decide), wsub (binary_writes ..) (by decide)⟩
/-- A buffer these operations do not write keeps its contents. -/
theorem pool2_keep (V : Valuation τ sig (Elt F)) (r : Ref sig .tc) (h : r ∉ pool2_W) : after pool2 V (Proc.devRef .tc r) = V (Proc.devRef .tc r) :=
  after_of_writes_sub pool2 _ pool2_writes h

/-- Operations 599 to 607 of the program. -/
abbrev res2 : List (HloOp τ sig (Elt F)) :=
  [ nullary main_c_59 (constantI S_ 32 0#32),
    unary main_c_59 main_v169 (broadcastInDim S400000 ![] bcast_S_S400000 : (⟨S_, .i32⟩ : BufTy).Contents (Elt F) → (⟨S400000, .i32⟩ : BufTy).Contents (Elt F)),
    binary main_v149 main_v169 main_v170 (cmpi .sge : (⟨S400000, .i32⟩ : BufTy).Contents (Elt F) → (⟨S400000, .i32⟩ : BufTy).Contents (Elt F) → (⟨S400000, .i1⟩ : BufTy).Contents (Elt F)),
    unary main_v170 main_v171 (broadcastInDim S400000x1 ![0] bcast_S400000_S400000x1_0 : (⟨S400000, .i1⟩ : BufTy).Contents (Elt F) → (⟨S400000x1, .i1⟩ : BufTy).Contents (Elt F)),
    nullary main_cst_60 (constant S_ .f32 0x00000000#32),
    TRef.unary (TRef.of (T := ⟨S_, .f32⟩) main_cst_60) (TRef.of (T := ⟨S_, .f32⟩) main_call34_v0) id,
    TRef.unary (TRef.of (T := ⟨S400000x1, .i1⟩) main_v171) (TRef.of (T := ⟨S400000x32, .i1⟩) main_call34_v1) (broadcastInDim S400000x32 ![0, 1] bcast_S400000x1_S400000x32_0_1),
    TRef.unary (TRef.of (T := ⟨S_, .f32⟩) main_call34_v0) (TRef.of (T := ⟨S400000x32, .f32⟩) main_call34_v2) (broadcastInDim S400000x32 ![] bcast_S_S400000x32),
    TRef.ternary (TRef.of (T := ⟨S400000x32, .i1⟩) main_call34_v1) (TRef.of (T := ⟨S400000x32, .f32⟩) main_v168) (TRef.of (T := ⟨S400000x32, .f32⟩) main_call34_v2) (TRef.of (T := ⟨S400000x32, .f32⟩) main_v172) select ]
/-- What they write. -/
abbrev res2_W : List (Ref sig .tc) := [main_c_59, main_v169, main_v170, main_v171, main_cst_60, main_call34_v0, main_call34_v1, main_call34_v2, main_v172]
theorem res2_sub : (res2 : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., unary_bufs_sub .., ternary_bufs_sub ..⟩
theorem res2_fresh : (res2 : List (HloOp τ sig (Elt F))).Forall fun op => op.fresh = ∅ :=
  ⟨rfl, rfl, rfl, rfl, rfl, rfl, rfl, rfl, rfl⟩
theorem res2_writes : (res2 : List (HloOp τ sig (Elt F))).Forall fun op => op.writes ⊆ (res2_W.map (Proc.devRef (τ := τ) .tc)).toFinset :=
  ⟨wsub (nullary_writes ..) (by decide), wsub (unary_writes ..) (by decide), wsub (binary_writes ..) (by decide), wsub (unary_writes ..) (by decide), wsub (nullary_writes ..) (by decide), wsub (unary_writes ..) (by decide), wsub (unary_writes ..) (by decide), wsub (unary_writes ..) (by decide), wsub (ternary_writes ..) (by decide)⟩
/-- A buffer these operations do not write keeps its contents. -/
theorem res2_keep (V : Valuation τ sig (Elt F)) (r : Ref sig .tc) (h : r ∉ res2_W) : after res2 V (Proc.devRef .tc r) = V (Proc.devRef .tc r) :=
  after_of_writes_sub res2 _ res2_writes h

end Cert.Proof.ReferenceIdeal

end
-- ==== Proof.Ref.Ops.lean ====
/- The reference program as one list of operations, and its run. -/
module

public import proofs.«01_k».proof.Proof.Ref.Ops1
public import proofs.«01_k».proof.Proof.Ref.Ops2
public import Idealize.ShloMosaic.Lib.StableHlo.Run
public import Idealize.ShloMosaic.Lib.Pipeline.Frame

@[expose] public section

set_option maxRecDepth 16384

noncomputable section

namespace Cert.Proof.ReferenceIdeal

open Cert.ReferenceIdeal Cert.ReferenceIdeal.Gen Idealize.ShloMosaic Idealize.ShloMosaic.TcCoe Idealize.SL.Sem Idealize.ShloMosaic.StableHlo

variable {F : FTy → Type} [FloatOps F]

/-- Operations 608 to 647 of the program. -/
abbrev tail0 : List (HloOp τ sig (Elt F)) :=
  [ nullary main_c_61 (constantI S_ 32 1000#32),
    TRef.unary (TRef.of (T := ⟨S_, .i32⟩) main_c_61) (TRef.of (T := ⟨S_, .i32⟩) main_call35_v0) id,
    TRef.unary (TRef.of (T := ⟨S_, .i32⟩) main_call35_v0) (TRef.of (T := ⟨S400000, .i32⟩) main_call35_v1) (broadcastInDim S400000 ![] bcast_S_S400000),
    TRef.binary (TRef.of (T := ⟨S400000, .i32⟩) main_v149) (TRef.of (T := ⟨S400000, .i32⟩) main_call35_v1) (TRef.of (T := ⟨S400000, .i32⟩) main_call35_v2) Host.divsi,
    TRef.unary (TRef.of (T := ⟨S400000, .i32⟩) main_v149) (TRef.of (T := ⟨S400000, .i32⟩) main_call35_v3) signi,
    TRef.unary (TRef.of (T := ⟨S_, .i32⟩) main_call35_v0) (TRef.of (T := ⟨S_, .i32⟩) main_call35_v4) signi,
    TRef.unary (TRef.of (T := ⟨S_, .i32⟩) main_call35_v4) (TRef.of (T := ⟨S400000, .i32⟩) main_call35_v5) (broadcastInDim S400000 ![] bcast_S_S400000),
    TRef.binary (TRef.of (T := ⟨S400000, .i32⟩) main_call35_v3) (TRef.of (T := ⟨S400000, .i32⟩) main_call35_v5) (TRef.of (T := ⟨S400000, .i1⟩) main_call35_v6) (cmpi .ne),
    TRef.unary (TRef.of (T := ⟨S_, .i32⟩) main_call35_v0) (TRef.of (T := ⟨S400000, .i32⟩) main_call35_v7) (broadcastInDim S400000 ![] bcast_S_S400000),
    TRef.binary (TRef.of (T := ⟨S400000, .i32⟩) main_v149) (TRef.of (T := ⟨S400000, .i32⟩) main_call35_v7) (TRef.of (T := ⟨S400000, .i32⟩) main_call35_v8) Host.remsi,
    TRef.nullary (TRef.of (T := ⟨S_, .i32⟩) main_call35_c) (constantI S_ 32 0#32),
    TRef.unary (TRef.of (T := ⟨S_, .i32⟩) main_call35_c) (TRef.of (T := ⟨S400000, .i32⟩) main_call35_v9) (broadcastInDim S400000 ![] bcast_S_S400000),
    TRef.binary (TRef.of (T := ⟨S400000, .i32⟩) main_call35_v8) (TRef.of (T := ⟨S400000, .i32⟩) main_call35_v9) (TRef.of (T := ⟨S400000, .i1⟩) main_call35_v10) (cmpi .ne),
    TRef.binary (TRef.of (T := ⟨S400000, .i1⟩) main_call35_v6) (TRef.of (T := ⟨S400000, .i1⟩) main_call35_v10) (TRef.of (T := ⟨S400000, .i1⟩) main_call35_v11) andi,
    TRef.nullary (TRef.of (T := ⟨S_, .i32⟩) main_call35_c_0) (constantI S_ 32 1#32),
    TRef.unary (TRef.of (T := ⟨S_, .i32⟩) main_call35_c_0) (TRef.of (T := ⟨S400000, .i32⟩) main_call35_v12) (broadcastInDim S400000 ![] bcast_S_S400000),
    TRef.binary (TRef.of (T := ⟨S400000, .i32⟩) main_call35_v2) (TRef.of (T := ⟨S400000, .i32⟩) main_call35_v12) (TRef.of (T := ⟨S400000, .i32⟩) main_call35_v13) subi,
    TRef.ternary (TRef.of (T := ⟨S400000, .i1⟩) main_call35_v11) (TRef.of (T := ⟨S400000, .i32⟩) main_call35_v13) (TRef.of (T := ⟨S400000, .i32⟩) main_call35_v2) (TRef.of (T := ⟨S400000, .i32⟩) main_v173) select,
    nullary main_c_62 (constantI S_ 32 1000#32),
    TRef.unary (TRef.of (T := ⟨S_, .i32⟩) main_c_62) (TRef.of (T := ⟨S_, .i32⟩) main_call36_v0) id,
    TRef.nullary (TRef.of (T := ⟨S_, .i32⟩) main_call36_c) (constantI S_ 32 0#32),
    TRef.binary (TRef.of (T := ⟨S_, .i32⟩) main_call36_v0) (TRef.of (T := ⟨S_, .i32⟩) main_call36_c) (TRef.of (T := ⟨S_, .i1⟩) main_call36_v1) (cmpi .eq),
    TRef.nullary (TRef.of (T := ⟨S_, .i32⟩) main_call36_c_0) (constantI S_ 32 1#32),
    TRef.ternary (TRef.of (T := ⟨S_, .i1⟩) main_call36_v1) (TRef.of (T := ⟨S_, .i32⟩) main_call36_c_0) (TRef.of (T := ⟨S_, .i32⟩) main_call36_v0) (TRef.of (T := ⟨S_, .i32⟩) main_call36_v2) select,
    TRef.unary (TRef.of (T := ⟨S_, .i32⟩) main_call36_v2) (TRef.of (T := ⟨S400000, .i32⟩) main_call36_v3) (broadcastInDim S400000 ![] bcast_S_S400000),
    TRef.binary (TRef.of (T := ⟨S400000, .i32⟩) main_v149) (TRef.of (T := ⟨S400000, .i32⟩) main_call36_v3) (TRef.of (T := ⟨S400000, .i32⟩) main_call36_v4) Host.remsi,
    TRef.nullary (TRef.of (T := ⟨S_, .i32⟩) main_call36_c_1) (constantI S_ 32 0#32),
    TRef.unary (TRef.of (T := ⟨S_, .i32⟩) main_call36_c_1) (TRef.of (T := ⟨S400000, .i32⟩) main_call36_v5) (broadcastInDim S400000 ![] bcast_S_S400000),
    TRef.binary (TRef.of (T := ⟨S400000, .i32⟩) main_call36_v4) (TRef.of (T := ⟨S400000, .i32⟩) main_call36_v5) (TRef.of (T := ⟨S400000, .i1⟩) main_call36_v6) (cmpi .ne),
    TRef.nullary (TRef.of (T := ⟨S_, .i32⟩) main_call36_c_2) (constantI S_ 32 0#32),
    TRef.unary (TRef.of (T := ⟨S_, .i32⟩) main_call36_c_2) (TRef.of (T := ⟨S400000, .i32⟩) main_call36_v7) (broadcastInDim S400000 ![] bcast_S_S400000),
    TRef.binary (TRef.of (T := ⟨S400000, .i32⟩) main_call36_v4) (TRef.of (T := ⟨S400000, .i32⟩) main_call36_v7) (TRef.of (T := ⟨S400000, .i1⟩) main_call36_v8) (cmpi .slt),
    TRef.nullary (TRef.of (T := ⟨S_, .i32⟩) main_call36_c_3) (constantI S_ 32 0#32),
    TRef.binary (TRef.of (T := ⟨S_, .i32⟩) main_call36_v2) (TRef.of (T := ⟨S_, .i32⟩) main_call36_c_3) (TRef.of (T := ⟨S_, .i1⟩) main_call36_v9) (cmpi .slt),
    TRef.unary (TRef.of (T := ⟨S_, .i1⟩) main_call36_v9) (TRef.of (T := ⟨S400000, .i1⟩) main_call36_v10) (broadcastInDim S400000 ![] bcast_S_S400000),
    TRef.binary (TRef.of (T := ⟨S400000, .i1⟩) main_call36_v8) (TRef.of (T := ⟨S400000, .i1⟩) main_call36_v10) (TRef.of (T := ⟨S400000, .i1⟩) main_call36_v11) (cmpi .ne),
    TRef.binary (TRef.of (T := ⟨S400000, .i1⟩) main_call36_v11) (TRef.of (T := ⟨S400000, .i1⟩) main_call36_v6) (TRef.of (T := ⟨S400000, .i1⟩) main_call36_v12) andi,
    TRef.unary (TRef.of (T := ⟨S_, .i32⟩) main_call36_v2) (TRef.of (T := ⟨S400000, .i32⟩) main_call36_v13) (broadcastInDim S400000 ![] bcast_S_S400000),
    TRef.binary (TRef.of (T := ⟨S400000, .i32⟩) main_call36_v4) (TRef.of (T := ⟨S400000, .i32⟩) main_call36_v13) (TRef.of (T := ⟨S400000, .i32⟩) main_call36_v14) addi,
    TRef.ternary (TRef.of (T := ⟨S400000, .i1⟩) main_call36_v12) (TRef.of (T := ⟨S400000, .i32⟩) main_call36_v14) (TRef.of (T := ⟨S400000, .i32⟩) main_call36_v4) (TRef.of (T := ⟨S400000, .i32⟩) main_v174) select ]
/-- What they write. -/
abbrev tail0_W : List (Ref sig .tc) := [main_c_61, main_call35_v0, main_call35_v1, main_call35_v2, main_call35_v3, main_call35_v4, main_call35_v5, main_call35_v6, main_call35_v7, main_call35_v8, main_call35_c, main_call35_v9, main_call35_v10, main_call35_v11, main_call35_c_0, main_call35_v12, main_call35_v13, main_v173, main_c_62, main_call36_v0, main_call36_c, main_call36_v1, main_call36_c_0, main_call36_v2, main_call36_v3, main_call36_v4, main_call36_c_1, main_call36_v5, main_call36_v6, main_call36_c_2, main_call36_v7, main_call36_v8, main_call36_c_3, main_call36_v9, main_call36_v10, main_call36_v11, main_call36_v12, main_call36_v13, main_call36_v14, main_v174]
theorem tail0_sub : (tail0 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem tail0_fresh : (tail0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem tail0_writes : (tail0 : List (HloOp τ sig (Elt F))).Forall fun op => op.writes ⊆ (tail0_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide), wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem tail0_keep (V : Valuation τ sig (Elt F)) (r : Ref sig .tc) (h : r ∉ tail0_W) : after tail0 V (Proc.devRef .tc r) = V (Proc.devRef .tc r) :=
  after_of_writes_sub tail0 _ tail0_writes h

/-- Operations 648 to 687 of the program. -/
abbrev tail1 : List (HloOp τ sig (Elt F)) :=
  [ nullary main_c_63 (constantI S_ 32 100#32),
    TRef.unary (TRef.of (T := ⟨S_, .i32⟩) main_c_63) (TRef.of (T := ⟨S_, .i32⟩) main_call37_v0) id,
    TRef.unary (TRef.of (T := ⟨S_, .i32⟩) main_call37_v0) (TRef.of (T := ⟨S400000, .i32⟩) main_call37_v1) (broadcastInDim S400000 ![] bcast_S_S400000),
    TRef.binary (TRef.of (T := ⟨S400000, .i32⟩) main_v174) (TRef.of (T := ⟨S400000, .i32⟩) main_call37_v1) (TRef.of (T := ⟨S400000, .i32⟩) main_call37_v2) Host.divsi,
    TRef.unary (TRef.of (T := ⟨S400000, .i32⟩) main_v174) (TRef.of (T := ⟨S400000, .i32⟩) main_call37_v3) signi,
    TRef.unary (TRef.of (T := ⟨S_, .i32⟩) main_call37_v0) (TRef.of (T := ⟨S_, .i32⟩) main_call37_v4) signi,
    TRef.unary (TRef.of (T := ⟨S_, .i32⟩) main_call37_v4) (TRef.of (T := ⟨S400000, .i32⟩) main_call37_v5) (broadcastInDim S400000 ![] bcast_S_S400000),
    TRef.binary (TRef.of (T := ⟨S400000, .i32⟩) main_call37_v3) (TRef.of (T := ⟨S400000, .i32⟩) main_call37_v5) (TRef.of (T := ⟨S400000, .i1⟩) main_call37_v6) (cmpi .ne),
    TRef.unary (TRef.of (T := ⟨S_, .i32⟩) main_call37_v0) (TRef.of (T := ⟨S400000, .i32⟩) main_call37_v7) (broadcastInDim S400000 ![] bcast_S_S400000),
    TRef.binary (TRef.of (T := ⟨S400000, .i32⟩) main_v174) (TRef.of (T := ⟨S400000, .i32⟩) main_call37_v7) (TRef.of (T := ⟨S400000, .i32⟩) main_call37_v8) Host.remsi,
    TRef.nullary (TRef.of (T := ⟨S_, .i32⟩) main_call37_c) (constantI S_ 32 0#32),
    TRef.unary (TRef.of (T := ⟨S_, .i32⟩) main_call37_c) (TRef.of (T := ⟨S400000, .i32⟩) main_call37_v9) (broadcastInDim S400000 ![] bcast_S_S400000),
    TRef.binary (TRef.of (T := ⟨S400000, .i32⟩) main_call37_v8) (TRef.of (T := ⟨S400000, .i32⟩) main_call37_v9) (TRef.of (T := ⟨S400000, .i1⟩) main_call37_v10) (cmpi .ne),
    TRef.binary (TRef.of (T := ⟨S400000, .i1⟩) main_call37_v6) (TRef.of (T := ⟨S400000, .i1⟩) main_call37_v10) (TRef.of (T := ⟨S400000, .i1⟩) main_call37_v11) andi,
    TRef.nullary (TRef.of (T := ⟨S_, .i32⟩) main_call37_c_0) (constantI S_ 32 1#32),
    TRef.unary (TRef.of (T := ⟨S_, .i32⟩) main_call37_c_0) (TRef.of (T := ⟨S400000, .i32⟩) main_call37_v12) (broadcastInDim S400000 ![] bcast_S_S400000),
    TRef.binary (TRef.of (T := ⟨S400000, .i32⟩) main_call37_v2) (TRef.of (T := ⟨S400000, .i32⟩) main_call37_v12) (TRef.of (T := ⟨S400000, .i32⟩) main_call37_v13) subi,
    TRef.ternary (TRef.of (T := ⟨S400000, .i1⟩) main_call37_v11) (TRef.of (T := ⟨S400000, .i32⟩) main_call37_v13) (TRef.of (T := ⟨S400000, .i32⟩) main_call37_v2) (TRef.of (T := ⟨S400000, .i32⟩) main_v175) select,
    nullary main_c_64 (constantI S_ 32 100#32),
    TRef.unary (TRef.of (T := ⟨S_, .i32⟩) main_c_64) (TRef.of (T := ⟨S_, .i32⟩) main_call38_v0) id,
    TRef.nullary (TRef.of (T := ⟨S_, .i32⟩) main_call38_c) (constantI S_ 32 0#32),
    TRef.binary (TRef.of (T := ⟨S_, .i32⟩) main_call38_v0) (TRef.of (T := ⟨S_, .i32⟩) main_call38_c) (TRef.of (T := ⟨S_, .i1⟩) main_call38_v1) (cmpi .eq),
    TRef.nullary (TRef.of (T := ⟨S_, .i32⟩) main_call38_c_0) (constantI S_ 32 1#32),
    TRef.ternary (TRef.of (T := ⟨S_, .i1⟩) main_call38_v1) (TRef.of (T := ⟨S_, .i32⟩) main_call38_c_0) (TRef.of (T := ⟨S_, .i32⟩) main_call38_v0) (TRef.of (T := ⟨S_, .i32⟩) main_call38_v2) select,
    TRef.unary (TRef.of (T := ⟨S_, .i32⟩) main_call38_v2) (TRef.of (T := ⟨S400000, .i32⟩) main_call38_v3) (broadcastInDim S400000 ![] bcast_S_S400000),
    TRef.binary (TRef.of (T := ⟨S400000, .i32⟩) main_v174) (TRef.of (T := ⟨S400000, .i32⟩) main_call38_v3) (TRef.of (T := ⟨S400000, .i32⟩) main_call38_v4) Host.remsi,
    TRef.nullary (TRef.of (T := ⟨S_, .i32⟩) main_call38_c_1) (constantI S_ 32 0#32),
    TRef.unary (TRef.of (T := ⟨S_, .i32⟩) main_call38_c_1) (TRef.of (T := ⟨S400000, .i32⟩) main_call38_v5) (broadcastInDim S400000 ![] bcast_S_S400000),
    TRef.binary (TRef.of (T := ⟨S400000, .i32⟩) main_call38_v4) (TRef.of (T := ⟨S400000, .i32⟩) main_call38_v5) (TRef.of (T := ⟨S400000, .i1⟩) main_call38_v6) (cmpi .ne),
    TRef.nullary (TRef.of (T := ⟨S_, .i32⟩) main_call38_c_2) (constantI S_ 32 0#32),
    TRef.unary (TRef.of (T := ⟨S_, .i32⟩) main_call38_c_2) (TRef.of (T := ⟨S400000, .i32⟩) main_call38_v7) (broadcastInDim S400000 ![] bcast_S_S400000),
    TRef.binary (TRef.of (T := ⟨S400000, .i32⟩) main_call38_v4) (TRef.of (T := ⟨S400000, .i32⟩) main_call38_v7) (TRef.of (T := ⟨S400000, .i1⟩) main_call38_v8) (cmpi .slt),
    TRef.nullary (TRef.of (T := ⟨S_, .i32⟩) main_call38_c_3) (constantI S_ 32 0#32),
    TRef.binary (TRef.of (T := ⟨S_, .i32⟩) main_call38_v2) (TRef.of (T := ⟨S_, .i32⟩) main_call38_c_3) (TRef.of (T := ⟨S_, .i1⟩) main_call38_v9) (cmpi .slt),
    TRef.unary (TRef.of (T := ⟨S_, .i1⟩) main_call38_v9) (TRef.of (T := ⟨S400000, .i1⟩) main_call38_v10) (broadcastInDim S400000 ![] bcast_S_S400000),
    TRef.binary (TRef.of (T := ⟨S400000, .i1⟩) main_call38_v8) (TRef.of (T := ⟨S400000, .i1⟩) main_call38_v10) (TRef.of (T := ⟨S400000, .i1⟩) main_call38_v11) (cmpi .ne),
    TRef.binary (TRef.of (T := ⟨S400000, .i1⟩) main_call38_v11) (TRef.of (T := ⟨S400000, .i1⟩) main_call38_v6) (TRef.of (T := ⟨S400000, .i1⟩) main_call38_v12) andi,
    TRef.unary (TRef.of (T := ⟨S_, .i32⟩) main_call38_v2) (TRef.of (T := ⟨S400000, .i32⟩) main_call38_v13) (broadcastInDim S400000 ![] bcast_S_S400000),
    TRef.binary (TRef.of (T := ⟨S400000, .i32⟩) main_call38_v4) (TRef.of (T := ⟨S400000, .i32⟩) main_call38_v13) (TRef.of (T := ⟨S400000, .i32⟩) main_call38_v14) addi,
    TRef.ternary (TRef.of (T := ⟨S400000, .i1⟩) main_call38_v12) (TRef.of (T := ⟨S400000, .i32⟩) main_call38_v14) (TRef.of (T := ⟨S400000, .i32⟩) main_call38_v4) (TRef.of (T := ⟨S400000, .i32⟩) main_v176) select ]
/-- What they write. -/
abbrev tail1_W : List (Ref sig .tc) := [main_c_63, main_call37_v0, main_call37_v1, main_call37_v2, main_call37_v3, main_call37_v4, main_call37_v5, main_call37_v6, main_call37_v7, main_call37_v8, main_call37_c, main_call37_v9, main_call37_v10, main_call37_v11, main_call37_c_0, main_call37_v12, main_call37_v13, main_v175, main_c_64, main_call38_v0, main_call38_c, main_call38_v1, main_call38_c_0, main_call38_v2, main_call38_v3, main_call38_v4, main_call38_c_1, main_call38_v5, main_call38_v6, main_call38_c_2, main_call38_v7, main_call38_v8, main_call38_c_3, main_call38_v9, main_call38_v10, main_call38_v11, main_call38_v12, main_call38_v13, main_call38_v14, main_v176]
theorem tail1_sub : (tail1 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem tail1_fresh : (tail1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem tail1_writes : (tail1 : List (HloOp τ sig (Elt F))).Forall fun op => op.writes ⊆ (tail1_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide), wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem tail1_keep (V : Valuation τ sig (Elt F)) (r : Ref sig .tc) (h : r ∉ tail1_W) : after tail1 V (Proc.devRef .tc r) = V (Proc.devRef .tc r) :=
  after_of_writes_sub tail1 _ tail1_writes h

/-- Operations 688 to 727 of the program. -/
abbrev tail2 : List (HloOp τ sig (Elt F)) :=
  [ nullary main_c_65 (constantI S_ 32 10#32),
    TRef.unary (TRef.of (T := ⟨S_, .i32⟩) main_c_65) (TRef.of (T := ⟨S_, .i32⟩) main_call39_v0) id,
    TRef.unary (TRef.of (T := ⟨S_, .i32⟩) main_call39_v0) (TRef.of (T := ⟨S400000, .i32⟩) main_call39_v1) (broadcastInDim S400000 ![] bcast_S_S400000),
    TRef.binary (TRef.of (T := ⟨S400000, .i32⟩) main_v176) (TRef.of (T := ⟨S400000, .i32⟩) main_call39_v1) (TRef.of (T := ⟨S400000, .i32⟩) main_call39_v2) Host.divsi,
    TRef.unary (TRef.of (T := ⟨S400000, .i32⟩) main_v176) (TRef.of (T := ⟨S400000, .i32⟩) main_call39_v3) signi,
    TRef.unary (TRef.of (T := ⟨S_, .i32⟩) main_call39_v0) (TRef.of (T := ⟨S_, .i32⟩) main_call39_v4) signi,
    TRef.unary (TRef.of (T := ⟨S_, .i32⟩) main_call39_v4) (TRef.of (T := ⟨S400000, .i32⟩) main_call39_v5) (broadcastInDim S400000 ![] bcast_S_S400000),
    TRef.binary (TRef.of (T := ⟨S400000, .i32⟩) main_call39_v3) (TRef.of (T := ⟨S400000, .i32⟩) main_call39_v5) (TRef.of (T := ⟨S400000, .i1⟩) main_call39_v6) (cmpi .ne),
    TRef.unary (TRef.of (T := ⟨S_, .i32⟩) main_call39_v0) (TRef.of (T := ⟨S400000, .i32⟩) main_call39_v7) (broadcastInDim S400000 ![] bcast_S_S400000),
    TRef.binary (TRef.of (T := ⟨S400000, .i32⟩) main_v176) (TRef.of (T := ⟨S400000, .i32⟩) main_call39_v7) (TRef.of (T := ⟨S400000, .i32⟩) main_call39_v8) Host.remsi,
    TRef.nullary (TRef.of (T := ⟨S_, .i32⟩) main_call39_c) (constantI S_ 32 0#32),
    TRef.unary (TRef.of (T := ⟨S_, .i32⟩) main_call39_c) (TRef.of (T := ⟨S400000, .i32⟩) main_call39_v9) (broadcastInDim S400000 ![] bcast_S_S400000),
    TRef.binary (TRef.of (T := ⟨S400000, .i32⟩) main_call39_v8) (TRef.of (T := ⟨S400000, .i32⟩) main_call39_v9) (TRef.of (T := ⟨S400000, .i1⟩) main_call39_v10) (cmpi .ne),
    TRef.binary (TRef.of (T := ⟨S400000, .i1⟩) main_call39_v6) (TRef.of (T := ⟨S400000, .i1⟩) main_call39_v10) (TRef.of (T := ⟨S400000, .i1⟩) main_call39_v11) andi,
    TRef.nullary (TRef.of (T := ⟨S_, .i32⟩) main_call39_c_0) (constantI S_ 32 1#32),
    TRef.unary (TRef.of (T := ⟨S_, .i32⟩) main_call39_c_0) (TRef.of (T := ⟨S400000, .i32⟩) main_call39_v12) (broadcastInDim S400000 ![] bcast_S_S400000),
    TRef.binary (TRef.of (T := ⟨S400000, .i32⟩) main_call39_v2) (TRef.of (T := ⟨S400000, .i32⟩) main_call39_v12) (TRef.of (T := ⟨S400000, .i32⟩) main_call39_v13) subi,
    TRef.ternary (TRef.of (T := ⟨S400000, .i1⟩) main_call39_v11) (TRef.of (T := ⟨S400000, .i32⟩) main_call39_v13) (TRef.of (T := ⟨S400000, .i32⟩) main_call39_v2) (TRef.of (T := ⟨S400000, .i32⟩) main_v177) select,
    nullary main_c_66 (constantI S_ 32 10#32),
    TRef.unary (TRef.of (T := ⟨S_, .i32⟩) main_c_66) (TRef.of (T := ⟨S_, .i32⟩) main_call40_v0) id,
    TRef.nullary (TRef.of (T := ⟨S_, .i32⟩) main_call40_c) (constantI S_ 32 0#32),
    TRef.binary (TRef.of (T := ⟨S_, .i32⟩) main_call40_v0) (TRef.of (T := ⟨S_, .i32⟩) main_call40_c) (TRef.of (T := ⟨S_, .i1⟩) main_call40_v1) (cmpi .eq),
    TRef.nullary (TRef.of (T := ⟨S_, .i32⟩) main_call40_c_0) (constantI S_ 32 1#32),
    TRef.ternary (TRef.of (T := ⟨S_, .i1⟩) main_call40_v1) (TRef.of (T := ⟨S_, .i32⟩) main_call40_c_0) (TRef.of (T := ⟨S_, .i32⟩) main_call40_v0) (TRef.of (T := ⟨S_, .i32⟩) main_call40_v2) select,
    TRef.unary (TRef.of (T := ⟨S_, .i32⟩) main_call40_v2) (TRef.of (T := ⟨S400000, .i32⟩) main_call40_v3) (broadcastInDim S400000 ![] bcast_S_S400000),
    TRef.binary (TRef.of (T := ⟨S400000, .i32⟩) main_v174) (TRef.of (T := ⟨S400000, .i32⟩) main_call40_v3) (TRef.of (T := ⟨S400000, .i32⟩) main_call40_v4) Host.remsi,
    TRef.nullary (TRef.of (T := ⟨S_, .i32⟩) main_call40_c_1) (constantI S_ 32 0#32),
    TRef.unary (TRef.of (T := ⟨S_, .i32⟩) main_call40_c_1) (TRef.of (T := ⟨S400000, .i32⟩) main_call40_v5) (broadcastInDim S400000 ![] bcast_S_S400000),
    TRef.binary (TRef.of (T := ⟨S400000, .i32⟩) main_call40_v4) (TRef.of (T := ⟨S400000, .i32⟩) main_call40_v5) (TRef.of (T := ⟨S400000, .i1⟩) main_call40_v6) (cmpi .ne),
    TRef.nullary (TRef.of (T := ⟨S_, .i32⟩) main_call40_c_2) (constantI S_ 32 0#32),
    TRef.unary (TRef.of (T := ⟨S_, .i32⟩) main_call40_c_2) (TRef.of (T := ⟨S400000, .i32⟩) main_call40_v7) (broadcastInDim S400000 ![] bcast_S_S400000),
    TRef.binary (TRef.of (T := ⟨S400000, .i32⟩) main_call40_v4) (TRef.of (T := ⟨S400000, .i32⟩) main_call40_v7) (TRef.of (T := ⟨S400000, .i1⟩) main_call40_v8) (cmpi .slt),
    TRef.nullary (TRef.of (T := ⟨S_, .i32⟩) main_call40_c_3) (constantI S_ 32 0#32),
    TRef.binary (TRef.of (T := ⟨S_, .i32⟩) main_call40_v2) (TRef.of (T := ⟨S_, .i32⟩) main_call40_c_3) (TRef.of (T := ⟨S_, .i1⟩) main_call40_v9) (cmpi .slt),
    TRef.unary (TRef.of (T := ⟨S_, .i1⟩) main_call40_v9) (TRef.of (T := ⟨S400000, .i1⟩) main_call40_v10) (broadcastInDim S400000 ![] bcast_S_S400000),
    TRef.binary (TRef.of (T := ⟨S400000, .i1⟩) main_call40_v8) (TRef.of (T := ⟨S400000, .i1⟩) main_call40_v10) (TRef.of (T := ⟨S400000, .i1⟩) main_call40_v11) (cmpi .ne),
    TRef.binary (TRef.of (T := ⟨S400000, .i1⟩) main_call40_v11) (TRef.of (T := ⟨S400000, .i1⟩) main_call40_v6) (TRef.of (T := ⟨S400000, .i1⟩) main_call40_v12) andi,
    TRef.unary (TRef.of (T := ⟨S_, .i32⟩) main_call40_v2) (TRef.of (T := ⟨S400000, .i32⟩) main_call40_v13) (broadcastInDim S400000 ![] bcast_S_S400000),
    TRef.binary (TRef.of (T := ⟨S400000, .i32⟩) main_call40_v4) (TRef.of (T := ⟨S400000, .i32⟩) main_call40_v13) (TRef.of (T := ⟨S400000, .i32⟩) main_call40_v14) addi,
    TRef.ternary (TRef.of (T := ⟨S400000, .i1⟩) main_call40_v12) (TRef.of (T := ⟨S400000, .i32⟩) main_call40_v14) (TRef.of (T := ⟨S400000, .i32⟩) main_call40_v4) (TRef.of (T := ⟨S400000, .i32⟩) main_v178) select ]
/-- What they write. -/
abbrev tail2_W : List (Ref sig .tc) := [main_c_65, main_call39_v0, main_call39_v1, main_call39_v2, main_call39_v3, main_call39_v4, main_call39_v5, main_call39_v6, main_call39_v7, main_call39_v8, main_call39_c, main_call39_v9, main_call39_v10, main_call39_v11, main_call39_c_0, main_call39_v12, main_call39_v13, main_v177, main_c_66, main_call40_v0, main_call40_c, main_call40_v1, main_call40_c_0, main_call40_v2, main_call40_v3, main_call40_v4, main_call40_c_1, main_call40_v5, main_call40_v6, main_call40_c_2, main_call40_v7, main_call40_v8, main_call40_c_3, main_call40_v9, main_call40_v10, main_call40_v11, main_call40_v12, main_call40_v13, main_call40_v14, main_v178]
theorem tail2_sub : (tail2 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem tail2_fresh : (tail2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem tail2_writes : (tail2 : List (HloOp τ sig (Elt F))).Forall fun op => op.writes ⊆ (tail2_W.map (Proc.devRef (τ := τ) .tc)).toFinset :=
  ⟨wsub (nullary_writes ..) (by decide), wsub (unary_writes ..) (by decide), wsub (unary_writes ..) (by decide), wsub (binary_writes ..) (by decide), wsub (unary_writes ..) (by decide), wsub (unary_writes ..) (by decide), wsub (unary_writes ..) (by decide), wsub (binary_writes ..) (by decide), wsub (unary_writes ..) (by decide), wsub (binary_writes ..) (by decide), wsub (nullary_writes ..) (by decide), wsub (unary_writes ..) (by decide), wsub (binary_writes ..) (by decide), wsub (binary_writes ..) (by decide), wsub (nullary_writes ..) (by decide), wsub (unary_writes ..) (by decide), wsub (binary_writes ..) (by decide), wsub (ternary_writes ..) (by decide), wsub (nullary_writes ..) (by decide), wsub (unary_writes ..) (by decide), wsub (nullary_writes ..) (by decide), wsub (binary_writes ..) (by decide), wsub (nullary_writes ..) (by decide), wsub (ternary_writes ..) (by decide), wsub (unary_writes ..) (by decide), wsub (binary_writes ..) (by decide), wsub (nullary_writes ..) (by decide), wsub (unary_writes ..) (by decide), wsub (binary_writes ..) (by decide), wsub (nullary_writes ..) (by decide), wsub (unary_writes ..) (by decide), wsub (binary_writes ..) (by decide), wsub (nullary_writes ..) (by decide), wsub (binary_writes ..) (by decide), wsub (unary_writes ..) (by decide), wsub (binary_writes ..) (by decide), wsub (binary_writes ..) (by decide), wsub (unary_writes ..) (by decide), wsub (binary_writes ..) (by decide), wsub (ternary_writes ..) (by decide)⟩
/-- A buffer these operations do not write keeps its contents. -/
theorem tail2_keep (V : Valuation τ sig (Elt F)) (r : Ref sig .tc) (h : r ∉ tail2_W) : after tail2 V (Proc.devRef .tc r) = V (Proc.devRef .tc r) :=
  after_of_writes_sub tail2 _ tail2_writes h

/-- Operations 728 to 738 of the program. -/
abbrev tail3 : List (HloOp τ sig (Elt F)) :=
  [ unary main_v170 main_v179 (broadcastInDim S400000x1 ![0] bcast_S400000_S400000x1_0 : (⟨S400000, .i1⟩ : BufTy).Contents (Elt F) → (⟨S400000x1, .i1⟩ : BufTy).Contents (Elt F)),
    unary main_v173 main_v180 (broadcastInDim S400000x1 ![0] bcast_S400000_S400000x1_0 : (⟨S400000, .i32⟩ : BufTy).Contents (Elt F) → (⟨S400000x1, .i32⟩ : BufTy).Contents (Elt F)),
    unary main_v175 main_v181 (broadcastInDim S400000x1 ![0] bcast_S400000_S400000x1_0 : (⟨S400000, .i32⟩ : BufTy).Contents (Elt F) → (⟨S400000x1, .i32⟩ : BufTy).Contents (Elt F)),
    unary main_v177 main_v182 (broadcastInDim S400000x1 ![0] bcast_S400000_S400000x1_0 : (⟨S400000, .i32⟩ : BufTy).Contents (Elt F) → (⟨S400000x1, .i32⟩ : BufTy).Contents (Elt F)),
    unary main_v178 main_v183 (broadcastInDim S400000x1 ![0] bcast_S400000_S400000x1_0 : (⟨S400000, .i32⟩ : BufTy).Contents (Elt F) → (⟨S400000x1, .i32⟩ : BufTy).Contents (Elt F)),
    nary ![main_v180, main_v181, main_v182, main_v183] main_v184 (fun u => stack4 (F := F) (u 0) (u 1) (u 2) (u 3)),
    nullary main_c_67 (constantI S_ 32 4294967295#32),
    TRef.unary (TRef.of (T := ⟨S_, .i32⟩) main_c_67) (TRef.of (T := ⟨S_, .i32⟩) main_call41_v0) id,
    TRef.unary (TRef.of (T := ⟨S400000x1, .i1⟩) main_v179) (TRef.of (T := ⟨S400000x4, .i1⟩) main_call41_v1) (broadcastInDim S400000x4 ![0, 1] bcast_S400000x1_S400000x4_0_1),
    TRef.unary (TRef.of (T := ⟨S_, .i32⟩) main_call41_v0) (TRef.of (T := ⟨S400000x4, .i32⟩) main_call41_v2) (broadcastInDim S400000x4 ![] bcast_S_S400000x4),
    TRef.ternary (TRef.of (T := ⟨S400000x4, .i1⟩) main_call41_v1) (TRef.of (T := ⟨S400000x4, .i32⟩) main_v184) (TRef.of (T := ⟨S400000x4, .i32⟩) main_call41_v2) (TRef.of (T := ⟨S400000x4, .i32⟩) main_v185) select ]
/-- What they write. -/
abbrev tail3_W : List (Ref sig .tc) := [main_v179, main_v180, main_v181, main_v182, main_v183, main_v184, main_c_67, main_call41_v0, main_call41_v1, main_call41_v2, main_v185]
theorem tail3_sub : (tail3 : List (HloOp τ sig (Elt F))).Forall fun op => op.bufs ⊆ tcRefs τ sig :=
  ⟨unary_bufs_sub .., unary_bufs_sub .., unary_bufs_sub .., unary_bufs_sub .., unary_bufs_sub .., nary_bufs_sub .., nullary_bufs_sub .., unary_bufs_sub .., unary_bufs_sub .., unary_bufs_sub .., ternary_bufs_sub ..⟩
theorem tail3_fresh : (tail3 : List (HloOp τ sig (Elt F))).Forall fun op => op.fresh = ∅ :=
  ⟨rfl, rfl, rfl, rfl, rfl, rfl, rfl, rfl, rfl, rfl, rfl⟩
theorem tail3_writes : (tail3 : List (HloOp τ sig (Elt F))).Forall fun op => op.writes ⊆ (tail3_W.map (Proc.devRef (τ := τ) .tc)).toFinset :=
  ⟨wsub (unary_writes ..) (by decide), wsub (unary_writes ..) (by decide), wsub (unary_writes ..) (by decide), wsub (unary_writes ..) (by decide), wsub (unary_writes ..) (by decide), wsub (nary_writes ..) (by decide), wsub (nullary_writes ..) (by decide), wsub (unary_writes ..) (by decide), wsub (unary_writes ..) (by decide), wsub (unary_writes ..) (by decide), wsub (ternary_writes ..) (by decide)⟩
/-- A buffer these operations do not write keeps its contents. -/
theorem tail3_keep (V : Valuation τ sig (Elt F)) (r : Ref sig .tc) (h : r ∉ tail3_W) : after tail3 V (Proc.devRef .tc r) = V (Proc.devRef .tc r) :=
  after_of_writes_sub tail3 _ tail3_writes h

/-- Part 0 of the program as a list. -/
def part0 : List (HloOp τ sig (Elt F)) :=
  key1a ++ (key1b ++ (key1c ++ (key1d ++ (sort1 ++ (mask1 ++ (cnt1 ++ (bins1 ++ (fd1 ++ (fm1 ++ (pos1))))))))))
set_option maxHeartbeats 4000000 in
theorem part0_eq (c : Dev nD) : main_part0 (F := F) c = seq part0 := rfl
theorem part0_sub : (part0 : List (HloOp τ sig (Elt F))).Forall fun op => op.bufs ⊆ tcRefs τ sig := by
  unfold part0
  simp only [List.forall_append]
  exact ⟨key1a_sub, key1b_sub, key1c_sub, key1d_sub, sort1_sub, mask1_sub, cnt1_sub, bins1_sub, fd1_sub, fm1_sub, pos1_sub⟩
theorem part0_fresh : (part0 : List (HloOp τ sig (Elt F))).Forall fun op => op.fresh = ∅ := by
  unfold part0
  simp only [List.forall_append]
  exact ⟨key1a_fresh, key1b_fresh, key1c_fresh, key1d_fresh, sort1_fresh, mask1_fresh, cnt1_fresh, bins1_fresh, fd1_fresh, fm1_fresh, pos1_fresh⟩
/-- Part 1 of the program as a list. -/
def part1 : List (HloOp τ sig (Elt F)) :=
  uniq1 ++ (inv1 ++ (pool1 ++ (res1 ++ (dec1 ++ (dec2 ++ (dec3 ++ (dec4 ++ (dec5 ++ (dec6)))))))))
set_option maxHeartbeats 4000000 in
theorem part1_eq (c : Dev nD) : main_part1 (F := F) c = seq part1 := rfl
theorem part1_sub : (part1 : List (HloOp τ sig (Elt F))).Forall fun op => op.bufs ⊆ tcRefs τ sig := by
  unfold part1
  simp only [List.forall_append]
  exact ⟨uniq1_sub, inv1_sub, pool1_sub, res1_sub, dec1_sub, dec2_sub, dec3_sub, dec4_sub, dec5_sub, dec6_sub⟩
theorem part1_fresh : (part1 : List (HloOp τ sig (Elt F))).Forall fun op => op.fresh = ∅ := by
  unfold part1
  simp only [List.forall_append]
  exact ⟨uniq1_fresh, inv1_fresh, pool1_fresh, res1_fresh, dec1_fresh, dec2_fresh, dec3_fresh, dec4_fresh, dec5_fresh, dec6_fresh⟩
/-- Part 2 of the program as a list. -/
def part2 : List (HloOp τ sig (Elt F)) :=
  coor2 ++ (key2a ++ (key2b ++ (key2c ++ (key2d ++ (sort2 ++ (mask2 ++ (cnt2 ++ (bins2 ++ (fd2 ++ (fm2 ++ (pos2_0)))))))))))
set_option maxHeartbeats 4000000 in
theorem part2_eq (c : Dev nD) : main_part2 (F := F) c = seq part2 := rfl
theorem part2_sub : (part2 : List (HloOp τ sig (Elt F))).Forall fun op => op.bufs ⊆ tcRefs τ sig := by
  unfold part2
  simp only [List.forall_append]
  exact ⟨coor2_sub, key2a_sub, key2b_sub, key2c_sub, key2d_sub, sort2_sub, mask2_sub, cnt2_sub, bins2_sub, fd2_sub, fm2_sub, pos2_0_sub⟩
theorem part2_fresh : (part2 : List (HloOp τ sig (Elt F))).Forall fun op => op.fresh = ∅ := by
  unfold part2
  simp only [List.forall_append]
  exact ⟨coor2_fresh, key2a_fresh, key2b_fresh, key2c_fresh, key2d_fresh, sort2_fresh, mask2_fresh, cnt2_fresh, bins2_fresh, fd2_fresh, fm2_fresh, pos2_0_fresh⟩
/-- Part 3 of the program as a list. -/
def part3 : List (HloOp τ sig (Elt F)) :=
  pos2_1 ++ (uniq2 ++ (inv2 ++ (pool2 ++ (res2 ++ (tail0)))))
set_option maxHeartbeats 4000000 in
theorem part3_eq (c : Dev nD) : main_part3 (F := F) c = seq part3 := rfl
theorem part3_sub : (part3 : List (HloOp τ sig (Elt F))).Forall fun op => op.bufs ⊆ tcRefs τ sig := by
  unfold part3
  simp only [List.forall_append]
  exact ⟨pos2_1_sub, uniq2_sub, inv2_sub, pool2_sub, res2_sub, tail0_sub⟩
theorem part3_fresh : (part3 : List (HloOp τ sig (Elt F))).Forall fun op => op.fresh = ∅ := by
  unfold part3
  simp only [List.forall_append]
  exact ⟨pos2_1_fresh, uniq2_fresh, inv2_fresh, pool2_fresh, res2_fresh, tail0_fresh⟩
/-- Part 4 of the program as a list. -/
def part4 : List (HloOp τ sig (Elt F)) :=
  tail1 ++ (tail2 ++ (tail3))
set_option maxHeartbeats 4000000 in
theorem part4_eq (c : Dev nD) : main_part4 (F := F) c = seq part4 := rfl
theorem part4_sub : (part4 : List (HloOp τ sig (Elt F))).Forall fun op => op.bufs ⊆ tcRefs τ sig := by
  unfold part4
  simp only [List.forall_append]
  exact ⟨tail1_sub, tail2_sub, tail3_sub⟩
theorem part4_fresh : (part4 : List (HloOp τ sig (Elt F))).Forall fun op => op.fresh = ∅ := by
  unfold part4
  simp only [List.forall_append]
  exact ⟨tail1_fresh, tail2_fresh, tail3_fresh⟩
/-- The whole program as a list. -/
abbrev ops : List (HloOp τ sig (Elt F)) := part0 ++ (part1 ++ (part2 ++ (part3 ++ part4)))
theorem main_eq (c : Dev nD) : main (F := F) c = seq ops := by
  simp only [ops, seq_append, ← part0_eq c, ← part1_eq c, ← part2_eq c, ← part3_eq c, ← part4_eq c]
  rfl
theorem ops_sub : (ops : List (HloOp τ sig (Elt F))).Forall fun op => op.bufs ⊆ tcRefs τ sig := by
  simp only [ops, List.forall_append]
  exact ⟨part0_sub, part1_sub, part2_sub, part3_sub, part4_sub⟩
theorem ops_fresh : (ops : List (HloOp τ sig (Elt F))).Forall fun op => op.fresh = ∅ := by
  simp only [ops, List.forall_append]
  exact ⟨part0_fresh, part1_fresh, part2_fresh, part3_fresh, part4_fresh⟩

/-- The contents after the stages up to the result: what the program leaves in the result and the arguments. -/
theorem run (m : (ℓ : Loc nD τ sig) → Buf (Elt F) ℓ) (g : Dev nD → PrngReg) :
    θ_run defs (onTc (τ := τ) (main (F := F))) ⟨m, fun _ => 0, g⟩ fun r => ∀ (c : Dev nD) (b : Ref sig .tc),
      r.2.mem ((c.tc : Thread nD τ).loc b) = after ops (launchContents m c) (Proc.devRef .tc b) :=
  run_seq (by decide) (by decide) defs main (fun _ => ops) main_eq (fun _ => ops_sub) m g
    fun _ => List.forall_iff_forall_mem.mp ops_fresh

end Cert.Proof.ReferenceIdeal

end
-- ==== Proof.Ref.Stages.lean ====
/- The contents after each stage of the reference program, and what a later stage reads of an earlier one. -/
module

public import proofs.«01_k».proof.Proof.Ref.Ops
public import Idealize.ShloMosaic.Lib.StableHlo.Run
public import Idealize.ShloMosaic.Lib.Pipeline.Frame
public import Idealize.ShloMosaic.Lib.Pipeline.FrameTail

@[expose] public section

set_option maxRecDepth 16384

noncomputable section

namespace Cert.Proof.ReferenceIdeal

open Cert.ReferenceIdeal Cert.ReferenceIdeal.Gen Idealize.ShloMosaic Idealize.ShloMosaic.TcCoe Idealize.SL.Sem Idealize.ShloMosaic.StableHlo

variable {F : FTy → Type} [FloatOps F]
/-- The contents after the stages up to `key1a`. -/
def A_key1a (V : Valuation τ sig (Elt F)) : Valuation τ sig (Elt F) := after key1a (V)
theorem A_key1a_keep (V : Valuation τ sig (Elt F)) (r : Ref sig .tc) (h : r ∉ key1a_W) : A_key1a V (Proc.devRef .tc r) = (V) (Proc.devRef .tc r) :=
  key1a_keep _ r h

/-- The contents after the stages up to `key1b`. -/
def A_key1b (V : Valuation τ sig (Elt F)) : Valuation τ sig (Elt F) := after key1b (A_key1a V)
theorem A_key1b_keep (V : Valuation τ sig (Elt F)) (r : Ref sig .tc) (h : r ∉ key1b_W) : A_key1b V (Proc.devRef .tc r) = (A_key1a V) (Proc.devRef .tc r) :=
  key1b_keep _ r h

/-- The contents after the stages up to `key1c`. -/
def A_key1c (V : Valuation τ sig (Elt F)) : Valuation τ sig (Elt F) := after key1c (A_key1b V)
theorem A_key1c_keep (V : Valuation τ sig (Elt F)) (r : Ref sig .tc) (h : r ∉ key1c_W) : A_key1c V (Proc.devRef .tc r) = (A_key1b V) (Proc.devRef .tc r) :=
  key1c_keep _ r h

/-- The contents after the stages up to `key1d`. -/
def A_key1d (V : Valuation τ sig (Elt F)) : Valuation τ sig (Elt F) := after key1d (A_key1c V)
theorem A_key1d_keep (V : Valuation τ sig (Elt F)) (r : Ref sig .tc) (h : r ∉ key1d_W) : A_key1d V (Proc.devRef .tc r) = (A_key1c V) (Proc.devRef .tc r) :=
  key1d_keep _ r h

/-- The contents after the stages up to `sort1`. -/
def A_sort1 (V : Valuation τ sig (Elt F)) : Valuation τ sig (Elt F) := after sort1 (A_key1d V)
theorem A_sort1_keep (V : Valuation τ sig (Elt F)) (r : Ref sig .tc) (h : r ∉ sort1_W) : A_sort1 V (Proc.devRef .tc r) = (A_key1d V) (Proc.devRef .tc r) :=
  sort1_keep _ r h

/-- The contents after the stages up to `mask1`. -/
def A_mask1 (V : Valuation τ sig (Elt F)) : Valuation τ sig (Elt F) := after mask1 (A_sort1 V)
theorem A_mask1_keep (V : Valuation τ sig (Elt F)) (r : Ref sig .tc) (h : r ∉ mask1_W) : A_mask1 V (Proc.devRef .tc r) = (A_sort1 V) (Proc.devRef .tc r) :=
  mask1_keep _ r h

/-- The contents after the stages up to `cnt1`. -/
def A_cnt1 (V : Valuation τ sig (Elt F)) : Valuation τ sig (Elt F) := after cnt1 (A_mask1 V)
theorem A_cnt1_keep (V : Valuation τ sig (Elt F)) (r : Ref sig .tc) (h : r ∉ cnt1_W) : A_cnt1 V (Proc.devRef .tc r) = (A_mask1 V) (Proc.devRef .tc r) :=
  cnt1_keep _ r h

/-- The contents after the stages up to `bins1`. -/
def A_bins1 (V : Valuation τ sig (Elt F)) : Valuation τ sig (Elt F) := after bins1 (A_cnt1 V)
theorem A_bins1_keep (V : Valuation τ sig (Elt F)) (r : Ref sig .tc) (h : r ∉ bins1_W) : A_bins1 V (Proc.devRef .tc r) = (A_cnt1 V) (Proc.devRef .tc r) :=
  bins1_keep _ r h

/-- The contents after the stages up to `fd1`. -/
def A_fd1 (V : Valuation τ sig (Elt F)) : Valuation τ sig (Elt F) := after fd1 (A_bins1 V)
theorem A_fd1_keep (V : Valuation τ sig (Elt F)) (r : Ref sig .tc) (h : r ∉ fd1_W) : A_fd1 V (Proc.devRef .tc r) = (A_bins1 V) (Proc.devRef .tc r) :=
  fd1_keep _ r h

/-- The contents after the stages up to `fm1`. -/
def A_fm1 (V : Valuation τ sig (Elt F)) : Valuation τ sig (Elt F) := after fm1 (A_fd1 V)
theorem A_fm1_keep (V : Valuation τ sig (Elt F)) (r : Ref sig .tc) (h : r ∉ fm1_W) : A_fm1 V (Proc.devRef .tc r) = (A_fd1 V) (Proc.devRef .tc r) :=
  fm1_keep _ r h

/-- The contents after the stages up to `pos1`. -/
def A_pos1 (V : Valuation τ sig (Elt F)) : Valuation τ sig (Elt F) := after pos1 (A_fm1 V)
theorem A_pos1_keep (V : Valuation τ sig (Elt F)) (r : Ref sig .tc) (h : r ∉ pos1_W) : A_pos1 V (Proc.devRef .tc r) = (A_fm1 V) (Proc.devRef .tc r) :=
  pos1_keep _ r h

/-- The contents after the stages up to `uniq1`. -/
def A_uniq1 (V : Valuation τ sig (Elt F)) : Valuation τ sig (Elt F) := after uniq1 (A_pos1 V)
theorem A_uniq1_keep (V : Valuation τ sig (Elt F)) (r : Ref sig .tc) (h : r ∉ uniq1_W) : A_uniq1 V (Proc.devRef .tc r) = (A_pos1 V) (Proc.devRef .tc r) :=
  uniq1_keep _ r h

/-- The contents after the stages up to `inv1`. -/
def A_inv1 (V : Valuation τ sig (Elt F)) : Valuation τ sig (Elt F) := after inv1 (A_uniq1 V)
theorem A_inv1_keep (V : Valuation τ sig (Elt F)) (r : Ref sig .tc) (h : r ∉ inv1_W) : A_inv1 V (Proc.devRef .tc r) = (A_uniq1 V) (Proc.devRef .tc r) :=
  inv1_keep _ r h

/-- The contents after the stages up to `pool1`. -/
def A_pool1 (V : Valuation τ sig (Elt F)) : Valuation τ sig (Elt F) := after pool1 (A_inv1 V)
theorem A_pool1_keep (V : Valuation τ sig (Elt F)) (r : Ref sig .tc) (h : r ∉ pool1_W) : A_pool1 V (Proc.devRef .tc r) = (A_inv1 V) (Proc.devRef .tc r) :=
  pool1_keep _ r h

/-- The contents after the stages up to `res1`. -/
def A_res1 (V : Valuation τ sig (Elt F)) : Valuation τ sig (Elt F) := after res1 (A_pool1 V)
theorem A_res1_keep (V : Valuation τ sig (Elt F)) (r : Ref sig .tc) (h : r ∉ res1_W) : A_res1 V (Proc.devRef .tc r) = (A_pool1 V) (Proc.devRef .tc r) :=
  res1_keep _ r h

/-- The contents after the stages up to `dec1`. -/
def A_dec1 (V : Valuation τ sig (Elt F)) : Valuation τ sig (Elt F) := after dec1 (A_res1 V)
theorem A_dec1_keep (V : Valuation τ sig (Elt F)) (r : Ref sig .tc) (h : r ∉ dec1_W) : A_dec1 V (Proc.devRef .tc r) = (A_res1 V) (Proc.devRef .tc r) :=
  dec1_keep _ r h

/-- The contents after the stages up to `dec2`. -/
def A_dec2 (V : Valuation τ sig (Elt F)) : Valuation τ sig (Elt F) := after dec2 (A_dec1 V)
theorem A_dec2_keep (V : Valuation τ sig (Elt F)) (r : Ref sig .tc) (h : r ∉ dec2_W) : A_dec2 V (Proc.devRef .tc r) = (A_dec1 V) (Proc.devRef .tc r) :=
  dec2_keep _ r h

/-- The contents after the stages up to `dec3`. -/
def A_dec3 (V : Valuation τ sig (Elt F)) : Valuation τ sig (Elt F) := after dec3 (A_dec2 V)
theorem A_dec3_keep (V : Valuation τ sig (Elt F)) (r : Ref sig .tc) (h : r ∉ dec3_W) : A_dec3 V (Proc.devRef .tc r) = (A_dec2 V) (Proc.devRef .tc r) :=
  dec3_keep _ r h

/-- The contents after the stages up to `dec4`. -/
def A_dec4 (V : Valuation τ sig (Elt F)) : Valuation τ sig (Elt F) := after dec4 (A_dec3 V)
theorem A_dec4_keep (V : Valuation τ sig (Elt F)) (r : Ref sig .tc) (h : r ∉ dec4_W) : A_dec4 V (Proc.devRef .tc r) = (A_dec3 V) (Proc.devRef .tc r) :=
  dec4_keep _ r h

/-- The contents after the stages up to `dec5`. -/
def A_dec5 (V : Valuation τ sig (Elt F)) : Valuation τ sig (Elt F) := after dec5 (A_dec4 V)
theorem A_dec5_keep (V : Valuation τ sig (Elt F)) (r : Ref sig .tc) (h : r ∉ dec5_W) : A_dec5 V (Proc.devRef .tc r) = (A_dec4 V) (Proc.devRef .tc r) :=
  dec5_keep _ r h

/-- The contents after the stages up to `dec6`. -/
def A_dec6 (V : Valuation τ sig (Elt F)) : Valuation τ sig (Elt F) := after dec6 (A_dec5 V)
theorem A_dec6_keep (V : Valuation τ sig (Elt F)) (r : Ref sig .tc) (h : r ∉ dec6_W) : A_dec6 V (Proc.devRef .tc r) = (A_dec5 V) (Proc.devRef .tc r) :=
  dec6_keep _ r h

/-- The contents after the stages up to `coor2`. -/
def A_coor2 (V : Valuation τ sig (Elt F)) : Valuation τ sig (Elt F) := after coor2 (A_dec6 V)
theorem A_coor2_keep (V : Valuation τ sig (Elt F)) (r : Ref sig .tc) (h : r ∉ coor2_W) : A_coor2 V (Proc.devRef .tc r) = (A_dec6 V) (Proc.devRef .tc r) :=
  coor2_keep _ r h

/-- The contents after the stages up to `key2a`. -/
def A_key2a (V : Valuation τ sig (Elt F)) : Valuation τ sig (Elt F) := after key2a (A_coor2 V)
theorem A_key2a_keep (V : Valuation τ sig (Elt F)) (r : Ref sig .tc) (h : r ∉ key2a_W) : A_key2a V (Proc.devRef .tc r) = (A_coor2 V) (Proc.devRef .tc r) :=
  key2a_keep _ r h

/-- The contents after the stages up to `key2b`. -/
def A_key2b (V : Valuation τ sig (Elt F)) : Valuation τ sig (Elt F) := after key2b (A_key2a V)
theorem A_key2b_keep (V : Valuation τ sig (Elt F)) (r : Ref sig .tc) (h : r ∉ key2b_W) : A_key2b V (Proc.devRef .tc r) = (A_key2a V) (Proc.devRef .tc r) :=
  key2b_keep _ r h

/-- The contents after the stages up to `key2c`. -/
def A_key2c (V : Valuation τ sig (Elt F)) : Valuation τ sig (Elt F) := after key2c (A_key2b V)
theorem A_key2c_keep (V : Valuation τ sig (Elt F)) (r : Ref sig .tc) (h : r ∉ key2c_W) : A_key2c V (Proc.devRef .tc r) = (A_key2b V) (Proc.devRef .tc r) :=
  key2c_keep _ r h

/-- The contents after the stages up to `key2d`. -/
def A_key2d (V : Valuation τ sig (Elt F)) : Valuation τ sig (Elt F) := after key2d (A_key2c V)
theorem A_key2d_keep (V : Valuation τ sig (Elt F)) (r : Ref sig .tc) (h : r ∉ key2d_W) : A_key2d V (Proc.devRef .tc r) = (A_key2c V) (Proc.devRef .tc r) :=
  key2d_keep _ r h

/-- The contents after the stages up to `sort2`. -/
def A_sort2 (V : Valuation τ sig (Elt F)) : Valuation τ sig (Elt F) := after sort2 (A_key2d V)
theorem A_sort2_keep (V : Valuation τ sig (Elt F)) (r : Ref sig .tc) (h : r ∉ sort2_W) : A_sort2 V (Proc.devRef .tc r) = (A_key2d V) (Proc.devRef .tc r) :=
  sort2_keep _ r h

/-- The contents after the stages up to `mask2`. -/
def A_mask2 (V : Valuation τ sig (Elt F)) : Valuation τ sig (Elt F) := after mask2 (A_sort2 V)
theorem A_mask2_keep (V : Valuation τ sig (Elt F)) (r : Ref sig .tc) (h : r ∉ mask2_W) : A_mask2 V (Proc.devRef .tc r) = (A_sort2 V) (Proc.devRef .tc r) :=
  mask2_keep _ r h

/-- The contents after the stages up to `cnt2`. -/
def A_cnt2 (V : Valuation τ sig (Elt F)) : Valuation τ sig (Elt F) := after cnt2 (A_mask2 V)
theorem A_cnt2_keep (V : Valuation τ sig (Elt F)) (r : Ref sig .tc) (h : r ∉ cnt2_W) : A_cnt2 V (Proc.devRef .tc r) = (A_mask2 V) (Proc.devRef .tc r) :=
  cnt2_keep _ r h

/-- The contents after the stages up to `bins2`. -/
def A_bins2 (V : Valuation τ sig (Elt F)) : Valuation τ sig (Elt F) := after bins2 (A_cnt2 V)
theorem A_bins2_keep (V : Valuation τ sig (Elt F)) (r : Ref sig .tc) (h : r ∉ bins2_W) : A_bins2 V (Proc.devRef .tc r) = (A_cnt2 V) (Proc.devRef .tc r) :=
  bins2_keep _ r h

/-- The contents after the stages up to `fd2`. -/
def A_fd2 (V : Valuation τ sig (Elt F)) : Valuation τ sig (Elt F) := after fd2 (A_bins2 V)
theorem A_fd2_keep (V : Valuation τ sig (Elt F)) (r : Ref sig .tc) (h : r ∉ fd2_W) : A_fd2 V (Proc.devRef .tc r) = (A_bins2 V) (Proc.devRef .tc r) :=
  fd2_keep _ r h

/-- The contents after the stages up to `fm2`. -/
def A_fm2 (V : Valuation τ sig (Elt F)) : Valuation τ sig (Elt F) := after fm2 (A_fd2 V)
theorem A_fm2_keep (V : Valuation τ sig (Elt F)) (r : Ref sig .tc) (h : r ∉ fm2_W) : A_fm2 V (Proc.devRef .tc r) = (A_fd2 V) (Proc.devRef .tc r) :=
  fm2_keep _ r h

/-- The contents after the stages up to `pos2_0`. -/
def A_pos2_0 (V : Valuation τ sig (Elt F)) : Valuation τ sig (Elt F) := after pos2_0 (A_fm2 V)
theorem A_pos2_0_keep (V : Valuation τ sig (Elt F)) (r : Ref sig .tc) (h : r ∉ pos2_0_W) : A_pos2_0 V (Proc.devRef .tc r) = (A_fm2 V) (Proc.devRef .tc r) :=
  pos2_0_keep _ r h

/-- The contents after the stages up to `pos2_1`. -/
def A_pos2_1 (V : Valuation τ sig (Elt F)) : Valuation τ sig (Elt F) := after pos2_1 (A_pos2_0 V)
theorem A_pos2_1_keep (V : Valuation τ sig (Elt F)) (r : Ref sig .tc) (h : r ∉ pos2_1_W) : A_pos2_1 V (Proc.devRef .tc r) = (A_pos2_0 V) (Proc.devRef .tc r) :=
  pos2_1_keep _ r h

/-- The contents after the stages up to `uniq2`. -/
def A_uniq2 (V : Valuation τ sig (Elt F)) : Valuation τ sig (Elt F) := after uniq2 (A_pos2_1 V)
theorem A_uniq2_keep (V : Valuation τ sig (Elt F)) (r : Ref sig .tc) (h : r ∉ uniq2_W) : A_uniq2 V (Proc.devRef .tc r) = (A_pos2_1 V) (Proc.devRef .tc r) :=
  uniq2_keep _ r h

/-- The contents after the stages up to `inv2`. -/
def A_inv2 (V : Valuation τ sig (Elt F)) : Valuation τ sig (Elt F) := after inv2 (A_uniq2 V)
theorem A_inv2_keep (V : Valuation τ sig (Elt F)) (r : Ref sig .tc) (h : r ∉ inv2_W) : A_inv2 V (Proc.devRef .tc r) = (A_uniq2 V) (Proc.devRef .tc r) :=
  inv2_keep _ r h

/-- The contents after the stages up to `pool2`. -/
def A_pool2 (V : Valuation τ sig (Elt F)) : Valuation τ sig (Elt F) := after pool2 (A_inv2 V)
theorem A_pool2_keep (V : Valuation τ sig (Elt F)) (r : Ref sig .tc) (h : r ∉ pool2_W) : A_pool2 V (Proc.devRef .tc r) = (A_inv2 V) (Proc.devRef .tc r) :=
  pool2_keep _ r h

/-- The contents after the stages up to `res2`. -/
def A_res2 (V : Valuation τ sig (Elt F)) : Valuation τ sig (Elt F) := after res2 (A_pool2 V)
theorem A_res2_keep (V : Valuation τ sig (Elt F)) (r : Ref sig .tc) (h : r ∉ res2_W) : A_res2 V (Proc.devRef .tc r) = (A_pool2 V) (Proc.devRef .tc r) :=
  res2_keep _ r h

/-- The contents after the stages up to `tail0`. -/
def A_tail0 (V : Valuation τ sig (Elt F)) : Valuation τ sig (Elt F) := after tail0 (A_res2 V)
theorem A_tail0_keep (V : Valuation τ sig (Elt F)) (r : Ref sig .tc) (h : r ∉ tail0_W) : A_tail0 V (Proc.devRef .tc r) = (A_res2 V) (Proc.devRef .tc r) :=
  tail0_keep _ r h

/-- The contents after the stages up to `tail1`. -/
def A_tail1 (V : Valuation τ sig (Elt F)) : Valuation τ sig (Elt F) := after tail1 (A_tail0 V)
theorem A_tail1_keep (V : Valuation τ sig (Elt F)) (r : Ref sig .tc) (h : r ∉ tail1_W) : A_tail1 V (Proc.devRef .tc r) = (A_tail0 V) (Proc.devRef .tc r) :=
  tail1_keep _ r h

/-- The contents after the stages up to `tail2`. -/
def A_tail2 (V : Valuation τ sig (Elt F)) : Valuation τ sig (Elt F) := after tail2 (A_tail1 V)
theorem A_tail2_keep (V : Valuation τ sig (Elt F)) (r : Ref sig .tc) (h : r ∉ tail2_W) : A_tail2 V (Proc.devRef .tc r) = (A_tail1 V) (Proc.devRef .tc r) :=
  tail2_keep _ r h

/-- The contents after the stages up to `tail3`. -/
def A_tail3 (V : Valuation τ sig (Elt F)) : Valuation τ sig (Elt F) := after tail3 (A_tail2 V)
theorem A_tail3_keep (V : Valuation τ sig (Elt F)) (r : Ref sig .tc) (h : r ∉ tail3_W) : A_tail3 V (Proc.devRef .tc r) = (A_tail2 V) (Proc.devRef .tc r) :=
  tail3_keep _ r h

theorem key1b_in_main_arg1 (V : Valuation τ sig (Elt F)) : (A_key1a V) (Proc.devRef .tc main_arg1) = (V) (Proc.devRef .tc main_arg1) :=
  A_key1a_keep V main_arg1 (by decide)

theorem key1c_in_main_arg1 (V : Valuation τ sig (Elt F)) : (A_key1b V) (Proc.devRef .tc main_arg1) = (V) (Proc.devRef .tc main_arg1) :=
  (A_key1b_keep V main_arg1 (by decide)).trans (A_key1a_keep V main_arg1 (by decide))

theorem key1d_in_main_v1 (V : Valuation τ sig (Elt F)) : (A_key1c V) (Proc.devRef .tc main_v1) = (A_key1a V) (Proc.devRef .tc main_v1) :=
  (A_key1c_keep V main_v1 (by decide)).trans (A_key1b_keep V main_v1 (by decide))

theorem key1d_in_main_v4 (V : Valuation τ sig (Elt F)) : (A_key1c V) (Proc.devRef .tc main_v4) = (A_key1a V) (Proc.devRef .tc main_v4) :=
  (A_key1c_keep V main_v4 (by decide)).trans (A_key1b_keep V main_v4 (by decide))

theorem key1d_in_main_v7 (V : Valuation τ sig (Elt F)) : (A_key1c V) (Proc.devRef .tc main_v7) = (A_key1b V) (Proc.devRef .tc main_v7) :=
  A_key1c_keep V main_v7 (by decide)

theorem pos1_in_main_v23_1 (V : Valuation τ sig (Elt F)) : (A_fm1 V) (Proc.devRef .tc main_v23_1) = (A_mask1 V) (Proc.devRef .tc main_v23_1) :=
  (A_fm1_keep V main_v23_1 (by decide)).trans ((A_fd1_keep V main_v23_1 (by decide)).trans ((A_bins1_keep V main_v23_1 (by decide)).trans (A_cnt1_keep V main_v23_1 (by decide))))

theorem uniq1_in_main_v23_0 (V : Valuation τ sig (Elt F)) : (A_pos1 V) (Proc.devRef .tc main_v23_0) = (A_sort1 V) (Proc.devRef .tc main_v23_0) :=
  (A_pos1_keep V main_v23_0 (by decide)).trans ((A_fm1_keep V main_v23_0 (by decide)).trans ((A_fd1_keep V main_v23_0 (by decide)).trans ((A_bins1_keep V main_v23_0 (by decide)).trans ((A_cnt1_keep V main_v23_0 (by decide)).trans (A_mask1_keep V main_v23_0 (by decide))))))

theorem uniq1_in_main_v23_1 (V : Valuation τ sig (Elt F)) : (A_pos1 V) (Proc.devRef .tc main_v23_1) = (A_mask1 V) (Proc.devRef .tc main_v23_1) :=
  (A_pos1_keep V main_v23_1 (by decide)).trans ((A_fm1_keep V main_v23_1 (by decide)).trans ((A_fd1_keep V main_v23_1 (by decide)).trans ((A_bins1_keep V main_v23_1 (by decide)).trans (A_cnt1_keep V main_v23_1 (by decide)))))

theorem inv1_in_main_v23_1 (V : Valuation τ sig (Elt F)) : (A_uniq1 V) (Proc.devRef .tc main_v23_1) = (A_mask1 V) (Proc.devRef .tc main_v23_1) :=
  (A_uniq1_keep V main_v23_1 (by decide)).trans ((A_pos1_keep V main_v23_1 (by decide)).trans ((A_fm1_keep V main_v23_1 (by decide)).trans ((A_fd1_keep V main_v23_1 (by decide)).trans ((A_bins1_keep V main_v23_1 (by decide)).trans (A_cnt1_keep V main_v23_1 (by decide))))))

theorem inv1_in_main_v23_2 (V : Valuation τ sig (Elt F)) : (A_uniq1 V) (Proc.devRef .tc main_v23_2) = (A_sort1 V) (Proc.devRef .tc main_v23_2) :=
  (A_uniq1_keep V main_v23_2 (by decide)).trans ((A_pos1_keep V main_v23_2 (by decide)).trans ((A_fm1_keep V main_v23_2 (by decide)).trans ((A_fd1_keep V main_v23_2 (by decide)).trans ((A_bins1_keep V main_v23_2 (by decide)).trans ((A_cnt1_keep V main_v23_2 (by decide)).trans (A_mask1_keep V main_v23_2 (by decide)))))))

theorem pool1_in_main_arg0 (V : Valuation τ sig (Elt F)) : (A_inv1 V) (Proc.devRef .tc main_arg0) = (V) (Proc.devRef .tc main_arg0) :=
  (A_inv1_keep V main_arg0 (by decide)).trans ((A_uniq1_keep V main_arg0 (by decide)).trans ((A_pos1_keep V main_arg0 (by decide)).trans ((A_fm1_keep V main_arg0 (by decide)).trans ((A_fd1_keep V main_arg0 (by decide)).trans ((A_bins1_keep V main_arg0 (by decide)).trans ((A_cnt1_keep V main_arg0 (by decide)).trans ((A_mask1_keep V main_arg0 (by decide)).trans ((A_sort1_keep V main_arg0 (by decide)).trans ((A_key1d_keep V main_arg0 (by decide)).trans ((A_key1c_keep V main_arg0 (by decide)).trans ((A_key1b_keep V main_arg0 (by decide)).trans (A_key1a_keep V main_arg0 (by decide)))))))))))))

theorem res1_in_main_v56 (V : Valuation τ sig (Elt F)) : (A_pool1 V) (Proc.devRef .tc main_v56) = (A_uniq1 V) (Proc.devRef .tc main_v56) :=
  (A_pool1_keep V main_v56 (by decide)).trans (A_inv1_keep V main_v56 (by decide))

theorem dec1_in_main_v56 (V : Valuation τ sig (Elt F)) : (A_res1 V) (Proc.devRef .tc main_v56) = (A_uniq1 V) (Proc.devRef .tc main_v56) :=
  (A_res1_keep V main_v56 (by decide)).trans ((A_pool1_keep V main_v56 (by decide)).trans (A_inv1_keep V main_v56 (by decide)))

theorem dec2_in_main_v56 (V : Valuation τ sig (Elt F)) : (A_dec1 V) (Proc.devRef .tc main_v56) = (A_uniq1 V) (Proc.devRef .tc main_v56) :=
  (A_dec1_keep V main_v56 (by decide)).trans ((A_res1_keep V main_v56 (by decide)).trans ((A_pool1_keep V main_v56 (by decide)).trans (A_inv1_keep V main_v56 (by decide))))

theorem dec4_in_main_v81 (V : Valuation τ sig (Elt F)) : (A_dec3 V) (Proc.devRef .tc main_v81) = (A_dec2 V) (Proc.devRef .tc main_v81) :=
  A_dec3_keep V main_v81 (by decide)

theorem dec6_in_main_v81 (V : Valuation τ sig (Elt F)) : (A_dec5 V) (Proc.devRef .tc main_v81) = (A_dec2 V) (Proc.devRef .tc main_v81) :=
  (A_dec5_keep V main_v81 (by decide)).trans ((A_dec4_keep V main_v81 (by decide)).trans (A_dec3_keep V main_v81 (by decide)))

theorem coor2_in_main_v77 (V : Valuation τ sig (Elt F)) : (A_dec6 V) (Proc.devRef .tc main_v77) = (A_res1 V) (Proc.devRef .tc main_v77) :=
  (A_dec6_keep V main_v77 (by decide)).trans ((A_dec5_keep V main_v77 (by decide)).trans ((A_dec4_keep V main_v77 (by decide)).trans ((A_dec3_keep V main_v77 (by decide)).trans ((A_dec2_keep V main_v77 (by decide)).trans (A_dec1_keep V main_v77 (by decide))))))

theorem coor2_in_main_v80 (V : Valuation τ sig (Elt F)) : (A_dec6 V) (Proc.devRef .tc main_v80) = (A_dec1 V) (Proc.devRef .tc main_v80) :=
  (A_dec6_keep V main_v80 (by decide)).trans ((A_dec5_keep V main_v80 (by decide)).trans ((A_dec4_keep V main_v80 (by decide)).trans ((A_dec3_keep V main_v80 (by decide)).trans (A_dec2_keep V main_v80 (by decide)))))

theorem coor2_in_main_v82 (V : Valuation τ sig (Elt F)) : (A_dec6 V) (Proc.devRef .tc main_v82) = (A_dec3 V) (Proc.devRef .tc main_v82) :=
  (A_dec6_keep V main_v82 (by decide)).trans ((A_dec5_keep V main_v82 (by decide)).trans (A_dec4_keep V main_v82 (by decide)))

theorem coor2_in_main_v84 (V : Valuation τ sig (Elt F)) : (A_dec6 V) (Proc.devRef .tc main_v84) = (A_dec5 V) (Proc.devRef .tc main_v84) :=
  A_dec6_keep V main_v84 (by decide)

theorem key2b_in_main_v92 (V : Valuation τ sig (Elt F)) : (A_key2a V) (Proc.devRef .tc main_v92) = (A_coor2 V) (Proc.devRef .tc main_v92) :=
  A_key2a_keep V main_v92 (by decide)

theorem key2c_in_main_v92 (V : Valuation τ sig (Elt F)) : (A_key2b V) (Proc.devRef .tc main_v92) = (A_coor2 V) (Proc.devRef .tc main_v92) :=
  (A_key2b_keep V main_v92 (by decide)).trans (A_key2a_keep V main_v92 (by decide))

theorem key2d_in_main_v94 (V : Valuation τ sig (Elt F)) : (A_key2c V) (Proc.devRef .tc main_v94) = (A_key2a V) (Proc.devRef .tc main_v94) :=
  (A_key2c_keep V main_v94 (by decide)).trans (A_key2b_keep V main_v94 (by decide))

theorem key2d_in_main_v97 (V : Valuation τ sig (Elt F)) : (A_key2c V) (Proc.devRef .tc main_v97) = (A_key2a V) (Proc.devRef .tc main_v97) :=
  (A_key2c_keep V main_v97 (by decide)).trans (A_key2b_keep V main_v97 (by decide))

theorem key2d_in_main_v100 (V : Valuation τ sig (Elt F)) : (A_key2c V) (Proc.devRef .tc main_v100) = (A_key2b V) (Proc.devRef .tc main_v100) :=
  A_key2c_keep V main_v100 (by decide)

theorem pos2_0_in_main_v116_1 (V : Valuation τ sig (Elt F)) : (A_fm2 V) (Proc.devRef .tc main_v116_1) = (A_mask2 V) (Proc.devRef .tc main_v116_1) :=
  (A_fm2_keep V main_v116_1 (by decide)).trans ((A_fd2_keep V main_v116_1 (by decide)).trans ((A_bins2_keep V main_v116_1 (by decide)).trans (A_cnt2_keep V main_v116_1 (by decide))))

theorem pos2_1_in_main_v129 (V : Valuation τ sig (Elt F)) : (A_pos2_0 V) (Proc.devRef .tc main_v129) = (A_fm2 V) (Proc.devRef .tc main_v129) :=
  A_pos2_0_keep V main_v129 (by decide)

theorem uniq2_in_main_v116_0 (V : Valuation τ sig (Elt F)) : (A_pos2_1 V) (Proc.devRef .tc main_v116_0) = (A_sort2 V) (Proc.devRef .tc main_v116_0) :=
  (A_pos2_1_keep V main_v116_0 (by decide)).trans ((A_pos2_0_keep V main_v116_0 (by decide)).trans ((A_fm2_keep V main_v116_0 (by decide)).trans ((A_fd2_keep V main_v116_0 (by decide)).trans ((A_bins2_keep V main_v116_0 (by decide)).trans ((A_cnt2_keep V main_v116_0 (by decide)).trans (A_mask2_keep V main_v116_0 (by decide)))))))

theorem uniq2_in_main_v116_1 (V : Valuation τ sig (Elt F)) : (A_pos2_1 V) (Proc.devRef .tc main_v116_1) = (A_mask2 V) (Proc.devRef .tc main_v116_1) :=
  (A_pos2_1_keep V main_v116_1 (by decide)).trans ((A_pos2_0_keep V main_v116_1 (by decide)).trans ((A_fm2_keep V main_v116_1 (by decide)).trans ((A_fd2_keep V main_v116_1 (by decide)).trans ((A_bins2_keep V main_v116_1 (by decide)).trans (A_cnt2_keep V main_v116_1 (by decide))))))

theorem inv2_in_main_v116_1 (V : Valuation τ sig (Elt F)) : (A_uniq2 V) (Proc.devRef .tc main_v116_1) = (A_mask2 V) (Proc.devRef .tc main_v116_1) :=
  (A_uniq2_keep V main_v116_1 (by decide)).trans ((A_pos2_1_keep V main_v116_1 (by decide)).trans ((A_pos2_0_keep V main_v116_1 (by decide)).trans ((A_fm2_keep V main_v116_1 (by decide)).trans ((A_fd2_keep V main_v116_1 (by decide)).trans ((A_bins2_keep V main_v116_1 (by decide)).trans (A_cnt2_keep V main_v116_1 (by decide)))))))

theorem inv2_in_main_v116_2 (V : Valuation τ sig (Elt F)) : (A_uniq2 V) (Proc.devRef .tc main_v116_2) = (A_sort2 V) (Proc.devRef .tc main_v116_2) :=
  (A_uniq2_keep V main_v116_2 (by decide)).trans ((A_pos2_1_keep V main_v116_2 (by decide)).trans ((A_pos2_0_keep V main_v116_2 (by decide)).trans ((A_fm2_keep V main_v116_2 (by decide)).trans ((A_fd2_keep V main_v116_2 (by decide)).trans ((A_bins2_keep V main_v116_2 (by decide)).trans ((A_cnt2_keep V main_v116_2 (by decide)).trans (A_mask2_keep V main_v116_2 (by decide))))))))

theorem pool2_in_main_v79 (V : Valuation τ sig (Elt F)) : (A_inv2 V) (Proc.devRef .tc main_v79) = (A_res1 V) (Proc.devRef .tc main_v79) :=
  (A_inv2_keep V main_v79 (by decide)).trans ((A_uniq2_keep V main_v79 (by decide)).trans ((A_pos2_1_keep V main_v79 (by decide)).trans ((A_pos2_0_keep V main_v79 (by decide)).trans ((A_fm2_keep V main_v79 (by decide)).trans ((A_fd2_keep V main_v79 (by decide)).trans ((A_bins2_keep V main_v79 (by decide)).trans ((A_cnt2_keep V main_v79 (by decide)).trans ((A_mask2_keep V main_v79 (by decide)).trans ((A_sort2_keep V main_v79 (by decide)).trans ((A_key2d_keep V main_v79 (by decide)).trans ((A_key2c_keep V main_v79 (by decide)).trans ((A_key2b_keep V main_v79 (by decide)).trans ((A_key2a_keep V main_v79 (by decide)).trans ((A_coor2_keep V main_v79 (by decide)).trans ((A_dec6_keep V main_v79 (by decide)).trans ((A_dec5_keep V main_v79 (by decide)).trans ((A_dec4_keep V main_v79 (by decide)).trans ((A_dec3_keep V main_v79 (by decide)).trans ((A_dec2_keep V main_v79 (by decide)).trans (A_dec1_keep V main_v79 (by decide)))))))))))))))))))))

theorem res2_in_main_v149 (V : Valuation τ sig (Elt F)) : (A_pool2 V) (Proc.devRef .tc main_v149) = (A_uniq2 V) (Proc.devRef .tc main_v149) :=
  (A_pool2_keep V main_v149 (by decide)).trans (A_inv2_keep V main_v149 (by decide))

theorem final_main_arg0 (V : Valuation τ sig (Elt F)) : (A_tail3 V) (Proc.devRef .tc main_arg0) = (V) (Proc.devRef .tc main_arg0) :=
  (A_tail3_keep V main_arg0 (by decide)).trans ((A_tail2_keep V main_arg0 (by decide)).trans ((A_tail1_keep V main_arg0 (by decide)).trans ((A_tail0_keep V main_arg0 (by decide)).trans ((A_res2_keep V main_arg0 (by decide)).trans ((A_pool2_keep V main_arg0 (by decide)).trans ((A_inv2_keep V main_arg0 (by decide)).trans ((A_uniq2_keep V main_arg0 (by decide)).trans ((A_pos2_1_keep V main_arg0 (by decide)).trans ((A_pos2_0_keep V main_arg0 (by decide)).trans ((A_fm2_keep V main_arg0 (by decide)).trans ((A_fd2_keep V main_arg0 (by decide)).trans ((A_bins2_keep V main_arg0 (by decide)).trans ((A_cnt2_keep V main_arg0 (by decide)).trans ((A_mask2_keep V main_arg0 (by decide)).trans ((A_sort2_keep V main_arg0 (by decide)).trans ((A_key2d_keep V main_arg0 (by decide)).trans ((A_key2c_keep V main_arg0 (by decide)).trans ((A_key2b_keep V main_arg0 (by decide)).trans ((A_key2a_keep V main_arg0 (by decide)).trans ((A_coor2_keep V main_arg0 (by decide)).trans ((A_dec6_keep V main_arg0 (by decide)).trans ((A_dec5_keep V main_arg0 (by decide)).trans ((A_dec4_keep V main_arg0 (by decide)).trans ((A_dec3_keep V main_arg0 (by decide)).trans ((A_dec2_keep V main_arg0 (by decide)).trans ((A_dec1_keep V main_arg0 (by decide)).trans ((A_res1_keep V main_arg0 (by decide)).trans ((A_pool1_keep V main_arg0 (by decide)).trans ((A_inv1_keep V main_arg0 (by decide)).trans ((A_uniq1_keep V main_arg0 (by decide)).trans ((A_pos1_keep V main_arg0 (by decide)).trans ((A_fm1_keep V main_arg0 (by decide)).trans ((A_fd1_keep V main_arg0 (by decide)).trans ((A_bins1_keep V main_arg0 (by decide)).trans ((A_cnt1_keep V main_arg0 (by decide)).trans ((A_mask1_keep V main_arg0 (by decide)).trans ((A_sort1_keep V main_arg0 (by decide)).trans ((A_key1d_keep V main_arg0 (by decide)).trans ((A_key1c_keep V main_arg0 (by decide)).trans ((A_key1b_keep V main_arg0 (by decide)).trans (A_key1a_keep V main_arg0 (by decide))))))))))))))))))))))))))))))))))))))))))

theorem final_main_arg1 (V : Valuation τ sig (Elt F)) : (A_tail3 V) (Proc.devRef .tc main_arg1) = (V) (Proc.devRef .tc main_arg1) :=
  (A_tail3_keep V main_arg1 (by decide)).trans ((A_tail2_keep V main_arg1 (by decide)).trans ((A_tail1_keep V main_arg1 (by decide)).trans ((A_tail0_keep V main_arg1 (by decide)).trans ((A_res2_keep V main_arg1 (by decide)).trans ((A_pool2_keep V main_arg1 (by decide)).trans ((A_inv2_keep V main_arg1 (by decide)).trans ((A_uniq2_keep V main_arg1 (by decide)).trans ((A_pos2_1_keep V main_arg1 (by decide)).trans ((A_pos2_0_keep V main_arg1 (by decide)).trans ((A_fm2_keep V main_arg1 (by decide)).trans ((A_fd2_keep V main_arg1 (by decide)).trans ((A_bins2_keep V main_arg1 (by decide)).trans ((A_cnt2_keep V main_arg1 (by decide)).trans ((A_mask2_keep V main_arg1 (by decide)).trans ((A_sort2_keep V main_arg1 (by decide)).trans ((A_key2d_keep V main_arg1 (by decide)).trans ((A_key2c_keep V main_arg1 (by decide)).trans ((A_key2b_keep V main_arg1 (by decide)).trans ((A_key2a_keep V main_arg1 (by decide)).trans ((A_coor2_keep V main_arg1 (by decide)).trans ((A_dec6_keep V main_arg1 (by decide)).trans ((A_dec5_keep V main_arg1 (by decide)).trans ((A_dec4_keep V main_arg1 (by decide)).trans ((A_dec3_keep V main_arg1 (by decide)).trans ((A_dec2_keep V main_arg1 (by decide)).trans ((A_dec1_keep V main_arg1 (by decide)).trans ((A_res1_keep V main_arg1 (by decide)).trans ((A_pool1_keep V main_arg1 (by decide)).trans ((A_inv1_keep V main_arg1 (by decide)).trans ((A_uniq1_keep V main_arg1 (by decide)).trans ((A_pos1_keep V main_arg1 (by decide)).trans ((A_fm1_keep V main_arg1 (by decide)).trans ((A_fd1_keep V main_arg1 (by decide)).trans ((A_bins1_keep V main_arg1 (by decide)).trans ((A_cnt1_keep V main_arg1 (by decide)).trans ((A_mask1_keep V main_arg1 (by decide)).trans ((A_sort1_keep V main_arg1 (by decide)).trans ((A_key1d_keep V main_arg1 (by decide)).trans ((A_key1c_keep V main_arg1 (by decide)).trans ((A_key1b_keep V main_arg1 (by decide)).trans (A_key1a_keep V main_arg1 (by decide))))))))))))))))))))))))))))))))))))))))))

theorem final_main_arg2 (V : Valuation τ sig (Elt F)) : (A_tail3 V) (Proc.devRef .tc main_arg2) = (V) (Proc.devRef .tc main_arg2) :=
  (A_tail3_keep V main_arg2 (by decide)).trans ((A_tail2_keep V main_arg2 (by decide)).trans ((A_tail1_keep V main_arg2 (by decide)).trans ((A_tail0_keep V main_arg2 (by decide)).trans ((A_res2_keep V main_arg2 (by decide)).trans ((A_pool2_keep V main_arg2 (by decide)).trans ((A_inv2_keep V main_arg2 (by decide)).trans ((A_uniq2_keep V main_arg2 (by decide)).trans ((A_pos2_1_keep V main_arg2 (by decide)).trans ((A_pos2_0_keep V main_arg2 (by decide)).trans ((A_fm2_keep V main_arg2 (by decide)).trans ((A_fd2_keep V main_arg2 (by decide)).trans ((A_bins2_keep V main_arg2 (by decide)).trans ((A_cnt2_keep V main_arg2 (by decide)).trans ((A_mask2_keep V main_arg2 (by decide)).trans ((A_sort2_keep V main_arg2 (by decide)).trans ((A_key2d_keep V main_arg2 (by decide)).trans ((A_key2c_keep V main_arg2 (by decide)).trans ((A_key2b_keep V main_arg2 (by decide)).trans ((A_key2a_keep V main_arg2 (by decide)).trans ((A_coor2_keep V main_arg2 (by decide)).trans ((A_dec6_keep V main_arg2 (by decide)).trans ((A_dec5_keep V main_arg2 (by decide)).trans ((A_dec4_keep V main_arg2 (by decide)).trans ((A_dec3_keep V main_arg2 (by decide)).trans ((A_dec2_keep V main_arg2 (by decide)).trans ((A_dec1_keep V main_arg2 (by decide)).trans ((A_res1_keep V main_arg2 (by decide)).trans ((A_pool1_keep V main_arg2 (by decide)).trans ((A_inv1_keep V main_arg2 (by decide)).trans ((A_uniq1_keep V main_arg2 (by decide)).trans ((A_pos1_keep V main_arg2 (by decide)).trans ((A_fm1_keep V main_arg2 (by decide)).trans ((A_fd1_keep V main_arg2 (by decide)).trans ((A_bins1_keep V main_arg2 (by decide)).trans ((A_cnt1_keep V main_arg2 (by decide)).trans ((A_mask1_keep V main_arg2 (by decide)).trans ((A_sort1_keep V main_arg2 (by decide)).trans ((A_key1d_keep V main_arg2 (by decide)).trans ((A_key1c_keep V main_arg2 (by decide)).trans ((A_key1b_keep V main_arg2 (by decide)).trans (A_key1a_keep V main_arg2 (by decide))))))))))))))))))))))))))))))))))))))))))

theorem final_main_v172 (V : Valuation τ sig (Elt F)) : (A_tail3 V) (Proc.devRef .tc main_v172) = (A_res2 V) (Proc.devRef .tc main_v172) :=
  (A_tail3_keep V main_v172 (by decide)).trans ((A_tail2_keep V main_v172 (by decide)).trans ((A_tail1_keep V main_v172 (by decide)).trans (A_tail0_keep V main_v172 (by decide))))

/-- The whole program's contents are those after the last stage. -/
theorem after_ops (V : Valuation τ sig (Elt F)) : after ops V = A_tail3 V := by
  simp only [ops, part0, part1, part2, part3, part4, after_append]
  rfl

/-- Every run leaves in the result what the stage that writes it leaves there, and the arguments as they were. -/
theorem run_result (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_v172) = A_res2 (launchContents m c) (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v172).trans ((congrFun (after_ops _) _).trans (final_main_v172 _)),
      (h c main_arg0).trans ((congrFun (after_ops _) _).trans (final_main_arg0 _)),
      (h c main_arg1).trans ((congrFun (after_ops _) _).trans (final_main_arg1 _)),
      (h c main_arg2).trans ((congrFun (after_ops _) _).trans (final_main_arg2 _))⟩) (run m g)

end Cert.Proof.ReferenceIdeal

end
-- ==== Proof.RefFrame.lean ====
/- The reference program runs and leaves its arguments as they were. -/
module

public import proofs.«01_k».proof.Defs
public import proofs.«01_k».proof.Proof.Ref.Stages
public import proofs.«01_k».proof.Proof.Gen.Pre_in_range

@[expose] public section

namespace Cert.Proof.ReferenceIdeal

open Idealize.ShloMosaic

/-- The reference runs from any memory, leaves its arguments as they were, and it declares no semaphore. -/
theorem quiescent : letI := Cert.ReferenceIdeal.Gen.facts; Cert.quiescent_ReferenceIdeal := by
  intro m g _
  exact (θ_run (Cert.ReferenceIdeal.defs (F := Ideal)) _ _).mono
    (fun r h => ⟨fun c => (h c).2, Idealize.ShloMosaic.sem_eq_zero_of_no_sems (by decide) r.2⟩) (run_result m g)

/-- The same where the arguments pass the range check. -/
theorem quiescent_in_range : letI := Cert.ReferenceIdeal.Gen.facts; letI := Cert.Pre_in_range.Gen.facts;
    Cert.quiescent_ReferenceIdeal_pre_in_range := fun m g _ => quiescent m g trivial

end Cert.Proof.ReferenceIdeal
-- ==== Proof.KernelIdeal.Value.lean ====
/- The array the kernel program ends with, row by row. -/
module

public import proofs.«01_k».proof.Proof.KernelIdeal.Keys
public import Idealize.ShloMosaic.Lib.Pipeline.Value
public import Idealize.ShloMosaic.Lib.Routing.Ops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.StableHlo Idealize.ShloMosaic.ValueIdx
open Idealize.ShloMosaic.Pipeline (Dat Cfg Window)

variable {F : FTy → Type} [FloatOps F]
variable (m : (ℓ : Loc nD τ sig) → Buf (Elt F) ℓ)

/-- The last grid point. -/
abbrev lastPt : Fin cfg0.N := ⟨3124, by show 3124 < 3125; decide⟩

/-- The output block, as contents of the output array. -/
abbrev outArr (c : Dev nD) : Buf (Elt F) ((c : Thread nD τ).loc main_v20) := (mat (outFin m c) : S40064x32.Idx → F .f32)

/-- The whole-array block, cut and read. -/
theorem cut_read (g : ℕ → Fin 32 → F .f32) (c : Dev nD) (t : Fin cfg0.N) :
    ((cfg0.win 2).cut (grid0.coords t) (mat g : S40064x32.Idx → F .f32))
      = ((cfg0.win 2).blk t).view.read (Elt F) (mat g : S40064x32.Idx → F .f32) := by
  obtain ⟨-, -, -, -, -, e0, e1⟩ := grid_facts t
  funext z
  have h0 : ((((cfg0.win 2).blk t).view.emb z) 0).val = (z 0).val := by
    show win0_2.index t (0 : Fin 2) * 40064 + 1 * (z 0).val = (z 0).val; omega
  have h1 : ((((cfg0.win 2).blk t).view.emb z) 1).val = (z 1).val := by
    show win0_2.index t (1 : Fin 2) * 32 + 1 * (z 1).val = (z 1).val; omega
  show (mat g : S40064x32.Idx → F .f32) z = (mat g : S40064x32.Idx → F .f32) (((cfg0.win 2).blk t).view.emb z)
  refine congrArg (mat g : S40064x32.Idx → F .f32) (funext fun a => Fin.ext ?_)
  match a with
  | ⟨0, _⟩ => exact h0.symm
  | ⟨1, _⟩ => exact h1.symm

theorem after_last (c : Dev nD) (t : Fin cfg0.N) (ht : t.val = 3124) : (dats m 0 c).after 2 t = (mat (outFin m c) : S40064x32.Idx → F .f32) := by
  refine Eq.trans (b := if t.val = 3124 then (mat (outFin m c) : S40064x32.Idx → F .f32) else mat fun _ _ => zer) rfl ?_
  rw [if_pos ht]

theorem flushed_eq (c : Dev nD) (t : Fin cfg0.N) (h : (cfg0.win 2).flush t = true) :
    (dats m 0 c).flushed 2 t = ((cfg0.win 2).blk t).view.read (Elt F) (outArr m c) :=
  (congrArg ((cfg0.win 2).cut (grid0.coords t)) (after_last m c t ((flush2 t).mp h))).trans (cut_read (outFin m c) c t)

/-- The output array ends holding the last point's block. -/
theorem arr_eq (c : Dev nD) : (dats m 0 c).arrAt 2 cfg0.N = outArr m c :=
  (dats m 0 c).arrAt_eq_of_cover 2 (outArr m c) (flushed_eq m c) fun i => ⟨lastPt, (flush2 lastPt).mpr rfl, by
    show i ∈ ((View.whole main_v20).slice (win0_2.rect lastPt)).set
    rw [View.set_slice_whole, Rect.mem_set_unit]
    obtain ⟨-, -, -, -, -, e0, e1⟩ := grid_facts lastPt
    intro a
    have h0 : (i 0 : Nat) < 40064 := (i 0).isLt
    have h1 : (i 1 : Nat) < 32 := (i 1).isLt
    match a with
    | ⟨0, _⟩ =>
      show win0_2.index lastPt 0 * 40064 ≤ (i 0 : Nat) ∧ (i 0 : Nat) < win0_2.index lastPt 0 * 40064 + 40064
      omega
    | ⟨1, _⟩ =>
      show win0_2.index lastPt 1 * 32 ≤ (i 1 : Nat) ∧ (i 1 : Nat) < win0_2.index lastPt 1 * 32 + 32
      omega⟩

/-- The output block's rows with rows below them. -/
def padF : (⟨S40064x32, .f32⟩ : BufTy).Contents (Elt F) → (⟨S359936x32, .f32⟩ : BufTy).Contents (Elt F) → (⟨S400000x32, .f32⟩ : BufTy).Contents (Elt F) :=
  fun a b => concatenate S400000x32 0 [⟨S40064x32, a⟩, ⟨S359936x32, b⟩] concatenates_S40064x32_S359936x32_S400000x32_d0

/-- Rows of the padded block. -/
theorem padF_at (a : FVec F S40064x32 .f32) (b : FVec F S359936x32 .f32) (z : F .f32) (hb : ∀ i, b i = z) (r : Fin 400000) (l : Fin 32) :
    (padF a b : FVec F S400000x32 .f32) (ix2 r l) = if h : r.val < 40064 then a (ix2 ⟨r.val, h⟩ l) else z := by
  have hr := r.isLt
  unfold padF
  by_cases hlt : r.val < 40064
  · rw [dif_pos hlt]
    exact concatenate_pair_apply_left (t := S400000x32) (s₁ := S40064x32) (s₂ := S359936x32) 0 _ _ _ (ix2 r l) rfl (ix2 ⟨r.val, hlt⟩ l) fun a => by
      match a with
      | ⟨0, _⟩ => rfl
      | ⟨1, _⟩ => rfl
  · rw [dif_neg hlt]
    refine (concatenate_pair_apply_right (t := S400000x32) (s₁ := S40064x32) (s₂ := S359936x32) 0 _ _ _ (ix2 r l) rfl rfl
      (ix2 ⟨r.val - 40064, by omega⟩ l) (fun a ha => by
      match a with
      | ⟨0, _⟩ => exact absurd rfl ha
      | ⟨1, _⟩ => rfl) (by show r.val - 40064 + 40064 = r.val; omega)).trans (hb _)

/-- What the host operations after the region make of the output array. -/
theorem tail_eq (V : Valuation τ sig (Elt F)) : ((after hostOps1 V) (Proc.devRef .tc main_v22) : FVec F S400000x32 .f32)
    = padF (V (Proc.devRef .tc main_v20) : FVec F S40064x32 .f32) (broadcastInDim S359936x32 ![] bcast_S_S359936x32 (constant S_ .f32 0x00000000#32)) := by
  show (after [ StableHlo.nullary main_cst (constant S_ .f32 0x00000000#32),
    StableHlo.unary main_cst main_v21 (broadcastInDim S359936x32 ![] bcast_S_S359936x32 : (⟨S_, .f32⟩ : BufTy).Contents (Elt F) → (⟨S359936x32, .f32⟩ : BufTy).Contents (Elt F)),
    StableHlo.binary main_v20 main_v21 main_v22 padF ] V) (Proc.devRef .tc main_v22) = _
  after_results_simp

/-- The program's result, row by row: the output block, then zeros. -/
theorem result_eq (c : Dev nD) (r : Fin 400000) (l : Fin 32) :
    (Pipeline.afterTail₀ cfgs (dats m) 0 (V0 m) [hostOps1] c main_v22 : FVec F S400000x32 .f32) (ix2 r l)
      = if r.val < 40064 then outFin m c r.val l else zer := by
  have hV : (Pipeline.withArrays (cfgs 0).spec c (V0 m c) fun w => (dats m 0 c).arrAt w (cfgs 0).N) (Proc.devRef .tc main_v20) = outArr m c :=
    (Pipeline.withArrays_arr (cfgs 0).spec launch0.win.arr_inj c (V0 m c) (fun w => (dats m 0 c).arrAt w (cfgs 0).N) 2).trans (arr_eq m c)
  have h := tail_eq (Pipeline.withArrays (cfgs 0).spec c (V0 m c) fun w => (dats m 0 c).arrAt w (cfgs 0).N)
  rw [hV] at h
  refine (congrFun h (ix2 r l)).trans ((padF_at _ _ zer (fun i => Routing.bc0 bcast_S_S359936x32 _ i) r l).trans ?_)
  by_cases hlt : r.val < 40064
  · rw [dif_pos hlt, if_pos hlt]
  · rw [dif_neg hlt, if_neg hlt]

end Cert.Proof.KernelIdeal

end
-- ==== Proof.Ref.Forms.lean ====
/- What the reference program's stages compute, as functions of the arrays they read; the two layers share them. -/
module

public import proofs.«01_k».proof.Proof.Ref.Ops1

@[expose] public section

set_option maxRecDepth 16384

noncomputable section

namespace Cert.Proof.ReferenceIdeal

open Cert.ReferenceIdeal Cert.ReferenceIdeal.Gen Idealize.ShloMosaic Idealize.ShloMosaic.TcCoe Idealize.SL.Sem Idealize.ShloMosaic.StableHlo

variable {F : FTy → Type} [FloatOps F]

/-- One word in every place. -/
def fillW (k : BitVec 32) : IVec S400000 32 := broadcastInDim S400000 ![] bcast_S_S400000 (constantI S_ 32 k)

/-- A negative index counted from the end. -/
def wrapW (p : IVec S400000 32) : IVec S400000 32 := select (cmpi .slt p (fillW 0#32)) (addi p (fillW 400000#32)) p

/-- An index vector as a column. -/
def colW (p : IVec S400000 32) : IVec S400000x1 32 := broadcastInDim S400000x1 ![0] bcast_S400000_S400000x1_0 p

/-- The keys as the sort takes them, laid out as a row and back. -/
def rowW (key : IVec S400000 32) : IVec S400000 32 :=
  shapeCast S400000 (extractStridedSlice S1x400000 ![0, 0] (Host.reverse [0] (transpose S1x400000 [1, 0]
    (shapeCast S400000x1 key shapeCasts_S400000_S400000x1) transposes_S400000x1_S1x400000_1_0)) slices_S1x400000_S1x400000_0_0)
    shapeCasts_S1x400000_S400000

/-- The positions of the keys in sorted order. -/
def permW (key : IVec S400000 32) : IVec S400000 32 :=
  (Host.sort2 S400000 0 comparator_i32_i32_d0 (rowW key) (iotaInDim S400000 32 0)).2

/-- The entries at given positions. -/
def takeW (x p : IVec S400000 32) : IVec S400000 32 := Host.gather gather_S400000_S400000x1_S400000_n_0_n_n_0_1_1 x (colW (wrapW p))

/-- Where a sorted vector opens a new run. -/
def maskW (aux : IVec S400000 32) : IVec S400000 1 :=
  Host.scatter scatter_S400000_S1_S399999_0_n_0_0 (fun _ b => b) (broadcastInDim S400000 ![] bcast_S_S400000 (constantI S_ 1 1#1))
    (broadcastInDim S1 ![] bcast_S_S1 (constantI S_ 32 1#32))
    (Host.reduce IntOp.ori (cmpi .ne (extractStridedSlice S399999 ![1] aux slices_S400000_S399999_1)
      (extractStridedSlice S399999 ![0] aux slices_S400000_S399999_0)) (constantI S_ 1 0#1) reducesTo_S399999_S399999_d h_S_)

/-- Running sums. -/
def cumW (x : IVec S400000 32) : IVec S400000 32 :=
  Host.reduceWindow IntOp.addi ![400000] ![1] ![399999] ![0] x (broadcastInDim S_ ![] bcast_S_S_ (constantI S_ 32 0#32))
    reduceWindows_S400000_S400000_w400000s1p399999_0 h_S_

/-- A mask as words. -/
def wideW (mask : IVec S400000 1) : IVec S400000 32 := extui 32 mask natLt_1_32

/-- How often each number occurs, summed up to it. -/
def binsW (c : IVec S400000 32) : IVec S400000 32 :=
  cumW (Host.scatter scatter_S400000_S400000x1_S400000_n_0_0_1 IntOp.addi (fillW 0#32) (colW (wrapW c)) (fillW 1#32))

/-- The sum of a mask. -/
def totW (mask : IVec S400000 1) : IVec S_ 32 := Host.reduce IntOp.addi (wideW mask) (constantI S_ 32 0#32) reducesTo_S400000_S_d0 h_S_

/-- The positions, with 0 past the last run. -/
def posW (mask : IVec S400000 1) (p : IVec S400000 32) : IVec S400000 32 :=
  select (cmpi .sge (iotaInDim S400000 32 0) (broadcastInDim S400000 ![0] bcast_S1_S400000_0 (broadcastInDim S1 ![] bcast_S_S1 (totW mask))))
    (fillW 0#32) p

/-- The distinct values, with -1 past the last run. -/
def uniqW (mask : IVec S400000 1) (aux p : IVec S400000 32) : IVec S400000 32 :=
  select (cmpi .slt (iotaInDim S400000 32 0) (broadcastInDim S400000 ![] bcast_S_S400000 (totW mask))) (takeW aux p) (fillW 4294967295#32)

/-- Each key's run, put at the key's position. -/
def invW (mask : IVec S400000 1) (perm : IVec S400000 32) : IVec S400000 32 :=
  Host.scatter scatter_S400000_S400000x1_S400000_n_0_0_1 (fun _ b => b) (fillW 0#32) (colW (wrapW perm))
    (subi (cumW (wideW mask)) (fillW 1#32))

/-- Rounded-down division by a constant. -/
def fdW (k : BitVec 32) (x : IVec S400000 32) : IVec S400000 32 :=
  select (andi (cmpi .ne (signi x) (broadcastInDim S400000 ![] bcast_S_S400000 (signi (constantI S_ 32 k))))
      (cmpi .ne (Host.remsi x (fillW k)) (fillW 0#32)))
    (subi (Host.divsi x (fillW k)) (fillW 1#32)) (Host.divsi x (fillW k))

/-- The divisor of a remainder, with 1 for 0. -/
def divrW (k : BitVec 32) : IVec S_ 32 := select (cmpi .eq (constantI S_ 32 k) (constantI S_ 32 0#32)) (constantI S_ 32 1#32) (constantI S_ 32 k)

/-- The remainder by a constant. -/
def fmW (k : BitVec 32) (x : IVec S400000 32) : IVec S400000 32 :=
  let d := broadcastInDim S400000 ![] bcast_S_S400000 (divrW k)
  select (andi (cmpi .ne (cmpi .slt (Host.remsi x d) (fillW 0#32)) (broadcastInDim S400000 ![] bcast_S_S400000 (cmpi .slt (divrW k) (constantI S_ 32 0#32))))
      (cmpi .ne (Host.remsi x d) (fillW 0#32)))
    (addi (Host.remsi x d) d) (Host.remsi x d)

/-- For each segment the largest row of the segment, over all rows, with minus infinity for the rows of other segments. -/
def poolW (inv : IVec S400000 32) (f : FVec F S400000x32 .f32) : FVec F S400000x32 .f32 :=
  Host.reduce FloatOps.maximumf
    (select (broadcastInDim S400000x400000x32 ![0, 1, 2] bcast_S400000x400000x1_S400000x400000x32_0_1_2
        (cmpi .eq (broadcastInDim S400000x400000x1 ![0, 1, 2] bcast_S1x400000x1_S400000x400000x1_0_1_2
            (broadcastInDim S1x400000x1 ![1] bcast_S400000_S1x400000x1_1 inv))
          (broadcastInDim S400000x400000x1 ![0, 1, 2] bcast_S400000x1x1_S400000x400000x1_0_1_2 (iotaInDim S400000x1x1 32 0))))
      (broadcastInDim S400000x400000x32 ![0, 1, 2] bcast_S1x400000x32_S400000x400000x32_0_1_2
        (broadcastInDim S1x400000x32 ![1, 2] bcast_S400000x32_S1x400000x32_1_2 f))
      (broadcastInDim S400000x400000x32 ![] bcast_S_S400000x400000x32 (constant S_ .f32 0xFF800000#32)))
    (constant S_ .f32 0xFF800000#32) reducesTo_S400000x400000x32_S400000x32_d1 h_S_

/-- Which rows hold a value. -/
def liveW (uniq : IVec S400000 32) : IVec S400000 1 := cmpi .sge uniq (fillW 0#32)

/-- The pooled rows, with 0 in the rows that hold no value. -/
def resW (uniq : IVec S400000 32) (p : FVec F S400000x32 .f32) : FVec F S400000x32 .f32 :=
  select (broadcastInDim S400000x32 ![0, 1] bcast_S400000x1_S400000x32_0_1
      (broadcastInDim S400000x1 ![0] bcast_S400000_S400000x1_0 (liveW uniq))) p
    (broadcastInDim S400000x32 ![] bcast_S_S400000x32 (constant S_ .f32 0x00000000#32))

end Cert.Proof.ReferenceIdeal

end
-- ==== Proof.HostOps.lean ====
/- The reference's host operations read at an index, over any length: the sort, the scatter past the first entry, the
   reductions by `or` and by the larger value. -/
module

public import Idealize.ShloMosaic.Lib.Routing.OpsSet
public import Idealize.ShloMosaic.Lib.Routing.OpsOne
public import Idealize.ShloMosaic.Lib.SortFacts

@[expose] public section

namespace Cert.Proof.HostOps

open Idealize.ShloMosaic Idealize.ShloMosaic.ValueIdx Idealize.ShloMosaic.Routing

/-- Update `k` of a block of updates written from one index word on lands at `e` exactly when the word, read signed, plus
    `k` is `e`. -/
theorem lands_block {N U : ℕ} (d : ScatterDims (shape1 N) (shape1 1) (shape1 U)) (hiw : d.insertedWindowDims = [])
    (hsd : d.scatterDimsToOperandDims = [0]) (idx : IVec (shape1 1) 32) (k : Fin U) (e : Fin N) :
    d.resultIdx? (ix1 k) idx = some (ix1 e) ↔ (idx (ix1 0)).toInt + (k.val : Int) = e.val := by
  have hm : (0 : Fin 1) ∈ d.scatterDimsToOperandDims := by rw [hsd]; exact List.mem_singleton.2 rfl
  have hwin : d.window (ix1 k) 0 = k.val := by
    have hk : d.sKept = [0] := by
      show (shape1 N).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have hstart : d.start (ix1 k) idx 0 = (idx (ix1 0)).toInt := by
    unfold ScatterDims.start
    rw [dif_pos hm]
    have hsi : d.siIdx (ix1 k) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi]
  rw [resultIdx?_ix1, hstart, hwin]

/-- Writing all but one entry from index 1 on: entry 0 stays, entry `k + 1` is update `k`. -/
theorem scatter_tail {α : Type} {N U : ℕ} (d : ScatterDims (shape1 N) (shape1 1) (shape1 U)) (hiw : d.insertedWindowDims = [])
    (hsd : d.scatterDimsToOperandDims = [0]) (x0 : (shape1 N).Idx → α) (idx : IVec (shape1 1) 32) (upd : (shape1 U).Idx → α)
    (hidx : (idx (ix1 0)).toInt = 1) (e : Fin N) :
    (e.val = 0 → Host.scatter d (fun _ b => b) x0 idx upd (ix1 e) = x0 (ix1 e))
      ∧ ∀ k : Fin U, k.val + 1 = e.val → Host.scatter d (fun _ b => b) x0 idx upd (ix1 e) = upd (ix1 k) := by
  have lands : ∀ k' : (shape1 U).Idx, d.resultIdx? k' idx = some (ix1 e) → (k' 0).val + 1 = e.val := fun k' hk' => by
    have := (lands_block d hiw hsd idx (k' 0) e).1 ((congrArg (fun t => d.resultIdx? t idx) (eq_ix1 k').symm).trans hk')
    omega
  refine ⟨fun h => scatter_set_miss d x0 idx upd _ fun k' hk' => ?_, fun k hk => ?_⟩
  · have := lands k' hk'
    omega
  · refine scatter_set_hit d x0 idx upd _ _ (fun k' hk' => ?_) (ix1 k) ((lands_block d hiw hsd idx k e).2 (by omega))
    have := lands k' hk'
    refine (congrArg upd (eq_ix1 k')).trans (congrArg (fun t => upd (ix1 t)) (Fin.ext ?_))
    show (k' 0).val = k.val
    omega

theorem foldl_ori {ι : Type} (x : ι → BitVec 1) (l : List ι) (b : BitVec 1) :
    l.foldl (fun r n => IntOp.ori r (x n)) b = 1#1 ↔ b = 1#1 ∨ ∃ n ∈ l, x n = 1#1 := by
  induction l generalizing b with
  | nil => simp
  | cons n l ih =>
    rw [List.foldl_cons, ih]
    have : IntOp.ori b (x n) = 1#1 ↔ b = 1#1 ∨ x n = 1#1 := by
      generalize x n = y; revert b y; decide
    rw [this]
    simp only [List.mem_cons, exists_eq_or_imp, or_assoc]

/-- A reduction by `or` over no axis is the vector itself. -/
theorem reduce_ori {U : ℕ} (x : IVec (shape1 U) 1) (init : IVec shape0 1) (hi : ∀ i, init i = 0#1) (h : (shape1 U).ReducesTo [] (shape1 U))
    (hu : 0 < shape0.numel) (i : Fin U) : Host.reduce IntOp.ori x init h hu (ix1 i) = x (ix1 i) := by
  have hdrop : ∀ j : (shape1 U).Idx, h.drop j = j := fun j => by
    funext b
    match b with
    | ⟨0, _⟩ => exact Fin.ext (Shape.ReducesTo.drop_apply_val h j 0)
  have key : Host.reduce IntOp.ori x init h hu (ix1 i) = 1#1 ↔ x (ix1 i) = 1#1 := by
    unfold Host.reduce
    rw [foldl_ori]
    constructor
    · rintro (h0 | ⟨n, hn, hx⟩)
      · rw [hi] at h0; exact absurd h0 (by decide)
      · have := of_decide_eq_true (List.mem_filter.1 hn).2
        rw [hdrop] at this
        rw [← this]; exact hx
    · intro hx
      refine Or.inr ⟨(shape1 U).rowMajor (ix1 i), List.mem_filter.2 ⟨List.mem_finRange _, decide_eq_true ?_⟩, ?_⟩
      · rw [hdrop]; exact (shape1 U).rowMajor.symm_apply_apply _
      · rw [(shape1 U).rowMajor.symm_apply_apply]; exact hx
  revert key
  generalize Host.reduce IntOp.ori x init h hu (ix1 i) = a
  generalize x (ix1 i) = b
  revert a b
  decide

theorem foldl_max_le {ι α : Type} [LinearOrder α] (x : ι → α) (l : List ι) (b w : α) :
    l.foldl (fun r n => max r (x n)) b ≤ w ↔ b ≤ w ∧ ∀ n ∈ l, x n ≤ w := by
  induction l generalizing b with
  | nil => simp
  | cons n l ih =>
    rw [List.foldl_cons, ih, max_le_iff]
    simp only [List.mem_cons, forall_eq_or_imp, and_assoc]

/-- A reduction by the larger value over the middle axis is the least upper bound of the initial value and the entries. -/
theorem reduce_max_mid {α : Type} [LinearOrder α] {A N C : ℕ} (x : (shape3 A N C).Idx → α) (init : shape0.Idx → α)
    (h : (shape3 A N C).ReducesTo [1] (shape2 A C)) (hu : 0 < shape0.numel) (r : Fin A) (l : Fin C) (w : α) :
    Host.reduce max x init h hu (ix2 r l) ≤ w ↔ init ix0 ≤ w ∧ ∀ i : Fin N, x (ix3 r i l) ≤ w := by
  have hdrop : ∀ i : (shape3 A N C).Idx, h.drop i = ix2 r l ↔ i 0 = r ∧ i 2 = l := by
    intro i
    have hv0 : (h.drop i 0 : Nat) = i 0 := Shape.ReducesTo.drop_apply_val h i 0
    have hv1 : (h.drop i 1 : Nat) = i 2 := Shape.ReducesTo.drop_apply_val h i 1
    constructor
    · intro e
      rw [e] at hv0 hv1
      exact ⟨Fin.ext hv0.symm, Fin.ext hv1.symm⟩
    · rintro ⟨e1, e2⟩
      funext c
      match c with
      | ⟨0, _⟩ => exact Fin.ext (hv0.trans (congrArg Fin.val e1))
      | ⟨1, _⟩ => exact Fin.ext (hv1.trans (congrArg Fin.val e2))
  unfold Host.reduce
  rw [foldl_max_le, eq_ix0 (Shape.Idx.first hu)]
  refine and_congr_right fun _ => ⟨fun hn i => ?_, fun hi n hn => ?_⟩
  · have := hn ((shape3 A N C).rowMajor (ix3 r i l)) (List.mem_filter.2 ⟨List.mem_finRange _, decide_eq_true (by
      rw [(shape3 A N C).rowMajor.symm_apply_apply]; exact (hdrop _).2 ⟨rfl, rfl⟩)⟩)
    rw [(shape3 A N C).rowMajor.symm_apply_apply] at this
    exact this
  · obtain ⟨e0, e2⟩ := (hdrop _).1 (of_decide_eq_true (List.mem_filter.1 hn).2)
    generalize (shape3 A N C).rowMajor.symm n = j at e0 e2 ⊢
    have hj : ix3 r (j 1) l = j := by
      rw [← e0, ← e2]; exact (eq_ix3 j).symm
    rw [← hj]
    exact hi _

/-- A key vector sorted with its positions: the positions are a permutation, and the keys at them ascend. -/
theorem sort_words {N : ℕ} (cmp : BitVec 32 × BitVec 32 → BitVec 32 × BitVec 32 → BitVec 1)
    (hcmp : ∀ p q, cmp p q = IntOp.cmpi .slt p.1 q.1) (x : IVec (shape1 N) 32) :
    ∃ σ : Fin N → Fin N, Function.Surjective σ
      ∧ (∀ i, (Host.sort2 (shape1 N) 0 cmp x (iotaInDim (shape1 N) 32 0)).2 (ix1 i) = BitVec.ofNat 32 (σ i).val)
      ∧ ∀ i j, i < j → (x (ix1 (σ i))).toInt ≤ (x (ix1 (σ j))).toInt := by
  have hcmp1 : ∀ p q, (cmp p q == 1#1) = decide (p.1.toInt < q.1.toInt) := fun p q => by
    rw [hcmp, WordCmp.cmpi_slt_eq]
    by_cases hh : p.1.toInt < q.1.toInt <;> simp [hh]
  let R : Fin N → Fin N → Bool := fun k k' => decide ((x (ix1 k)).toInt < (x (ix1 k')).toInt)
  refine ⟨sortedFrom R, sortedFrom_surjective R, fun i => ?_, fun i j hij => ?_⟩
  · unfold Host.sort2
    rw [dif_pos (show (0 : ℕ) < (shape1 N).rank from Nat.zero_lt_one)]
    have hal : ∀ k : Fin N, (ix1 i : (shape1 N).Idx).along (0 : Fin 1) k = ix1 k := fun k => by
      funext b
      match b with
      | ⟨0, _⟩ => exact congrFun (Shape.Idx.along_rank1 (ix1 i) k) 0
    have hR : (fun k k' => cmp (x ((ix1 i : (shape1 N).Idx).along (0 : Fin 1) k), iotaInDim (shape1 N) 32 0 ((ix1 i : (shape1 N).Idx).along (0 : Fin 1) k))
        (x ((ix1 i : (shape1 N).Idx).along (0 : Fin 1) k'), iotaInDim (shape1 N) 32 0 ((ix1 i : (shape1 N).Idx).along (0 : Fin 1) k')) == 1#1) = R := by
      funext k k'
      rw [hcmp1]
      exact congrArg₂ (fun p q => decide ((x p).toInt < (x q).toInt)) (hal k) (hal k')
    refine (congrArg (iotaInDim (shape1 N) 32 0) ((hal _).trans (congrArg (fun Q : Fin N → Fin N → Bool => ix1 (sortedFrom Q i)) hR))).trans ?_
    rfl
  · have := sortedFrom_noInversion R R (fun a b h => ?_) (fun a b h => h) (fun a b c h1 h2 => ?_) i j hij
    · exact Int.not_lt.1 (of_decide_eq_false this)
    · exact decide_eq_false (Int.not_lt.2 (of_decide_eq_true h).le)
    · exact decide_eq_false (Int.not_lt.2 ((Int.not_lt.1 (of_decide_eq_false h2)).trans (Int.not_lt.1 (of_decide_eq_false h1))))

/-- A vector stood up as a column, turned into a row, reversed across its one row and read back is itself. -/
theorem row_of {N : ℕ} (key : IVec (shape1 N) 32) (h1 : (shape1 N).ShapeCasts (shape2 N 1)) (h2 : (shape2 N 1).Transposes [1, 0] (shape2 1 N))
    (h3 : (shape2 1 N).Slices ![0, 0] (shape2 1 N)) (h4 : (shape2 1 N).ShapeCasts (shape1 N)) :
    shapeCast (shape1 N) (extractStridedSlice (shape2 1 N) ![0, 0] (Host.reverse [0] (transpose (shape2 1 N) [1, 0]
      (shapeCast (shape2 N 1) key h1) h2)) h3) h4 = key := by
  funext i
  refine (congrArg _ (eq_ix1 i)).trans (Eq.trans ?_ (congrArg key (eq_ix1 i)).symm)
  refine (cast21 _ h4 (0 : Fin 1) (i 0) (i 0) (by simp)).trans ?_
  unfold extractStridedSlice Host.reverse
  refine (transpose_apply _ _ h2 _ (ix2 (i 0) (0 : Fin 1)) fun b => ?_).trans (cast12 key h1 (i 0) (0 : Fin 1) (i 0) (by simp))
  match b with
  | ⟨0, _⟩ => exact congrArg Fin.val (Subsingleton.elim (α := Fin 1) _ _)
  | ⟨1, _⟩ => exact (Nat.zero_add _).symm

/-- A segment's rows picked out of all rows: row `i` where its segment word is `r`, the other value elsewhere. -/
theorem segment_rows {α : Type} {A N C : ℕ} (inv : IVec (shape1 N) 32) (f : (shape2 N C).Idx → α) (z : (shape3 A N C).Idx → α)
    (h1 : (shape1 N).BroadcastsInDim (shape3 1 N 1) (![1] : Fin 1 → Fin (shape3 1 N 1).rank))
    (h2 : (shape3 1 N 1).BroadcastsInDim (shape3 A N 1) (![0, 1, 2] : Fin 3 → Fin (shape3 A N 1).rank))
    (h3 : (shape3 A 1 1).BroadcastsInDim (shape3 A N 1) (![0, 1, 2] : Fin 3 → Fin (shape3 A N 1).rank))
    (h4 : (shape3 A N 1).BroadcastsInDim (shape3 A N C) (![0, 1, 2] : Fin 3 → Fin (shape3 A N C).rank))
    (h5 : (shape2 N C).BroadcastsInDim (shape3 1 N C) (![1, 2] : Fin 2 → Fin (shape3 1 N C).rank))
    (h6 : (shape3 1 N C).BroadcastsInDim (shape3 A N C) (![0, 1, 2] : Fin 3 → Fin (shape3 A N C).rank))
    (r : Fin A) (i : Fin N) (l : Fin C) :
    select (broadcastInDim (shape3 A N C) ![0, 1, 2] h4 (cmpi .eq (broadcastInDim (shape3 A N 1) ![0, 1, 2] h2 (broadcastInDim (shape3 1 N 1) ![1] h1 inv))
        (broadcastInDim (shape3 A N 1) ![0, 1, 2] h3 (iotaInDim (shape3 A 1 1) 32 0))))
      (broadcastInDim (shape3 A N C) ![0, 1, 2] h6 (broadcastInDim (shape3 1 N C) ![1, 2] h5 f)) z (ix3 r i l)
      = if inv (ix1 i) = BitVec.ofNat 32 r.val then f (ix2 i l) else z (ix3 r i l) := by
  have hr := r.isLt
  have hi := i.isLt
  have hl := l.isLt
  have e4 : broadcastInDim (shape3 A N C) ![0, 1, 2] h4 (cmpi .eq (broadcastInDim (shape3 A N 1) ![0, 1, 2] h2 (broadcastInDim (shape3 1 N 1) ![1] h1 inv))
        (broadcastInDim (shape3 A N 1) ![0, 1, 2] h3 (iotaInDim (shape3 A 1 1) 32 0))) (ix3 r i l)
      = IntOp.cmpi .eq (inv (ix1 i)) (BitVec.ofNat 32 r.val) := by
    refine (broadcastInDim_apply _ h4 _ _ (ix3 r i (0 : Fin 1)) fun a => ?_).trans (congrArg₂ (IntOp.cmpi .eq) ?_ ?_)
    · match a with
      | ⟨0, _⟩ => show r.val = if A = 1 then 0 else r.val; split <;> omega
      | ⟨1, _⟩ => show i.val = if N = 1 then 0 else i.val; split <;> omega
      | ⟨2, _⟩ => rfl
    · refine (broadcastInDim_apply _ h2 _ _ (ix3 (0 : Fin 1) i (0 : Fin 1)) fun a => ?_).trans (broadcastInDim_apply _ h1 inv _ (ix1 i) fun a => ?_)
      · match a with
        | ⟨0, _⟩ => rfl
        | ⟨1, _⟩ => show i.val = if N = 1 then 0 else i.val; split <;> omega
        | ⟨2, _⟩ => rfl
      · match a with
        | ⟨0, _⟩ => show i.val = if N = 1 then 0 else i.val; split <;> omega
    · refine (broadcastInDim_apply _ h3 _ _ (ix3 r (0 : Fin 1) (0 : Fin 1)) fun a => ?_).trans rfl
      match a with
      | ⟨0, _⟩ => show r.val = if A = 1 then 0 else r.val; split <;> omega
      | ⟨1, _⟩ => rfl
      | ⟨2, _⟩ => rfl
  have e6 : broadcastInDim (shape3 A N C) ![0, 1, 2] h6 (broadcastInDim (shape3 1 N C) ![1, 2] h5 f) (ix3 r i l) = f (ix2 i l) := by
    refine (broadcastInDim_apply _ h6 _ _ (ix3 (0 : Fin 1) i l) fun a => ?_).trans (broadcastInDim_apply _ h5 f _ (ix2 i l) fun a => ?_)
    · match a with
      | ⟨0, _⟩ => rfl
      | ⟨1, _⟩ => show i.val = if N = 1 then 0 else i.val; split <;> omega
      | ⟨2, _⟩ => show l.val = if C = 1 then 0 else l.val; split <;> omega
    · match a with
      | ⟨0, _⟩ => show i.val = if N = 1 then 0 else i.val; split <;> omega
      | ⟨1, _⟩ => show l.val = if C = 1 then 0 else l.val; split <;> omega
  rw [WordCmp.select_at, e4, e6, WordCmp.cmpi_eq_eq, WordCmp.select_decide]

end Cert.Proof.HostOps
-- ==== Proof.Unique.lean ====
/- Distinct values from a sort: what the running count of first occurrences in an ascending list of words says about its
   distinct values, over any length. -/
module

public import Mathlib.Data.Nat.Count
public import Mathlib.Data.Int.Basic
public import Mathlib.Algebra.BigOperators.Group.List.Basic
public import Mathlib.Tactic.SplitIfs
public import Mathlib.Tactic.Push

@[expose] public section

namespace Cert.Proof.Unique

/-- 1 where `a i` opens a new run of equal values, 0 where it repeats the value before it. -/
def mk (a : ℕ → ℤ) (i : ℕ) : ℕ := if i = 0 ∨ a i ≠ a (i - 1) then 1 else 0

/-- The number of runs up to and including position `j`. -/
def runs (a : ℕ → ℤ) (j : ℕ) : ℕ := ((List.range (j + 1)).map (mk a)).sum

/-- The number of positions below `n` at most `r` runs in. -/
def first (a : ℕ → ℤ) (n r : ℕ) : ℕ := Nat.count (fun i => runs a i ≤ r) n

/-- The number of runs in the first `n` positions. -/
def total (a : ℕ → ℤ) (n : ℕ) : ℕ := ((List.range n).map (mk a)).sum

theorem runs_zero (a : ℕ → ℤ) : runs a 0 = 1 := by simp [runs, mk]

theorem runs_succ (a : ℕ → ℤ) (j : ℕ) : runs a (j + 1) = runs a j + mk a (j + 1) := by
  unfold runs; rw [List.range_succ, List.map_append, List.sum_append]; simp

theorem total_eq (a : ℕ → ℤ) (j : ℕ) : total a (j + 1) = runs a j := rfl

theorem mk_le (a : ℕ → ℤ) (j : ℕ) : mk a j ≤ 1 := by unfold mk; split <;> omega

theorem runs_mono (a : ℕ → ℤ) {i j : ℕ} (h : i ≤ j) : runs a i ≤ runs a j := by
  induction j with
  | zero => rw [Nat.le_zero.1 h]
  | succ j ih =>
    rcases Nat.lt_or_ge i (j + 1) with h' | h'
    · exact (ih (by omega)).trans (by rw [runs_succ]; omega)
    · rw [show i = j + 1 by omega]

theorem runs_pos (a : ℕ → ℤ) (j : ℕ) : 1 ≤ runs a j := by
  have := runs_mono a (Nat.zero_le j); rw [runs_zero] at this; exact this

theorem runs_le (a : ℕ → ℤ) (j : ℕ) : runs a j ≤ j + 1 := by
  induction j with
  | zero => rw [runs_zero]
  | succ j ih => rw [runs_succ]; have := mk_le a (j + 1); omega

/-- In an ascending list two positions are in the same run exactly if their values are equal, and a later run has a
    larger value. -/
theorem runs_order (a : ℕ → ℤ) (n : ℕ) (hm : ∀ i j, i ≤ j → j < n → a i ≤ a j) {i j : ℕ} (h : i ≤ j) (hj : j < n) :
    (runs a i = runs a j → a i = a j) ∧ (runs a i < runs a j → a i < a j) := by
  induction j with
  | zero => rw [Nat.le_zero.1 h]; exact ⟨fun _ => rfl, fun h => absurd h (Nat.lt_irrefl _)⟩
  | succ j ih =>
    rcases Nat.lt_or_ge i (j + 1) with h' | h'
    · have ih := ih (by omega) (by omega)
      have hle := hm j (j + 1) (by omega) hj
      have hij := hm i j (by omega) (by omega)
      have hr := runs_mono a (show i ≤ j by omega)
      rw [runs_succ]
      unfold mk
      by_cases hc : j + 1 = 0 ∨ a (j + 1) ≠ a (j + 1 - 1)
      · rw [if_pos hc]
        have hne : a (j + 1) ≠ a j := by
          rcases hc with hc | hc
          · omega
          · simpa using hc
        exact ⟨fun e => by omega, fun _ => by omega⟩
      · rw [if_neg hc, Nat.add_zero]
        have he : a (j + 1) = a j := by
          by_contra hne
          exact hc (Or.inr (by simpa using hne))
        rw [he]
        exact ih
    · rw [show i = j + 1 by omega]; exact ⟨fun _ => rfl, fun h => absurd h (Nat.lt_irrefl _)⟩

/-- The count of a property that holds on an initial segment is the length of that segment. -/
theorem count_threshold (P : ℕ → Prop) [DecidablePred P] (hP : ∀ i j, i ≤ j → P j → P i) (n i : ℕ) (hi : i < n) :
    P i ↔ i < Nat.count P n := by
  induction n with
  | zero => omega
  | succ n ih =>
    rw [Nat.count_succ]
    by_cases hn : P n
    · have hall : Nat.count P n = n := by
        rw [Nat.count_eq_card_filter_range, Finset.filter_true_of_mem fun x hx => hP x n (Finset.mem_range.1 hx).le hn, Finset.card_range]
      rw [hall, if_pos hn]
      exact ⟨fun _ => hi, fun _ => hP i n (by omega) hn⟩
    · rw [if_neg hn, Nat.add_zero]
      rcases Nat.lt_or_ge i n with h | h
      · exact ih h
      · have : i = n := by omega
        subst this
        exact ⟨fun h => absurd h hn, fun h => absurd h (by have := Nat.count_le (p := P) (n := i); omega)⟩

/-- The first position of run `r + 1`. -/
theorem first_spec (a : ℕ → ℤ) (n r : ℕ) (hr : r < total a n) : first a n r < n ∧ runs a (first a n r) = r + 1 := by
  have hn : 0 < n := by
    rcases Nat.eq_zero_or_pos n with h | h
    · subst h; simp [total] at hr
    · exact h
  have hP : ∀ i j, i ≤ j → runs a j ≤ r → runs a i ≤ r := fun i j h h' => (runs_mono a h).trans h'
  have key := fun i hi => count_threshold (fun i => runs a i ≤ r) hP n i hi
  obtain ⟨k, rfl⟩ : ∃ k, n = k + 1 := ⟨n - 1, by omega⟩
  rw [total_eq] at hr
  have hlt : first a (k + 1) r < k + 1 := by
    by_contra h
    have := (key k (by omega)).2 (by unfold first at h; omega)
    omega
  refine ⟨hlt, ?_⟩
  have hnot : ¬ runs a (first a (k + 1) r) ≤ r := fun h => absurd ((key _ hlt).1 h) (Nat.lt_irrefl _)
  rcases Nat.eq_zero_or_pos (first a (k + 1) r) with h0 | h0
  · rw [h0, runs_zero] at hnot ⊢; omega
  · obtain ⟨p, hp⟩ : ∃ p, first a (k + 1) r = p + 1 := ⟨first a (k + 1) r - 1, by omega⟩
    have hpr : runs a p ≤ r := (key p (by omega)).2 (by unfold first at hp; omega)
    rw [hp] at hnot ⊢
    rw [runs_succ] at hnot ⊢
    have := mk_le a (p + 1)
    omega

/-- What distinct values with their inverse index say of a list of keys: row `r < m` holds a key, every key is found in
    the row its inverse index names, the rows are ascending and those from `m` on hold -1. -/
structure Spec (N : ℕ) (key uniq inv : Fin N → BitVec 32) (m : ℕ) : Prop where
  inv_lt : ∀ j, (inv j).toNat < m
  m_le : m ≤ N
  uniq_inv : ∀ (j r : Fin N), (inv j).toNat = r.val → uniq r = key j
  surj : ∀ r : Fin N, r.val < m → ∃ j, (inv j).toNat = r.val
  pad : ∀ r : Fin N, m ≤ r.val → uniq r = 4294967295#32
  mono : ∀ r r' : Fin N, r.val < r'.val → r'.val < m → (uniq r).toInt < (uniq r').toInt

/-- The values of the sorted keys, continued by 0. -/
def sorted {N : ℕ} (key : Fin N → BitVec 32) (σ : Fin N → Fin N) (i : ℕ) : ℤ := if h : i < N then (key (σ ⟨i, h⟩)).toInt else 0

theorem sorted_val {N : ℕ} (key : Fin N → BitVec 32) (σ : Fin N → Fin N) (i : Fin N) : sorted key σ i.val = (key (σ i)).toInt := by
  unfold sorted; rw [dif_pos i.isLt]

theorem total_le (a : ℕ → ℤ) (n : ℕ) : total a n ≤ n := by
  cases n with
  | zero => simp [total]
  | succ n => rw [total_eq]; exact runs_le a n

/-- Distinct values read off a sort: with the sorted keys ascending, the row of run `r` read at the run's first position
    and each key's inverse index its run, they are as `Spec` says. -/
theorem spec_of_sort {N : ℕ} (hN31 : N < 2 ^ 31) (key uniq inv : Fin N → BitVec 32) (σ : Fin N → Fin N)
    (hσ : Function.Surjective σ) (hs : ∀ i j : Fin N, i < j → (key (σ i)).toInt ≤ (key (σ j)).toInt)
    (hu : ∀ r p : Fin N, r.val < total (sorted key σ) N → p.val = first (sorted key σ) N r.val → uniq r = key (σ p))
    (hpad : ∀ r : Fin N, total (sorted key σ) N ≤ r.val → uniq r = 4294967295#32)
    (hinv : ∀ i : Fin N, inv (σ i) = BitVec.ofNat 32 (runs (sorted key σ) i.val - 1)) :
    Spec N key uniq inv (total (sorted key σ) N) := by
  generalize ha : sorted key σ = a at *
  have hav : ∀ i : Fin N, a i.val = (key (σ i)).toInt := fun i => by rw [← ha]; exact sorted_val key σ i
  have hm : ∀ i j, i ≤ j → j < N → a i ≤ a j := by
    intro i j h hj
    rcases Nat.lt_or_ge i j with h' | h'
    · have := hs ⟨i, by omega⟩ ⟨j, hj⟩ h'
      rw [← hav, ← hav] at this; exact this
    · rw [show i = j by omega]
  have hi : ∀ i : Fin N, (inv (σ i)).toNat = runs a i.val - 1 := fun i => by
    rw [hinv, BitVec.toNat_ofNat, Nat.mod_eq_of_lt]
    have := runs_le a i.val
    have := i.isLt
    omega
  have htot : ∀ i : Fin N, runs a i.val ≤ total a N := fun i => by
    obtain ⟨k, hk⟩ : ∃ k, N = k + 1 := ⟨N - 1, by have := i.isLt; omega⟩
    have hik : i.val ≤ k := by have := i.isLt; omega
    exact (runs_mono a hik).trans_eq ((total_eq a k).symm.trans (congrArg (total a) hk.symm))
  have heq : ∀ i j : Fin N, runs a i.val = runs a j.val → key (σ i) = key (σ j) := by
    intro i j h
    apply BitVec.eq_of_toInt_eq
    rw [← hav, ← hav]
    rcases Nat.le_total i.val j.val with h' | h'
    · exact (runs_order a N hm h' j.isLt).1 h
    · exact ((runs_order a N hm h' i.isLt).1 h.symm).symm
  refine ⟨fun j => ?_, total_le a N, fun j r h => ?_, fun r hr => ?_, hpad, fun r r' hrr hr' => ?_⟩
  · obtain ⟨i, rfl⟩ := hσ j
    rw [hi]
    have := htot i
    have := runs_pos a i.val
    omega
  · obtain ⟨i, rfl⟩ := hσ j
    rw [hi] at h
    have := htot i
    have := runs_pos a i.val
    obtain ⟨hp, hpr⟩ := first_spec a N r.val (by omega)
    rw [hu r ⟨_, hp⟩ (by omega) rfl]
    exact heq _ _ (by dsimp only; omega)
  · obtain ⟨hp, hpr⟩ := first_spec a N r.val hr
    refine ⟨σ ⟨_, hp⟩, ?_⟩
    rw [hi]
    dsimp only
    omega
  · obtain ⟨hp, hpr⟩ := first_spec a N r.val (by omega)
    obtain ⟨hp', hpr'⟩ := first_spec a N r'.val hr'
    rw [hu r ⟨_, hp⟩ (by omega) rfl, hu r' ⟨_, hp'⟩ hr' rfl, ← hav, ← hav]
    dsimp only
    have hlt : first a N r.val < first a N r'.val := by
      by_contra h
      have := runs_mono a (show first a N r'.val ≤ first a N r.val by omega)
      omega
    exact (runs_order a N hm hlt.le hp').2 (by omega)

end Cert.Proof.Unique
-- ==== Proof.Ref.Steps.lean ====
/- The steps of the reference's distinct-value stages read at an index, and what the stages together say of their keys. -/
module

public import proofs.«01_k».proof.Proof.Ref.Forms
public import proofs.«01_k».proof.Proof.HostOps
public import proofs.«01_k».proof.Proof.Unique
public import proofs.«01_k».proof.Proof.Words
public import Idealize.ShloMosaic.Lib.Routing.Words
public import Idealize.ShloMosaic.Lib.Routing.Count

@[expose] public section

set_option maxRecDepth 16384

namespace Cert.Proof.ReferenceIdeal

open Cert.ReferenceIdeal Cert.ReferenceIdeal.Gen Idealize.ShloMosaic Idealize.ShloMosaic.ValueIdx Idealize.ShloMosaic.Routing
open Cert.Proof.Unique Cert.Proof.HostOps

theorem fillW_at (k : BitVec 32) (i : Fin 400000) : fillW k (ix1 i) = k := bc0 bcast_S_S400000 (constantI S_ 32 k) (ix1 i)

theorem colW_at (p : IVec S400000 32) (i : Fin 400000) : colW p (ix2 i 0) = p (ix1 i) := bcCol bcast_S400000_S400000x1_0 p i

/-- A small non-negative index is left as it is. -/
theorem wrapW_at (p : IVec S400000 32) (i : Fin 400000) (n : ℕ) (hn : n < 2 ^ 31) (h : p (ix1 i) = BitVec.ofNat 32 n) :
    wrapW p (ix1 i) = BitVec.ofNat 32 n := by
  show Scalar.select (IntOp.cmpi .slt (p (ix1 i)) (fillW 0#32 (ix1 i))) (IntOp.addi (p (ix1 i)) (fillW 400000#32 (ix1 i))) (p (ix1 i)) = _
  rw [h, fillW_at, show (0#32 : BitVec 32) = BitVec.ofNat 32 0 from rfl, WordCmp.cmpi_slt_ofNat (w := 32) hn (by decide), WordCmp.select_decide,
    if_neg (Nat.not_lt_zero _)]

/-- Taking entries at positions. -/
theorem takeW_at (x p : IVec S400000 32) (i q : Fin 400000) (h : p (ix1 i) = BitVec.ofNat 32 q.val) : takeW x p (ix1 i) = x (ix1 q) := by
  have hq := q.isLt
  have hidx : colW (wrapW p) (StableHlo.Predicate.ixP i) = BitVec.ofNat 32 q.val := by
    rw [ixP_eq_ix2]; exact (colW_at _ i).trans (wrapW_at p i q.val (by omega) h)
  unfold takeW
  rw [← ofFin_eq_ix1]
  refine (StableHlo.Predicate.gather_take gather_S400000_S400000x1_S400000_n_0_n_n_0_1_1 rfl rfl rfl rfl x (colW (wrapW p)) i (by omega)).trans ?_
  rw [← ofFin_eq_ix1]
  refine congrArg (fun t => x (Shape.Idx.ofFin t)) (Fin.ext ?_)
  show min (colW (wrapW p) (StableHlo.Predicate.ixP i)).toInt.toNat (400000 - 1) = q.val
  rw [hidx, StableHlo.Predicate.toInt_ofNat_small _ (by omega)]
  omega

/-- The sorted keys: the positions are a permutation and the keys ascend along it. -/
theorem perm_spec (key : IVec S400000 32) : ∃ σ : Fin 400000 → Fin 400000, Function.Surjective σ
    ∧ (∀ i, permW key (ix1 i) = BitVec.ofNat 32 (σ i).val)
    ∧ ∀ i j, i < j → (key (ix1 (σ i))).toInt ≤ (key (ix1 (σ j))).toInt := by
  have hrow : rowW key = key := row_of key _ _ _ _
  unfold permW
  rw [hrow]
  exact sort_words _ (fun p q => rfl) key

/-- Where a vector opens a new run. -/
theorem maskW_at (aux : IVec S400000 32) (a : ℕ → ℤ) (ha : ∀ i : Fin 400000, (aux (ix1 i)).toInt = a i.val) (i : Fin 400000) :
    wideW (maskW aux) (ix1 i) = BitVec.ofNat 32 (mk a i.val) := by
  have key := scatter_tail scatter_S400000_S1_S399999_0_n_0_0 rfl rfl (broadcastInDim S400000 ![] bcast_S_S400000 (constantI S_ 1 1#1))
    (broadcastInDim S1 ![] bcast_S_S1 (constantI S_ 32 1#32))
    (Host.reduce IntOp.ori (cmpi .ne (extractStridedSlice S399999 ![1] aux slices_S400000_S399999_1)
      (extractStridedSlice S399999 ![0] aux slices_S400000_S399999_0)) (constantI S_ 1 0#1) reducesTo_S399999_S399999_d h_S_)
    (by rw [bc0]; rfl) i
  show (maskW aux (ix1 i)).setWidth 32 = _
  have hi := i.isLt
  by_cases h0 : i.val = 0
  · have e : maskW aux (ix1 i) = 1#1 := (key.1 h0).trans (bc0 bcast_S_S400000 _ _)
    rw [e, mk, if_pos (Or.inl h0)]; rfl
  · have e := key.2 ⟨i.val - 1, by omega⟩ (by dsimp only; omega)
    rw [show maskW aux (ix1 i) = _ from e, reduce_ori _ (constantI S_ 1 0#1) (fun _ => rfl), WordCmp.cmpi_at,
      slice1 1 aux slices_S400000_S399999_1 _ (by dsimp only; omega), slice1 0 aux slices_S400000_S399999_0 _ (by dsimp only; omega)]
    have e1 : (⟨1 + (i.val - 1), by omega⟩ : Fin 400000) = i := Fin.ext (by dsimp only; omega)
    have e2 : (⟨0 + (i.val - 1), by omega⟩ : Fin 400000) = ⟨i.val - 1, by omega⟩ := Fin.ext (Nat.zero_add _)
    have h2 := ha ⟨i.val - 1, by omega⟩
    dsimp only at h2 ⊢
    rw [e1, e2, WordCmp.cmpi_ne_eq, setWidth_ofBool, mk, ← ha i, ← h2]
    simp only [ne_eq, h0, false_or, BitVec.toInt_inj]

theorem cumW_at (x : IVec S400000 32) (f : ℕ → ℕ) (hx : ∀ i : Fin 400000, x (ix1 i) = BitVec.ofNat 32 (f i.val)) (j : Fin 400000) :
    cumW x (ix1 j) = BitVec.ofNat 32 ((List.range (j.val + 1)).map f).sum :=
  cumsum1 (Nm1 := 399999) rfl x f hx _ (by rw [bc0]; rfl) reduceWindows_S400000_S400000_w400000s1p399999_0 h_S_ j

theorem binsW_at (c : IVec S400000 32) (g : ℕ → ℕ) (hg : ∀ i : Fin 400000, c (ix1 i) = BitVec.ofNat 32 (g i.val)) (hb : ∀ i : Fin 400000, g i.val < 2 ^ 31)
    (x : Fin 400000) : binsW c (ix1 x) = BitVec.ofNat 32 (Nat.count (fun i => g i ≤ x.val) 400000) := by
  unfold binsW
  rw [cumW_at _ (fun y => Nat.count (fun i => g i = y) 400000) (fun y => ?_), sum_count_eq]
  refine scatter_hist scatter_S400000_S400000x1_S400000_n_0_0_1 rfl rfl rfl _ (fun i => ?_) _ _ (fun i => ?_) g (fun i => ?_) hb y
  · exact bc0 bcast_S_S400000 _ i
  · exact bc0 bcast_S_S400000 _ i
  · exact (colW_at _ i).trans (wrapW_at c i _ (hb i) (hg i))

theorem fdW_at (k : BitVec 32) (x : IVec S400000 32) (i : Fin 400000) : fdW k x (ix1 i) = Words.fdiv (x (ix1 i)) k := by
  have hs : broadcastInDim S400000 ![] bcast_S_S400000 (signi (constantI S_ 32 k)) (ix1 i) = Words.sgn k := bc0 bcast_S_S400000 _ _
  show Scalar.select (IntOp.andi (IntOp.cmpi .ne (Words.sgn (x (ix1 i))) (broadcastInDim S400000 ![] bcast_S_S400000 (signi (constantI S_ 32 k)) (ix1 i)))
      (IntOp.cmpi .ne (IntOp.remsi .host (x (ix1 i)) (fillW k (ix1 i))) (fillW 0#32 (ix1 i))))
    (IntOp.subi (IntOp.divsi .host (x (ix1 i)) (fillW k (ix1 i))) (fillW 1#32 (ix1 i))) (IntOp.divsi .host (x (ix1 i)) (fillW k (ix1 i))) = _
  rw [hs, fillW_at, fillW_at, fillW_at]
  rfl

theorem fmW_at (k : BitVec 32) (hk : k ≠ 0#32) (x : IVec S400000 32) (i : Fin 400000) : fmW k x (ix1 i) = Words.fmod (x (ix1 i)) k := by
  have hd : divrW k ix0 = k := by
    show Scalar.select (IntOp.cmpi .eq k 0#32) 1#32 k = k
    rw [WordCmp.cmpi_eq_eq, WordCmp.select_decide, if_neg hk]
  have h1 : broadcastInDim S400000 ![] bcast_S_S400000 (divrW k) (ix1 i) = k := (bc0 bcast_S_S400000 _ _).trans hd
  have h2 : broadcastInDim S400000 ![] bcast_S_S400000 (cmpi .slt (divrW k) (constantI S_ 32 0#32)) (ix1 i) = IntOp.cmpi .slt k 0#32 := by
    refine (bc0 bcast_S_S400000 _ _).trans ?_
    show IntOp.cmpi .slt (divrW k ix0) 0#32 = _
    rw [hd]
  unfold fmW
  dsimp only
  generalize broadcastInDim S400000 ![] bcast_S_S400000 (divrW k) = d at h1 ⊢
  generalize broadcastInDim S400000 ![] bcast_S_S400000 (cmpi .slt (divrW k) (constantI S_ 32 0#32)) = e at h2 ⊢
  show Scalar.select (IntOp.andi (IntOp.cmpi .ne (IntOp.cmpi .slt (IntOp.remsi .host (x (ix1 i)) (d (ix1 i))) (fillW 0#32 (ix1 i))) (e (ix1 i)))
      (IntOp.cmpi .ne (IntOp.remsi .host (x (ix1 i)) (d (ix1 i))) (fillW 0#32 (ix1 i))))
    (IntOp.addi (IntOp.remsi .host (x (ix1 i)) (d (ix1 i))) (d (ix1 i))) (IntOp.remsi .host (x (ix1 i)) (d (ix1 i))) = _
  rw [h1, h2, fillW_at]
  rfl

theorem totW_at (mask : IVec S400000 1) (f : ℕ → ℕ) (hx : ∀ i : Fin 400000, wideW mask (ix1 i) = BitVec.ofNat 32 (f i.val)) :
    totW mask ix0 = BitVec.ofNat 32 ((List.range 400000).map f).sum :=
  reduce_sum (wideW mask) f hx reducesTo_S400000_S_d0 h_S_

theorem posW_at (mask : IVec S400000 1) (p : IVec S400000 32) (t : ℕ) (ht : totW mask ix0 = BitVec.ofNat 32 t) (ht' : t < 2 ^ 31) (i : Fin 400000)
    (hi : i.val < t) : posW mask p (ix1 i) = p (ix1 i) := by
  have hb : broadcastInDim S400000 ![0] bcast_S1_S400000_0 (broadcastInDim S1 ![] bcast_S_S1 (totW mask)) (ix1 i) = BitVec.ofNat 32 t := by
    refine (broadcastInDim_apply _ bcast_S1_S400000_0 _ _ (ix1 (0 : Fin 1)) fun a => ?_).trans ((bc0 bcast_S_S1 _ _).trans ht)
    match a with
    | ⟨0, _⟩ => rfl
  have := i.isLt
  show Scalar.select (IntOp.cmpi .sge (BitVec.ofNat 32 i.val) (broadcastInDim S400000 ![0] bcast_S1_S400000_0 (broadcastInDim S1 ![] bcast_S_S1 (totW mask)) (ix1 i)))
    (fillW 0#32 (ix1 i)) (p (ix1 i)) = _
  rw [hb, WordCmp.cmpi_sge_ofNat (w := 32) (by omega) ht', WordCmp.select_decide, if_neg (by omega)]

theorem uniqW_at (mask : IVec S400000 1) (aux p : IVec S400000 32) (t : ℕ) (ht : totW mask ix0 = BitVec.ofNat 32 t) (ht' : t < 2 ^ 31) (i : Fin 400000) :
    uniqW mask aux p (ix1 i) = if i.val < t then takeW aux p (ix1 i) else 4294967295#32 := by
  have hb : broadcastInDim S400000 ![] bcast_S_S400000 (totW mask) (ix1 i) = BitVec.ofNat 32 t := (bc0 bcast_S_S400000 _ _).trans ht
  have := i.isLt
  show Scalar.select (IntOp.cmpi .slt (BitVec.ofNat 32 i.val) (broadcastInDim S400000 ![] bcast_S_S400000 (totW mask) (ix1 i)))
    (takeW aux p (ix1 i)) (fillW 4294967295#32 (ix1 i)) = _
  rw [hb, WordCmp.cmpi_slt_ofNat (w := 32) (by omega) ht', WordCmp.select_decide, fillW_at]

/-- Each key's run, read at the key's position. -/
theorem invW_at (mask : IVec S400000 1) (perm : IVec S400000 32) (σ : Fin 400000 → Fin 400000) (hσ : Function.Injective σ)
    (hp : ∀ i, perm (ix1 i) = BitVec.ofNat 32 (σ i).val) (i : Fin 400000) :
    invW mask perm (ix1 (σ i)) = cumW (wideW mask) (ix1 i) - 1#32 := by
  have hc : ∀ j : Fin 400000, (colW (wrapW perm) (ix2 j 0)).toInt = ((σ j).val : ℤ) := fun j => by
    have := (σ j).isLt
    rw [colW_at, wrapW_at perm j (σ j).val (by omega) (hp j), StableHlo.Predicate.toInt_ofNat_small _ (by omega)]
  refine (scatter_set_signed scatter_S400000_S400000x1_S400000_n_0_0_1 rfl rfl rfl (fillW 0#32) (colW (wrapW perm))
    (subi (cumW (wideW mask)) (fillW 1#32)) (σ i) _ fun j hj => ?_).1 ⟨i, hc i⟩
  have hji : j = i := hσ (Fin.ext (by have := (hc j).symm.trans hj; omega))
  subst hji
  show cumW (wideW mask) (ix1 j) - fillW 1#32 (ix1 j) = _
  rw [fillW_at]

/-- The distinct-value stages over any keys: ascending distinct values, and for each key the row it is found in. -/
theorem unique_spec (key : IVec S400000 32) : ∃ m, Spec 400000 (fun i => key (ix1 i))
    (fun r => uniqW (maskW (takeW key (permW key))) (takeW key (permW key))
      (posW (maskW (takeW key (permW key))) (fmW 400000#32 (fdW 1#32 (binsW (cumW (wideW (maskW (takeW key (permW key)))))))) ) (ix1 r))
    (fun j => invW (maskW (takeW key (permW key))) (permW key) (ix1 j)) m := by
  obtain ⟨σ, hσ, hp, hs⟩ := perm_spec key
  have haux : ∀ i, takeW key (permW key) (ix1 i) = key (ix1 (σ i)) := fun i => takeW_at key _ i (σ i) (hp i)
  generalize takeW key (permW key) = aux at haux ⊢
  let a := sorted (fun i => key (ix1 i)) σ
  have hm := maskW_at aux a fun i => by rw [haux]; exact (sorted_val (fun i => key (ix1 i)) σ i).symm
  generalize maskW aux = mask at hm ⊢
  have hcum : ∀ i, cumW (wideW mask) (ix1 i) = BitVec.ofNat 32 (runs a i.val) := cumW_at _ _ hm
  have htot := totW_at mask _ hm
  have htl := total_le a 400000
  have hbin := binsW_at _ (runs a) hcum fun i => by have := runs_le a i.val; have := i.isLt; omega
  refine ⟨_, spec_of_sort (by decide) _ _ _ σ hσ hs (fun r p hr hpf => ?_) (fun r hr => ?_) (fun i => ?_)⟩
  · change r.val < total a 400000 at hr
    change p.val = first a 400000 r.val at hpf
    have hpl := p.isLt
    have hb : binsW (cumW (wideW mask)) (ix1 r) = BitVec.ofNat 32 p.val := by rw [hpf]; exact hbin r
    have hpn : (BitVec.ofNat 32 p.val).toNat = p.val := by rw [BitVec.toNat_ofNat]; omega
    have hf : fmW 400000#32 (fdW 1#32 (binsW (cumW (wideW mask)))) (ix1 r) = BitVec.ofNat 32 p.val := by
      apply BitVec.eq_of_toNat_eq
      have h1 : (Words.fdiv (BitVec.ofNat 32 p.val) 1#32).toNat = p.val := by
        rw [Words.toNat_fdiv (by omega) (by decide) (by decide), hpn]; exact Nat.div_one _
      rw [fmW_at _ (by decide), fdW_at, hb, Words.toNat_fmod (by omega) (by decide) (by decide), h1, hpn]
      exact Nat.mod_eq_of_lt hpl
    rw [uniqW_at mask aux _ (total a 400000) htot (by omega) r, if_pos hr,
      takeW_at aux _ r p ((posW_at mask _ (total a 400000) htot (by omega) r hr).trans hf), haux]
  · change total a 400000 ≤ r.val at hr
    rw [uniqW_at mask aux _ (total a 400000) htot (by omega) r, if_neg (by omega)]
  · have := runs_pos a i.val
    rw [invW_at mask _ σ (Finite.injective_iff_surjective.2 hσ) hp i, hcum]
    exact ofNat32_sub (a := runs a i.val) (b := 1) this

end Cert.Proof.ReferenceIdeal
-- ==== Proof.Ref.KeyReads.lean ====
/- The stages that make and take apart the keys compute the functions given for them. -/
module

public import proofs.«01_k».proof.Proof.Ref.Forms
public import proofs.«01_k».proof.Proof.Ref.Ops2

@[expose] public section

set_option maxRecDepth 16384
set_option maxHeartbeats 2000000

namespace Cert.Proof.ReferenceIdeal

open Cert.ReferenceIdeal Cert.ReferenceIdeal.Gen Idealize.ShloMosaic Idealize.ShloMosaic.TcCoe Idealize.SL.Sem Idealize.ShloMosaic.StableHlo
open Idealize.ShloMosaic.Tactic

variable {F : FTy → Type} [FloatOps F]

/-- Column 0 of the coordinates. -/
def col0W (x : IVec S400000x4 32) : IVec S400000 32 :=
  shapeCast S400000 (extractStridedSlice S400000x1 ![0, 0] x slices_S400000x4_S400000x1_0_0) shapeCasts_S400000x1_S400000
/-- Column 1. -/
def col1W (x : IVec S400000x4 32) : IVec S400000 32 :=
  shapeCast S400000 (extractStridedSlice S400000x1 ![0, 1] x slices_S400000x4_S400000x1_0_1) shapeCasts_S400000x1_S400000
/-- Column 2. -/
def col2W (x : IVec S400000x4 32) : IVec S400000 32 :=
  shapeCast S400000 (extractStridedSlice S400000x1 ![0, 2] x slices_S400000x4_S400000x1_0_2) shapeCasts_S400000x1_S400000
/-- Column 3. -/
def col3W (x : IVec S400000x4 32) : IVec S400000 32 :=
  shapeCast S400000 (extractStridedSlice S400000x1 ![0, 3] x slices_S400000x4_S400000x1_0_3) shapeCasts_S400000x1_S400000

/-- One number for a batch and three coordinates, -1 for a negative batch. -/
def packW (big base : BitVec 32) (b z y x : IVec S400000 32) : IVec S400000 32 :=
  select (cmpi .slt b (fillW 0#32)) (fillW 4294967295#32)
    (addi (addi (muli b (fillW big)) (muli (addi (muli z (fillW base)) y) (fillW base))) x)

/-- Four columns side by side in the rows that hold a value, -1 in the others. -/
def coorW (live : IVec S400000 1) (b z y x : IVec S400000 32) : IVec S400000x4 32 :=
  select (broadcastInDim S400000x4 ![0, 1] bcast_S400000x1_S400000x4_0_1 (broadcastInDim S400000x1 ![0] bcast_S400000_S400000x1_0 live))
    (stack4 (F := F) (colW b) (colW z) (colW y) (colW x)) (broadcastInDim S400000x4 ![] bcast_S_S400000x4 (constantI S_ 32 4294967295#32))

theorem read_b1 (V : Valuation τ sig (Elt F)) : ((after key1a V) (Proc.devRef .tc main_v1) : IVec S400000 32) = col0W (V (Proc.devRef .tc main_arg1) : IVec S400000x4 32) := by
  simp only [key1a, TRef.binary, TRef.nullary, TRef.ternary, TRef.unary, TRef.reshape, TRef.toBuf, TRef.ofBuf, cast_eq]
  after_results_simp
  rfl

theorem read_z1 (V : Valuation τ sig (Elt F)) : ((after key1a V) (Proc.devRef .tc main_v4) : IVec S400000 32) = fdW 2#32 (col1W (V (Proc.devRef .tc main_arg1) : IVec S400000x4 32)) := by
  simp only [key1a, TRef.binary, TRef.nullary, TRef.ternary, TRef.unary, TRef.reshape, TRef.toBuf, TRef.ofBuf, cast_eq]
  after_results_simp
  rfl

theorem read_y1 (V : Valuation τ sig (Elt F)) : ((after key1b V) (Proc.devRef .tc main_v7) : IVec S400000 32) = fdW 2#32 (col2W (V (Proc.devRef .tc main_arg1) : IVec S400000x4 32)) := by
  simp only [key1b, TRef.binary, TRef.nullary, TRef.ternary, TRef.unary, TRef.reshape, TRef.toBuf, TRef.ofBuf, cast_eq]
  after_results_simp
  rfl

theorem read_x1 (V : Valuation τ sig (Elt F)) : ((after key1c V) (Proc.devRef .tc main_v10) : IVec S400000 32) = fdW 2#32 (col3W (V (Proc.devRef .tc main_arg1) : IVec S400000x4 32)) := by
  simp only [key1c, TRef.binary, TRef.nullary, TRef.ternary, TRef.unary, TRef.reshape, TRef.toBuf, TRef.ofBuf, cast_eq]
  after_results_simp
  rfl

theorem read_key1 (V : Valuation τ sig (Elt F)) : ((after key1d V) (Proc.devRef .tc main_v22) : IVec S400000 32) = packW 8000#32 20#32 (V (Proc.devRef .tc main_v1) : IVec S400000 32) (V (Proc.devRef .tc main_v4) : IVec S400000 32) (V (Proc.devRef .tc main_v7) : IVec S400000 32) (V (Proc.devRef .tc main_v10) : IVec S400000 32) := by
  simp only [key1d, TRef.binary, TRef.nullary, TRef.ternary, TRef.unary, TRef.reshape, TRef.toBuf, TRef.ofBuf, cast_eq]
  after_results_simp
  rfl

theorem read_dec1 (V : Valuation τ sig (Elt F)) : ((after dec1 V) (Proc.devRef .tc main_v80) : IVec S400000 32) = fdW 8000#32 (V (Proc.devRef .tc main_v56) : IVec S400000 32) := by
  simp only [dec1, TRef.binary, TRef.nullary, TRef.ternary, TRef.unary, TRef.reshape, TRef.toBuf, TRef.ofBuf, cast_eq]
  after_results_simp
  rfl

theorem read_dec2 (V : Valuation τ sig (Elt F)) : ((after dec2 V) (Proc.devRef .tc main_v81) : IVec S400000 32) = fmW 8000#32 (V (Proc.devRef .tc main_v56) : IVec S400000 32) := by
  simp only [dec2, TRef.binary, TRef.nullary, TRef.ternary, TRef.unary, TRef.reshape, TRef.toBuf, TRef.ofBuf, cast_eq]
  after_results_simp
  rfl

theorem read_dec3 (V : Valuation τ sig (Elt F)) : ((after dec3 V) (Proc.devRef .tc main_v82) : IVec S400000 32) = fdW 400#32 (V (Proc.devRef .tc main_v81) : IVec S400000 32) := by
  simp only [dec3, TRef.binary, TRef.nullary, TRef.ternary, TRef.unary, TRef.reshape, TRef.toBuf, TRef.ofBuf, cast_eq]
  after_results_simp
  rfl

theorem read_dec4 (V : Valuation τ sig (Elt F)) : ((after dec4 V) (Proc.devRef .tc main_v83) : IVec S400000 32) = fmW 400#32 (V (Proc.devRef .tc main_v81) : IVec S400000 32) := by
  simp only [dec4, TRef.binary, TRef.nullary, TRef.ternary, TRef.unary, TRef.reshape, TRef.toBuf, TRef.ofBuf, cast_eq]
  after_results_simp
  rfl

theorem read_dec5 (V : Valuation τ sig (Elt F)) : ((after dec5 V) (Proc.devRef .tc main_v84) : IVec S400000 32) = fdW 20#32 (V (Proc.devRef .tc main_v83) : IVec S400000 32) := by
  simp only [dec5, TRef.binary, TRef.nullary, TRef.ternary, TRef.unary, TRef.reshape, TRef.toBuf, TRef.ofBuf, cast_eq]
  after_results_simp
  rfl

theorem read_dec6 (V : Valuation τ sig (Elt F)) : ((after dec6 V) (Proc.devRef .tc main_v85) : IVec S400000 32) = fmW 20#32 (V (Proc.devRef .tc main_v81) : IVec S400000 32) := by
  simp only [dec6, TRef.binary, TRef.nullary, TRef.ternary, TRef.unary, TRef.reshape, TRef.toBuf, TRef.ofBuf, cast_eq]
  after_results_simp
  rfl

theorem read_coor2 (V : Valuation τ sig (Elt F)) : ((after coor2 V) (Proc.devRef .tc main_v92) : IVec S400000x4 32) = coorW (F := F) (V (Proc.devRef .tc main_v77) : IVec S400000 1) (V (Proc.devRef .tc main_v80) : IVec S400000 32) (V (Proc.devRef .tc main_v82) : IVec S400000 32) (V (Proc.devRef .tc main_v84) : IVec S400000 32) (V (Proc.devRef .tc main_v85) : IVec S400000 32) := by
  simp only [coor2, TRef.binary, TRef.nullary, TRef.ternary, TRef.unary, TRef.reshape, TRef.toBuf, TRef.ofBuf, cast_eq]
  after_results_simp
  rfl

theorem read_b2 (V : Valuation τ sig (Elt F)) : ((after key2a V) (Proc.devRef .tc main_v94) : IVec S400000 32) = col0W (V (Proc.devRef .tc main_v92) : IVec S400000x4 32) := by
  simp only [key2a, TRef.binary, TRef.nullary, TRef.ternary, TRef.unary, TRef.reshape, TRef.toBuf, TRef.ofBuf, cast_eq]
  after_results_simp
  rfl

theorem read_z2 (V : Valuation τ sig (Elt F)) : ((after key2a V) (Proc.devRef .tc main_v97) : IVec S400000 32) = fdW 2#32 (col1W (V (Proc.devRef .tc main_v92) : IVec S400000x4 32)) := by
  simp only [key2a, TRef.binary, TRef.nullary, TRef.ternary, TRef.unary, TRef.reshape, TRef.toBuf, TRef.ofBuf, cast_eq]
  after_results_simp
  rfl

theorem read_y2 (V : Valuation τ sig (Elt F)) : ((after key2b V) (Proc.devRef .tc main_v100) : IVec S400000 32) = fdW 2#32 (col2W (V (Proc.devRef .tc main_v92) : IVec S400000x4 32)) := by
  simp only [key2b, TRef.binary, TRef.nullary, TRef.ternary, TRef.unary, TRef.reshape, TRef.toBuf, TRef.ofBuf, cast_eq]
  after_results_simp
  rfl

theorem read_x2 (V : Valuation τ sig (Elt F)) : ((after key2c V) (Proc.devRef .tc main_v103) : IVec S400000 32) = fdW 2#32 (col3W (V (Proc.devRef .tc main_v92) : IVec S400000x4 32)) := by
  simp only [key2c, TRef.binary, TRef.nullary, TRef.ternary, TRef.unary, TRef.reshape, TRef.toBuf, TRef.ofBuf, cast_eq]
  after_results_simp
  rfl

theorem read_key2 (V : Valuation τ sig (Elt F)) : ((after key2d V) (Proc.devRef .tc main_v115) : IVec S400000 32) = packW 1000#32 10#32 (V (Proc.devRef .tc main_v94) : IVec S400000 32) (V (Proc.devRef .tc main_v97) : IVec S400000 32) (V (Proc.devRef .tc main_v100) : IVec S400000 32) (V (Proc.devRef .tc main_v103) : IVec S400000 32) := by
  simp only [key2d, TRef.binary, TRef.nullary, TRef.ternary, TRef.unary, TRef.reshape, TRef.toBuf, TRef.ofBuf, cast_eq]
  after_results_simp
  rfl

end Cert.Proof.ReferenceIdeal
-- ==== Proof.Rows.lean ====
/- Pooling twice over distinct values is pooling once over the composed keys and setting the occupied cells close together:
   the two programs' results as functions of rows and lanes, with no program in sight. -/
module

public import proofs.«01_k».proof.Proof.State
public import proofs.«01_k».proof.Proof.Unique
public import Mathlib.Order.Lattice
public import Mathlib.Order.Defs.LinearOrder
public import Mathlib.Order.Basic

@[expose] public section

namespace Cert.Proof.Pool

section Cells

variable {α : Type}

/-- A dense cell is the least upper bound of its start and the rows of its key. -/
theorem dense_le [LinearOrder α] (bot : α) (key : ℕ → ℕ) (feat : ℕ → Fin 32 → α) (n k : ℕ) (l : Fin 32) (w : α) :
    dense max bot key feat n k l ≤ w ↔ bot ≤ w ∧ ∀ i, i < n → key i = k → feat i l ≤ w := by
  induction n with
  | zero => simp [dense]
  | succ n ih =>
    unfold dense
    split_ifs with h
    · rw [max_le_iff, ih]
      constructor
      · rintro ⟨⟨hb, hi⟩, hn⟩
        refine ⟨hb, fun i hin hk => ?_⟩
        rcases Nat.lt_succ_iff_lt_or_eq.1 hin with h' | rfl
        · exact hi i h' hk
        · exact hn
      · rintro ⟨hb, hi⟩
        exact ⟨⟨hb, fun i hin hk => hi i (by omega) hk⟩, hi n (Nat.lt_succ_self n) h.symm⟩
    · rw [ih]
      refine and_congr_right fun _ => ⟨fun hi i hin hk => ?_, fun hi i hin hk => hi i (by omega) hk⟩
      rcases Nat.lt_succ_iff_lt_or_eq.1 hin with h' | rfl
      · exact hi i h' hk
      · exact absurd hk.symm h

/-- A cell is marked when some row has its key. -/
theorem occ_iff (key : ℕ → ℕ) (n k : ℕ) : occ key n k = 1#32 ↔ ∃ i, i < n ∧ key i = k := by
  induction n with
  | zero => simp [occ]
  | succ n ih =>
    unfold occ
    split_ifs with h
    · exact ⟨fun _ => ⟨n, Nat.lt_succ_self n, h.symm⟩, fun _ => rfl⟩
    · rw [ih]
      constructor
      · rintro ⟨i, hi, hk⟩; exact ⟨i, by omega, hk⟩
      · rintro ⟨i, hi, hk⟩
        rcases Nat.lt_succ_iff_lt_or_eq.1 hi with h' | rfl
        · exact ⟨i, h', hk⟩
        · exact absurd hk.symm h

theorem rank_lt (o : ℕ → BitVec 32) {j k : ℕ} (h : j < k) (hj : o j = 1#32) : rank o j < rank o k := by
  induction k with
  | zero => omega
  | succ k ih =>
    rw [show rank o (k + 1) = if o k = 1#32 then rank o k + 1 else rank o k from rfl]
    rcases Nat.lt_succ_iff_lt_or_eq.1 h with h' | rfl
    · have := ih h'
      split_ifs <;> omega
    · rw [if_pos hj]; omega

/-- The row of a marked cell holds the cell. -/
theorem compact_hit (o : ℕ → BitVec 32) (d z : ℕ → Fin 32 → α) (l : Fin 32) (j : ℕ) (hj : o j = 1#32) :
    ∀ k, j < k → compact o d z k (rank o j + 1) l = d j l := by
  intro k hk
  induction k with
  | zero => omega
  | succ k ih =>
    unfold compact
    rcases Nat.lt_succ_iff_lt_or_eq.1 hk with h' | rfl
    · have := rank_lt o h' hj
      rw [if_neg (show ¬ rank o j + 1 = rank o k + 1 by omega), ih h']
      exact ite_self _
    · rw [if_pos hj, if_pos rfl]

/-- A row no marked cell lands in is as it was. -/
theorem compact_miss (o : ℕ → BitVec 32) (d z : ℕ → Fin 32 → α) (l : Fin 32) (r : ℕ) :
    ∀ k, (∀ j, j < k → o j = 1#32 → rank o j + 1 ≠ r) → compact o d z k r l = z r l := by
  intro k h
  induction k with
  | zero => rfl
  | succ k ih =>
    have ih := ih fun j hj => h j (by omega)
    unfold compact
    split_ifs with h1 h2
    · exact absurd h2.symm (h k (Nat.lt_succ_self k) h1)
    · exact ih
    · exact ih

/-- With the marked cells listed in ascending order from 1 on, as many cells are marked before `k` as are listed below it. -/
theorem rank_of_list (o : ℕ → BitVec 32) (u : ℕ → ℕ) (m : ℕ) (hu : ∀ r r', 1 ≤ r → r < r' → r' < m → u r < u r')
    (ho : ∀ k, o k = 1#32 ↔ ∃ r, 1 ≤ r ∧ r < m ∧ u r = k) :
    ∀ k t, 1 ≤ t → t ≤ m → (∀ r, 1 ≤ r → r < t → u r < k) → (∀ r, t ≤ r → r < m → k ≤ u r) → rank o k = t - 1 := by
  intro k
  induction k with
  | zero =>
    intro t h1 hm hlt hge
    rcases Nat.lt_or_ge 1 t with h | h
    · exact absurd (hlt 1 (Nat.le_refl 1) h) (Nat.not_lt_zero _)
    · show 0 = t - 1; omega
  | succ k ih =>
    intro t h1 hm hlt hge
    unfold rank
    split_ifs with h
    · obtain ⟨r, hr1, hrm, hrk⟩ := (ho k).1 h
      have hrt : r < t := by
        by_contra hc
        have := hge r (by omega) hrm
        omega
      have htr : t = r + 1 := by
        by_contra hc
        have h3 := hu r (r + 1) hr1 (by omega) (by omega)
        have h4 := hlt (r + 1) (by omega) (by omega)
        omega
      rw [ih r hr1 hrm.le (fun r' h' h'' => by have := hu r' r h' h'' hrm; omega) (fun r' h' h'' => by
        rcases Nat.lt_or_ge r r' with h5 | h5
        · have := hu r r' hr1 h5 h''; omega
        · rw [show r' = r by omega]; exact hrk.ge)]
      omega
    · have hne : ∀ r, 1 ≤ r → r < m → u r ≠ k := fun r a b c => h ((ho k).2 ⟨r, a, b, c⟩)
      exact ih t h1 hm (fun r a b => by have := hlt r a b; have := hne r a (by omega); omega) (fun r a b => by have := hge r a b; omega)

end Cells

open Cert.Proof.Unique

theorem word_nonneg {x : BitVec 32} : 0 ≤ x.toInt ↔ x.toNat < 2 ^ 31 := by
  rw [BitVec.toInt_eq_toNat_cond]
  have := x.isLt
  split_ifs <;> omega

theorem word_int {x : BitVec 32} (h : x.toNat < 2 ^ 31) : x.toInt = x.toNat := by
  rw [BitVec.toInt_eq_toNat_cond, if_pos (by omega)]

theorem word_neg_one : (4294967295#32).toInt = -1 := by decide

/-- The rows of distinct values below `B` are fewer than `B + 1`. -/
theorem rows_le {N : ℕ} {key uniq inv : Fin N → BitVec 32} {m B : ℕ} (S : Spec N key uniq inv m) (hB : B < 2 ^ 31)
    (hk : ∀ j, (key j).toNat < B) : m ≤ B := by
  have hlt : ∀ r : Fin N, r.val < m → (uniq r).toNat < B := fun r hr => by
    obtain ⟨j, hj⟩ := S.surj r hr
    rw [S.uniq_inv j r hj]; exact hk j
  have hge : ∀ n (h : n < N), n < m → n ≤ (uniq ⟨n, h⟩).toNat := by
    intro n
    induction n with
    | zero => intro h _; exact Nat.zero_le _
    | succ n ih =>
      intro h hm
      have h1 := ih (by omega) (by omega)
      have h2 := S.mono ⟨n, by omega⟩ ⟨n + 1, h⟩ (Nat.lt_succ_self n) hm
      have h3 := hlt ⟨n, by omega⟩ (show n < m by omega)
      have h4 := hlt ⟨n + 1, h⟩ hm
      rw [word_int (by omega), word_int (by omega)] at h2
      omega
  by_contra hc
  have hN := S.m_le
  have h1 := hge B (by omega) (by omega)
  have h2 := hlt ⟨B, by omega⟩ (show B < m by omega)
  omega

/-- Distinct values of distinct values: pooling over the first rows and then over the second is pooling over the composed
    keys, and the second rows are the occupied cells in order, after one row for the rows that hold nothing. -/
theorem rows_eq {N : ℕ} {α : Type} [LinearOrder α] (bot zer : α) (hbot : ∀ w, bot ≤ w)
    (key1 uniq1 inv1 key2 uniq2 inv2 : Fin N → BitVec 32) (m1 m2 : ℕ) (S1 : Spec N key1 uniq1 inv1 m1) (S2 : Spec N key2 uniq2 inv2 m2)
    (hN : 320000 < N) (K : ℕ → ℕ) (hK : ∀ n, n < N → K n < 40000) (hkey1 : ∀ j, (key1 j).toNat < 320000)
    (hlive : ∀ (j r : Fin N), uniq1 r = key1 j → (key2 r).toNat = K j.val)
    (hdead : ∀ r : Fin N, uniq1 r = 4294967295#32 → key2 r = 4294967295#32)
    (feat : ℕ → Fin 32 → α) (p1 q1 p2 q2 : Fin N → Fin 32 → α)
    (hp1 : ∀ r l w, p1 r l ≤ w ↔ ∀ i : Fin N, (inv1 i).toNat = r.val → feat i.val l ≤ w)
    (hq1 : ∀ r l, 0 ≤ (uniq1 r).toInt → q1 r l = p1 r l)
    (hp2 : ∀ r l w, p2 r l ≤ w ↔ ∀ i : Fin N, (inv2 i).toNat = r.val → q1 i l ≤ w)
    (hq2 : ∀ r l, q2 r l = if 0 ≤ (uniq2 r).toInt then p2 r l else zer) (r : Fin N) (l : Fin 32) :
    q2 r l = if r.val < 40064 then compact (occ K N) (dense max bot K feat N) (fun _ _ => zer) 40000 r.val l else zer := by
  have hm1 : m1 ≤ 320000 := rows_le S1 (by decide) hkey1
  -- the row of a key in the first layer
  let row1 : Fin N → Fin N := fun j => ⟨(inv1 j).toNat, lt_of_lt_of_le (S1.inv_lt j) S1.m_le⟩
  let row2 : Fin N → Fin N := fun j => ⟨(inv2 j).toNat, lt_of_lt_of_le (S2.inv_lt j) S2.m_le⟩
  have hk2 : ∀ j, (key2 (row1 j)).toNat = K j.val := fun j => hlive j _ (S1.uniq_inv j _ rfl)
  -- a row of the first layer holds a key or -1
  have hcase : ∀ s : Fin N, (∃ j, row1 j = s) ∨ uniq1 s = 4294967295#32 ∧ key2 s = 4294967295#32 := fun s => by
    rcases Nat.lt_or_ge s.val m1 with h | h
    · obtain ⟨j, hj⟩ := S1.surj s h
      exact Or.inl ⟨j, Fin.ext hj⟩
    · exact Or.inr ⟨S1.pad s h, hdead s (S1.pad s h)⟩
  have hkey2 : ∀ s, -1 ≤ (key2 s).toInt := fun s => by
    rcases hcase s with ⟨j, rfl⟩ | ⟨-, h⟩
    · have := hK j.val j.isLt
      rw [word_int (by rw [hk2]; omega)]; omega
    · rw [h, word_neg_one]
  have hlive1 : ∀ s, 0 ≤ (key2 s).toInt → ∃ j, row1 j = s := fun s hs => by
    rcases hcase s with h | ⟨-, h⟩
    · exact h
    · rw [h, word_neg_one] at hs; omega
  have hq1' : ∀ j l, q1 (row1 j) l = p1 (row1 j) l := fun j l => hq1 _ l (by
    rw [S1.uniq_inv j _ rfl]
    exact word_nonneg.2 (by have := hkey1 j; omega))
  have huniq2 : ∀ r : Fin N, r.val < m2 → ∃ s, row2 s = r ∧ uniq2 r = key2 s := fun r hr => by
    obtain ⟨s, hs⟩ := S2.surj r hr
    exact ⟨s, Fin.ext hs, S2.uniq_inv s r hs⟩
  -- row 0 holds -1
  have h0N : 0 < N := by omega
  have hzero : uniq2 ⟨0, h0N⟩ = 4294967295#32 := by
    let e : Fin N := ⟨N - 1, by omega⟩
    have he := hdead e (S1.pad e (show m1 ≤ N - 1 by omega))
    have h1 := S2.uniq_inv e (row2 e) rfl
    rw [he] at h1
    rcases Nat.eq_zero_or_pos (row2 e).val with h | h
    · rw [← h1]; exact congrArg uniq2 (Fin.ext h.symm)
    · have h2 := S2.mono ⟨0, h0N⟩ (row2 e) h (S2.inv_lt e)
      obtain ⟨s, -, h3⟩ := huniq2 ⟨0, h0N⟩ (lt_of_le_of_lt (Nat.zero_le _) (S2.inv_lt e))
      have h4 := hkey2 s
      rw [h1, h3, word_neg_one] at h2
      omega
  have hpos : ∀ r : Fin N, 1 ≤ r.val → r.val < m2 → 0 ≤ (uniq2 r).toInt := fun r h1 h2 => by
    have := S2.mono ⟨0, h0N⟩ r h1 h2
    rw [hzero, word_neg_one] at this
    omega
  -- a row from 1 on against the keys
  have hrow : ∀ r : Fin N, 1 ≤ r.val → r.val < m2 → ∀ j : Fin N, row2 (row1 j) = r ↔ K j.val = (uniq2 r).toNat := fun r h1 h2 j => by
    rw [← hk2 j]
    have e := S2.uniq_inv (row1 j) (row2 (row1 j)) rfl
    constructor
    · rintro rfl; rw [e]
    · intro hk
      have hk := BitVec.eq_of_toNat_eq hk
      rw [← e] at hk
      have hl := S2.inv_lt (row1 j)
      rcases Nat.lt_trichotomy (row2 (row1 j)).val r.val with h | h | h
      · have := S2.mono _ _ h h2; rw [hk] at this; omega
      · exact Fin.ext h
      · have := S2.mono _ _ h hl; rw [hk] at this; omega
  have hocc : ∀ r : Fin N, 1 ≤ r.val → r.val < m2 → ∃ j : Fin N, row2 (row1 j) = r := fun r h1 h2 => by
    obtain ⟨s, hs, hs'⟩ := huniq2 r h2
    obtain ⟨j, rfl⟩ := hlive1 s (by rw [← hs']; exact hpos r h1 h2)
    exact ⟨j, hs⟩
  let u : ℕ → ℕ := fun n => if h : n < N then (uniq2 ⟨n, h⟩).toNat else 0
  have hu : ∀ r : Fin N, u r.val = (uniq2 r).toNat := fun r => by
    show (if h : _ then _ else _) = _
    rw [dif_pos r.isLt]
  have hmono : ∀ r r', 1 ≤ r → r < r' → r' < m2 → u r < u r' := fun r r' h1 h2 h3 => by
    have hN' := S2.m_le
    have h4 := S2.mono ⟨r, by omega⟩ ⟨r', by omega⟩ h2 h3
    have h5 := hpos ⟨r, by omega⟩ h1 (show r < m2 by omega)
    have h6 := hpos ⟨r', by omega⟩ (show 1 ≤ r' by omega) h3
    rw [word_int (word_nonneg.1 h5), word_int (word_nonneg.1 h6)] at h4
    have e1 := hu ⟨r, by omega⟩
    have e2 := hu ⟨r', by omega⟩
    dsimp only at e1 e2
    omega
  have ho : ∀ k, occ K N k = 1#32 ↔ ∃ r, 1 ≤ r ∧ r < m2 ∧ u r = k := fun k => by
    have hN' := S2.m_le
    rw [occ_iff]
    constructor
    · rintro ⟨i, hi, rfl⟩
      let j : Fin N := ⟨i, hi⟩
      have e := S2.uniq_inv (row1 j) (row2 (row1 j)) rfl
      have hl := S2.inv_lt (row1 j)
      have h1 : 1 ≤ (row2 (row1 j)).val := by
        by_contra hc
        rw [show row2 (row1 j) = ⟨0, h0N⟩ from Fin.ext (show (row2 (row1 j)).val = 0 by omega), hzero] at e
        have h3 : K i = (4294967295#32).toNat := by rw [e]; exact (hk2 j).symm
        have := hK i hi
        rw [h3] at this
        exact absurd this (by decide)
      exact ⟨_, h1, hl, (hu _).trans ((hrow _ h1 hl j).1 rfl).symm⟩
    · rintro ⟨r, h1, h2, rfl⟩
      obtain ⟨j, hj⟩ := hocc ⟨r, by omega⟩ h1 h2
      exact ⟨j.val, j.isLt, ((hrow _ h1 h2 j).1 hj).trans (hu ⟨r, by omega⟩).symm⟩
  have hrank : ∀ r, 1 ≤ r → r < m2 → rank (occ K N) (u r) = r - 1 := fun r h1 h2 =>
    rank_of_list _ u m2 hmono ho (u r) r h1 h2.le (fun r' a b => hmono r' r a b h2) (fun r' a b => by
      rcases Nat.lt_or_ge r r' with h | h
      · exact (hmono r r' h1 h b).le
      · rw [show r' = r by omega])
  rw [hq2]
  by_cases hr : 1 ≤ r.val ∧ r.val < m2
  · obtain ⟨h1, h2⟩ := hr
    obtain ⟨j, hj⟩ := hocc r h1 h2
    have hjk := (hrow r h1 h2 j).1 hj
    have hk := hK j.val j.isLt
    have hrk := hrank r.val h1 h2
    have hle := rank_le (occ K N) (u r.val)
    have hur := hu r
    rw [if_pos (hpos r h1 h2), if_pos (by omega)]
    have hc := compact_hit (occ K N) (dense max bot K feat N) (fun _ _ => zer) l (u r.val) ((ho _).2 ⟨r.val, h1, h2, rfl⟩) 40000 (by omega)
    rw [hrk, show r.val - 1 + 1 = r.val by omega] at hc
    rw [hc]
    refine eq_of_forall_ge_iff fun w => ?_
    rw [dense_le, hp2, and_iff_right (hbot w)]
    constructor
    · intro h i hi hki
      have hi2 : row2 (row1 ⟨i, hi⟩) = r := (hrow r h1 h2 ⟨i, hi⟩).2 (hki.trans hur)
      have := h (row1 ⟨i, hi⟩) (congrArg Fin.val hi2)
      rw [hq1', hp1] at this
      exact this ⟨i, hi⟩ rfl
    · intro h s hs
      have hs' : row2 s = r := Fin.ext hs
      obtain ⟨j', rfl⟩ := hlive1 s (by rw [← S2.uniq_inv s r hs]; exact hpos r h1 h2)
      rw [hq1', hp1]
      intro i hi
      have hir : row1 i = row1 j' := Fin.ext hi
      exact h i.val i.isLt (((hrow r h1 h2 i).1 (by rw [hir]; exact hs')).trans hur.symm)
  · have hneg : uniq2 r = 4294967295#32 := by
      rcases Nat.eq_zero_or_pos r.val with h | h
      · rw [← hzero]; exact congrArg uniq2 (Fin.ext h)
      · exact S2.pad r (by omega)
    rw [if_neg (by rw [hneg, word_neg_one]; decide)]
    split_ifs with h
    · refine (compact_miss (occ K N) (dense max bot K feat N) (fun _ _ => zer) l r.val 40000 fun j hj hoj hjr => ?_).symm
      obtain ⟨r', h1, h2, rfl⟩ := (ho j).1 hoj
      rw [hrank r' h1 h2] at hjr
      exact hr ⟨by omega, by omega⟩
    · rfl

end Cert.Proof.Pool
-- ==== Proof.Ref.Values.lean ====
/- The reference's pooling, key and coordinate stages read at an index. -/
module

public import proofs.«01_k».proof.Proof.Ref.Steps
public import proofs.«01_k».proof.Proof.Ref.KeyReads
public import proofs.«01_k».proof.Proof.Rows
public import proofs.«01_k».proof.Proof.Layout

@[expose] public section

set_option maxRecDepth 16384

namespace Cert.Proof.ReferenceIdeal

open Cert.ReferenceIdeal Cert.ReferenceIdeal.Gen Idealize.ShloMosaic Idealize.ShloMosaic.ValueIdx Idealize.ShloMosaic.Routing
open Cert.Proof.Unique Cert.Proof.HostOps

/-- The least value, as the program writes it. -/
theorem bot_le (w : EReal) : (Scalar.ofBits (F := Ideal) .f32 0xFF800000#32 : EReal) ≤ w := by
  have h : (Scalar.ofBits (F := Ideal) .f32 0xFF800000#32 : EReal) = ⊥ := by
    show Ideal.ofBits .f32 0xFF800000#32 = ⊥
    simp [Ideal.ofBits, Ideal.ieee]
  rw [h]; exact _root_.bot_le

/-- The pooled row of a segment is the least upper bound of the rows whose index is the segment. -/
theorem poolW_le (inv : IVec S400000 32) (f : FVec Ideal S400000x32 .f32) (r : Fin 400000) (l : Fin 32) (w : EReal) :
    (poolW inv f (ix2 r l) : EReal) ≤ w ↔ ∀ i : Fin 400000, (inv (ix1 i)).toNat = r.val → (f (ix2 i l) : EReal) ≤ w := by
  have hr := r.isLt
  refine (reduce_max_mid (α := EReal) (A := 400000) (N := 400000) (C := 32) _ _ reducesTo_S400000x400000x32_S400000x32_d1 h_S_ r l w).trans ?_
  have hrow : ∀ i : Fin 400000, _ := fun i => segment_rows (α := EReal) inv f
    (broadcastInDim S400000x400000x32 ![] bcast_S_S400000x400000x32 (constant (F := Ideal) S_ .f32 0xFF800000#32))
    bcast_S400000_S1x400000x1_1 bcast_S1x400000x1_S400000x400000x1_0_1_2 bcast_S400000x1x1_S400000x400000x1_0_1_2
    bcast_S400000x400000x1_S400000x400000x32_0_1_2 bcast_S400000x32_S1x400000x32_1_2 bcast_S1x400000x32_S400000x400000x32_0_1_2 r i l
  have hz : ∀ i : Fin 400000, broadcastInDim S400000x400000x32 ![] bcast_S_S400000x400000x32 (constant (F := Ideal) S_ .f32 0xFF800000#32) (ix3 r i l)
      = (Scalar.ofBits (F := Ideal) .f32 0xFF800000#32 : EReal) := fun i => bc0 bcast_S_S400000x400000x32 _ _
  have hw : ∀ i : Fin 400000, inv (ix1 i) = BitVec.ofNat 32 r.val ↔ (inv (ix1 i)).toNat = r.val := fun i => by
    rw [← BitVec.toNat_inj, BitVec.toNat_ofNat, Nat.mod_eq_of_lt (by omega)]
  constructor
  · rintro ⟨-, h⟩ i hi
    have := h i
    rw [hrow i, if_pos ((hw i).2 hi)] at this
    exact this
  · intro h
    refine ⟨bot_le w, fun i => ?_⟩
    rw [hrow i]
    split
    · rename_i hc; exact h i ((hw i).1 hc)
    · rw [hz i]; exact bot_le w

/-- A row holds a value when its number is not negative. -/
theorem liveW_at (uniq : IVec S400000 32) (i : Fin 400000) : liveW uniq (ix1 i) = BitVec.ofBool (decide (0 ≤ (uniq (ix1 i)).toInt)) := by
  show IntOp.cmpi .sge (uniq (ix1 i)) (fillW 0#32 (ix1 i)) = _
  rw [fillW_at, WordCmp.cmpi_sge_eq]
  rfl

/-- The rows of a layer's result. -/
theorem resW_at (uniq : IVec S400000 32) (p : FVec Ideal S400000x32 .f32) (r : Fin 400000) (l : Fin 32) :
    resW uniq p (ix2 r l) = if 0 ≤ (uniq (ix1 r)).toInt then p (ix2 r l) else Scalar.ofBits (F := Ideal) .f32 0x00000000#32 := by
  have h1 := bcRows bcast_S400000_S400000x1_0 bcast_S400000x1_S400000x32_0_1 (liveW uniq) r l
  have h2 : broadcastInDim S400000x32 ![] bcast_S_S400000x32 (constant (F := Ideal) S_ .f32 0x00000000#32) (ix2 r l)
      = Scalar.ofBits (F := Ideal) .f32 0x00000000#32 := bc0 bcast_S_S400000x32 _ _
  refine (congrArg₂ (fun c z => Scalar.select c (p (ix2 r l)) z) (h1.trans (liveW_at uniq r)) h2).trans ?_
  exact WordCmp.select_decide _ _ _

theorem col0W_at (x : IVec S400000x4 32) (i : Fin 400000) : col0W x (ix1 i) = x (ix2 i 0) :=
  Layout.slice_col x 0 slices_S400000x4_S400000x1_0_0 shapeCasts_S400000x1_S400000 (ix1 i)
theorem col1W_at (x : IVec S400000x4 32) (i : Fin 400000) : col1W x (ix1 i) = x (ix2 i 1) :=
  Layout.slice_col x 1 slices_S400000x4_S400000x1_0_1 shapeCasts_S400000x1_S400000 (ix1 i)
theorem col2W_at (x : IVec S400000x4 32) (i : Fin 400000) : col2W x (ix1 i) = x (ix2 i 2) :=
  Layout.slice_col x 2 slices_S400000x4_S400000x1_0_2 shapeCasts_S400000x1_S400000 (ix1 i)
theorem col3W_at (x : IVec S400000x4 32) (i : Fin 400000) : col3W x (ix1 i) = x (ix2 i 3) :=
  Layout.slice_col x 3 slices_S400000x4_S400000x1_0_3 shapeCasts_S400000x1_S400000 (ix1 i)

/-- The packed number, in words. -/
theorem packW_at (big base : BitVec 32) (b z y x : IVec S400000 32) (i : Fin 400000) : packW big base b z y x (ix1 i)
    = if (b (ix1 i)).toInt < 0 then 4294967295#32 else
      IntOp.addi (IntOp.addi (IntOp.muli (b (ix1 i)) big) (IntOp.muli (IntOp.addi (IntOp.muli (z (ix1 i)) base) (y (ix1 i))) base)) (x (ix1 i)) := by
  show Scalar.select (IntOp.cmpi .slt (b (ix1 i)) (fillW 0#32 (ix1 i))) (fillW 4294967295#32 (ix1 i))
    (IntOp.addi (IntOp.addi (IntOp.muli (b (ix1 i)) (fillW big (ix1 i))) (IntOp.muli (IntOp.addi (IntOp.muli (z (ix1 i)) (fillW base (ix1 i))) (y (ix1 i)))
      (fillW base (ix1 i)))) (x (ix1 i))) = _
  rw [fillW_at, fillW_at, fillW_at, fillW_at, WordCmp.cmpi_slt_eq, WordCmp.select_decide]
  rfl

/-- The packed number of small coordinates, as a number. -/
theorem packW_val (big base : BitVec 32) (hbig : big.toNat ≤ 8000) (hbase : base.toNat ≤ 20) (b z y x : IVec S400000 32) (i : Fin 400000)
    {B Z Y X : ℕ} (hb : (b (ix1 i)).toNat = B) (hz : (z (ix1 i)).toNat = Z) (hy : (y (ix1 i)).toNat = Y) (hx : (x (ix1 i)).toNat = X)
    (hB : B < 40) (hZ : Z < 40) (hY : Y < 40) (hX : X < 40) :
    (packW big base b z y x (ix1 i)).toNat = B * big.toNat + (Z * base.toNat + Y) * base.toNat + X := by
  have hneg : ¬ (b (ix1 i)).toInt < 0 := by rw [Pool.word_int (by omega)]; omega
  have l1 : B * big.toNat ≤ 40 * 8000 := Nat.mul_le_mul (by omega) hbig
  have l2 : Z * base.toNat ≤ 40 * 20 := Nat.mul_le_mul (by omega) hbase
  have l3 : (Z * base.toNat + Y) * base.toNat ≤ 840 * 20 := Nat.mul_le_mul (by omega) hbase
  have e1 : (IntOp.muli (b (ix1 i)) big).toNat = B * big.toNat := by rw [Words.toNat_muli (by rw [hb]; omega), hb]
  have e2 : (IntOp.muli (z (ix1 i)) base).toNat = Z * base.toNat := by rw [Words.toNat_muli (by rw [hz]; omega), hz]
  have e3 : (IntOp.addi (IntOp.muli (z (ix1 i)) base) (y (ix1 i))).toNat = Z * base.toNat + Y := by
    rw [Words.toNat_addi (by rw [e2, hy]; omega), e2, hy]
  have e4 : (IntOp.muli (IntOp.addi (IntOp.muli (z (ix1 i)) base) (y (ix1 i))) base).toNat = (Z * base.toNat + Y) * base.toNat := by
    rw [Words.toNat_muli (by rw [e3]; omega), e3]
  have e5 : (IntOp.addi (IntOp.muli (b (ix1 i)) big) (IntOp.muli (IntOp.addi (IntOp.muli (z (ix1 i)) base) (y (ix1 i))) base)).toNat
      = B * big.toNat + (Z * base.toNat + Y) * base.toNat := by
    rw [Words.toNat_addi (by rw [e1, e4]; omega), e1, e4]
  rw [packW_at, if_neg hneg, Words.toNat_addi (by rw [e5, hx]; omega), e5, hx]

/-- Halving a small number. -/
theorem half_val (x : IVec S400000 32) (i : Fin 400000) {n : ℕ} (h : (x (ix1 i)).toNat = n) (hn : n < 2 ^ 31) : (fdW 2#32 x (ix1 i)).toNat = n / 2 := by
  rw [fdW_at, Words.toNat_fdiv (by omega) (by decide) (by decide), h]
  rfl

/-- Dividing a non-negative word. -/
theorem fdW_val (k : BitVec 32) (hk : 0 < k.toNat) (hk' : k.toNat < 2 ^ 31) (x : IVec S400000 32) (i : Fin 400000) {n : ℕ} (h : (x (ix1 i)).toNat = n) (hn : n < 2 ^ 31) :
    (fdW k x (ix1 i)).toNat = n / k.toNat := by
  rw [fdW_at, Words.toNat_fdiv (by omega) hk hk', h]

/-- The remainder of a non-negative word. -/
theorem fmW_val (k : BitVec 32) (hk : 0 < k.toNat) (hk' : k.toNat < 2 ^ 31) (x : IVec S400000 32) (i : Fin 400000) {n : ℕ} (h : (x (ix1 i)).toNat = n) (hn : n < 2 ^ 31) :
    (fmW k x (ix1 i)).toNat = n % k.toNat := by
  rw [fmW_at k (by rintro rfl; exact absurd hk (by decide)), Words.toNat_fmod (by omega) hk hk', h]

section
variable {F : FTy → Type} [FloatOps F]

theorem stack4_0 (b z y x : IVec S400000x1 32) (i : Fin 400000) : (stack4 (F := F) b z y x : IVec S400000x4 32) (ix2 i 0) = b (ix2 i 0) :=
  concatenate_apply_piece (t := S400000x4) 1 [⟨S400000x1, b⟩, ⟨S400000x1, z⟩, ⟨S400000x1, y⟩, ⟨S400000x1, x⟩]
    concatenates_S400000x1_S400000x1_S400000x1_S400000x1_S400000x4_d1 (ix2 i 0) 0 (by show 0 < 4; decide) S400000x1 b rfl rfl 0 rfl (ix2 i 0)
    (fun a ha => by match a with
      | ⟨0, _⟩ => rfl
      | ⟨1, _⟩ => exact absurd rfl ha) rfl
theorem stack4_1 (b z y x : IVec S400000x1 32) (i : Fin 400000) : (stack4 (F := F) b z y x : IVec S400000x4 32) (ix2 i 1) = z (ix2 i 0) :=
  concatenate_apply_piece (t := S400000x4) 1 [⟨S400000x1, b⟩, ⟨S400000x1, z⟩, ⟨S400000x1, y⟩, ⟨S400000x1, x⟩]
    concatenates_S400000x1_S400000x1_S400000x1_S400000x1_S400000x4_d1 (ix2 i 1) 1 (by show 1 < 4; decide) S400000x1 z rfl rfl 1 rfl (ix2 i 0)
    (fun a ha => by match a with
      | ⟨0, _⟩ => rfl
      | ⟨1, _⟩ => exact absurd rfl ha) rfl
theorem stack4_2 (b z y x : IVec S400000x1 32) (i : Fin 400000) : (stack4 (F := F) b z y x : IVec S400000x4 32) (ix2 i 2) = y (ix2 i 0) :=
  concatenate_apply_piece (t := S400000x4) 1 [⟨S400000x1, b⟩, ⟨S400000x1, z⟩, ⟨S400000x1, y⟩, ⟨S400000x1, x⟩]
    concatenates_S400000x1_S400000x1_S400000x1_S400000x1_S400000x4_d1 (ix2 i 2) 2 (by show 2 < 4; decide) S400000x1 y rfl rfl 2 rfl (ix2 i 0)
    (fun a ha => by match a with
      | ⟨0, _⟩ => rfl
      | ⟨1, _⟩ => exact absurd rfl ha) rfl
theorem stack4_3 (b z y x : IVec S400000x1 32) (i : Fin 400000) : (stack4 (F := F) b z y x : IVec S400000x4 32) (ix2 i 3) = x (ix2 i 0) :=
  concatenate_apply_piece (t := S400000x4) 1 [⟨S400000x1, b⟩, ⟨S400000x1, z⟩, ⟨S400000x1, y⟩, ⟨S400000x1, x⟩]
    concatenates_S400000x1_S400000x1_S400000x1_S400000x1_S400000x4_d1 (ix2 i 3) 3 (by show 3 < 4; decide) S400000x1 x rfl rfl 3 rfl (ix2 i 0)
    (fun a ha => by match a with
      | ⟨0, _⟩ => rfl
      | ⟨1, _⟩ => exact absurd rfl ha) rfl

theorem coorW_at (live : IVec S400000 1) (b z y x : IVec S400000 32) (i : Fin 400000) (j : Fin 4) :
    coorW (F := F) live b z y x (ix2 i j)
      = Scalar.select (live (ix1 i)) ((stack4 (F := F) (colW b) (colW z) (colW y) (colW x) : IVec S400000x4 32) (ix2 i j)) 4294967295#32 := by
  have h1 := bcRows bcast_S400000_S400000x1_0 bcast_S400000x1_S400000x4_0_1 live i j
  have h2 : broadcastInDim S400000x4 ![] bcast_S_S400000x4 (constantI S_ 32 4294967295#32) (ix2 i j) = 4294967295#32 := bc0 bcast_S_S400000x4 _ _
  exact congrArg₂ (fun c w => Scalar.select c ((stack4 (F := F) (colW b) (colW z) (colW y) (colW x) : IVec S400000x4 32) (ix2 i j)) w) h1 h2

/-- A row that holds no value has all its coordinates at -1. -/
theorem coorW_dead (live : IVec S400000 1) (b z y x : IVec S400000 32) (i : Fin 400000) (j : Fin 4) (h : live (ix1 i) = 0#1) :
    coorW (F := F) live b z y x (ix2 i j) = 4294967295#32 := by
  rw [coorW_at, h, WordCmp.select_of_eq_zero rfl]

/-- A row that holds a value has its coordinates in place. -/
theorem coorW_live (live : IVec S400000 1) (b z y x : IVec S400000 32) (i : Fin 400000) (h : live (ix1 i) = 1#1) :
    coorW (F := F) live b z y x (ix2 i 0) = b (ix1 i) ∧ coorW (F := F) live b z y x (ix2 i 1) = z (ix1 i)
      ∧ coorW (F := F) live b z y x (ix2 i 2) = y (ix1 i) ∧ coorW (F := F) live b z y x (ix2 i 3) = x (ix1 i) := by
  refine ⟨?_, ?_, ?_, ?_⟩ <;> rw [coorW_at, h, WordCmp.select_of_eq_one rfl]
  · exact (stack4_0 _ _ _ _ i).trans (colW_at b i)
  · exact (stack4_1 _ _ _ _ i).trans (colW_at z i)
  · exact (stack4_2 _ _ _ _ i).trans (colW_at y i)
  · exact (stack4_3 _ _ _ _ i).trans (colW_at x i)

end

end Cert.Proof.ReferenceIdeal
-- ==== Proof.Ref.Reads.lean ====
/- The stages of the reference program compute the functions given for them. -/
module

public import proofs.«01_k».proof.Proof.Ref.Forms
public import proofs.«01_k».proof.Proof.Ref.Ops2

@[expose] public section

set_option maxRecDepth 16384
set_option maxHeartbeats 2000000

namespace Cert.Proof.ReferenceIdeal

open Cert.ReferenceIdeal Cert.ReferenceIdeal.Gen Idealize.ShloMosaic Idealize.ShloMosaic.TcCoe Idealize.SL.Sem Idealize.ShloMosaic.StableHlo
open Idealize.ShloMosaic.Tactic

variable {F : FTy → Type} [FloatOps F]

theorem read_perm1 (V : Valuation τ sig (Elt F)) : ((after sort1 V) (Proc.devRef .tc main_v23_2) : IVec S400000 32) = permW (V (Proc.devRef .tc main_v22) : IVec S400000 32) := by
  simp only [sort1, TRef.binary, TRef.nullary, TRef.ternary, TRef.unary, TRef.reshape, TRef.toBuf, TRef.ofBuf, cast_eq]
  after_results_simp
  rfl

theorem read_aux1 (V : Valuation τ sig (Elt F)) : ((after sort1 V) (Proc.devRef .tc main_v23_0) : IVec S400000 32) = takeW (V (Proc.devRef .tc main_v22) : IVec S400000 32) (permW (V (Proc.devRef .tc main_v22) : IVec S400000 32)) := by
  simp only [sort1, TRef.binary, TRef.nullary, TRef.ternary, TRef.unary, TRef.reshape, TRef.toBuf, TRef.ofBuf, cast_eq]
  after_results_simp
  rfl

theorem mask1_of (g : IVec S399999 1 → IVec S_ 1 → IVec S399999 1) (f : IVec S400000 1 → IVec S1 32 → IVec S399999 1 → IVec S400000 1)
    (V : Valuation τ sig (Elt F)) : (after ([ TRef.nullary (TRef.of (T := ⟨S_, .i1⟩) main_call4_c_1) (constantI S_ 1 1#1),
    TRef.unary (TRef.of (T := ⟨S_, .i1⟩) main_call4_c_1) (TRef.of (T := ⟨S400000, .i1⟩) main_call4_v11) (broadcastInDim S400000 ![] bcast_S_S400000),
    TRef.unary (TRef.of (T := ⟨S400000, .i32⟩) main_v23_0) (TRef.of (T := ⟨S399999, .i32⟩) main_call4_v12) (extractStridedSlice S399999 ![1] · slices_S400000_S399999_1),
    TRef.unary (TRef.of (T := ⟨S400000, .i32⟩) main_v23_0) (TRef.of (T := ⟨S399999, .i32⟩) main_call4_v13) (extractStridedSlice S399999 ![0] · slices_S400000_S399999_0),
    TRef.binary (TRef.of (T := ⟨S399999, .i32⟩) main_call4_v12) (TRef.of (T := ⟨S399999, .i32⟩) main_call4_v13) (TRef.of (T := ⟨S399999, .i1⟩) main_call4_v14) (cmpi .ne),
    TRef.nullary (TRef.of (T := ⟨S_, .i1⟩) main_call4_c_2) (constantI S_ 1 0#1),
    TRef.binary (TRef.of (T := ⟨S399999, .i1⟩) main_call4_v14) (TRef.of (T := ⟨S_, .i1⟩) main_call4_c_2) (TRef.of (T := ⟨S399999, .i1⟩) main_call4_v15) g,
    TRef.nullary (TRef.of (T := ⟨S_, .i32⟩) main_call4_c_3) (constantI S_ 32 1#32),
    TRef.unary (TRef.of (T := ⟨S_, .i32⟩) main_call4_c_3) (TRef.of (T := ⟨S1, .i32⟩) main_call4_v16) (broadcastInDim S1 ![] bcast_S_S1),
    TRef.ternary (TRef.of (T := ⟨S400000, .i1⟩) main_call4_v11) (TRef.of (T := ⟨S1, .i32⟩) main_call4_v16) (TRef.of (T := ⟨S399999, .i1⟩) main_call4_v15) (TRef.of (T := ⟨S400000, .i1⟩) main_v23_1) f ] : List (HloOp τ sig (Elt F))) V (Proc.devRef .tc main_v23_1) : IVec S400000 1)
      = f (broadcastInDim S400000 ![] bcast_S_S400000 (constantI S_ 1 1#1)) (broadcastInDim S1 ![] bcast_S_S1 (constantI S_ 32 1#32))
        (g (cmpi .ne (extractStridedSlice S399999 ![1] (V (Proc.devRef .tc main_v23_0) : IVec S400000 32) slices_S400000_S399999_1)
          (extractStridedSlice S399999 ![0] (V (Proc.devRef .tc main_v23_0) : IVec S400000 32) slices_S400000_S399999_0)) (constantI S_ 1 0#1)) := by
  simp only [TRef.binary, TRef.nullary, TRef.ternary, TRef.unary, TRef.reshape, TRef.toBuf, TRef.ofBuf, cast_eq]
  after_results_simp

theorem read_mask1 (V : Valuation τ sig (Elt F)) : ((after mask1 V) (Proc.devRef .tc main_v23_1) : IVec S400000 1) = maskW (V (Proc.devRef .tc main_v23_0) : IVec S400000 32) :=
  mask1_of (fun x v => Host.reduce IntOp.ori x v reducesTo_S399999_S399999_d h_S_) (fun x i u => Host.scatter scatter_S400000_S1_S399999_0_n_0_0 (fun _ b => b) x i u) V

theorem read_cnt1 (V : Valuation τ sig (Elt F)) : ((after cnt1 V) (Proc.devRef .tc main_v24) : IVec S400000 32) = cumW (wideW (V (Proc.devRef .tc main_v23_1) : IVec S400000 1)) := by
  simp only [cnt1, TRef.binary, TRef.nullary, TRef.ternary, TRef.unary, TRef.reshape, TRef.toBuf, TRef.ofBuf, cast_eq]
  after_results_simp
  rfl

theorem read_bins1 (V : Valuation τ sig (Elt F)) : ((after bins1 V) (Proc.devRef .tc main_v34) : IVec S400000 32) = binsW (V (Proc.devRef .tc main_v24) : IVec S400000 32) := by
  simp only [bins1, TRef.binary, TRef.nullary, TRef.ternary, TRef.unary, TRef.reshape, TRef.toBuf, TRef.ofBuf, cast_eq]
  after_results_simp
  rfl

theorem read_fd1 (V : Valuation τ sig (Elt F)) : ((after fd1 V) (Proc.devRef .tc main_v35) : IVec S400000 32) = fdW 1#32 (V (Proc.devRef .tc main_v34) : IVec S400000 32) := by
  simp only [fd1, TRef.binary, TRef.nullary, TRef.ternary, TRef.unary, TRef.reshape, TRef.toBuf, TRef.ofBuf, cast_eq]
  after_results_simp
  rfl

theorem read_fm1 (V : Valuation τ sig (Elt F)) : ((after fm1 V) (Proc.devRef .tc main_v36) : IVec S400000 32) = fmW 400000#32 (V (Proc.devRef .tc main_v35) : IVec S400000 32) := by
  simp only [fm1, TRef.binary, TRef.nullary, TRef.ternary, TRef.unary, TRef.reshape, TRef.toBuf, TRef.ofBuf, cast_eq]
  after_results_simp
  rfl

theorem read_pos1 (V : Valuation τ sig (Elt F)) : ((after pos1 V) (Proc.devRef .tc main_v43) : IVec S400000 32) = posW (V (Proc.devRef .tc main_v23_1) : IVec S400000 1) (V (Proc.devRef .tc main_v36) : IVec S400000 32) := by
  simp only [pos1, TRef.binary, TRef.nullary, TRef.ternary, TRef.unary, TRef.reshape, TRef.toBuf, TRef.ofBuf, cast_eq]
  after_results_simp
  rfl

theorem read_uniq1 (V : Valuation τ sig (Elt F)) : ((after uniq1 V) (Proc.devRef .tc main_v56) : IVec S400000 32) = uniqW (V (Proc.devRef .tc main_v23_1) : IVec S400000 1) (V (Proc.devRef .tc main_v23_0) : IVec S400000 32) (V (Proc.devRef .tc main_v43) : IVec S400000 32) := by
  simp only [uniq1, TRef.binary, TRef.nullary, TRef.ternary, TRef.unary, TRef.reshape, TRef.toBuf, TRef.ofBuf, cast_eq]
  after_results_simp
  rfl

theorem read_inv1 (V : Valuation τ sig (Elt F)) : ((after inv1 V) (Proc.devRef .tc main_v67) : IVec S400000 32) = invW (V (Proc.devRef .tc main_v23_1) : IVec S400000 1) (V (Proc.devRef .tc main_v23_2) : IVec S400000 32) := by
  simp only [inv1, TRef.binary, TRef.nullary, TRef.ternary, TRef.unary, TRef.reshape, TRef.toBuf, TRef.ofBuf, cast_eq]
  after_results_simp
  rfl

theorem read_pool1 (V : Valuation τ sig (Elt F)) : ((after pool1 V) (Proc.devRef .tc main_v75) : FVec F S400000x32 .f32) = poolW (V (Proc.devRef .tc main_v67) : IVec S400000 32) (V (Proc.devRef .tc main_arg0) : FVec F S400000x32 .f32) := by
  simp only [pool1, TRef.binary, TRef.nullary, TRef.ternary, TRef.unary, TRef.reshape, TRef.toBuf, TRef.ofBuf, cast_eq]
  after_results_simp
  rfl

theorem read_live1 (V : Valuation τ sig (Elt F)) : ((after res1 V) (Proc.devRef .tc main_v77) : IVec S400000 1) = liveW (V (Proc.devRef .tc main_v56) : IVec S400000 32) := by
  simp only [res1, TRef.binary, TRef.nullary, TRef.ternary, TRef.unary, TRef.reshape, TRef.toBuf, TRef.ofBuf, cast_eq]
  after_results_simp
  rfl

theorem read_res1 (V : Valuation τ sig (Elt F)) : ((after res1 V) (Proc.devRef .tc main_v79) : FVec F S400000x32 .f32) = resW (V (Proc.devRef .tc main_v56) : IVec S400000 32) (V (Proc.devRef .tc main_v75) : FVec F S400000x32 .f32) := by
  simp only [res1, TRef.binary, TRef.nullary, TRef.ternary, TRef.unary, TRef.reshape, TRef.toBuf, TRef.ofBuf, cast_eq]
  after_results_simp
  rfl

theorem read_perm2 (V : Valuation τ sig (Elt F)) : ((after sort2 V) (Proc.devRef .tc main_v116_2) : IVec S400000 32) = permW (V (Proc.devRef .tc main_v115) : IVec S400000 32) := by
  simp only [sort2, TRef.binary, TRef.nullary, TRef.ternary, TRef.unary, TRef.reshape, TRef.toBuf, TRef.ofBuf, cast_eq]
  after_results_simp
  rfl

theorem read_aux2 (V : Valuation τ sig (Elt F)) : ((after sort2 V) (Proc.devRef .tc main_v116_0) : IVec S400000 32) = takeW (V (Proc.devRef .tc main_v115) : IVec S400000 32) (permW (V (Proc.devRef .tc main_v115) : IVec S400000 32)) := by
  simp only [sort2, TRef.binary, TRef.nullary, TRef.ternary, TRef.unary, TRef.reshape, TRef.toBuf, TRef.ofBuf, cast_eq]
  after_results_simp
  rfl

theorem mask2_of (g : IVec S399999 1 → IVec S_ 1 → IVec S399999 1) (f : IVec S400000 1 → IVec S1 32 → IVec S399999 1 → IVec S400000 1)
    (V : Valuation τ sig (Elt F)) : (after ([ TRef.nullary (TRef.of (T := ⟨S_, .i1⟩) main_call25_c_1) (constantI S_ 1 1#1),
    TRef.unary (TRef.of (T := ⟨S_, .i1⟩) main_call25_c_1) (TRef.of (T := ⟨S400000, .i1⟩) main_call25_v11) (broadcastInDim S400000 ![] bcast_S_S400000),
    TRef.unary (TRef.of (T := ⟨S400000, .i32⟩) main_v116_0) (TRef.of (T := ⟨S399999, .i32⟩) main_call25_v12) (extractStridedSlice S399999 ![1] · slices_S400000_S399999_1),
    TRef.unary (TRef.of (T := ⟨S400000, .i32⟩) main_v116_0) (TRef.of (T := ⟨S399999, .i32⟩) main_call25_v13) (extractStridedSlice S399999 ![0] · slices_S400000_S399999_0),
    TRef.binary (TRef.of (T := ⟨S399999, .i32⟩) main_call25_v12) (TRef.of (T := ⟨S399999, .i32⟩) main_call25_v13) (TRef.of (T := ⟨S399999, .i1⟩) main_call25_v14) (cmpi .ne),
    TRef.nullary (TRef.of (T := ⟨S_, .i1⟩) main_call25_c_2) (constantI S_ 1 0#1),
    TRef.binary (TRef.of (T := ⟨S399999, .i1⟩) main_call25_v14) (TRef.of (T := ⟨S_, .i1⟩) main_call25_c_2) (TRef.of (T := ⟨S399999, .i1⟩) main_call25_v15) g,
    TRef.nullary (TRef.of (T := ⟨S_, .i32⟩) main_call25_c_3) (constantI S_ 32 1#32),
    TRef.unary (TRef.of (T := ⟨S_, .i32⟩) main_call25_c_3) (TRef.of (T := ⟨S1, .i32⟩) main_call25_v16) (broadcastInDim S1 ![] bcast_S_S1),
    TRef.ternary (TRef.of (T := ⟨S400000, .i1⟩) main_call25_v11) (TRef.of (T := ⟨S1, .i32⟩) main_call25_v16) (TRef.of (T := ⟨S399999, .i1⟩) main_call25_v15) (TRef.of (T := ⟨S400000, .i1⟩) main_v116_1) f ] : List (HloOp τ sig (Elt F))) V (Proc.devRef .tc main_v116_1) : IVec S400000 1)
      = f (broadcastInDim S400000 ![] bcast_S_S400000 (constantI S_ 1 1#1)) (broadcastInDim S1 ![] bcast_S_S1 (constantI S_ 32 1#32))
        (g (cmpi .ne (extractStridedSlice S399999 ![1] (V (Proc.devRef .tc main_v116_0) : IVec S400000 32) slices_S400000_S399999_1)
          (extractStridedSlice S399999 ![0] (V (Proc.devRef .tc main_v116_0) : IVec S400000 32) slices_S400000_S399999_0)) (constantI S_ 1 0#1)) := by
  simp only [TRef.binary, TRef.nullary, TRef.ternary, TRef.unary, TRef.reshape, TRef.toBuf, TRef.ofBuf, cast_eq]
  after_results_simp

theorem read_mask2 (V : Valuation τ sig (Elt F)) : ((after mask2 V) (Proc.devRef .tc main_v116_1) : IVec S400000 1) = maskW (V (Proc.devRef .tc main_v116_0) : IVec S400000 32) :=
  mask2_of (fun x v => Host.reduce IntOp.ori x v reducesTo_S399999_S399999_d h_S_) (fun x i u => Host.scatter scatter_S400000_S1_S399999_0_n_0_0 (fun _ b => b) x i u) V

theorem read_cnt2 (V : Valuation τ sig (Elt F)) : ((after cnt2 V) (Proc.devRef .tc main_v117) : IVec S400000 32) = cumW (wideW (V (Proc.devRef .tc main_v116_1) : IVec S400000 1)) := by
  simp only [cnt2, TRef.binary, TRef.nullary, TRef.ternary, TRef.unary, TRef.reshape, TRef.toBuf, TRef.ofBuf, cast_eq]
  after_results_simp
  rfl

theorem read_bins2 (V : Valuation τ sig (Elt F)) : ((after bins2 V) (Proc.devRef .tc main_v127) : IVec S400000 32) = binsW (V (Proc.devRef .tc main_v117) : IVec S400000 32) := by
  simp only [bins2, TRef.binary, TRef.nullary, TRef.ternary, TRef.unary, TRef.reshape, TRef.toBuf, TRef.ofBuf, cast_eq]
  after_results_simp
  rfl

theorem read_fd2 (V : Valuation τ sig (Elt F)) : ((after fd2 V) (Proc.devRef .tc main_v128) : IVec S400000 32) = fdW 1#32 (V (Proc.devRef .tc main_v127) : IVec S400000 32) := by
  simp only [fd2, TRef.binary, TRef.nullary, TRef.ternary, TRef.unary, TRef.reshape, TRef.toBuf, TRef.ofBuf, cast_eq]
  after_results_simp
  rfl

theorem read_fm2 (V : Valuation τ sig (Elt F)) : ((after fm2 V) (Proc.devRef .tc main_v129) : IVec S400000 32) = fmW 400000#32 (V (Proc.devRef .tc main_v128) : IVec S400000 32) := by
  simp only [fm2, TRef.binary, TRef.nullary, TRef.ternary, TRef.unary, TRef.reshape, TRef.toBuf, TRef.ofBuf, cast_eq]
  after_results_simp
  rfl

theorem read_pos2 (V : Valuation τ sig (Elt F)) : ((after pos2_1 (after pos2_0 V)) (Proc.devRef .tc main_v136) : IVec S400000 32) = posW (V (Proc.devRef .tc main_v116_1) : IVec S400000 1) (V (Proc.devRef .tc main_v129) : IVec S400000 32) := by
  simp only [pos2_0, pos2_1, TRef.binary, TRef.nullary, TRef.ternary, TRef.unary, TRef.reshape, TRef.toBuf, TRef.ofBuf, cast_eq]
  after_results_simp
  rfl

theorem read_uniq2 (V : Valuation τ sig (Elt F)) : ((after uniq2 V) (Proc.devRef .tc main_v149) : IVec S400000 32) = uniqW (V (Proc.devRef .tc main_v116_1) : IVec S400000 1) (V (Proc.devRef .tc main_v116_0) : IVec S400000 32) (V (Proc.devRef .tc main_v136) : IVec S400000 32) := by
  simp only [uniq2, TRef.binary, TRef.nullary, TRef.ternary, TRef.unary, TRef.reshape, TRef.toBuf, TRef.ofBuf, cast_eq]
  after_results_simp
  rfl

theorem read_inv2 (V : Valuation τ sig (Elt F)) : ((after inv2 V) (Proc.devRef .tc main_v160) : IVec S400000 32) = invW (V (Proc.devRef .tc main_v116_1) : IVec S400000 1) (V (Proc.devRef .tc main_v116_2) : IVec S400000 32) := by
  simp only [inv2, TRef.binary, TRef.nullary, TRef.ternary, TRef.unary, TRef.reshape, TRef.toBuf, TRef.ofBuf, cast_eq]
  after_results_simp
  rfl

theorem read_pool2 (V : Valuation τ sig (Elt F)) : ((after pool2 V) (Proc.devRef .tc main_v168) : FVec F S400000x32 .f32) = poolW (V (Proc.devRef .tc main_v160) : IVec S400000 32) (V (Proc.devRef .tc main_v79) : FVec F S400000x32 .f32) := by
  simp only [pool2, TRef.binary, TRef.nullary, TRef.ternary, TRef.unary, TRef.reshape, TRef.toBuf, TRef.ofBuf, cast_eq]
  after_results_simp
  rfl

theorem read_live2 (V : Valuation τ sig (Elt F)) : ((after res2 V) (Proc.devRef .tc main_v170) : IVec S400000 1) = liveW (V (Proc.devRef .tc main_v149) : IVec S400000 32) := by
  simp only [res2, TRef.binary, TRef.nullary, TRef.ternary, TRef.unary, TRef.reshape, TRef.toBuf, TRef.ofBuf, cast_eq]
  after_results_simp
  rfl

theorem read_res2 (V : Valuation τ sig (Elt F)) : ((after res2 V) (Proc.devRef .tc main_v172) : FVec F S400000x32 .f32) = resW (V (Proc.devRef .tc main_v149) : IVec S400000 32) (V (Proc.devRef .tc main_v168) : FVec F S400000x32 .f32) := by
  simp only [res2, TRef.binary, TRef.nullary, TRef.ternary, TRef.unary, TRef.reshape, TRef.toBuf, TRef.ofBuf, cast_eq]
  after_results_simp
  rfl

end Cert.Proof.ReferenceIdeal
-- ==== Proof.Ref.Final.lean ====
/- The reference program's result as a function of its arguments, and its rows. -/
module

public import proofs.«01_k».proof.Proof.Ref.Values
public import proofs.«01_k».proof.Proof.Ref.Reads
public import proofs.«01_k».proof.Proof.Ref.Stages

@[expose] public section

set_option maxRecDepth 16384

namespace Cert.Proof.ReferenceIdeal

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Routing
open Cert.Proof.Unique

/-- The distinct keys, in order. -/
noncomputable def uniqOf (key : IVec S400000 32) : IVec S400000 32 :=
  uniqW (maskW (takeW key (permW key))) (takeW key (permW key))
    (posW (maskW (takeW key (permW key))) (fmW 400000#32 (fdW 1#32 (binsW (cumW (wideW (maskW (takeW key (permW key)))))))))

/-- Each key's place among the distinct keys. -/
noncomputable def invOf (key : IVec S400000 32) : IVec S400000 32 := invW (maskW (takeW key (permW key))) (permW key)

/-- The first layer's keys. -/
noncomputable def key1Of (x : IVec S400000x4 32) : IVec S400000 32 :=
  packW 8000#32 20#32 (col0W x) (fdW 2#32 (col1W x)) (fdW 2#32 (col2W x)) (fdW 2#32 (col3W x))

section
variable {F : FTy → Type} [FloatOps F]

/-- The coordinates of the first layer's rows. -/
noncomputable def coor2Of (u : IVec S400000 32) : IVec S400000x4 32 :=
  coorW (F := F) (liveW u) (fdW 8000#32 u) (fdW 400#32 (fmW 8000#32 u)) (fdW 20#32 (fmW 400#32 (fmW 8000#32 u))) (fmW 20#32 (fmW 8000#32 u))

/-- The second layer's keys. -/
noncomputable def key2Of (x : IVec S400000x4 32) : IVec S400000 32 :=
  packW 1000#32 10#32 (col0W x) (fdW 2#32 (col1W x)) (fdW 2#32 (col2W x)) (fdW 2#32 (col3W x))

/-- One layer: the pooled rows of the distinct keys. -/
noncomputable def layerOf (key : IVec S400000 32) (f : FVec F S400000x32 .f32) : FVec F S400000x32 .f32 := resW (uniqOf key) (poolW (invOf key) f)

variable (V : Valuation τ sig (Elt F))

theorem key1_eq : ((A_key1d V) (Proc.devRef .tc main_v22) : IVec S400000 32) = key1Of (V (Proc.devRef .tc main_arg1) : IVec S400000x4 32) := by
  have h := read_key1 (A_key1c V)
  have hb := read_b1 V
  have hz := read_z1 V
  have hy := read_y1 (A_key1a V)
  have hx := read_x1 (A_key1b V)
  rw [key1b_in_main_arg1] at hy
  rw [key1c_in_main_arg1] at hx
  rw [key1d_in_main_v1, key1d_in_main_v4, key1d_in_main_v7] at h
  unfold key1Of
  rw [← hb, ← hz, ← hy, ← hx]
  exact h

theorem uniq1_eq (key : IVec S400000 32) (hk : ((A_key1d V) (Proc.devRef .tc main_v22) : IVec S400000 32) = key) :
    ((A_uniq1 V) (Proc.devRef .tc main_v56) : IVec S400000 32) = uniqOf key
    ∧ ((A_inv1 V) (Proc.devRef .tc main_v67) : IVec S400000 32) = invOf key := by
  have hp : ((A_sort1 V) (Proc.devRef .tc main_v23_2) : IVec S400000 32) = permW key := (read_perm1 (A_key1d V)).trans (by rw [hk])
  have ha : ((A_sort1 V) (Proc.devRef .tc main_v23_0) : IVec S400000 32) = takeW key (permW key) := (read_aux1 (A_key1d V)).trans (by rw [hk])
  have hm : ((A_mask1 V) (Proc.devRef .tc main_v23_1) : IVec S400000 1) = maskW (takeW key (permW key)) := (read_mask1 (A_sort1 V)).trans (by rw [ha])
  have hc : ((A_cnt1 V) (Proc.devRef .tc main_v24) : IVec S400000 32) = _ := (read_cnt1 (A_mask1 V)).trans (by rw [hm])
  have hb : ((A_bins1 V) (Proc.devRef .tc main_v34) : IVec S400000 32) = _ := (read_bins1 (A_cnt1 V)).trans (by rw [hc])
  have hd : ((A_fd1 V) (Proc.devRef .tc main_v35) : IVec S400000 32) = _ := (read_fd1 (A_bins1 V)).trans (by rw [hb])
  have hf : ((A_fm1 V) (Proc.devRef .tc main_v36) : IVec S400000 32) = _ := (read_fm1 (A_fd1 V)).trans (by rw [hd])
  have ho : ((A_pos1 V) (Proc.devRef .tc main_v43) : IVec S400000 32) = _ := (read_pos1 (A_fm1 V)).trans (by rw [pos1_in_main_v23_1, hm, hf])
  exact ⟨(read_uniq1 (A_pos1 V)).trans (by rw [uniq1_in_main_v23_1, uniq1_in_main_v23_0, hm, ha, ho]; rfl),
    (read_inv1 (A_uniq1 V)).trans (by rw [inv1_in_main_v23_1, inv1_in_main_v23_2, hm, hp]; rfl)⟩

theorem layer1_eq (key : IVec S400000 32) (hk : ((A_key1d V) (Proc.devRef .tc main_v22) : IVec S400000 32) = key) :
    ((A_res1 V) (Proc.devRef .tc main_v79) : FVec F S400000x32 .f32) = layerOf key (V (Proc.devRef .tc main_arg0) : FVec F S400000x32 .f32)
    ∧ ((A_res1 V) (Proc.devRef .tc main_v77) : IVec S400000 1) = liveW (uniqOf key) := by
  obtain ⟨hu, hi⟩ := uniq1_eq V key hk
  have hp : ((A_pool1 V) (Proc.devRef .tc main_v75) : FVec F S400000x32 .f32) = _ := (read_pool1 (A_inv1 V)).trans (by rw [pool1_in_main_arg0, hi])
  exact ⟨(read_res1 (A_pool1 V)).trans (by rw [res1_in_main_v56, hu, hp]; rfl), (read_live1 (A_pool1 V)).trans (by rw [res1_in_main_v56, hu])⟩

theorem coor2_eq (u : IVec S400000 32) (hu : ((A_uniq1 V) (Proc.devRef .tc main_v56) : IVec S400000 32) = u)
    (hl : ((A_res1 V) (Proc.devRef .tc main_v77) : IVec S400000 1) = liveW u) :
    ((A_coor2 V) (Proc.devRef .tc main_v92) : IVec S400000x4 32) = coor2Of (F := F) u := by
  have h80 : ((A_dec1 V) (Proc.devRef .tc main_v80) : IVec S400000 32) = _ := (read_dec1 (A_res1 V)).trans (by rw [dec1_in_main_v56, hu])
  have h81 : ((A_dec2 V) (Proc.devRef .tc main_v81) : IVec S400000 32) = _ := (read_dec2 (A_dec1 V)).trans (by rw [dec2_in_main_v56, hu])
  have h82 : ((A_dec3 V) (Proc.devRef .tc main_v82) : IVec S400000 32) = _ := (read_dec3 (A_dec2 V)).trans (by rw [h81])
  have h83 : ((A_dec4 V) (Proc.devRef .tc main_v83) : IVec S400000 32) = _ := (read_dec4 (A_dec3 V)).trans (by rw [dec4_in_main_v81, h81])
  have h84 : ((A_dec5 V) (Proc.devRef .tc main_v84) : IVec S400000 32) = _ := (read_dec5 (A_dec4 V)).trans (by rw [h83])
  have h85 : ((A_dec6 V) (Proc.devRef .tc main_v85) : IVec S400000 32) = _ := (read_dec6 (A_dec5 V)).trans (by rw [dec6_in_main_v81, h81])
  exact (read_coor2 (A_dec6 V)).trans (by
    rw [coor2_in_main_v77, coor2_in_main_v80, coor2_in_main_v82, coor2_in_main_v84, hl, h80, h82, h84, h85]; rfl)

theorem key2_eq (x : IVec S400000x4 32) (h92 : ((A_coor2 V) (Proc.devRef .tc main_v92) : IVec S400000x4 32) = x) :
    ((A_key2d V) (Proc.devRef .tc main_v115) : IVec S400000 32) = key2Of x := by
  have hb : ((A_key2a V) (Proc.devRef .tc main_v94) : IVec S400000 32) = _ := (read_b2 (A_coor2 V)).trans (by rw [h92])
  have hz : ((A_key2a V) (Proc.devRef .tc main_v97) : IVec S400000 32) = _ := (read_z2 (A_coor2 V)).trans (by rw [h92])
  have hy : ((A_key2b V) (Proc.devRef .tc main_v100) : IVec S400000 32) = _ := (read_y2 (A_key2a V)).trans (by rw [key2b_in_main_v92, h92])
  have hx : ((A_key2c V) (Proc.devRef .tc main_v103) : IVec S400000 32) = _ := (read_x2 (A_key2b V)).trans (by rw [key2c_in_main_v92, h92])
  exact (read_key2 (A_key2c V)).trans (by rw [key2d_in_main_v94, key2d_in_main_v97, key2d_in_main_v100, hb, hz, hy, hx]; rfl)

theorem uniq2_eq (key : IVec S400000 32) (hk : ((A_key2d V) (Proc.devRef .tc main_v115) : IVec S400000 32) = key) :
    ((A_uniq2 V) (Proc.devRef .tc main_v149) : IVec S400000 32) = uniqOf key
    ∧ ((A_inv2 V) (Proc.devRef .tc main_v160) : IVec S400000 32) = invOf key := by
  have hp : ((A_sort2 V) (Proc.devRef .tc main_v116_2) : IVec S400000 32) = permW key := (read_perm2 (A_key2d V)).trans (by rw [hk])
  have ha : ((A_sort2 V) (Proc.devRef .tc main_v116_0) : IVec S400000 32) = takeW key (permW key) := (read_aux2 (A_key2d V)).trans (by rw [hk])
  have hm : ((A_mask2 V) (Proc.devRef .tc main_v116_1) : IVec S400000 1) = maskW (takeW key (permW key)) := (read_mask2 (A_sort2 V)).trans (by rw [ha])
  have hc : ((A_cnt2 V) (Proc.devRef .tc main_v117) : IVec S400000 32) = _ := (read_cnt2 (A_mask2 V)).trans (by rw [hm])
  have hb : ((A_bins2 V) (Proc.devRef .tc main_v127) : IVec S400000 32) = _ := (read_bins2 (A_cnt2 V)).trans (by rw [hc])
  have hd : ((A_fd2 V) (Proc.devRef .tc main_v128) : IVec S400000 32) = _ := (read_fd2 (A_bins2 V)).trans (by rw [hb])
  have hf : ((A_fm2 V) (Proc.devRef .tc main_v129) : IVec S400000 32) = _ := (read_fm2 (A_fd2 V)).trans (by rw [hd])
  have ho : ((A_pos2_1 V) (Proc.devRef .tc main_v136) : IVec S400000 32) = _ := (read_pos2 (A_fm2 V)).trans (by rw [pos2_0_in_main_v116_1, hm, hf])
  exact ⟨(read_uniq2 (A_pos2_1 V)).trans (by rw [uniq2_in_main_v116_1, uniq2_in_main_v116_0, hm, ha, ho]; rfl),
    (read_inv2 (A_uniq2 V)).trans (by rw [inv2_in_main_v116_1, inv2_in_main_v116_2, hm, hp]; rfl)⟩

/-- The reference's result, a function of its arguments. -/
theorem result_eq : ((A_res2 V) (Proc.devRef .tc main_v172) : FVec F S400000x32 .f32)
    = layerOf (key2Of (coor2Of (F := F) (uniqOf (key1Of (V (Proc.devRef .tc main_arg1) : IVec S400000x4 32)))))
        (layerOf (key1Of (V (Proc.devRef .tc main_arg1) : IVec S400000x4 32)) (V (Proc.devRef .tc main_arg0) : FVec F S400000x32 .f32)) := by
  have hk := key1_eq V
  obtain ⟨hu, -⟩ := uniq1_eq V _ hk
  obtain ⟨hr, hl⟩ := layer1_eq V _ hk
  obtain ⟨hu2, hi2⟩ := uniq2_eq V _ (key2_eq V _ (coor2_eq V _ hu hl))
  have hp : ((A_pool2 V) (Proc.devRef .tc main_v168) : FVec F S400000x32 .f32) = _ := (read_pool2 (A_inv2 V)).trans (by rw [pool2_in_main_v79, hi2, hr])
  exact (read_res2 (A_pool2 V)).trans (by rw [res2_in_main_v149, hu2, hp]; rfl)

end

end Cert.Proof.ReferenceIdeal
-- ==== Proof.Ref.Result.lean ====
/- The reference program's result, row by row, for small coordinates. -/
module

public import proofs.«01_k».proof.Proof.Ref.Final

@[expose] public section

set_option maxRecDepth 16384

namespace Cert.Proof.ReferenceIdeal

open Cert.ReferenceIdeal Cert.ReferenceIdeal.Gen Idealize.ShloMosaic Idealize.ShloMosaic.ValueIdx Idealize.ShloMosaic.Routing
open Cert.Proof.Unique

/-- The first layer's key of a row of small coordinates. -/
theorem key1_val (x : IVec S400000x4 32) (i : Fin 400000) {b z y w : ℕ} (h0 : (x (ix2 i 0)).toNat = b) (h1 : (x (ix2 i 1)).toNat = z)
    (h2 : (x (ix2 i 2)).toNat = y) (h3 : (x (ix2 i 3)).toNat = w) (hb : b < 40) (hz : z < 40) (hy : y < 40) (hw : w < 40) :
    (key1Of x (ix1 i)).toNat = b * 8000 + (z / 2 * 20 + y / 2) * 20 + w / 2 := by
  refine (packW_val 8000#32 20#32 (by decide) (by decide) _ _ _ _ i (B := b) (Z := z / 2) (Y := y / 2) (X := w / 2)
    (by rw [col0W_at, h0]) (half_val _ i (by rw [col1W_at, h1]) (by omega)) (half_val _ i (by rw [col2W_at, h2]) (by omega))
    (half_val _ i (by rw [col3W_at, h3]) (by omega)) hb (by omega) (by omega) (by omega)).trans ?_
  rfl

/-- The second layer's key of a row of small coordinates. -/
theorem key2_val (x : IVec S400000x4 32) (i : Fin 400000) {b z y w : ℕ} (h0 : (x (ix2 i 0)).toNat = b) (h1 : (x (ix2 i 1)).toNat = z)
    (h2 : (x (ix2 i 2)).toNat = y) (h3 : (x (ix2 i 3)).toNat = w) (hb : b < 40) (hz : z < 40) (hy : y < 40) (hw : w < 40) :
    (key2Of x (ix1 i)).toNat = b * 1000 + (z / 2 * 10 + y / 2) * 10 + w / 2 := by
  refine (packW_val 1000#32 10#32 (by decide) (by decide) _ _ _ _ i (B := b) (Z := z / 2) (Y := y / 2) (X := w / 2)
    (by rw [col0W_at, h0]) (half_val _ i (by rw [col1W_at, h1]) (by omega)) (half_val _ i (by rw [col2W_at, h2]) (by omega))
    (half_val _ i (by rw [col3W_at, h3]) (by omega)) hb (by omega) (by omega) (by omega)).trans ?_
  rfl

/-- The second layer's key of a row that holds the number of small halved coordinates. -/
theorem key2_live (F : FTy → Type) [FloatOps F] (u : IVec S400000 32) (i : Fin 400000) {b z y w : ℕ} (hu : (u (ix1 i)).toNat = b * 8000 + (z * 20 + y) * 20 + w)
    (hb : b < 40) (hz : z < 20) (hy : y < 20) (hw : w < 20) :
    (key2Of (coor2Of (F := F) u) (ix1 i)).toNat = b * 1000 + (z / 2 * 10 + y / 2) * 10 + w / 2 := by
  have hlive : liveW u (ix1 i) = 1#1 := by
    rw [liveW_at, StableHlo.Predicate.ofBool_eq_one_iff]
    exact decide_eq_true (Pool.word_nonneg.2 (by omega))
  have hm : (fmW 8000#32 u (ix1 i)).toNat = (z * 20 + y) * 20 + w := by
    refine (fmW_val 8000#32 (by decide) (by decide) u i hu (by omega)).trans ?_
    show (b * 8000 + (z * 20 + y) * 20 + w) % 8000 = _
    omega
  have hm4 : (fmW 400#32 (fmW 8000#32 u) (ix1 i)).toNat = y * 20 + w := by
    refine (fmW_val 400#32 (by decide) (by decide) _ i hm (by omega)).trans ?_
    show ((z * 20 + y) * 20 + w) % 400 = _
    omega
  obtain ⟨e0, e1, e2, e3⟩ := coorW_live (F := F) (liveW u) (fdW 8000#32 u) (fdW 400#32 (fmW 8000#32 u)) (fdW 20#32 (fmW 400#32 (fmW 8000#32 u)))
    (fmW 20#32 (fmW 8000#32 u)) i hlive
  refine key2_val _ i ((congrArg BitVec.toNat e0).trans ((fdW_val 8000#32 (by decide) (by decide) u i hu (by omega)).trans ?_))
    ((congrArg BitVec.toNat e1).trans ((fdW_val 400#32 (by decide) (by decide) _ i hm (by omega)).trans ?_))
    ((congrArg BitVec.toNat e2).trans ((fdW_val 20#32 (by decide) (by decide) _ i hm4 (by omega)).trans ?_))
    ((congrArg BitVec.toNat e3).trans ((fmW_val 20#32 (by decide) (by decide) _ i hm (by omega)).trans ?_)) hb (by omega) (by omega) (by omega)
  · show (b * 8000 + (z * 20 + y) * 20 + w) / 8000 = b; omega
  · show ((z * 20 + y) * 20 + w) / 400 = z; omega
  · show (y * 20 + w) / 20 = y; omega
  · show ((z * 20 + y) * 20 + w) % 20 = w; omega

/-- A row of the first layer that holds nothing gets the key -1. -/
theorem key2_dead (F : FTy → Type) [FloatOps F] (u : IVec S400000 32) (i : Fin 400000) (hu : u (ix1 i) = 4294967295#32) :
    key2Of (coor2Of (F := F) u) (ix1 i) = 4294967295#32 := by
  have hlive : liveW u (ix1 i) = 0#1 := by rw [liveW_at, hu]; decide
  refine (packW_at _ _ _ _ _ _ i).trans (if_pos ?_)
  rw [col0W_at, show coor2Of (F := F) u (ix2 i 0) = 4294967295#32 from coorW_dead (F := F) _ _ _ _ _ i 0 hlive]
  decide

/-- The reference's result for small coordinates: the kernel's cells, in order, after one row for the rows that hold nothing. -/
theorem result_rows (x : IVec S400000x4 32) (hx : ∀ i j, (x (ix2 i j)).toNat < 40) (f : FVec Ideal S400000x32 .f32) (K : ℕ → ℕ)
    (hK : ∀ i : Fin 400000, K i.val = (x (ix2 i 0)).toNat * 1000 + ((x (ix2 i 1)).toNat / 4 * 10 + (x (ix2 i 2)).toNat / 4) * 10 + (x (ix2 i 3)).toNat / 4)
    (feat : ℕ → Fin 32 → EReal) (hf : ∀ (i : Fin 400000) l, f (ix2 i l) = feat i.val l) (r : Fin 400000) (l : Fin 32) :
    (layerOf (key2Of (coor2Of (F := Ideal) (uniqOf (key1Of x)))) (layerOf (key1Of x) f) (ix2 r l) : EReal)
      = if r.val < 40064 then Pool.compact (Pool.occ K 400000)
          (Pool.dense max (Scalar.ofBits (F := Ideal) .f32 0xFF800000#32 : EReal) K feat 400000) (fun _ _ => (Scalar.ofBits (F := Ideal) .f32 0x00000000#32 : EReal)) 40000 r.val l
        else (Scalar.ofBits (F := Ideal) .f32 0x00000000#32 : EReal) := by
  obtain ⟨m1, S1⟩ := unique_spec (key1Of x)
  obtain ⟨m2, S2⟩ := unique_spec (key2Of (coor2Of (F := Ideal) (uniqOf (key1Of x))))
  have hk1 : ∀ i : Fin 400000, _ := fun i => key1_val x i rfl rfl rfl rfl (hx i 0) (hx i 1) (hx i 2) (hx i 3)
  refine Pool.rows_eq (N := 400000) (α := EReal) _ _ bot_le (fun i => key1Of x (ix1 i)) (fun i => uniqOf (key1Of x) (ix1 i)) (fun i => invOf (key1Of x) (ix1 i))
    (fun i => key2Of (coor2Of (F := Ideal) (uniqOf (key1Of x))) (ix1 i)) (fun i => uniqOf (key2Of (coor2Of (F := Ideal) (uniqOf (key1Of x)))) (ix1 i))
    (fun i => invOf (key2Of (coor2Of (F := Ideal) (uniqOf (key1Of x)))) (ix1 i)) m1 m2 S1 S2 (by decide) K ?_ ?_ ?_ ?_ feat
    (fun r l => poolW (invOf (key1Of x)) f (ix2 r l)) (fun r l => layerOf (key1Of x) f (ix2 r l))
    (fun r l => poolW (invOf (key2Of (coor2Of (F := Ideal) (uniqOf (key1Of x))))) (layerOf (key1Of x) f) (ix2 r l))
    (fun r l => layerOf (key2Of (coor2Of (F := Ideal) (uniqOf (key1Of x)))) (layerOf (key1Of x) f) (ix2 r l)) ?_ ?_ ?_ ?_ r l
  · intro n hn
    have h0 := hx ⟨n, hn⟩ 0
    have h1 := hx ⟨n, hn⟩ 1
    have h2 := hx ⟨n, hn⟩ 2
    have h3 := hx ⟨n, hn⟩ 3
    have e : K n = _ := hK ⟨n, hn⟩
    omega
  · intro i
    have h0 := hx i 0
    have h1 := hx i 1
    have h2 := hx i 2
    have h3 := hx i 3
    have e := hk1 i
    show (key1Of x (ix1 i)).toNat < _
    omega
  · intro j s hs
    have h0 := hx j 0
    have h1 := hx j 1
    have h2 := hx j 2
    have h3 := hx j 3
    refine (key2_live Ideal (uniqOf (key1Of x)) s ((congrArg BitVec.toNat hs).trans (hk1 j)) h0 (by omega) (by omega) (by omega)).trans ?_
    rw [hK j, Nat.div_div_eq_div_mul, Nat.div_div_eq_div_mul, Nat.div_div_eq_div_mul]
  · exact fun s hs => key2_dead Ideal _ s hs
  · intro r l w
    refine (poolW_le (invOf (key1Of x)) f r l w).trans (forall_congr' fun i => imp_congr_right fun _ => ?_)
    rw [hf i l]
  · intro r l hr
    exact (resW_at _ _ r l).trans (if_pos hr)
  · exact fun r l w => poolW_le _ _ r l w
  · exact fun r l => resW_at _ _ r l

end Cert.Proof.ReferenceIdeal
-- ==== Proof.Algebraic.lean ====
/- The kernel program and the reference end with the same array. -/
module

public import proofs.«01_k».proof.Proof.KernelIdeal.Value
public import proofs.«01_k».proof.Proof.RefFrame
public import proofs.«01_k».proof.Proof.Ref.Result

@[expose] public section

set_option maxRecDepth 16384

namespace Cert.Proof

open Idealize.ShloMosaic Idealize.ShloMosaic.TcCoe Idealize.ShloMosaic.ValueIdx

/-- On one device: equal features and equal small coordinates give equal results. -/
theorem results_eq (m : (ℓ : Loc Cert.KernelIdeal.nD Cert.KernelIdeal.τ Cert.KernelIdeal.sig) → Buf (Elt Ideal) ℓ)
    (hc : ∀ c i j, (KernelIdeal.coor m c i j).toNat < 40) (c : Dev Cert.KernelIdeal.nD)
    (x : IVec Cert.ReferenceIdeal.S400000x4 32) (f : FVec Ideal Cert.ReferenceIdeal.S400000x32 .f32)
    (hx : x = m ((c : Thread Cert.KernelIdeal.nD Cert.KernelIdeal.τ).loc Cert.KernelIdeal.main_arg1))
    (hf : f = m ((c : Thread Cert.KernelIdeal.nD Cert.KernelIdeal.τ).loc Cert.KernelIdeal.main_arg0)) :
    ReferenceIdeal.layerOf (ReferenceIdeal.key2Of (ReferenceIdeal.coor2Of (F := Ideal) (ReferenceIdeal.uniqOf (ReferenceIdeal.key1Of x))))
        (ReferenceIdeal.layerOf (ReferenceIdeal.key1Of x) f)
      = (Pipeline.afterTail₀ Cert.KernelIdeal.cfgs (KernelIdeal.dats m) 0 (Cert.KernelIdeal.Gen.V0 m) [Cert.KernelIdeal.Gen.hostOps1] c Cert.KernelIdeal.main_v22 :
          FVec Ideal Cert.KernelIdeal.S400000x32 .f32) := by
  funext i
  have hi : i = ix2 (i 0) (i 1) := eq_ix2 i
  have hxc : ∀ (i : Fin 400000) (j : Fin 4), x (ix2 i j) = KernelIdeal.coor m c i j := fun i j => congrFun hx (ix2 i j)
  have h1 := ReferenceIdeal.result_rows x (fun i j => by rw [hxc]; exact hc c i j) f (KernelIdeal.keyN m c)
    (fun i => by rw [hxc, hxc, hxc, hxc]; exact KernelIdeal.keyN_eq m hc c i) (KernelIdeal.feat m c)
    (fun i l => by
      refine (congrFun hf (ix2 i l)).trans ?_
      unfold KernelIdeal.feat
      rw [dif_pos i.isLt, Cert.KernelIdeal.Gen.V_main_arg0 m c]
      refine congrArg (m ((c : Thread Cert.KernelIdeal.nD Cert.KernelIdeal.τ).loc Cert.KernelIdeal.main_arg0) : Cert.KernelIdeal.S400000x32.Idx → EReal)
        (funext fun a => ?_)
      match a with
      | ⟨0, _⟩ => rfl
      | ⟨1, _⟩ => rfl) (i 0) (i 1)
  have h2 := KernelIdeal.result_eq m c (i 0) (i 1)
  exact (congrArg _ hi).trans (h1.trans (h2.symm.trans (congrArg _ hi.symm)))

/-- Under the range check both programs run and end with equal results, arguments unchanged. -/
theorem algebraic : letI := Cert.KernelIdeal.Gen.facts; letI := Cert.ReferenceIdeal.Gen.facts; letI := Cert.Pre_in_range.Gen.facts;
    Cert.algebraic_KernelIdeal_ReferenceIdeal := by
  intro m g m' g' hpre hargs
  have hc := KernelIdeal.coor_lt m hpre
  refine ⟨fun c => Pipeline.afterTail₀ Cert.KernelIdeal.cfgs (KernelIdeal.dats m) 0 (Cert.KernelIdeal.Gen.V0 m) [Cert.KernelIdeal.Gen.hostOps1] c Cert.KernelIdeal.main_v22, ?_, ?_⟩
  · exact (θ_run (Cert.KernelIdeal.defs (F := Ideal)) _ _).mono (fun r h => h.1) (KernelIdeal.run_args m (KernelIdeal.keyN_lt m hc) g)
  · refine (θ_run (Cert.ReferenceIdeal.defs (F := Ideal)) _ _).mono (fun r h c => ⟨(h c).1.trans ?_, (h c).2⟩) (ReferenceIdeal.run_result m' g')
    obtain ⟨e0, e1, -⟩ := hargs c
    exact (ReferenceIdeal.result_eq _).trans (results_eq m hc c _ _ e1 e0)

end Cert.Proof
-- ==== Proof.lean ====
/- The claims about the three programs, put together. -/
module

public import proofs.«01_k».proof.Defs
public import proofs.«01_k».proof.Proof.Kernel.Keys
public import proofs.«01_k».proof.Proof.KernelIdeal.Keys
public import proofs.«01_k».proof.Proof.RefFrame
public import proofs.«01_k».proof.Proof.Algebraic

@[expose] public section

namespace Cert.Proof

/-- The certificate's claims, each from its own module. -/
theorem claim : Cert.Claim :=
  ⟨Cert.Kernel.Gen.facts, Cert.KernelIdeal.Gen.facts, Cert.ReferenceIdeal.Gen.facts, Cert.Pre_in_range.Gen.facts,
    Kernel.quiescent, KernelIdeal.quiescent, ReferenceIdeal.quiescent, ReferenceIdeal.quiescent_in_range, trivial, algebraic⟩

end Cert.Proof
